-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "sm_log2e" .f32 0x3E0293EE#32 (((Real.sqrt 128)⁻¹ * (Real.log 2)⁻¹ : ℝ) : EReal)
  ∧ IdealRules.named_const.Statement Cert.KernelIdeal.κ "sm" .f32 0x3DB504F3#32 (((Real.sqrt 128)⁻¹ : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v15)) (v5 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v15) = v4 c
          ∧ r.2.mem ((c.tc : Thread Cert.KernelIdeal.nD Cert.KernelIdeal.τ).loc Cert.KernelIdeal.main_v16) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_v26_2) = v4 c
          ∧ r.2.mem ((c.tc : Thread Cert.ReferenceIdeal.nD Cert.ReferenceIdeal.τ).loc Cert.ReferenceIdeal.main_v18) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S256x5x128 : Shape := ⟨3, ![256, 5, 128]⟩
abbrev S16x16384x5x128 : Shape := ⟨4, ![16, 16384, 5, 128]⟩
abbrev S16x16384x5 : Shape := ⟨3, ![16, 16384, 5]⟩
abbrev S16x256x5x128 : Shape := ⟨4, ![16, 256, 5, 128]⟩
abbrev S16x5x256 : Shape := ⟨3, ![16, 5, 256]⟩
abbrev S_ : Shape := ⟨0, ![]⟩

class Facts : Prop where
  bcast_S_S16x16384x5 : S_.BroadcastsInDim S16x16384x5 (![] : Fin 0 → Fin S16x16384x5.rank)
  bitsLt_bf16_f32 : FTy.bits .bf16 < FTy.bits .f32
  bcast_S_S16x256x5x128 : S_.BroadcastsInDim S16x256x5x128 (![] : Fin 0 → Fin S16x256x5x128.rank)

variable [Facts]

def fn {F : FTy → Type} [FloatOps F] (main_arg0 : FVec F S256x5x128 .bf16) (main_arg1 : FVec F S16x16384x5x128 .fp8e4m3) (main_arg2 : FVec F S16x16384x5 .f32) (main_arg3 : FVec F S16x16384x5x128 .fp8e4m3) (main_arg4 : FVec F S16x16384x5 .f32) (main_arg5 : FVec F S16x256x5x128 .bf16) (main_arg6 : FVec F S16x5x256 .f32) (main_arg7 : FVec F S16x256x5x128 .bf16) : IVec S16x16384x5 1 × IVec S16x256x5x128 1 :=
  let main_cst : FVec F S_ .f32 := constant S_ .f32 0x00000000#32
  let main_v0 : FVec F S16x16384x5 .f32 := broadcastInDim S16x16384x5 ![] bcast_S_S16x16384x5 main_cst
  let main_v1 : IVec S16x16384x5 1 := cmpf .oge main_arg2 main_v0
  let main_cst_0 : FVec F S_ .f32 := constant S_ .f32 0x7F7FFFFF#32
  let main_v2 : FVec F S16x16384x5 .f32 := broadcastInDim S16x16384x5 ![] bcast_S_S16x16384x5 main_cst_0
  let main_v3 : IVec S16x16384x5 1 := cmpf .ole main_arg2 main_v2
  let main_v4 : IVec S16x16384x5 1 := andi main_v1 main_v3
  let main_v5 : FVec F S16x256x5x128 .f32 := (extf .f32 · bitsLt_bf16_f32) main_arg7
  let main_cst_1 : FVec F S_ .f32 := constant S_ .f32 0xFF7F0000#32
  let main_v6 : FVec F S16x256x5x128 .f32 := broadcastInDim S16x256x5x128 ![] bcast_S_S16x256x5x128 main_cst_1
  let main_v7 : IVec S16x256x5x128 1 := cmpf .oge main_v5 main_v6
  let main_v8 : FVec F S16x256x5x128 .f32 := (extf .f32 · bitsLt_bf16_f32) main_arg7
  let main_cst_2 : FVec F S_ .f32 := constant S_ .f32 0x7F7F0000#32
  let main_v9 : FVec F S16x256x5x128 .f32 := broadcastInDim S16x256x5x128 ![] bcast_S_S16x256x5x128 main_cst_2
  let main_v10 : IVec S16x256x5x128 1 := cmpf .ole main_v8 main_v9
  let main_v11 : IVec S16x256x5x128 1 := andi main_v7 main_v10
  (main_v4, main_v11)
-- ==== Kernel.lean ====
abbrev S256x5x128 : Shape := ⟨3, ![256, 5, 128]⟩
abbrev S16x16384x5x128 : Shape := ⟨4, ![16, 16384, 5, 128]⟩
abbrev S16x16384x5 : Shape := ⟨3, ![16, 16384, 5]⟩
abbrev S16x256x5x128 : Shape := ⟨4, ![16, 256, 5, 128]⟩
abbrev S16x5x256 : Shape := ⟨3, ![16, 5, 256]⟩
abbrev S5x256x128 : Shape := ⟨3, ![5, 256, 128]⟩
abbrev S16x5x16384x128 : Shape := ⟨4, ![16, 5, 16384, 128]⟩
abbrev S5x16x16384 : Shape := ⟨3, ![5, 16, 16384]⟩
abbrev S16x5x256x128 : Shape := ⟨4, ![16, 5, 256, 128]⟩
abbrev S5x16x256 : Shape := ⟨3, ![5, 16, 256]⟩
abbrev S5x128x256 : Shape := ⟨3, ![5, 128, 256]⟩
abbrev S5x16 : Shape := ⟨2, ![5, 16]⟩
abbrev S16x5x128x256 : Shape := ⟨4, ![16, 5, 128, 256]⟩
abbrev S1x5x256x128 : Shape := ⟨4, ![1, 5, 256, 128]⟩
abbrev S1x5x128x256 : Shape := ⟨4, ![1, 5, 128, 256]⟩
abbrev S1x1x256x128 : Shape := ⟨4, ![1, 1, 256, 128]⟩
abbrev S256x128 : Shape := ⟨2, ![256, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x256 : Shape := ⟨2, ![1, 256]⟩
abbrev S256 : Shape := ⟨1, ![256]⟩
abbrev S256x1 : Shape := ⟨2, ![256, 1]⟩
abbrev S128x256 : Shape := ⟨2, ![128, 256]⟩
abbrev S1x1x128x256 : Shape := ⟨4, ![1, 1, 128, 256]⟩
abbrev S1x1x256 : Shape := ⟨3, ![1, 1, 256]⟩
abbrev S1x16 : Shape := ⟨2, ![1, 16]⟩
abbrev S1x256x128 : Shape := ⟨3, ![1, 256, 128]⟩
abbrev S1x128x256 : Shape := ⟨3, ![1, 128, 256]⟩
abbrev S1x1x4096x128 : Shape := ⟨4, ![1, 1, 4096, 128]⟩
abbrev S1x16x16384 : Shape := ⟨3, ![1, 16, 16384]⟩
abbrev S1x1x512 : Shape := ⟨3, ![1, 1, 512]⟩
abbrev S1x512 : Shape := ⟨2, ![1, 512]⟩
abbrev S1x1x512x128 : Shape := ⟨4, ![1, 1, 512, 128]⟩
abbrev S512x128 : Shape := ⟨2, ![512, 128]⟩
abbrev S128x512 : Shape := ⟨2, ![128, 512]⟩
abbrev S256x512 : Shape := ⟨2, ![256, 512]⟩
abbrev S16x5 : Shape := ⟨2, ![16, 5]⟩

abbrev nBuf : Space → Nat
  | .hbm => 32
  | .vmem => 44
  | .smem => 1
  | _ => 0

abbrev bufTy : (tb : Table) → Fin (tcTables nBuf tb) → BufTy
  | .hbm, ⟨0, _⟩ => ⟨S256x5x128, .bf16⟩
  | .hbm, ⟨1, _⟩ => ⟨S16x16384x5x128, .fp8e4m3⟩
  | .hbm, ⟨2, _⟩ => ⟨S16x16384x5, .f32⟩
  | .hbm, ⟨3, _⟩ => ⟨S16x16384x5x128, .fp8e4m3⟩
  | .hbm, ⟨4, _⟩ => ⟨S16x16384x5, .f32⟩
  | .hbm, ⟨5, _⟩ => ⟨S16x256x5x128, .bf16⟩
  | .hbm, ⟨6, _⟩ => ⟨S16x5x256, .f32⟩
  | .hbm, ⟨7, _⟩ => ⟨S16x256x5x128, .bf16⟩
  | .hbm, ⟨8, _⟩ => ⟨S5x256x128, .bf16⟩
  | .hbm, ⟨9, _⟩ => ⟨S16x5x16384x128, .fp8e4m3⟩
  | .hbm, ⟨10, _⟩ => ⟨S16x5x16384x128, .fp8e4m3⟩
  | .hbm, ⟨11, _⟩ => ⟨S5x16x16384, .f32⟩
  | .hbm, ⟨12, _⟩ => ⟨S5x16x16384, .f32⟩
  | .hbm, ⟨13, _⟩ => ⟨S16x5x256x128, .bf16⟩
  | .hbm, ⟨14, _⟩ => ⟨S16x5x256x128, .bf16⟩
  | .hbm, ⟨15, _⟩ => ⟨S5x16x256, .f32⟩
  | .hbm, ⟨16, _⟩ => ⟨S5x128x256, .bf16⟩
  | .hbm, ⟨17, _⟩ => ⟨S16x5x256x128, .fp8e5m2⟩
  | .hbm, ⟨18, _⟩ => ⟨S5x16, .f32⟩
  | .hbm, ⟨19, _⟩ => ⟨S16x5x128x256, .bf16⟩
  | .hbm, ⟨20, _⟩ => ⟨S16x5x256x128, .f32⟩
  | .hbm, ⟨21, _⟩ => ⟨S16x5x256x128, .f32⟩
  | .hbm, ⟨22, _⟩ => ⟨S5x256x128, .bf16⟩
  | .hbm, ⟨23, _⟩ => ⟨S16x5x256x128, .f32⟩
  | .hbm, ⟨24, _⟩ => ⟨S16x5x16384x128, .bf16⟩
  | .hbm, ⟨25, _⟩ => ⟨S16x5x16384x128, .bf16⟩
  | .hbm, ⟨26, _⟩ => ⟨S256x5x128, .bf16⟩
  | .hbm, ⟨27, _⟩ => ⟨S16x256x5x128, .f32⟩
  | .hbm, ⟨28, _⟩ => ⟨S16x16384x5x128, .bf16⟩
  | .hbm, ⟨29, _⟩ => ⟨S16x16384x5x128, .bf16⟩
  | .hbm, ⟨30, _⟩ => ⟨S16x256x5x128, .fp8e5m2⟩
  | .hbm, ⟨31, _⟩ => ⟨S16x5, .f32⟩
  | .local _ .vmem, ⟨0, _⟩ => ⟨S1x5x256x128, .bf16⟩
  | .local _ .vmem, ⟨1, _⟩ => ⟨S1x5x256x128, .bf16⟩
  | .local _ .vmem, ⟨2, _⟩ => ⟨S1x5x256x128, .bf16⟩
  | .local _ .vmem, ⟨3, _⟩ => ⟨S1x5x256x128, .bf16⟩
  | .local _ .vmem, ⟨4, _⟩ => ⟨S5x16x256, .f32⟩
  | .local _ .vmem, ⟨5, _⟩ => ⟨S1x5x256x128, .fp8e5m2⟩
  | .local _ .vmem, ⟨6, _⟩ => ⟨S1x5x256x128, .fp8e5m2⟩
  | .local _ .vmem, ⟨7, _⟩ => ⟨S5x16, .f32⟩
  | .local _ .vmem, ⟨8, _⟩ => ⟨S1x5x128x256, .bf16⟩
  | .local _ .vmem, ⟨9, _⟩ => ⟨S1x5x128x256, .bf16⟩
  | .local _ .vmem, ⟨10, _⟩ => ⟨S1x5x256x128, .f32⟩
  | .local _ .vmem, ⟨11, _⟩ => ⟨S1x5x256x128, .f32⟩
  | .local _ .vmem, ⟨12, _⟩ => ⟨S1x5x256x128, .f32⟩
  | .local _ .vmem, ⟨13, _⟩ => ⟨S1x5x256x128, .f32⟩
  | .local _ .vmem, ⟨14, _⟩ => ⟨S1x256x128, .bf16⟩
  | .local _ .vmem, ⟨15, _⟩ => ⟨S1x256x128, .bf16⟩
  | .local _ .vmem, ⟨16, _⟩ => ⟨S1x128x256, .bf16⟩
  | .local _ .vmem, ⟨17, _⟩ => ⟨S1x128x256, .bf16⟩
  | .local _ .vmem, ⟨18, _⟩ => ⟨S1x1x4096x128, .fp8e4m3⟩
  | .local _ .vmem, ⟨19, _⟩ => ⟨S1x1x4096x128, .fp8e4m3⟩
  | .local _ .vmem, ⟨20, _⟩ => ⟨S1x16x16384, .f32⟩
  | .local _ .vmem, ⟨21, _⟩ => ⟨S1x16x16384, .f32⟩
  | .local _ .vmem, ⟨22, _⟩ => ⟨S1x1x4096x128, .fp8e4m3⟩
  | .local _ .vmem, ⟨23, _⟩ => ⟨S1x1x4096x128, .fp8e4m3⟩
  | .local _ .vmem, ⟨24, _⟩ => ⟨S1x16x16384, .f32⟩
  | .local _ .vmem, ⟨25, _⟩ => ⟨S1x16x16384, .f32⟩
  | .local _ .vmem, ⟨26, _⟩ => ⟨S1x1x256x128, .fp8e5m2⟩
  | .local _ .vmem, ⟨27, _⟩ => ⟨S1x1x256x128, .fp8e5m2⟩
  | .local _ .vmem, ⟨28, _⟩ => ⟨S1x1x128x256, .bf16⟩
  | .local _ .vmem, ⟨29, _⟩ => ⟨S1x1x128x256, .bf16⟩
  | .local _ .vmem, ⟨30, _⟩ => ⟨S1x1x256x128, .f32⟩
  | .local _ .vmem, ⟨31, _⟩ => ⟨S1x1x256x128, .f32⟩
  | .local _ .vmem, ⟨32, _⟩ => ⟨S1x1x256x128, .f32⟩
  | .local _ .vmem, ⟨33, _⟩ => ⟨S1x1x256x128, .f32⟩
  | .local _ .vmem, ⟨34, _⟩ => ⟨S1x256x128, .bf16⟩
  | .local _ .vmem, ⟨35, _⟩ => ⟨S1x256x128, .bf16⟩
  | .local _ .vmem, ⟨36, _⟩ => ⟨S1x1x256x128, .f32⟩
  | .local _ .vmem, ⟨37, _⟩ => ⟨S1x1x256x128, .f32⟩
  | .local _ .vmem, ⟨38, _⟩ => ⟨S1x1x4096x128, .bf16⟩
  | .local _ .vmem, ⟨39, _⟩ => ⟨S1x1x4096x128, .bf16⟩
  | .local _ .vmem, ⟨40, _⟩ => ⟨S1x1x4096x128, .bf16⟩
  | .local _ .vmem, ⟨41, _⟩ => ⟨S1x1x4096x128, .bf16⟩
  | .local _ .vmem, ⟨42, _⟩ => ⟨S128x256, .f32⟩
  | .local _ .vmem, ⟨43, _⟩ => ⟨S256x128, .f32⟩
  | .local _ .smem, ⟨0, _⟩ => ⟨S5x16, .f32⟩
  | _, _ => ⟨S256x5x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .smem, ⟨0, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc1_stg11_1 : Ref sig .tc := ⟨.vmem, 35, rfl⟩
abbrev cc1_stg12_0 : Ref sig .tc := ⟨.vmem, 36, rfl⟩
abbrev cc1_stg12_1 : Ref sig .tc := ⟨.vmem, 37, rfl⟩
abbrev cc1_stg13_0 : Ref sig .tc := ⟨.vmem, 38, rfl⟩
abbrev cc1_stg13_1 : Ref sig .tc := ⟨.vmem, 39, rfl⟩
abbrev cc1_stg14_0 : Ref sig .tc := ⟨.vmem, 40, rfl⟩
abbrev cc1_stg14_1 : Ref sig .tc := ⟨.vmem, 41, rfl⟩
abbrev cc1_scratch0 : Ref sig .tc := ⟨.vmem, 42, rfl⟩
abbrev cc1_scratch1 : Ref sig .tc := ⟨.vmem, 43, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem8_1 : DmaSem sig := 30
abbrev cc1_sem9_0 : DmaSem sig := 31
abbrev cc1_sem9_1 : DmaSem sig := 32
abbrev cc1_sem10_0 : DmaSem sig := 33
abbrev cc1_sem10_1 : DmaSem sig := 34
abbrev cc1_sem11_0 : DmaSem sig := 35
abbrev cc1_sem11_1 : DmaSem sig := 36
abbrev cc1_sem12_0 : DmaSem sig := 37
abbrev cc1_sem12_1 : DmaSem sig := 38
abbrev cc1_sem13_0 : DmaSem sig := 39
abbrev cc1_sem13_1 : DmaSem sig := 40
abbrev cc1_sem14_0 : DmaSem sig := 41
abbrev cc1_sem14_1 : DmaSem sig := 42

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let c0_31 : Index := 0#32
  let arg0 : BitVec 32 := BitVec.ofNat 32 (i 0).val
  let v71 : Index := Scalar.indexCast arg0
  let c0_32 : Index := 0#32
  ![0, v71.toNat, 0]
def k0_off2 (i : grid0.Coords) : Fin 3 → Nat :=
  let c1_80 : Index := 1#32
  let arg0 : BitVec 32 := BitVec.ofNat 32 (i 0).val
  let v162 : Index := Scalar.indexCast arg0
  let c0_81 : Index := 0#32
  ![1, v162.toNat, 0]
def k0_off3 (i : grid0.Coords) : Fin 3 → Nat :=
  let c2_129 : Index := 2#32
  let arg0 : BitVec 32 := BitVec.ofNat 32 (i 0).val
  let v253 : Index := Scalar.indexCast arg0
  let c0_130 : Index := 0#32
  ![2, v253.toNat, 0]
def k0_off4 (i : grid0.Coords) : Fin 3 → Nat :=
  let c3_178 : Index := 3#32
  let arg0 : BitVec 32 := BitVec.ofNat 32 (i 0).val
  let v344 : Index := Scalar.indexCast arg0
  let c0_179 : Index := 0#32
  ![3, v344.toNat, 0]
def k0_off5 (i : grid0.Coords) : Fin 3 → Nat :=
  let c4_227 : Index := 4#32
  let arg0 : BitVec 32 := BitVec.ofNat 32 (i 0).val
  let v435 : Index := Scalar.indexCast arg0
  let c0_228 : Index := 0#32
  ![4, v435.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x5x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x5x256x128 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x5x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x5x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x5x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨3, ![5, 16, 4], ![false, false, false]⟩

def k1_off1 (i : grid1.Coords) : Fin 2 → Nat :=
  let arg0 : BitVec 32 := BitVec.ofNat 32 (i 0).val
  let v3 : Index := Scalar.indexCast arg0
  let arg1 : BitVec 32 := BitVec.ofNat 32 (i 1).val
  let v4 : Index := Scalar.indexCast arg1
  ![v3.toNat, v4.toNat]
@[reducible] def k1_t1_loop : Scf.Loop 32 :=
  let c0_i32_22 : BitVec 32 := 0#32
  let c8_i32 : BitVec 32 := 8#32
  let v20 : BitVec 32 := Scalar.addi c0_i32_22 c8_i32
  let c1_i32 : BitVec 32 := 1#32
  ⟨c0_i32_22, v20, c1_i32⟩
def k1_mult1 (k1_t1 : Fin k1_t1_loop.trips) : BitVec 32 :=
  let c0_i32_22 : BitVec 32 := 0#32
  let c1_i32 : BitVec 32 := 1#32
  let arg20 : BitVec 32 := Scf.iv c0_i32_22 c1_i32 k1_t1
  let c512_i32 : BitVec 32 := 512#32
  let v24 : BitVec 32 := Scalar.muli arg20 c512_i32
  v24
def k1_mult2 (i : grid1.Coords) (k1_t1 : Fin k1_t1_loop.trips) : BitVec 32 :=
  let arg2 : BitVec 32 := BitVec.ofNat 32 (i 2).val
  let c4096_i32 : BitVec 32 := 4096#32
  let v26 : BitVec 32 := Scalar.muli arg2 c4096_i32
  let c0_i32_22 : BitVec 32 := 0#32
  let c1_i32 : BitVec 32 := 1#32
  let arg20 : BitVec 32 := Scf.iv c0_i32_22 c1_i32 k1_t1
  let c512_i32_25 : BitVec 32 := 512#32
  let v27 : BitVec 32 := Scalar.muli arg20 c512_i32_25
  let v28 : BitVec 32 := Scalar.addi v26 v27
  v28
def k1_off2 (i : grid1.Coords) (k1_t1 : Fin k1_t1_loop.trips) : Fin 3 → Nat :=
  let c0_26 : Index := 0#32
  let arg1 : BitVec 32 := BitVec.ofNat 32 (i 1).val
  let v30 : Index := Scalar.indexCast arg1
  let arg2 : BitVec 32 := BitVec.ofNat 32 (i 2).val
  let c4096_i32 : BitVec 32 := 4096#32
  let v26 : BitVec 32 := Scalar.muli arg2 c4096_i32
  let c0_i32_22 : BitVec 32 := 0#32
  let c1_i32 : BitVec 32 := 1#32
  let arg20 : BitVec 32 := Scf.iv c0_i32_22 c1_i32 k1_t1
  let c512_i32_25 : BitVec 32 := 512#32
  let v27 : BitVec 32 := Scalar.muli arg20 c512_i32_25
  let v28 : BitVec 32 := Scalar.addi v26 v27
  let v29 : BitVec 32 := v28
  let v31 : Index := Scalar.indexCast v29
  ![0, v30.toNat, v31.toNat]
def k1_off3 (k1_t1 : Fin k1_t1_loop.trips) : Fin 4 → Nat :=
  let c0_28 : Index := 0#32
  let c0_29 : Index := 0#32
  let c0_i32_22 : BitVec 32 := 0#32
  let c1_i32 : BitVec 32 := 1#32
  let arg20 : BitVec 32 := Scf.iv c0_i32_22 c1_i32 k1_t1
  let c512_i32 : BitVec 32 := 512#32
  let v24 : BitVec 32 := Scalar.muli arg20 c512_i32
  let v25 : BitVec 32 := v24
  let v40 : Index := Scalar.indexCast v25
  let c0_30 : Index := 0#32
  ![0, 0, v40.toNat, 0]
def k1_cond2 (i : grid1.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_24 : BitVec 32 := 0#32
  let v23 : BitVec 1 := Scalar.cmpi .ne v22 c0_i32_24
  v23

def k1_cond3 (i : grid1.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_37 : BitVec 32 := 0#32
  let v41 : BitVec 1 := Scalar.cmpi .ne v40 c0_i32_37
  v41

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc1_transform_8 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc1_transform_9 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc1_transform_10 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc1_transform_13 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc1_transform_14 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

abbrev stage1_0 : Fin 1 → Memref sig .tc .smem S5x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S1x256x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x128x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x1x4096x128 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x16x16384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S1x1x4096x128 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x16x16384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, false]

abbrev stage1_7 : Fin 2 → Memref sig .tc .vmem S1x1x256x128 .fp8e5m2 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S1x1x128x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

abbrev stage1_9 : Fin 2 → Memref sig .tc .vmem S1x1x256x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, false]

abbrev stage1_10 : Fin 2 → Memref sig .tc .vmem S1x1x256x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, false]

abbrev stage1_11 : Fin 2 → Memref sig .tc .vmem S1x256x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false, false]

abbrev stage1_12 : Fin 2 → Memref sig .tc .vmem S1x1x256x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true, false]

abbrev stage1_13 : Fin 2 → Memref sig .tc .vmem S1x1x4096x128 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true, true]

abbrev stage1_14 : Fin 2 → Memref sig .tc .vmem S1x1x4096x128 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true, true]
-- ==== KernelIdeal.lean ====
variable {F : FTy → Type} [FloatOps F] [Named F]
def κ : String → Option EReal := fun
  | "log2e" => some (((Real.log 2)⁻¹ : ℝ) : EReal)
  | "sm" => some (((Real.sqrt 128)⁻¹ : ℝ) : EReal)
  | "sm_log2e" => some (((Real.sqrt 128)⁻¹ * (Real.log 2)⁻¹ : ℝ) : EReal)
  | _ => none
-- ==== ReferenceIdeal.lean ====
abbrev S256x5x128 : Shape := ⟨3, ![256, 5, 128]⟩
abbrev S16x16384x5x128 : Shape := ⟨4, ![16, 16384, 5, 128]⟩
abbrev S16x16384x5 : Shape := ⟨3, ![16, 16384, 5]⟩
abbrev S16x256x5x128 : Shape := ⟨4, ![16, 256, 5, 128]⟩
abbrev S16x5x256 : Shape := ⟨3, ![16, 5, 256]⟩
abbrev S_ : Shape := ⟨0, ![]⟩
abbrev S16x5 : Shape := ⟨2, ![16, 5]⟩
abbrev S16x1x5x1 : Shape := ⟨4, ![16, 1, 5, 1]⟩
abbrev S16x5x16384 : Shape := ⟨3, ![16, 5, 16384]⟩
abbrev S16x5x1x16384 : Shape := ⟨4, ![16, 5, 1, 16384]⟩
abbrev S16x5x1x1 : Shape := ⟨4, ![16, 5, 1, 1]⟩
abbrev S5x16x16384x256 : Shape := ⟨4, ![5, 16, 16384, 256]⟩
abbrev S16x5x256x16384 : Shape := ⟨4, ![16, 5, 256, 16384]⟩
abbrev S16x5x256x1 : Shape := ⟨4, ![16, 5, 256, 1]⟩
abbrev S16x5x128x16384 : Shape := ⟨4, ![16, 5, 128, 16384]⟩
abbrev S5x128x16x16384 : Shape := ⟨4, ![5, 128, 16, 16384]⟩
abbrev S16x5x128x256 : Shape := ⟨4, ![16, 5, 128, 256]⟩

abbrev nBuf : Space → Nat
  | .hbm => 110
  | .vmem => 7
  | .smem => 0
  | _ => 0

abbrev bufTy : (tb : Table) → Fin (tcTables nBuf tb) → BufTy
  | .hbm, ⟨0, _⟩ => ⟨S256x5x128, .bf16⟩
  | .hbm, ⟨1, _⟩ => ⟨S16x16384x5x128, .fp8e4m3⟩
  | .hbm, ⟨2, _⟩ => ⟨S16x16384x5, .f32⟩
  | .hbm, ⟨3, _⟩ => ⟨S16x16384x5x128, .fp8e4m3⟩
  | .hbm, ⟨4, _⟩ => ⟨S16x16384x5, .f32⟩
  | .hbm, ⟨5, _⟩ => ⟨S16x256x5x128, .bf16⟩
  | .hbm, ⟨6, _⟩ => ⟨S16x5x256, .f32⟩
  | .hbm, ⟨7, _⟩ => ⟨S16x256x5x128, .bf16⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16x256x5x128, .f32⟩
  | .hbm, ⟨13, _⟩ => ⟨S16x256x5x128, .f32⟩
  | .hbm, ⟨14, _⟩ => ⟨S_, .f32⟩
  | .hbm, ⟨15, _⟩ => ⟨S16x5, .f32⟩
  | .hbm, ⟨16, _⟩ => ⟨S_, .f32⟩
  | .hbm, ⟨17, _⟩ => ⟨S16x5, .f32⟩
  | .hbm, ⟨18, _⟩ => ⟨S16x5, .f32⟩
  | .hbm, ⟨19, _⟩ => ⟨S_, .f32⟩
  | .hbm, ⟨20, _⟩ => ⟨S16x5, .f32⟩
  | .hbm, ⟨21, _⟩ => ⟨S16x5, .i1⟩
  | .hbm, ⟨22, _⟩ => ⟨S16x5, .f32⟩
  | .hbm, ⟨23, _⟩ => ⟨S_, .f32⟩
  | .hbm, ⟨24, _⟩ => ⟨S_, .f32⟩
  | .hbm, ⟨25, _⟩ => ⟨S16x5, .f32⟩
  | .hbm, ⟨26, _⟩ => ⟨S16x5, .f32⟩
  | .hbm, ⟨27, _⟩ => ⟨S16x5, .f32⟩
  | .hbm, ⟨28, _⟩ => ⟨S_, .f32⟩
  | .hbm, ⟨29, _⟩ => ⟨S16x5, .f32⟩
  | .hbm, ⟨30, _⟩ => ⟨S16x5, .f32⟩
  | .hbm, ⟨31, _⟩ => ⟨S_, .f32⟩
  | .hbm, ⟨32, _⟩ => ⟨S_, .f32⟩
  | .hbm, ⟨33, _⟩ => ⟨S16x5, .f32⟩
  | .hbm, ⟨34, _⟩ => ⟨S16x5, .f32⟩
  | .hbm, ⟨35, _⟩ => ⟨S_, .f32⟩
  | .hbm, ⟨36, _⟩ => ⟨S16x5, .f32⟩
  | .hbm, ⟨37, _⟩ => ⟨S16x5, .f32⟩
  | .hbm, ⟨38, _⟩ => ⟨S16x5, .f32⟩
  | .hbm, ⟨39, _⟩ => ⟨S_, .f32⟩
  | .hbm, ⟨40, _⟩ => ⟨S16x5, .f32⟩
  | .hbm, ⟨41, _⟩ => ⟨S16x5, .f32⟩
  | .hbm, ⟨42, _⟩ => ⟨S16x1x5x1, .f32⟩
  | .hbm, ⟨43, _⟩ => ⟨S16x256x5x128, .f32⟩
  | .hbm, ⟨44, _⟩ => ⟨S16x256x5x128, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16x256x5x128, .f32⟩
  | .hbm, ⟨49, _⟩ => ⟨S16x256x5x128, .f32⟩
  | .hbm, ⟨50, _⟩ => ⟨S_, .f32⟩
  | .hbm, ⟨51, _⟩ => ⟨S16x256x5x128, .f32⟩
  | .hbm, ⟨52, _⟩ => ⟨S16x256x5x128, .f32⟩
  | .hbm, ⟨53, _⟩ => ⟨S16x16384x5x128, .bf16⟩
  | .hbm, ⟨54, _⟩ => ⟨S16x16384x5x128, .bf16⟩
  | .hbm, ⟨55, _⟩ => ⟨S16x256x5x128, .fp8e5m2⟩
  | .hbm, ⟨56, _⟩ => ⟨S16x256x5x128, .bf16⟩
  | .hbm, ⟨57, _⟩ => ⟨S16x5x16384, .f32⟩
  | .hbm, ⟨58, _⟩ => ⟨S16x5x1x16384, .f32⟩
  | .hbm, ⟨59, _⟩ => ⟨S16x5x16384, .f32⟩
  | .hbm, ⟨60, _⟩ => ⟨S16x5x1x16384, .f32⟩
  | .hbm, ⟨61, _⟩ => ⟨S16x5x1x1, .f32⟩
  | .hbm, ⟨62, _⟩ => ⟨S5x16x16384x256, .f32⟩
  | .hbm, ⟨63, _⟩ => ⟨S16x5x256x16384, .f32⟩
  | .hbm, ⟨64, _⟩ => ⟨S16x5x1x16384, .f32⟩
  | .hbm, ⟨65, _⟩ => ⟨S16x5x1x16384, .f32⟩
  | .hbm, ⟨66, _⟩ => ⟨S16x5x256x16384, .f32⟩
  | .hbm, ⟨67, _⟩ => ⟨S16x5x256x16384, .f32⟩
  | .hbm, ⟨68, _⟩ => ⟨S16x5x256x1, .f32⟩
  | .hbm, ⟨69, _⟩ => ⟨S16x5x256x16384, .f32⟩
  | .hbm, ⟨70, _⟩ => ⟨S16x5x256x16384, .f32⟩
  | .hbm, ⟨71, _⟩ => ⟨S16x5x256x16384, .f32⟩
  | .hbm, ⟨72, _⟩ => ⟨S16x5x256x16384, .f32⟩
  | .hbm, ⟨73, _⟩ => ⟨S16x5x1x16384, .f32⟩
  | .hbm, ⟨74, _⟩ => ⟨S16x5x1x16384, .f32⟩
  | .hbm, ⟨75, _⟩ => ⟨S16x5x256x16384, .f32⟩
  | .hbm, ⟨76, _⟩ => ⟨S16x5x256x16384, .f32⟩
  | .hbm, ⟨77, _⟩ => ⟨S16x256x5x128, .f32⟩
  | .hbm, ⟨78, _⟩ => ⟨S16x1x5x1, .f32⟩
  | .hbm, ⟨79, _⟩ => ⟨S16x256x5x128, .f32⟩
  | .hbm, ⟨80, _⟩ => ⟨S16x256x5x128, .f32⟩
  | .hbm, ⟨81, _⟩ => ⟨S16x256x5x128, .f32⟩
  | .hbm, ⟨82, _⟩ => ⟨S16x5x256, .f32⟩
  | .hbm, ⟨83, _⟩ => ⟨S16x5x256x1, .f32⟩
  | .hbm, ⟨84, _⟩ => ⟨S16x5x256x16384, .f32⟩
  | .hbm, ⟨85, _⟩ => ⟨S16x5x256x16384, .f32⟩
  | .hbm, ⟨86, _⟩ => ⟨S16x5x256x16384, .f32⟩
  | .hbm, ⟨87, _⟩ => ⟨S16x5x256x16384, .bf16⟩
  | .hbm, ⟨88, _⟩ => ⟨S16x5x128x16384, .f32⟩
  | .hbm, ⟨89, _⟩ => ⟨S16x16384x5x128, .f32⟩
  | .hbm, ⟨90, _⟩ => ⟨S16x1x5x1, .f32⟩
  | .hbm, ⟨91, _⟩ => ⟨S16x16384x5x128, .f32⟩
  | .hbm, ⟨92, _⟩ => ⟨S16x16384x5x128, .f32⟩
  | .hbm, ⟨93, _⟩ => ⟨S16x5x256x16384, .bf16⟩
  | .hbm, ⟨94, _⟩ => ⟨S5x128x16x16384, .f32⟩
  | .hbm, ⟨95, _⟩ => ⟨S16x16384x5x128, .f32⟩
  | .hbm, ⟨96, _⟩ => ⟨S16x16384x5x128, .f32⟩
  | .hbm, ⟨97, _⟩ => ⟨S16x16384x5x128, .f32⟩
  | .hbm, ⟨98, _⟩ => ⟨S16x5x256x16384, .f32⟩
  | .hbm, ⟨99, _⟩ => ⟨S16x5x256x16384, .f32⟩
  | .hbm, ⟨100, _⟩ => ⟨S16x5x256x16384, .bf16⟩
  | .hbm, ⟨101, _⟩ => ⟨S16x5x128x256, .f32⟩
  | .hbm, ⟨102, _⟩ => ⟨S16x256x5x128, .f32⟩
  | .hbm, ⟨103, _⟩ => ⟨S16x256x5x128, .f32⟩
  | .hbm, ⟨104, _⟩ => ⟨S16x256x5x128, .f32⟩
  | .hbm, ⟨105, _⟩ => ⟨S_, .f32⟩
  | .hbm, ⟨106, _⟩ => ⟨S256x5x128, .f32⟩
  | .hbm, ⟨107, _⟩ => ⟨S256x5x128, .bf16⟩
  | .hbm, ⟨108, _⟩ => ⟨S16x16384x5x128, .bf16⟩
  | .hbm, ⟨109, _⟩ => ⟨S16x16384x5x128, .bf16⟩
  | .local _ .vmem, ⟨0, _⟩ => ⟨S16x16384x5x128, .fp8e4m3⟩
  | .local _ .vmem, ⟨1, _⟩ => ⟨S16x16384x5x128, .fp8e4m3⟩
  | .local _ .vmem, ⟨2, _⟩ => ⟨S16x256x5x128, .f32⟩
  | .local _ .vmem, ⟨3, _⟩ => ⟨S16x16384x5x128, .bf16⟩
  | .local _ .vmem, ⟨4, _⟩ => ⟨S16x16384x5x128, .bf16⟩
  | .local _ .vmem, ⟨5, _⟩ => ⟨S16x256x5x128, .fp8e5m2⟩
  | .local _ .vmem, ⟨6, _⟩ => ⟨S16x256x5x128, .bf16⟩
  | _, _ => ⟨S256x5x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_cst_6 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_cst_7 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_8 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_9 : Ref sig .tc := ⟨.hbm, 45, rfl⟩
abbrev main_cst_10 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v25 : Ref sig .tc := ⟨.hbm, 52, rfl⟩
abbrev main_v26_0 : Ref sig .tc := ⟨.hbm, 53, rfl⟩
abbrev main_v26_1 : Ref sig .tc := ⟨.hbm, 54, rfl⟩
abbrev main_v26_2 : Ref sig .tc := ⟨.hbm, 55, rfl⟩
abbrev main_v26_3 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_11 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x16384x5x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x16384x5x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256x5x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16384x5x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16384x5x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x256x5x128 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x256x5x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.HeadsBits.lean ====
/-
  The first call's quantiser, head by head: what a point leaves in its windows, by index.
-/
module

public import proofs.«01_k».proof.Proof.Gen.Kernel.Loops
public import proofs.«01_k».proof.Proof.Gen.Kernel.Points
public import Idealize.ShloMosaic.Lib.VecWindow
public import Idealize.ShloMosaic.Lib.Pipeline.Value
public import Idealize.ShloMosaic.Lib.Pipeline.FrameBody

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Head `h` of a block of five heads. -/
def headOf {α : Type} (x : S1x5x256x128.Idx → α) (h : Fin 5) : S1x1x256x128.Idx → α := fun y =>
  x (fun a => match a with | ⟨0, _⟩ => ⟨0, Nat.one_pos⟩ | ⟨1, _⟩ => h | ⟨2, _⟩ => y 2 | ⟨3, _⟩ => y 3)
/-- Head `h` and sequence `i` of the logarithms. -/
def lseRow (x : Vec F S5x16x256 .f32) (i : grid0.Coords) (h : Fin 5) : Vec F S1x1x256 .f32 := fun y =>
  x (fun a => match a with | ⟨0, _⟩ => h | ⟨1, _⟩ => i 0 | ⟨2, _⟩ => y 2)
/-- Head `h`'s row of the scales. -/
def scaleRow (x : Vec F S5x16 .f32) (h : Fin 5) : Vec F S1x16 .f32 := fun y =>
  x (fun a => match a with | ⟨0, _⟩ => h | ⟨1, _⟩ => y 1)

/-- A head's codes, scale, scale's row, transposed gradient, logarithms and row sums. -/
def codesOf (x : Vec F S1x1x256x128 .bf16) : Vec F S1x1x256x128 .fp8e5m2 := k0_pay7 (k0_pay2 x) (k0_pay5 x) 23#32
def scaleOf (x : Vec F S1x1x256x128 .bf16) : FVec F S1x1 .f32 := k0_pay4 x
def rowStep (i : grid0.Coords) (x : Vec F S1x1x256x128 .bf16) (s : Vec F S1x16 .f32) : Vec F S1x16 .f32 := k0_pay13 (BitVec.ofNat 32 (i 0).val) (scaleOf x) s
def dotOf (x : Vec F S1x1x256x128 .bf16) : Vec F S1x1x128x256 .bf16 := k0_pay10 (k0_pay2 x) (k0_pay4 x) (k0_pay5 x) 23#32
def lse2Of (l : Vec F S1x1x256 .f32) : Vec F S1x1x256x128 .f32 := k0_pay12 (k0_pay11 l) (Scalar.ofBits .f32 0x3FB8AA3B#32)
def deltaOf (x o : Vec F S1x1x256x128 .bf16) : Vec F S1x1x256x128 .f32 := k0_pay9 (k0_pay2 x) (k0_pay4 x) (k0_pay5 x) 23#32 o

/-- Five heads side by side. -/
def heads {α : Type} (w : Fin 5 → S1x1x256x128.Idx → α) : S1x5x256x128.Idx → α := fun y =>
  w (y 1) (fun a => match a with | ⟨0, _⟩ => ⟨0, Nat.one_pos⟩ | ⟨1, _⟩ => ⟨0, Nat.one_pos⟩ | ⟨2, _⟩ => y 2 | ⟨3, _⟩ => y 3)
def headsT {α : Type} (w : Fin 5 → S1x1x128x256.Idx → α) : S1x5x128x256.Idx → α := fun y =>
  w (y 1) (fun a => match a with | ⟨0, _⟩ => ⟨0, Nat.one_pos⟩ | ⟨1, _⟩ => ⟨0, Nat.one_pos⟩ | ⟨2, _⟩ => y 2 | ⟨3, _⟩ => y 3)
def rows {α : Type} (w : Fin 5 → S1x16.Idx → α) : S5x16.Idx → α := fun y =>
  w (y 0) (fun a => match a with | ⟨0, _⟩ => ⟨0, Nat.one_pos⟩ | ⟨1, _⟩ => y 1)

/-- The windows a point leaves. -/
def codesBlk (x1 : Vec F S1x5x256x128 .bf16) : Vec F S1x5x256x128 .fp8e5m2 := heads fun h => codesOf (headOf x1 h)
def scalesBlk (i : grid0.Coords) (x1 : Vec F S1x5x256x128 .bf16) (y : Vec F S5x16 .f32) : Vec F S5x16 .f32 := rows fun h => rowStep i (headOf x1 h) (scaleRow y h)
def dotBlk (x1 : Vec F S1x5x256x128 .bf16) : Vec F S1x5x128x256 .bf16 := headsT fun h => dotOf (headOf x1 h)
def lse2Blk (i : grid0.Coords) (x3 : Vec F S5x16x256 .f32) : Vec F S1x5x256x128 .f32 := heads fun h => lse2Of (lseRow x3 i h)
def deltaBlk (x1 x2 : Vec F S1x5x256x128 .bf16) : Vec F S1x5x256x128 .f32 := heads fun h => deltaOf (headOf x1 h) (headOf x2 h)

theorem heads_put {α : Type} (x : S1x5x256x128.Idx → α) (w0 w1 w2 w3 w4 : S1x1x256x128.Idx → α) (w : Fin 5 → S1x1x256x128.Idx → α)
    (e0 : w0 = w 0) (e1 : w1 = w 1) (e2 : w2 = w 2) (e3 : w3 = w 3) (e4 : w4 = w 4) :
    VecWindow.put (VecWindow.put (VecWindow.put (VecWindow.put (VecWindow.put (x) ![0, 0, 0, 0] S1x1x256x128.size w0) ![0, 1, 0, 0] S1x1x256x128.size w1) ![0, 2, 0, 0] S1x1x256x128.size w2) ![0, 3, 0, 0] S1x1x256x128.size w3) ![0, 4, 0, 0] S1x1x256x128.size w4 = heads w := by
  subst e0 e1 e2 e3 e4
  funext y
  have b0 : (y 0).val < 1 := (y 0).isLt
  have b1 : (y 1).val < 5 := (y 1).isLt
  have b2 : (y 2).val < 256 := (y 2).isLt
  have b3 : (y 3).val < 128 := (y 3).isLt
  by_cases h4 : (y 1).val = 4
  · have hy : ∀ a, (![0, 4, 0, 0] : Fin 4 → ℕ) a ≤ (y a).val ∧ (y a).val < (![0, 4, 0, 0] : Fin 4 → ℕ) a + S1x1x256x128.size a := by
      intro a
      match a with
      | ⟨0, _⟩ => exact ⟨by show 0 ≤ (y 0).val; omega, by show (y 0).val < 0 + 1; omega⟩
      | ⟨1, _⟩ => exact ⟨by show 4 ≤ (y 1).val; omega, by show (y 1).val < 4 + 1; omega⟩
      | ⟨2, _⟩ => exact ⟨by show 0 ≤ (y 2).val; omega, by show (y 2).val < 0 + 256; omega⟩
      | ⟨3, _⟩ => exact ⟨by show 0 ≤ (y 3).val; omega, by show (y 3).val < 0 + 128; omega⟩
    refine (dif_pos hy).trans ?_
    have hw : y 1 = ⟨4, by decide⟩ := Fin.ext h4
    unfold heads
    rw [hw]
    refine congrArg (w ⟨4, by decide⟩) (funext fun a => Fin.ext ?_)
    match a with
    | ⟨0, _⟩ => show (y 0).val - 0 = 0; omega
    | ⟨1, _⟩ => show (y 1).val - 4 = 0; omega
    | ⟨2, _⟩ => show (y 2).val - 0 = (y 2).val; omega
    | ⟨3, _⟩ => show (y 3).val - 0 = (y 3).val; omega
  refine (dif_neg fun hy => h4 (by have h1 : 4 ≤ (y 1).val := (hy 1).1; have h2 : (y 1).val < 4 + 1 := (hy 1).2; omega)).trans ?_
  by_cases h3 : (y 1).val = 3
  · have hy : ∀ a, (![0, 3, 0, 0] : Fin 4 → ℕ) a ≤ (y a).val ∧ (y a).val < (![0, 3, 0, 0] : Fin 4 → ℕ) a + S1x1x256x128.size a := by
      intro a
      match a with
      | ⟨0, _⟩ => exact ⟨by show 0 ≤ (y 0).val; omega, by show (y 0).val < 0 + 1; omega⟩
      | ⟨1, _⟩ => exact ⟨by show 3 ≤ (y 1).val; omega, by show (y 1).val < 3 + 1; omega⟩
      | ⟨2, _⟩ => exact ⟨by show 0 ≤ (y 2).val; omega, by show (y 2).val < 0 + 256; omega⟩
      | ⟨3, _⟩ => exact ⟨by show 0 ≤ (y 3).val; omega, by show (y 3).val < 0 + 128; omega⟩
    refine (dif_pos hy).trans ?_
    have hw : y 1 = ⟨3, by decide⟩ := Fin.ext h3
    unfold heads
    rw [hw]
    refine congrArg (w ⟨3, by decide⟩) (funext fun a => Fin.ext ?_)
    match a with
    | ⟨0, _⟩ => show (y 0).val - 0 = 0; omega
    | ⟨1, _⟩ => show (y 1).val - 3 = 0; omega
    | ⟨2, _⟩ => show (y 2).val - 0 = (y 2).val; omega
    | ⟨3, _⟩ => show (y 3).val - 0 = (y 3).val; omega
  refine (dif_neg fun hy => h3 (by have h1 : 3 ≤ (y 1).val := (hy 1).1; have h2 : (y 1).val < 3 + 1 := (hy 1).2; omega)).trans ?_
  by_cases h2 : (y 1).val = 2
  · have hy : ∀ a, (![0, 2, 0, 0] : Fin 4 → ℕ) a ≤ (y a).val ∧ (y a).val < (![0, 2, 0, 0] : Fin 4 → ℕ) a + S1x1x256x128.size a := by
      intro a
      match a with
      | ⟨0, _⟩ => exact ⟨by show 0 ≤ (y 0).val; omega, by show (y 0).val < 0 + 1; omega⟩
      | ⟨1, _⟩ => exact ⟨by show 2 ≤ (y 1).val; omega, by show (y 1).val < 2 + 1; omega⟩
      | ⟨2, _⟩ => exact ⟨by show 0 ≤ (y 2).val; omega, by show (y 2).val < 0 + 256; omega⟩
      | ⟨3, _⟩ => exact ⟨by show 0 ≤ (y 3).val; omega, by show (y 3).val < 0 + 128; omega⟩
    refine (dif_pos hy).trans ?_
    have hw : y 1 = ⟨2, by decide⟩ := Fin.ext h2
    unfold heads
    rw [hw]
    refine congrArg (w ⟨2, by decide⟩) (funext fun a => Fin.ext ?_)
    match a with
    | ⟨0, _⟩ => show (y 0).val - 0 = 0; omega
    | ⟨1, _⟩ => show (y 1).val - 2 = 0; omega
    | ⟨2, _⟩ => show (y 2).val - 0 = (y 2).val; omega
    | ⟨3, _⟩ => show (y 3).val - 0 = (y 3).val; omega
  refine (dif_neg fun hy => h2 (by have h1 : 2 ≤ (y 1).val := (hy 1).1; have h2 : (y 1).val < 2 + 1 := (hy 1).2; omega)).trans ?_
  by_cases h1 : (y 1).val = 1
  · have hy : ∀ a, (![0, 1, 0, 0] : Fin 4 → ℕ) a ≤ (y a).val ∧ (y a).val < (![0, 1, 0, 0] : Fin 4 → ℕ) a + S1x1x256x128.size a := by
      intro a
      match a with
      | ⟨0, _⟩ => exact ⟨by show 0 ≤ (y 0).val; omega, by show (y 0).val < 0 + 1; omega⟩
      | ⟨1, _⟩ => exact ⟨by show 1 ≤ (y 1).val; omega, by show (y 1).val < 1 + 1; omega⟩
      | ⟨2, _⟩ => exact ⟨by show 0 ≤ (y 2).val; omega, by show (y 2).val < 0 + 256; omega⟩
      | ⟨3, _⟩ => exact ⟨by show 0 ≤ (y 3).val; omega, by show (y 3).val < 0 + 128; omega⟩
    refine (dif_pos hy).trans ?_
    have hw : y 1 = ⟨1, by decide⟩ := Fin.ext h1
    unfold heads
    rw [hw]
    refine congrArg (w ⟨1, by decide⟩) (funext fun a => Fin.ext ?_)
    match a with
    | ⟨0, _⟩ => show (y 0).val - 0 = 0; omega
    | ⟨1, _⟩ => show (y 1).val - 1 = 0; omega
    | ⟨2, _⟩ => show (y 2).val - 0 = (y 2).val; omega
    | ⟨3, _⟩ => show (y 3).val - 0 = (y 3).val; omega
  refine (dif_neg fun hy => h1 (by have h1 : 1 ≤ (y 1).val := (hy 1).1; have h2 : (y 1).val < 1 + 1 := (hy 1).2; omega)).trans ?_
  by_cases h0 : (y 1).val = 0
  · have hy : ∀ a, (![0, 0, 0, 0] : Fin 4 → ℕ) a ≤ (y a).val ∧ (y a).val < (![0, 0, 0, 0] : Fin 4 → ℕ) a + S1x1x256x128.size a := by
      intro a
      match a with
      | ⟨0, _⟩ => exact ⟨by show 0 ≤ (y 0).val; omega, by show (y 0).val < 0 + 1; omega⟩
      | ⟨1, _⟩ => exact ⟨by show 0 ≤ (y 1).val; omega, by show (y 1).val < 0 + 1; omega⟩
      | ⟨2, _⟩ => exact ⟨by show 0 ≤ (y 2).val; omega, by show (y 2).val < 0 + 256; omega⟩
      | ⟨3, _⟩ => exact ⟨by show 0 ≤ (y 3).val; omega, by show (y 3).val < 0 + 128; omega⟩
    refine (dif_pos hy).trans ?_
    have hw : y 1 = ⟨0, by decide⟩ := Fin.ext h0
    unfold heads
    rw [hw]
    refine congrArg (w ⟨0, by decide⟩) (funext fun a => Fin.ext ?_)
    match a with
    | ⟨0, _⟩ => show (y 0).val - 0 = 0; omega
    | ⟨1, _⟩ => show (y 1).val - 0 = 0; omega
    | ⟨2, _⟩ => show (y 2).val - 0 = (y 2).val; omega
    | ⟨3, _⟩ => show (y 3).val - 0 = (y 3).val; omega
  refine (dif_neg fun hy => h0 (by have h1 : 0 ≤ (y 1).val := (hy 1).1; have h2 : (y 1).val < 0 + 1 := (hy 1).2; omega)).trans ?_
  exact absurd b1 (by omega)

theorem headsT_put {α : Type} (x : S1x5x128x256.Idx → α) (w0 w1 w2 w3 w4 : S1x1x128x256.Idx → α) (w : Fin 5 → S1x1x128x256.Idx → α)
    (e0 : w0 = w 0) (e1 : w1 = w 1) (e2 : w2 = w 2) (e3 : w3 = w 3) (e4 : w4 = w 4) :
    VecWindow.put (VecWindow.put (VecWindow.put (VecWindow.put (VecWindow.put (x) ![0, 0, 0, 0] S1x1x128x256.size w0) ![0, 1, 0, 0] S1x1x128x256.size w1) ![0, 2, 0, 0] S1x1x128x256.size w2) ![0, 3, 0, 0] S1x1x128x256.size w3) ![0, 4, 0, 0] S1x1x128x256.size w4 = headsT w := by
  subst e0 e1 e2 e3 e4
  funext y
  have b0 : (y 0).val < 1 := (y 0).isLt
  have b1 : (y 1).val < 5 := (y 1).isLt
  have b2 : (y 2).val < 128 := (y 2).isLt
  have b3 : (y 3).val < 256 := (y 3).isLt
  by_cases h4 : (y 1).val = 4
  · have hy : ∀ a, (![0, 4, 0, 0] : Fin 4 → ℕ) a ≤ (y a).val ∧ (y a).val < (![0, 4, 0, 0] : Fin 4 → ℕ) a + S1x1x128x256.size a := by
      intro a
      match a with
      | ⟨0, _⟩ => exact ⟨by show 0 ≤ (y 0).val; omega, by show (y 0).val < 0 + 1; omega⟩
      | ⟨1, _⟩ => exact ⟨by show 4 ≤ (y 1).val; omega, by show (y 1).val < 4 + 1; omega⟩
      | ⟨2, _⟩ => exact ⟨by show 0 ≤ (y 2).val; omega, by show (y 2).val < 0 + 128; omega⟩
      | ⟨3, _⟩ => exact ⟨by show 0 ≤ (y 3).val; omega, by show (y 3).val < 0 + 256; omega⟩
    refine (dif_pos hy).trans ?_
    have hw : y 1 = ⟨4, by decide⟩ := Fin.ext h4
    unfold headsT
    rw [hw]
    refine congrArg (w ⟨4, by decide⟩) (funext fun a => Fin.ext ?_)
    match a with
    | ⟨0, _⟩ => show (y 0).val - 0 = 0; omega
    | ⟨1, _⟩ => show (y 1).val - 4 = 0; omega
    | ⟨2, _⟩ => show (y 2).val - 0 = (y 2).val; omega
    | ⟨3, _⟩ => show (y 3).val - 0 = (y 3).val; omega
  refine (dif_neg fun hy => h4 (by have h1 : 4 ≤ (y 1).val := (hy 1).1; have h2 : (y 1).val < 4 + 1 := (hy 1).2; omega)).trans ?_
  by_cases h3 : (y 1).val = 3
  · have hy : ∀ a, (![0, 3, 0, 0] : Fin 4 → ℕ) a ≤ (y a).val ∧ (y a).val < (![0, 3, 0, 0] : Fin 4 → ℕ) a + S1x1x128x256.size a := by
      intro a
      match a with
      | ⟨0, _⟩ => exact ⟨by show 0 ≤ (y 0).val; omega, by show (y 0).val < 0 + 1; omega⟩
      | ⟨1, _⟩ => exact ⟨by show 3 ≤ (y 1).val; omega, by show (y 1).val < 3 + 1; omega⟩
      | ⟨2, _⟩ => exact ⟨by show 0 ≤ (y 2).val; omega, by show (y 2).val < 0 + 128; omega⟩
      | ⟨3, _⟩ => exact ⟨by show 0 ≤ (y 3).val; omega, by show (y 3).val < 0 + 256; omega⟩
    refine (dif_pos hy).trans ?_
    have hw : y 1 = ⟨3, by decide⟩ := Fin.ext h3
    unfold headsT
    rw [hw]
    refine congrArg (w ⟨3, by decide⟩) (funext fun a => Fin.ext ?_)
    match a with
    | ⟨0, _⟩ => show (y 0).val - 0 = 0; omega
    | ⟨1, _⟩ => show (y 1).val - 3 = 0; omega
    | ⟨2, _⟩ => show (y 2).val - 0 = (y 2).val; omega
    | ⟨3, _⟩ => show (y 3).val - 0 = (y 3).val; omega
  refine (dif_neg fun hy => h3 (by have h1 : 3 ≤ (y 1).val := (hy 1).1; have h2 : (y 1).val < 3 + 1 := (hy 1).2; omega)).trans ?_
  by_cases h2 : (y 1).val = 2
  · have hy : ∀ a, (![0, 2, 0, 0] : Fin 4 → ℕ) a ≤ (y a).val ∧ (y a).val < (![0, 2, 0, 0] : Fin 4 → ℕ) a + S1x1x128x256.size a := by
      intro a
      match a with
      | ⟨0, _⟩ => exact ⟨by show 0 ≤ (y 0).val; omega, by show (y 0).val < 0 + 1; omega⟩
      | ⟨1, _⟩ => exact ⟨by show 2 ≤ (y 1).val; omega, by show (y 1).val < 2 + 1; omega⟩
      | ⟨2, _⟩ => exact ⟨by show 0 ≤ (y 2).val; omega, by show (y 2).val < 0 + 128; omega⟩
      | ⟨3, _⟩ => exact ⟨by show 0 ≤ (y 3).val; omega, by show (y 3).val < 0 + 256; omega⟩
    refine (dif_pos hy).trans ?_
    have hw : y 1 = ⟨2, by decide⟩ := Fin.ext h2
    unfold headsT
    rw [hw]
    refine congrArg (w ⟨2, by decide⟩) (funext fun a => Fin.ext ?_)
    match a with
    | ⟨0, _⟩ => show (y 0).val - 0 = 0; omega
    | ⟨1, _⟩ => show (y 1).val - 2 = 0; omega
    | ⟨2, _⟩ => show (y 2).val - 0 = (y 2).val; omega
    | ⟨3, _⟩ => show (y 3).val - 0 = (y 3).val; omega
  refine (dif_neg fun hy => h2 (by have h1 : 2 ≤ (y 1).val := (hy 1).1; have h2 : (y 1).val < 2 + 1 := (hy 1).2; omega)).trans ?_
  by_cases h1 : (y 1).val = 1
  · have hy : ∀ a, (![0, 1, 0, 0] : Fin 4 → ℕ) a ≤ (y a).val ∧ (y a).val < (![0, 1, 0, 0] : Fin 4 → ℕ) a + S1x1x128x256.size a := by
      intro a
      match a with
      | ⟨0, _⟩ => exact ⟨by show 0 ≤ (y 0).val; omega, by show (y 0).val < 0 + 1; omega⟩
      | ⟨1, _⟩ => exact ⟨by show 1 ≤ (y 1).val; omega, by show (y 1).val < 1 + 1; omega⟩
      | ⟨2, _⟩ => exact ⟨by show 0 ≤ (y 2).val; omega, by show (y 2).val < 0 + 128; omega⟩
      | ⟨3, _⟩ => exact ⟨by show 0 ≤ (y 3).val; omega, by show (y 3).val < 0 + 256; omega⟩
    refine (dif_pos hy).trans ?_
    have hw : y 1 = ⟨1, by decide⟩ := Fin.ext h1
    unfold headsT
    rw [hw]
    refine congrArg (w ⟨1, by decide⟩) (funext fun a => Fin.ext ?_)
    match a with
    | ⟨0, _⟩ => show (y 0).val - 0 = 0; omega
    | ⟨1, _⟩ => show (y 1).val - 1 = 0; omega
    | ⟨2, _⟩ => show (y 2).val - 0 = (y 2).val; omega
    | ⟨3, _⟩ => show (y 3).val - 0 = (y 3).val; omega
  refine (dif_neg fun hy => h1 (by have h1 : 1 ≤ (y 1).val := (hy 1).1; have h2 : (y 1).val < 1 + 1 := (hy 1).2; omega)).trans ?_
  by_cases h0 : (y 1).val = 0
  · have hy : ∀ a, (![0, 0, 0, 0] : Fin 4 → ℕ) a ≤ (y a).val ∧ (y a).val < (![0, 0, 0, 0] : Fin 4 → ℕ) a + S1x1x128x256.size a := by
      intro a
      match a with
      | ⟨0, _⟩ => exact ⟨by show 0 ≤ (y 0).val; omega, by show (y 0).val < 0 + 1; omega⟩
      | ⟨1, _⟩ => exact ⟨by show 0 ≤ (y 1).val; omega, by show (y 1).val < 0 + 1; omega⟩
      | ⟨2, _⟩ => exact ⟨by show 0 ≤ (y 2).val; omega, by show (y 2).val < 0 + 128; omega⟩
      | ⟨3, _⟩ => exact ⟨by show 0 ≤ (y 3).val; omega, by show (y 3).val < 0 + 256; omega⟩
    refine (dif_pos hy).trans ?_
    have hw : y 1 = ⟨0, by decide⟩ := Fin.ext h0
    unfold headsT
    rw [hw]
    refine congrArg (w ⟨0, by decide⟩) (funext fun a => Fin.ext ?_)
    match a with
    | ⟨0, _⟩ => show (y 0).val - 0 = 0; omega
    | ⟨1, _⟩ => show (y 1).val - 0 = 0; omega
    | ⟨2, _⟩ => show (y 2).val - 0 = (y 2).val; omega
    | ⟨3, _⟩ => show (y 3).val - 0 = (y 3).val; omega
  refine (dif_neg fun hy => h0 (by have h1 : 0 ≤ (y 1).val := (hy 1).1; have h2 : (y 1).val < 0 + 1 := (hy 1).2; omega)).trans ?_
  exact absurd b1 (by omega)

theorem rows_put {α : Type} (x : S5x16.Idx → α) (w0 w1 w2 w3 w4 : S1x16.Idx → α) (w : Fin 5 → S1x16.Idx → α)
    (e0 : w0 = w 0) (e1 : w1 = w 1) (e2 : w2 = w 2) (e3 : w3 = w 3) (e4 : w4 = w 4) :
    VecWindow.put (VecWindow.put (VecWindow.put (VecWindow.put (VecWindow.put (x) ![0, 0] S1x16.size w0) ![1, 0] S1x16.size w1) ![2, 0] S1x16.size w2) ![3, 0] S1x16.size w3) ![4, 0] S1x16.size w4 = rows w := by
  subst e0 e1 e2 e3 e4
  funext y
  have b0 : (y 0).val < 5 := (y 0).isLt
  have b1 : (y 1).val < 16 := (y 1).isLt
  by_cases h4 : (y 0).val = 4
  · have hy : ∀ a, (![4, 0] : Fin 2 → ℕ) a ≤ (y a).val ∧ (y a).val < (![4, 0] : Fin 2 → ℕ) a + S1x16.size a := by
      intro a
      match a with
      | ⟨0, _⟩ => exact ⟨by show 4 ≤ (y 0).val; omega, by show (y 0).val < 4 + 1; omega⟩
      | ⟨1, _⟩ => exact ⟨by show 0 ≤ (y 1).val; omega, by show (y 1).val < 0 + 16; omega⟩
    refine (dif_pos hy).trans ?_
    have hw : y 0 = ⟨4, by decide⟩ := Fin.ext h4
    unfold rows
    rw [hw]
    refine congrArg (w ⟨4, by decide⟩) (funext fun a => Fin.ext ?_)
    match a with
    | ⟨0, _⟩ => show (y 0).val - 4 = 0; omega
    | ⟨1, _⟩ => show (y 1).val - 0 = (y 1).val; omega
  refine (dif_neg fun hy => h4 (by have h1 : 4 ≤ (y 0).val := (hy 0).1; have h2 : (y 0).val < 4 + 1 := (hy 0).2; omega)).trans ?_
  by_cases h3 : (y 0).val = 3
  · have hy : ∀ a, (![3, 0] : Fin 2 → ℕ) a ≤ (y a).val ∧ (y a).val < (![3, 0] : Fin 2 → ℕ) a + S1x16.size a := by
      intro a
      match a with
      | ⟨0, _⟩ => exact ⟨by show 3 ≤ (y 0).val; omega, by show (y 0).val < 3 + 1; omega⟩
      | ⟨1, _⟩ => exact ⟨by show 0 ≤ (y 1).val; omega, by show (y 1).val < 0 + 16; omega⟩
    refine (dif_pos hy).trans ?_
    have hw : y 0 = ⟨3, by decide⟩ := Fin.ext h3
    unfold rows
    rw [hw]
    refine congrArg (w ⟨3, by decide⟩) (funext fun a => Fin.ext ?_)
    match a with
    | ⟨0, _⟩ => show (y 0).val - 3 = 0; omega
    | ⟨1, _⟩ => show (y 1).val - 0 = (y 1).val; omega
  refine (dif_neg fun hy => h3 (by have h1 : 3 ≤ (y 0).val := (hy 0).1; have h2 : (y 0).val < 3 + 1 := (hy 0).2; omega)).trans ?_
  by_cases h2 : (y 0).val = 2
  · have hy : ∀ a, (![2, 0] : Fin 2 → ℕ) a ≤ (y a).val ∧ (y a).val < (![2, 0] : Fin 2 → ℕ) a + S1x16.size a := by
      intro a
      match a with
      | ⟨0, _⟩ => exact ⟨by show 2 ≤ (y 0).val; omega, by show (y 0).val < 2 + 1; omega⟩
      | ⟨1, _⟩ => exact ⟨by show 0 ≤ (y 1).val; omega, by show (y 1).val < 0 + 16; omega⟩
    refine (dif_pos hy).trans ?_
    have hw : y 0 = ⟨2, by decide⟩ := Fin.ext h2
    unfold rows
    rw [hw]
    refine congrArg (w ⟨2, by decide⟩) (funext fun a => Fin.ext ?_)
    match a with
    | ⟨0, _⟩ => show (y 0).val - 2 = 0; omega
    | ⟨1, _⟩ => show (y 1).val - 0 = (y 1).val; omega
  refine (dif_neg fun hy => h2 (by have h1 : 2 ≤ (y 0).val := (hy 0).1; have h2 : (y 0).val < 2 + 1 := (hy 0).2; omega)).trans ?_
  by_cases h1 : (y 0).val = 1
  · have hy : ∀ a, (![1, 0] : Fin 2 → ℕ) a ≤ (y a).val ∧ (y a).val < (![1, 0] : Fin 2 → ℕ) a + S1x16.size a := by
      intro a
      match a with
      | ⟨0, _⟩ => exact ⟨by show 1 ≤ (y 0).val; omega, by show (y 0).val < 1 + 1; omega⟩
      | ⟨1, _⟩ => exact ⟨by show 0 ≤ (y 1).val; omega, by show (y 1).val < 0 + 16; omega⟩
    refine (dif_pos hy).trans ?_
    have hw : y 0 = ⟨1, by decide⟩ := Fin.ext h1
    unfold rows
    rw [hw]
    refine congrArg (w ⟨1, by decide⟩) (funext fun a => Fin.ext ?_)
    match a with
    | ⟨0, _⟩ => show (y 0).val - 1 = 0; omega
    | ⟨1, _⟩ => show (y 1).val - 0 = (y 1).val; omega
  refine (dif_neg fun hy => h1 (by have h1 : 1 ≤ (y 0).val := (hy 0).1; have h2 : (y 0).val < 1 + 1 := (hy 0).2; omega)).trans ?_
  by_cases h0 : (y 0).val = 0
  · have hy : ∀ a, (![0, 0] : Fin 2 → ℕ) a ≤ (y a).val ∧ (y a).val < (![0, 0] : Fin 2 → ℕ) a + S1x16.size a := by
      intro a
      match a with
      | ⟨0, _⟩ => exact ⟨by show 0 ≤ (y 0).val; omega, by show (y 0).val < 0 + 1; omega⟩
      | ⟨1, _⟩ => exact ⟨by show 0 ≤ (y 1).val; omega, by show (y 1).val < 0 + 16; omega⟩
    refine (dif_pos hy).trans ?_
    have hw : y 0 = ⟨0, by decide⟩ := Fin.ext h0
    unfold rows
    rw [hw]
    refine congrArg (w ⟨0, by decide⟩) (funext fun a => Fin.ext ?_)
    match a with
    | ⟨0, _⟩ => show (y 0).val - 0 = 0; omega
    | ⟨1, _⟩ => show (y 1).val - 0 = (y 1).val; omega
  refine (dif_neg fun hy => h0 (by have h1 : 0 ≤ (y 0).val := (hy 0).1; have h2 : (y 0).val < 0 + 1 := (hy 0).2; omega)).trans ?_
  exact absurd b0 (by omega)

theorem ld_head0 {e : EltTy} (x : Vec F S1x5x256x128 e) : View.ld x (Rect.unit (s := S1x5x256x128) ![0, 0, 0, 0] S1x1x256x128.size inb_S1x5x256x128_S1x1x256x128_0_0_0_0) = headOf x 0 := funext fun y => by
  have b0 : (y 0).val < 1 := (y 0).isLt
  have b1 : (y 1).val < 1 := (y 1).isLt
  refine congrArg x (funext fun a => Fin.ext ?_)
  match a with
  | ⟨0, _⟩ => show 0 + 1 * (y 0).val = 0; omega
  | ⟨1, _⟩ => show 0 + 1 * (y 1).val = 0; omega
  | ⟨2, _⟩ => show 0 + 1 * (y 2).val = (y 2).val; omega
  | ⟨3, _⟩ => show 0 + 1 * (y 3).val = (y 3).val; omega
theorem ld_row0 (x : Vec F S5x16 .f32) : View.ld x (Rect.unit (s := S5x16) ![0, 0] S1x16.size inb_S5x16_S1x16_0_0) = scaleRow x 0 := funext fun y => by
  have b0 : (y 0).val < 1 := (y 0).isLt
  refine congrArg x (funext fun a => Fin.ext ?_)
  match a with
  | ⟨0, _⟩ => show 0 + 1 * (y 0).val = 0; omega
  | ⟨1, _⟩ => show 0 + 1 * (y 1).val = (y 1).val; omega
theorem ld_lse0 (x : Vec F S5x16x256 .f32) (i : grid0.Coords) : View.ld x (Rect.unit (s := S5x16x256) (k0_off1 i) S1x1x256.size (k0_off1_inb i)) = lseRow x i 0 := funext fun y => by
  have b0 : (y 0).val < 1 := (y 0).isLt
  have b1 : (y 1).val < 1 := (y 1).isLt
  refine congrArg x (funext fun a => Fin.ext ?_)
  have hi : (i 0).val < 16 := (i 0).isLt
  have ho : k0_off1 i = ![0, (i 0).val, 0] := k0_off1_eq i
  have e0 : k0_off1 i 0 = 0 := congrFun ho 0
  have e1 : k0_off1 i 1 = (i 0).val := congrFun ho 1
  have e2 : k0_off1 i 2 = 0 := congrFun ho 2
  match a with
  | ⟨0, _⟩ => show k0_off1 i 0 + 1 * (y 0).val = 0; omega
  | ⟨1, _⟩ => show k0_off1 i 1 + 1 * (y 1).val = (i 0).val; omega
  | ⟨2, _⟩ => show k0_off1 i 2 + 1 * (y 2).val = (y 2).val; omega

theorem ld_head1 {e : EltTy} (x : Vec F S1x5x256x128 e) : View.ld x (Rect.unit (s := S1x5x256x128) ![0, 1, 0, 0] S1x1x256x128.size inb_S1x5x256x128_S1x1x256x128_0_1_0_0) = headOf x 1 := funext fun y => by
  have b0 : (y 0).val < 1 := (y 0).isLt
  have b1 : (y 1).val < 1 := (y 1).isLt
  refine congrArg x (funext fun a => Fin.ext ?_)
  match a with
  | ⟨0, _⟩ => show 0 + 1 * (y 0).val = 0; omega
  | ⟨1, _⟩ => show 1 + 1 * (y 1).val = 1; omega
  | ⟨2, _⟩ => show 0 + 1 * (y 2).val = (y 2).val; omega
  | ⟨3, _⟩ => show 0 + 1 * (y 3).val = (y 3).val; omega
theorem ld_row1 (x : Vec F S5x16 .f32) : View.ld x (Rect.unit (s := S5x16) ![1, 0] S1x16.size inb_S5x16_S1x16_1_0) = scaleRow x 1 := funext fun y => by
  have b0 : (y 0).val < 1 := (y 0).isLt
  refine congrArg x (funext fun a => Fin.ext ?_)
  match a with
  | ⟨0, _⟩ => show 1 + 1 * (y 0).val = 1; omega
  | ⟨1, _⟩ => show 0 + 1 * (y 1).val = (y 1).val; omega
theorem ld_lse1 (x : Vec F S5x16x256 .f32) (i : grid0.Coords) : View.ld x (Rect.unit (s := S5x16x256) (k0_off2 i) S1x1x256.size (k0_off2_inb i)) = lseRow x i 1 := funext fun y => by
  have b0 : (y 0).val < 1 := (y 0).isLt
  have b1 : (y 1).val < 1 := (y 1).isLt
  refine congrArg x (funext fun a => Fin.ext ?_)
  have hi : (i 0).val < 16 := (i 0).isLt
  have ho : k0_off2 i = ![1, (i 0).val, 0] := k0_off2_eq i
  have e0 : k0_off2 i 0 = 1 := congrFun ho 0
  have e1 : k0_off2 i 1 = (i 0).val := congrFun ho 1
  have e2 : k0_off2 i 2 = 0 := congrFun ho 2
  match a with
  | ⟨0, _⟩ => show k0_off2 i 0 + 1 * (y 0).val = 1; omega
  | ⟨1, _⟩ => show k0_off2 i 1 + 1 * (y 1).val = (i 0).val; omega
  | ⟨2, _⟩ => show k0_off2 i 2 + 1 * (y 2).val = (y 2).val; omega

theorem ld_head2 {e : EltTy} (x : Vec F S1x5x256x128 e) : View.ld x (Rect.unit (s := S1x5x256x128) ![0, 2, 0, 0] S1x1x256x128.size inb_S1x5x256x128_S1x1x256x128_0_2_0_0) = headOf x 2 := funext fun y => by
  have b0 : (y 0).val < 1 := (y 0).isLt
  have b1 : (y 1).val < 1 := (y 1).isLt
  refine congrArg x (funext fun a => Fin.ext ?_)
  match a with
  | ⟨0, _⟩ => show 0 + 1 * (y 0).val = 0; omega
  | ⟨1, _⟩ => show 2 + 1 * (y 1).val = 2; omega
  | ⟨2, _⟩ => show 0 + 1 * (y 2).val = (y 2).val; omega
  | ⟨3, _⟩ => show 0 + 1 * (y 3).val = (y 3).val; omega
theorem ld_row2 (x : Vec F S5x16 .f32) : View.ld x (Rect.unit (s := S5x16) ![2, 0] S1x16.size inb_S5x16_S1x16_2_0) = scaleRow x 2 := funext fun y => by
  have b0 : (y 0).val < 1 := (y 0).isLt
  refine congrArg x (funext fun a => Fin.ext ?_)
  match a with
  | ⟨0, _⟩ => show 2 + 1 * (y 0).val = 2; omega
  | ⟨1, _⟩ => show 0 + 1 * (y 1).val = (y 1).val; omega
theorem ld_lse2 (x : Vec F S5x16x256 .f32) (i : grid0.Coords) : View.ld x (Rect.unit (s := S5x16x256) (k0_off3 i) S1x1x256.size (k0_off3_inb i)) = lseRow x i 2 := funext fun y => by
  have b0 : (y 0).val < 1 := (y 0).isLt
  have b1 : (y 1).val < 1 := (y 1).isLt
  refine congrArg x (funext fun a => Fin.ext ?_)
  have hi : (i 0).val < 16 := (i 0).isLt
  have ho : k0_off3 i = ![2, (i 0).val, 0] := k0_off3_eq i
  have e0 : k0_off3 i 0 = 2 := congrFun ho 0
  have e1 : k0_off3 i 1 = (i 0).val := congrFun ho 1
  have e2 : k0_off3 i 2 = 0 := congrFun ho 2
  match a with
  | ⟨0, _⟩ => show k0_off3 i 0 + 1 * (y 0).val = 2; omega
  | ⟨1, _⟩ => show k0_off3 i 1 + 1 * (y 1).val = (i 0).val; omega
  | ⟨2, _⟩ => show k0_off3 i 2 + 1 * (y 2).val = (y 2).val; omega

theorem ld_head3 {e : EltTy} (x : Vec F S1x5x256x128 e) : View.ld x (Rect.unit (s := S1x5x256x128) ![0, 3, 0, 0] S1x1x256x128.size inb_S1x5x256x128_S1x1x256x128_0_3_0_0) = headOf x 3 := funext fun y => by
  have b0 : (y 0).val < 1 := (y 0).isLt
  have b1 : (y 1).val < 1 := (y 1).isLt
  refine congrArg x (funext fun a => Fin.ext ?_)
  match a with
  | ⟨0, _⟩ => show 0 + 1 * (y 0).val = 0; omega
  | ⟨1, _⟩ => show 3 + 1 * (y 1).val = 3; omega
  | ⟨2, _⟩ => show 0 + 1 * (y 2).val = (y 2).val; omega
  | ⟨3, _⟩ => show 0 + 1 * (y 3).val = (y 3).val; omega
theorem ld_row3 (x : Vec F S5x16 .f32) : View.ld x (Rect.unit (s := S5x16) ![3, 0] S1x16.size inb_S5x16_S1x16_3_0) = scaleRow x 3 := funext fun y => by
  have b0 : (y 0).val < 1 := (y 0).isLt
  refine congrArg x (funext fun a => Fin.ext ?_)
  match a with
  | ⟨0, _⟩ => show 3 + 1 * (y 0).val = 3; omega
  | ⟨1, _⟩ => show 0 + 1 * (y 1).val = (y 1).val; omega
theorem ld_lse3 (x : Vec F S5x16x256 .f32) (i : grid0.Coords) : View.ld x (Rect.unit (s := S5x16x256) (k0_off4 i) S1x1x256.size (k0_off4_inb i)) = lseRow x i 3 := funext fun y => by
  have b0 : (y 0).val < 1 := (y 0).isLt
  have b1 : (y 1).val < 1 := (y 1).isLt
  refine congrArg x (funext fun a => Fin.ext ?_)
  have hi : (i 0).val < 16 := (i 0).isLt
  have ho : k0_off4 i = ![3, (i 0).val, 0] := k0_off4_eq i
  have e0 : k0_off4 i 0 = 3 := congrFun ho 0
  have e1 : k0_off4 i 1 = (i 0).val := congrFun ho 1
  have e2 : k0_off4 i 2 = 0 := congrFun ho 2
  match a with
  | ⟨0, _⟩ => show k0_off4 i 0 + 1 * (y 0).val = 3; omega
  | ⟨1, _⟩ => show k0_off4 i 1 + 1 * (y 1).val = (i 0).val; omega
  | ⟨2, _⟩ => show k0_off4 i 2 + 1 * (y 2).val = (y 2).val; omega

theorem ld_head4 {e : EltTy} (x : Vec F S1x5x256x128 e) : View.ld x (Rect.unit (s := S1x5x256x128) ![0, 4, 0, 0] S1x1x256x128.size inb_S1x5x256x128_S1x1x256x128_0_4_0_0) = headOf x 4 := funext fun y => by
  have b0 : (y 0).val < 1 := (y 0).isLt
  have b1 : (y 1).val < 1 := (y 1).isLt
  refine congrArg x (funext fun a => Fin.ext ?_)
  match a with
  | ⟨0, _⟩ => show 0 + 1 * (y 0).val = 0; omega
  | ⟨1, _⟩ => show 4 + 1 * (y 1).val = 4; omega
  | ⟨2, _⟩ => show 0 + 1 * (y 2).val = (y 2).val; omega
  | ⟨3, _⟩ => show 0 + 1 * (y 3).val = (y 3).val; omega
theorem ld_row4 (x : Vec F S5x16 .f32) : View.ld x (Rect.unit (s := S5x16) ![4, 0] S1x16.size inb_S5x16_S1x16_4_0) = scaleRow x 4 := funext fun y => by
  have b0 : (y 0).val < 1 := (y 0).isLt
  refine congrArg x (funext fun a => Fin.ext ?_)
  match a with
  | ⟨0, _⟩ => show 4 + 1 * (y 0).val = 4; omega
  | ⟨1, _⟩ => show 0 + 1 * (y 1).val = (y 1).val; omega
theorem ld_lse4 (x : Vec F S5x16x256 .f32) (i : grid0.Coords) : View.ld x (Rect.unit (s := S5x16x256) (k0_off5 i) S1x1x256.size (k0_off5_inb i)) = lseRow x i 4 := funext fun y => by
  have b0 : (y 0).val < 1 := (y 0).isLt
  have b1 : (y 1).val < 1 := (y 1).isLt
  refine congrArg x (funext fun a => Fin.ext ?_)
  have hi : (i 0).val < 16 := (i 0).isLt
  have ho : k0_off5 i = ![4, (i 0).val, 0] := k0_off5_eq i
  have e0 : k0_off5 i 0 = 4 := congrFun ho 0
  have e1 : k0_off5 i 1 = (i 0).val := congrFun ho 1
  have e2 : k0_off5 i 2 = 0 := congrFun ho 2
  match a with
  | ⟨0, _⟩ => show k0_off5 i 0 + 1 * (y 0).val = 4; omega
  | ⟨1, _⟩ => show k0_off5 i 1 + 1 * (y 1).val = (i 0).val; omega
  | ⟨2, _⟩ => show k0_off5 i 2 + 1 * (y 2).val = (y 2).val; omega

theorem heads_read {κ' : Kind} {sp : Space} {e : EltTy} (v : View sig κ' sp S1x5x256x128 e) (f : BufTy.Contents (Elt F) v.ty) (w0 w1 w2 w3 w4 : Vec F S1x1x256x128 e) (w : Fin 5 → Vec F S1x1x256x128 e)
    (e0 : w0 = w 0) (e1 : w1 = w 1) (e2 : w2 = w 2) (e3 : w3 = w 3) (e4 : w4 = w 4) :
    v.read (Elt F) (v.writes (Elt F) f [⟨Rect.unit (s := S1x5x256x128) ![0, 4, 0, 0] S1x1x256x128.size inb_S1x5x256x128_S1x1x256x128_0_4_0_0, w4⟩, ⟨Rect.unit (s := S1x5x256x128) ![0, 3, 0, 0] S1x1x256x128.size inb_S1x5x256x128_S1x1x256x128_0_3_0_0, w3⟩, ⟨Rect.unit (s := S1x5x256x128) ![0, 2, 0, 0] S1x1x256x128.size inb_S1x5x256x128_S1x1x256x128_0_2_0_0, w2⟩, ⟨Rect.unit (s := S1x5x256x128) ![0, 1, 0, 0] S1x1x256x128.size inb_S1x5x256x128_S1x1x256x128_0_1_0_0, w1⟩, ⟨Rect.unit (s := S1x5x256x128) ![0, 0, 0, 0] S1x1x256x128.size inb_S1x5x256x128_S1x1x256x128_0_0_0_0, w0⟩]) = heads w := by
  have a0 := View.read_writes_cons_put v f inb_S1x5x256x128_S1x1x256x128_0_0_0_0 w0 [] rfl
  have a1 := View.read_writes_cons_put v f inb_S1x5x256x128_S1x1x256x128_0_1_0_0 w1 [⟨Rect.unit (s := S1x5x256x128) ![0, 0, 0, 0] S1x1x256x128.size inb_S1x5x256x128_S1x1x256x128_0_0_0_0, w0⟩] rfl
  have a2 := View.read_writes_cons_put v f inb_S1x5x256x128_S1x1x256x128_0_2_0_0 w2 [⟨Rect.unit (s := S1x5x256x128) ![0, 1, 0, 0] S1x1x256x128.size inb_S1x5x256x128_S1x1x256x128_0_1_0_0, w1⟩, ⟨Rect.unit (s := S1x5x256x128) ![0, 0, 0, 0] S1x1x256x128.size inb_S1x5x256x128_S1x1x256x128_0_0_0_0, w0⟩] rfl
  have a3 := View.read_writes_cons_put v f inb_S1x5x256x128_S1x1x256x128_0_3_0_0 w3 [⟨Rect.unit (s := S1x5x256x128) ![0, 2, 0, 0] S1x1x256x128.size inb_S1x5x256x128_S1x1x256x128_0_2_0_0, w2⟩, ⟨Rect.unit (s := S1x5x256x128) ![0, 1, 0, 0] S1x1x256x128.size inb_S1x5x256x128_S1x1x256x128_0_1_0_0, w1⟩, ⟨Rect.unit (s := S1x5x256x128) ![0, 0, 0, 0] S1x1x256x128.size inb_S1x5x256x128_S1x1x256x128_0_0_0_0, w0⟩] rfl
  have a4 := View.read_writes_cons_put v f inb_S1x5x256x128_S1x1x256x128_0_4_0_0 w4 [⟨Rect.unit (s := S1x5x256x128) ![0, 3, 0, 0] S1x1x256x128.size inb_S1x5x256x128_S1x1x256x128_0_3_0_0, w3⟩, ⟨Rect.unit (s := S1x5x256x128) ![0, 2, 0, 0] S1x1x256x128.size inb_S1x5x256x128_S1x1x256x128_0_2_0_0, w2⟩, ⟨Rect.unit (s := S1x5x256x128) ![0, 1, 0, 0] S1x1x256x128.size inb_S1x5x256x128_S1x1x256x128_0_1_0_0, w1⟩, ⟨Rect.unit (s := S1x5x256x128) ![0, 0, 0, 0] S1x1x256x128.size inb_S1x5x256x128_S1x1x256x128_0_0_0_0, w0⟩] rfl
  rw [View.writes_nil] at a0
  rw [a0] at a1; rw [a1] at a2; rw [a2] at a3; rw [a3] at a4
  exact a4.trans (heads_put _ w0 w1 w2 w3 w4 w e0 e1 e2 e3 e4)

theorem headsT_read {κ' : Kind} {sp : Space} {e : EltTy} (v : View sig κ' sp S1x5x128x256 e) (f : BufTy.Contents (Elt F) v.ty) (w0 w1 w2 w3 w4 : Vec F S1x1x128x256 e) (w : Fin 5 → Vec F S1x1x128x256 e)
    (e0 : w0 = w 0) (e1 : w1 = w 1) (e2 : w2 = w 2) (e3 : w3 = w 3) (e4 : w4 = w 4) :
    v.read (Elt F) (v.writes (Elt F) f [⟨Rect.unit (s := S1x5x128x256) ![0, 4, 0, 0] S1x1x128x256.size inb_S1x5x128x256_S1x1x128x256_0_4_0_0, w4⟩, ⟨Rect.unit (s := S1x5x128x256) ![0, 3, 0, 0] S1x1x128x256.size inb_S1x5x128x256_S1x1x128x256_0_3_0_0, w3⟩, ⟨Rect.unit (s := S1x5x128x256) ![0, 2, 0, 0] S1x1x128x256.size inb_S1x5x128x256_S1x1x128x256_0_2_0_0, w2⟩, ⟨Rect.unit (s := S1x5x128x256) ![0, 1, 0, 0] S1x1x128x256.size inb_S1x5x128x256_S1x1x128x256_0_1_0_0, w1⟩, ⟨Rect.unit (s := S1x5x128x256) ![0, 0, 0, 0] S1x1x128x256.size inb_S1x5x128x256_S1x1x128x256_0_0_0_0, w0⟩]) = headsT w := by
  have a0 := View.read_writes_cons_put v f inb_S1x5x128x256_S1x1x128x256_0_0_0_0 w0 [] rfl
  have a1 := View.read_writes_cons_put v f inb_S1x5x128x256_S1x1x128x256_0_1_0_0 w1 [⟨Rect.unit (s := S1x5x128x256) ![0, 0, 0, 0] S1x1x128x256.size inb_S1x5x128x256_S1x1x128x256_0_0_0_0, w0⟩] rfl
  have a2 := View.read_writes_cons_put v f inb_S1x5x128x256_S1x1x128x256_0_2_0_0 w2 [⟨Rect.unit (s := S1x5x128x256) ![0, 1, 0, 0] S1x1x128x256.size inb_S1x5x128x256_S1x1x128x256_0_1_0_0, w1⟩, ⟨Rect.unit (s := S1x5x128x256) ![0, 0, 0, 0] S1x1x128x256.size inb_S1x5x128x256_S1x1x128x256_0_0_0_0, w0⟩] rfl
  have a3 := View.read_writes_cons_put v f inb_S1x5x128x256_S1x1x128x256_0_3_0_0 w3 [⟨Rect.unit (s := S1x5x128x256) ![0, 2, 0, 0] S1x1x128x256.size inb_S1x5x128x256_S1x1x128x256_0_2_0_0, w2⟩, ⟨Rect.unit (s := S1x5x128x256) ![0, 1, 0, 0] S1x1x128x256.size inb_S1x5x128x256_S1x1x128x256_0_1_0_0, w1⟩, ⟨Rect.unit (s := S1x5x128x256) ![0, 0, 0, 0] S1x1x128x256.size inb_S1x5x128x256_S1x1x128x256_0_0_0_0, w0⟩] rfl
  have a4 := View.read_writes_cons_put v f inb_S1x5x128x256_S1x1x128x256_0_4_0_0 w4 [⟨Rect.unit (s := S1x5x128x256) ![0, 3, 0, 0] S1x1x128x256.size inb_S1x5x128x256_S1x1x128x256_0_3_0_0, w3⟩, ⟨Rect.unit (s := S1x5x128x256) ![0, 2, 0, 0] S1x1x128x256.size inb_S1x5x128x256_S1x1x128x256_0_2_0_0, w2⟩, ⟨Rect.unit (s := S1x5x128x256) ![0, 1, 0, 0] S1x1x128x256.size inb_S1x5x128x256_S1x1x128x256_0_1_0_0, w1⟩, ⟨Rect.unit (s := S1x5x128x256) ![0, 0, 0, 0] S1x1x128x256.size inb_S1x5x128x256_S1x1x128x256_0_0_0_0, w0⟩] rfl
  rw [View.writes_nil] at a0
  rw [a0] at a1; rw [a1] at a2; rw [a2] at a3; rw [a3] at a4
  exact a4.trans (headsT_put _ w0 w1 w2 w3 w4 w e0 e1 e2 e3 e4)

theorem rows_read {κ' : Kind} {sp : Space} {e : EltTy} (v : View sig κ' sp S5x16 e) (f : BufTy.Contents (Elt F) v.ty) (w0 w1 w2 w3 w4 : Vec F S1x16 e) (w : Fin 5 → Vec F S1x16 e)
    (e0 : w0 = w 0) (e1 : w1 = w 1) (e2 : w2 = w 2) (e3 : w3 = w 3) (e4 : w4 = w 4) :
    v.read (Elt F) (v.writes (Elt F) f [⟨Rect.unit (s := S5x16) ![4, 0] S1x16.size inb_S5x16_S1x16_4_0, w4⟩, ⟨Rect.unit (s := S5x16) ![3, 0] S1x16.size inb_S5x16_S1x16_3_0, w3⟩, ⟨Rect.unit (s := S5x16) ![2, 0] S1x16.size inb_S5x16_S1x16_2_0, w2⟩, ⟨Rect.unit (s := S5x16) ![1, 0] S1x16.size inb_S5x16_S1x16_1_0, w1⟩, ⟨Rect.unit (s := S5x16) ![0, 0] S1x16.size inb_S5x16_S1x16_0_0, w0⟩]) = rows w := by
  have a0 := View.read_writes_cons_put v f inb_S5x16_S1x16_0_0 w0 [] rfl
  have a1 := View.read_writes_cons_put v f inb_S5x16_S1x16_1_0 w1 [⟨Rect.unit (s := S5x16) ![0, 0] S1x16.size inb_S5x16_S1x16_0_0, w0⟩] rfl
  have a2 := View.read_writes_cons_put v f inb_S5x16_S1x16_2_0 w2 [⟨Rect.unit (s := S5x16) ![1, 0] S1x16.size inb_S5x16_S1x16_1_0, w1⟩, ⟨Rect.unit (s := S5x16) ![0, 0] S1x16.size inb_S5x16_S1x16_0_0, w0⟩] rfl
  have a3 := View.read_writes_cons_put v f inb_S5x16_S1x16_3_0 w3 [⟨Rect.unit (s := S5x16) ![2, 0] S1x16.size inb_S5x16_S1x16_2_0, w2⟩, ⟨Rect.unit (s := S5x16) ![1, 0] S1x16.size inb_S5x16_S1x16_1_0, w1⟩, ⟨Rect.unit (s := S5x16) ![0, 0] S1x16.size inb_S5x16_S1x16_0_0, w0⟩] rfl
  have a4 := View.read_writes_cons_put v f inb_S5x16_S1x16_4_0 w4 [⟨Rect.unit (s := S5x16) ![3, 0] S1x16.size inb_S5x16_S1x16_3_0, w3⟩, ⟨Rect.unit (s := S5x16) ![2, 0] S1x16.size inb_S5x16_S1x16_2_0, w2⟩, ⟨Rect.unit (s := S5x16) ![1, 0] S1x16.size inb_S5x16_S1x16_1_0, w1⟩, ⟨Rect.unit (s := S5x16) ![0, 0] S1x16.size inb_S5x16_S1x16_0_0, w0⟩] rfl
  rw [View.writes_nil] at a0
  rw [a0] at a1; rw [a1] at a2; rw [a2] at a3; rw [a3] at a4
  exact a4.trans (rows_put _ w0 w1 w2 w3 w4 w e0 e1 e2 e3 e4)

theorem read_cons_row0 {κ' : Kind} {sp : Space} {e : EltTy} (v : View sig κ' sp S5x16 e) (f : BufTy.Contents (Elt F) v.ty) (w : Vec F S1x16 e) (L : List (View.Piece (Elt F) S5x16 e)) :
    v.read (Elt F) (v.writes (Elt F) f (⟨Rect.unit (s := S5x16) ![0, 0] S1x16.size inb_S5x16_S1x16_0_0, w⟩ :: L)) = VecWindow.put (v.read (Elt F) (v.writes (Elt F) f L)) ![0, 0] S1x16.size w :=
  View.read_writes_cons_put v f inb_S5x16_S1x16_0_0 w L rfl
theorem ld_put_row01 (x : Vec F S5x16 .f32) (w : Vec F S1x16 .f32) :
    View.ld (Val := Elt F) (e' := .f32) (VecWindow.put (s := S5x16) x ![0, 0] S1x16.size w) (Rect.unit (s := S5x16) ![1, 0] S1x16.size inb_S5x16_S1x16_1_0) = View.ld x (Rect.unit (s := S5x16) ![1, 0] S1x16.size inb_S5x16_S1x16_1_0) :=
  VecWindow.window_put_of_disjoint (s := S5x16) x ![0, 0] S1x16.size ![1, 0] S1x16.size inb_S5x16_S1x16_1_0 w 0 (.inr (by show 0 + 1 ≤ 1; decide))
theorem ld_put_row02 (x : Vec F S5x16 .f32) (w : Vec F S1x16 .f32) :
    View.ld (Val := Elt F) (e' := .f32) (VecWindow.put (s := S5x16) x ![0, 0] S1x16.size w) (Rect.unit (s := S5x16) ![2, 0] S1x16.size inb_S5x16_S1x16_2_0) = View.ld x (Rect.unit (s := S5x16) ![2, 0] S1x16.size inb_S5x16_S1x16_2_0) :=
  VecWindow.window_put_of_disjoint (s := S5x16) x ![0, 0] S1x16.size ![2, 0] S1x16.size inb_S5x16_S1x16_2_0 w 0 (.inr (by show 0 + 1 ≤ 2; decide))
theorem ld_put_row03 (x : Vec F S5x16 .f32) (w : Vec F S1x16 .f32) :
    View.ld (Val := Elt F) (e' := .f32) (VecWindow.put (s := S5x16) x ![0, 0] S1x16.size w) (Rect.unit (s := S5x16) ![3, 0] S1x16.size inb_S5x16_S1x16_3_0) = View.ld x (Rect.unit (s := S5x16) ![3, 0] S1x16.size inb_S5x16_S1x16_3_0) :=
  VecWindow.window_put_of_disjoint (s := S5x16) x ![0, 0] S1x16.size ![3, 0] S1x16.size inb_S5x16_S1x16_3_0 w 0 (.inr (by show 0 + 1 ≤ 3; decide))
theorem ld_put_row04 (x : Vec F S5x16 .f32) (w : Vec F S1x16 .f32) :
    View.ld (Val := Elt F) (e' := .f32) (VecWindow.put (s := S5x16) x ![0, 0] S1x16.size w) (Rect.unit (s := S5x16) ![4, 0] S1x16.size inb_S5x16_S1x16_4_0) = View.ld x (Rect.unit (s := S5x16) ![4, 0] S1x16.size inb_S5x16_S1x16_4_0) :=
  VecWindow.window_put_of_disjoint (s := S5x16) x ![0, 0] S1x16.size ![4, 0] S1x16.size inb_S5x16_S1x16_4_0 w 0 (.inr (by show 0 + 1 ≤ 4; decide))

theorem read_cons_row1 {κ' : Kind} {sp : Space} {e : EltTy} (v : View sig κ' sp S5x16 e) (f : BufTy.Contents (Elt F) v.ty) (w : Vec F S1x16 e) (L : List (View.Piece (Elt F) S5x16 e)) :
    v.read (Elt F) (v.writes (Elt F) f (⟨Rect.unit (s := S5x16) ![1, 0] S1x16.size inb_S5x16_S1x16_1_0, w⟩ :: L)) = VecWindow.put (v.read (Elt F) (v.writes (Elt F) f L)) ![1, 0] S1x16.size w :=
  View.read_writes_cons_put v f inb_S5x16_S1x16_1_0 w L rfl
theorem ld_put_row12 (x : Vec F S5x16 .f32) (w : Vec F S1x16 .f32) :
    View.ld (Val := Elt F) (e' := .f32) (VecWindow.put (s := S5x16) x ![1, 0] S1x16.size w) (Rect.unit (s := S5x16) ![2, 0] S1x16.size inb_S5x16_S1x16_2_0) = View.ld x (Rect.unit (s := S5x16) ![2, 0] S1x16.size inb_S5x16_S1x16_2_0) :=
  VecWindow.window_put_of_disjoint (s := S5x16) x ![1, 0] S1x16.size ![2, 0] S1x16.size inb_S5x16_S1x16_2_0 w 0 (.inr (by show 1 + 1 ≤ 2; decide))
theorem ld_put_row13 (x : Vec F S5x16 .f32) (w : Vec F S1x16 .f32) :
    View.ld (Val := Elt F) (e' := .f32) (VecWindow.put (s := S5x16) x ![1, 0] S1x16.size w) (Rect.unit (s := S5x16) ![3, 0] S1x16.size inb_S5x16_S1x16_3_0) = View.ld x (Rect.unit (s := S5x16) ![3, 0] S1x16.size inb_S5x16_S1x16_3_0) :=
  VecWindow.window_put_of_disjoint (s := S5x16) x ![1, 0] S1x16.size ![3, 0] S1x16.size inb_S5x16_S1x16_3_0 w 0 (.inr (by show 1 + 1 ≤ 3; decide))
theorem ld_put_row14 (x : Vec F S5x16 .f32) (w : Vec F S1x16 .f32) :
    View.ld (Val := Elt F) (e' := .f32) (VecWindow.put (s := S5x16) x ![1, 0] S1x16.size w) (Rect.unit (s := S5x16) ![4, 0] S1x16.size inb_S5x16_S1x16_4_0) = View.ld x (Rect.unit (s := S5x16) ![4, 0] S1x16.size inb_S5x16_S1x16_4_0) :=
  VecWindow.window_put_of_disjoint (s := S5x16) x ![1, 0] S1x16.size ![4, 0] S1x16.size inb_S5x16_S1x16_4_0 w 0 (.inr (by show 1 + 1 ≤ 4; decide))

theorem read_cons_row2 {κ' : Kind} {sp : Space} {e : EltTy} (v : View sig κ' sp S5x16 e) (f : BufTy.Contents (Elt F) v.ty) (w : Vec F S1x16 e) (L : List (View.Piece (Elt F) S5x16 e)) :
    v.read (Elt F) (v.writes (Elt F) f (⟨Rect.unit (s := S5x16) ![2, 0] S1x16.size inb_S5x16_S1x16_2_0, w⟩ :: L)) = VecWindow.put (v.read (Elt F) (v.writes (Elt F) f L)) ![2, 0] S1x16.size w :=
  View.read_writes_cons_put v f inb_S5x16_S1x16_2_0 w L rfl
theorem ld_put_row23 (x : Vec F S5x16 .f32) (w : Vec F S1x16 .f32) :
    View.ld (Val := Elt F) (e' := .f32) (VecWindow.put (s := S5x16) x ![2, 0] S1x16.size w) (Rect.unit (s := S5x16) ![3, 0] S1x16.size inb_S5x16_S1x16_3_0) = View.ld x (Rect.unit (s := S5x16) ![3, 0] S1x16.size inb_S5x16_S1x16_3_0) :=
  VecWindow.window_put_of_disjoint (s := S5x16) x ![2, 0] S1x16.size ![3, 0] S1x16.size inb_S5x16_S1x16_3_0 w 0 (.inr (by show 2 + 1 ≤ 3; decide))
theorem ld_put_row24 (x : Vec F S5x16 .f32) (w : Vec F S1x16 .f32) :
    View.ld (Val := Elt F) (e' := .f32) (VecWindow.put (s := S5x16) x ![2, 0] S1x16.size w) (Rect.unit (s := S5x16) ![4, 0] S1x16.size inb_S5x16_S1x16_4_0) = View.ld x (Rect.unit (s := S5x16) ![4, 0] S1x16.size inb_S5x16_S1x16_4_0) :=
  VecWindow.window_put_of_disjoint (s := S5x16) x ![2, 0] S1x16.size ![4, 0] S1x16.size inb_S5x16_S1x16_4_0 w 0 (.inr (by show 2 + 1 ≤ 4; decide))

theorem read_cons_row3 {κ' : Kind} {sp : Space} {e : EltTy} (v : View sig κ' sp S5x16 e) (f : BufTy.Contents (Elt F) v.ty) (w : Vec F S1x16 e) (L : List (View.Piece (Elt F) S5x16 e)) :
    v.read (Elt F) (v.writes (Elt F) f (⟨Rect.unit (s := S5x16) ![3, 0] S1x16.size inb_S5x16_S1x16_3_0, w⟩ :: L)) = VecWindow.put (v.read (Elt F) (v.writes (Elt F) f L)) ![3, 0] S1x16.size w :=
  View.read_writes_cons_put v f inb_S5x16_S1x16_3_0 w L rfl
theorem ld_put_row34 (x : Vec F S5x16 .f32) (w : Vec F S1x16 .f32) :
    View.ld (Val := Elt F) (e' := .f32) (VecWindow.put (s := S5x16) x ![3, 0] S1x16.size w) (Rect.unit (s := S5x16) ![4, 0] S1x16.size inb_S5x16_S1x16_4_0) = View.ld x (Rect.unit (s := S5x16) ![4, 0] S1x16.size inb_S5x16_S1x16_4_0) :=
  VecWindow.window_put_of_disjoint (s := S5x16) x ![3, 0] S1x16.size ![4, 0] S1x16.size inb_S5x16_S1x16_4_0 w 0 (.inr (by show 3 + 1 ≤ 4; decide))

end Cert.Kernel.Gen

end
-- ==== Proof.PrepBits.lean ====
/-
  The first call's body at a point: what it leaves in its windows.
-/
module

public import proofs.«01_k».proof.Proof.HeadsBits

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6400000 in
/-- The body at a point. -/
theorem body0 (c : Dev nD) (i : grid0.Coords) (arg1 : Memref sig .tc .vmem S1x5x256x128 .bf16) (harg1 : arg1.IsWhole) (arg2 : Memref sig .tc .vmem S1x5x256x128 .bf16) (harg2 : arg2.IsWhole) (arg3 : Memref sig .tc .vmem S5x16x256 .f32) (harg3 : arg3.IsWhole) (arg4 : Memref sig .tc .vmem S1x5x256x128 .fp8e5m2) (harg4 : arg4.IsWhole) (arg5 : Memref sig .tc .vmem S5x16 .f32) (harg5 : arg5.IsWhole) (arg6 : Memref sig .tc .vmem S1x5x128x256 .bf16) (harg6 : arg6.IsWhole) (arg7 : Memref sig .tc .vmem S1x5x256x128 .f32) (harg7 : arg7.IsWhole) (arg8 : Memref sig .tc .vmem S1x5x256x128 .f32) (harg8 : arg8.IsWhole) (x1 : Vec F S1x5x256x128 .bf16) (x2 : Vec F S1x5x256x128 .bf16) (x3 : Vec F S5x16x256 .f32) (y5 : Vec F S5x16 .f32) (E : Set ℕ) (K : PUnit → sProp 𝕄) :
        iprop(owns (c : Thread nD τ) arg1 fullShare x1 ∗ owns (c : Thread nD τ) arg2 fullShare x2 ∗ owns (c : Thread nD τ) arg3 fullShare x3 ∗ (∃ d, owns (c : Thread nD τ) arg4 fullShare d) ∗ owns (c : Thread nD τ) arg5 fullShare y5 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x1 ∗ owns (c : Thread nD τ) arg2 fullShare x2 ∗ owns (c : Thread nD τ) arg3 fullShare x3 ∗ owns (c : Thread nD τ) arg4 fullShare (codesBlk x1) ∗ owns (c : Thread nD τ) arg5 fullShare (scalesBlk i x1 y5) ∗ owns (c : Thread nD τ) arg6 fullShare (dotBlk x1) ∗ owns (c : Thread nD τ) arg7 fullShare (lse2Blk i x3) ∗ owns (c : Thread nD τ) arg8 fullShare (deltaBlk x1 x2)) -∗ K ⟨⟩))
          ⊢ wp frame (wpE (defs₀ (F := F)) Variants.none c none) E (cc0_quantise_grad i arg1 harg1 arg2 harg2 arg3 harg3 arg4 harg4 arg5 harg5 arg6 harg6 arg7 harg7 arg8 harg8) K := by
  simp only [cc0_quantise_grad_eq_skeleton]; unfold cc0_quantise_grad_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f1, %hf1, H1⟩, ⟨%f2, %hf2, H2⟩, ⟨%f3, %hf3, H3⟩, ⟨%d4, %f4, -, H4⟩, ⟨%f5, %hf5, H5⟩, ⟨%d6, %f6, -, H6⟩, ⟨%d7, %f7, -, H7⟩, ⟨%d8, %f8, -, H8⟩, Hk⟩
  obtain rfl := harg1.eq_unread hf1; obtain rfl := harg2.eq_unread hf2; obtain rfl := harg3.eq_unread hf3; obtain rfl := harg5.eq_unread hf5
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    refine heads_read _ _ _ _ _ _ _ _ ?_ ?_ ?_ ?_ ?_
    · sl_unfold_run_names; simp only [View.readAt_eq_ld, harg1.read_unread]; exact Eq.trans (by rfl) (congrArg codesOf (ld_head0 x1))
    · sl_unfold_run_names; simp only [View.readAt_eq_ld, harg1.read_unread]; exact Eq.trans (by rfl) (congrArg codesOf (ld_head1 x1))
    · sl_unfold_run_names; simp only [View.readAt_eq_ld, harg1.read_unread]; exact Eq.trans (by rfl) (congrArg codesOf (ld_head2 x1))
    · sl_unfold_run_names; simp only [View.readAt_eq_ld, harg1.read_unread]; exact Eq.trans (by rfl) (congrArg codesOf (ld_head3 x1))
    · sl_unfold_run_names; simp only [View.readAt_eq_ld, harg1.read_unread]; exact Eq.trans (by rfl) (congrArg codesOf (ld_head4 x1))
  isplitl [H5]
  · iexists _; isplitr; swap; · iexact H5
    ipureintro
    refine rows_read _ _ _ _ _ _ _ _ ?_ ?_ ?_ ?_ ?_
    · refine Eq.trans (congrArg (k0_pay13 (BitVec.ofNat 32 (i 0).val) (body0.sl.r_1 c arg1 harg1 x1)) (show _ = scaleRow y5 0 from ?_)) ?_
      · rw [View.readAt_eq_ld, harg5.read_unread]; exact ld_row0 y5
      sl_unfold_run_names; simp only [View.readAt_eq_ld, harg1.read_unread]; exact Eq.trans (by rfl) (congrArg (fun s => rowStep i s (scaleRow y5 0)) (ld_head0 x1))
    · refine Eq.trans (congrArg (k0_pay25 (BitVec.ofNat 32 (i 0).val) (body0.sl.r_6 c arg1 harg1 x1)) (show body0.sl.v178 c arg5 harg5 y5 = scaleRow y5 1 from by unfold body0.sl.v178; rw [View.readAt_eq_ld, harg5.read_unread]; exact ld_row1 y5)) ?_
      sl_unfold_run_names; simp only [View.readAt_eq_ld, harg1.read_unread]; exact Eq.trans (by rfl) (congrArg (fun s => rowStep i s (scaleRow y5 1)) (ld_head1 x1))
    · refine Eq.trans (congrArg (k0_pay38 (BitVec.ofNat 32 (i 0).val) (body0.sl.r_10 c arg1 harg1 x1)) (show body0.sl.v269 c arg5 harg5 y5 = scaleRow y5 2 from by unfold body0.sl.v269; rw [View.readAt_eq_ld, harg5.read_unread]; exact ld_row2 y5)) ?_
      sl_unfold_run_names; simp only [View.readAt_eq_ld, harg1.read_unread]; exact Eq.trans (by rfl) (congrArg (fun s => rowStep i s (scaleRow y5 2)) (ld_head2 x1))
    · refine Eq.trans (congrArg (k0_pay51 (BitVec.ofNat 32 (i 0).val) (body0.sl.r_15 c arg1 harg1 x1)) (show body0.sl.v360 c arg5 harg5 y5 = scaleRow y5 3 from by unfold body0.sl.v360; rw [View.readAt_eq_ld, harg5.read_unread]; exact ld_row3 y5)) ?_
      sl_unfold_run_names; simp only [View.readAt_eq_ld, harg1.read_unread]; exact Eq.trans (by rfl) (congrArg (fun s => rowStep i s (scaleRow y5 3)) (ld_head3 x1))
    · refine Eq.trans (congrArg (k0_pay1 (BitVec.ofNat 32 (i 0).val) (body0.sl.r_22 c arg1 harg1 x1) body0.sl.v448) (show body0.sl.v451 c arg5 harg5 y5 = scaleRow y5 4 from by unfold body0.sl.v451; rw [View.readAt_eq_ld, harg5.read_unread]; exact ld_row4 y5)) ?_
      sl_unfold_run_names; simp only [View.readAt_eq_ld, harg1.read_unread]; exact Eq.trans (by rfl) (congrArg (fun s => rowStep i s (scaleRow y5 4)) (ld_head4 x1))
  isplitl [H6]
  · iexists _; isplitr; swap; · iexact H6
    ipureintro
    refine headsT_read _ _ _ _ _ _ _ _ ?_ ?_ ?_ ?_ ?_
    · sl_unfold_run_names; simp only [View.readAt_eq_ld, harg1.read_unread]; exact Eq.trans (by rfl) (congrArg dotOf (ld_head0 x1))
    · sl_unfold_run_names; simp only [View.readAt_eq_ld, harg1.read_unread]; exact Eq.trans (by rfl) (congrArg dotOf (ld_head1 x1))
    · sl_unfold_run_names; simp only [View.readAt_eq_ld, harg1.read_unread]; exact Eq.trans (by rfl) (congrArg dotOf (ld_head2 x1))
    · sl_unfold_run_names; simp only [View.readAt_eq_ld, harg1.read_unread]; exact Eq.trans (by rfl) (congrArg dotOf (ld_head3 x1))
    · sl_unfold_run_names; simp only [View.readAt_eq_ld, harg1.read_unread]; exact Eq.trans (by rfl) (congrArg dotOf (ld_head4 x1))
  isplitl [H7]
  · iexists _; isplitr; swap; · iexact H7
    ipureintro
    refine heads_read _ _ _ _ _ _ _ _ ?_ ?_ ?_ ?_ ?_
    · sl_unfold_run_names; simp only [View.readAt_eq_ld, harg3.read_unread]; exact Eq.trans (by rfl) (congrArg lse2Of (ld_lse0 x3 i))
    · sl_unfold_run_names; simp only [View.readAt_eq_ld, harg3.read_unread]; exact Eq.trans (by rfl) (congrArg lse2Of (ld_lse1 x3 i))
    · sl_unfold_run_names; simp only [View.readAt_eq_ld, harg3.read_unread]; exact Eq.trans (by rfl) (congrArg lse2Of (ld_lse2 x3 i))
    · sl_unfold_run_names; simp only [View.readAt_eq_ld, harg3.read_unread]; exact Eq.trans (by rfl) (congrArg lse2Of (ld_lse3 x3 i))
    · sl_unfold_run_names; simp only [View.readAt_eq_ld, harg3.read_unread]; exact Eq.trans (by rfl) (congrArg lse2Of (ld_lse4 x3 i))
  iexists _; isplitr; swap; · iexact H8
  ipureintro
  refine heads_read _ _ _ _ _ _ _ _ ?_ ?_ ?_ ?_ ?_
  · sl_unfold_run_names; simp only [View.readAt_eq_ld, harg1.read_unread, harg2.read_unread]; exact Eq.trans (by rfl) (congrArg₂ deltaOf (ld_head0 x1) (ld_head0 x2))
  · sl_unfold_run_names; simp only [View.readAt_eq_ld, harg1.read_unread, harg2.read_unread]; exact Eq.trans (by rfl) (congrArg₂ deltaOf (ld_head1 x1) (ld_head1 x2))
  · sl_unfold_run_names; simp only [View.readAt_eq_ld, harg1.read_unread, harg2.read_unread]; exact Eq.trans (by rfl) (congrArg₂ deltaOf (ld_head2 x1) (ld_head2 x2))
  · sl_unfold_run_names; simp only [View.readAt_eq_ld, harg1.read_unread, harg2.read_unread]; exact Eq.trans (by rfl) (congrArg₂ deltaOf (ld_head3 x1) (ld_head3 x2))
  · sl_unfold_run_names; simp only [View.readAt_eq_ld, harg1.read_unread, harg2.read_unread]; exact Eq.trans (by rfl) (congrArg₂ deltaOf (ld_head4 x1) (ld_head4 x2))

end Cert.Kernel.Gen

end
-- ==== Proof.Region0Bits.lean ====
/-
  The first call over the whole grid: what every point leaves in its windows, and the body's obligation there. The window of
  the scales is one block which the points fill lane by lane, so what a point finds in it is known only of the lanes filled before.
-/
module

public import proofs.«01_k».proof.Proof.PrepBits
public import proofs.«01_k».proof.Proof.Gen.Kernel.Launch
public import Idealize.ShloMosaic.Lib.Pipeline.FrameBody
public import Idealize.ShloMosaic.Lib.Pipeline.DatRel
public import Idealize.ShloMosaic.Lib.Pipeline.ArrRel
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- The block window `w` reads at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem coords0_0 (t : Fin cfg0.N) : (grid0.coords t 0).val = t.val := by
  have h : t.val < 16 := lt_of_lt_of_eq t.isLt (show cfg0.N = 16 from N_0)
  rw [show (grid0.coords t 0).val = t.val / 1 % 16 from Pipeline.Grid.coords_val t 0 (by decide) rfl]; omega

/-- The one position of a single scale. -/
def at00 : S1x1.Idx := fun a => match a with | ⟨0, _⟩ => ⟨0, Nat.one_pos⟩ | ⟨1, _⟩ => ⟨0, Nat.one_pos⟩

/-- Point `n` of the grid. -/
def pt0 (n : Fin 16) : Fin cfg0.N := ⟨n.val, lt_of_lt_of_eq n.isLt (show 16 = cfg0.N from N_0.symm)⟩
/-- All the scales: lane `n` of row `h` is the scale of head `h` of sequence `n`. -/
def scales0 (c : Dev nD) : Vec F S5x16 .f32 := fun y => scaleOf (headOf (iblk0 V c 0 (pt0 (y 1))) (y 0)) at00

/-- A point writes its own lane and keeps the others. -/
theorem rowStep_apply (i : grid0.Coords) (x : Vec F S1x1x256x128 .bf16) (s : Vec F S1x16 .f32) (y : S1x16.Idx) :
    rowStep i x s y = if (y 1).val = (i 0).val then scaleOf x at00 else s y := by
  have hy : (y 1).val < 16 := (y 1).isLt
  have hi : (i 0).val < 16 := (i 0).isLt
  have hd : ([1] : List (Fin 2)).foldl (fun n a => n * S1x16.size a + (y a).val) 0 = (y 1).val := by
    show 0 * 16 + (y 1).val = _; omega
  unfold rowStep k0_pay13
  rw [WordCmp.select_at, WordCmp.cmpi_at, WordCmp.iota_at, WordCmp.broadcast_at, hd, shapeCast_self, shapeCast_self,
    WordCmp.cmpi_eq_ofNat (by omega) (by omega), WordCmp.select_decide]
  exact congrArg (fun z => if (y 1).val = (i 0).val then z else s y) (congrArg (scaleOf x) (funext fun a => by
    match a with
    | ⟨0, _⟩ => exact Subsingleton.elim (α := Fin 1) _ _
    | ⟨1, _⟩ => exact Subsingleton.elim (α := Fin 1) _ _))

theorem scalesBlk_apply (i : grid0.Coords) (x : Vec F S1x5x256x128 .bf16) (s : Vec F S5x16 .f32) (y : S5x16.Idx) :
    scalesBlk i x s y = if (y 1).val = (i 0).val then scaleOf (headOf x (y 0)) at00 else s y := by
  refine (rowStep_apply i (headOf x (y 0)) (scaleRow s (y 0)) _).trans ?_
  refine congrArg (fun z => if (y 1).val = (i 0).val then scaleOf (headOf x (y 0)) at00 else z) (congrArg s (funext fun a => ?_))
  match a with
  | ⟨0, _⟩ => rfl
  | ⟨1, _⟩ => rfl

/-- The call's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => codesBlk (iblk0 V c 0 t)
    | ⟨4, _⟩ => scales0 V c
    | ⟨5, _⟩ => dotBlk (iblk0 V c 0 t)
    | ⟨6, _⟩ => lse2Blk (grid0.coords t) (iblk0 V c 2 t)
    | ⟨7, _⟩ => deltaBlk (iblk0 V c 0 t) (iblk0 V c 1 t)
  Φ t := Pipeline.scopedRest spec0 c
  q _ := fullShare
  owed _ := 0

/-- The window known only in part. -/
def fgt0 : Fin cfg0.W → Bool := fun w => decide (w = 4)
/-- What is known of it: the lanes up to the point. -/
def known0 (c : Dev nD) (t : Fin cfg0.N) (X : Vec F S5x16 .f32) : Prop := ∀ y : S5x16.Idx, (y 1).val ≤ t.val → X y = scales0 V c y
def rel0 (c : Dev nD) (w : Fin cfg0.W) (t : Fin cfg0.N) : ((cfg0.win w).block.Idx → Elt F (cfg0.win w).elt) → Prop :=
  match w with
  | ⟨4, _⟩ => fun X => known0 V c t X
  | ⟨0, _⟩ | ⟨1, _⟩ | ⟨2, _⟩ | ⟨3, _⟩ | ⟨5, _⟩ | ⟨6, _⟩ | ⟨7, _⟩ => fun _ => True

theorem A0_eq (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = codesBlk (iblk0 V c 0 t) := by dsimp only [dat0]
theorem after0_4 (c : Dev nD) (t : Fin cfg0.N) : (dat0 V c).after 4 t = scales0 V c := by dsimp only [dat0]
theorem after0_5 (c : Dev nD) (t : Fin cfg0.N) : (dat0 V c).after 5 t = dotBlk (iblk0 V c 0 t) := by dsimp only [dat0]
theorem after0_6 (c : Dev nD) (t : Fin cfg0.N) : (dat0 V c).after 6 t = lse2Blk (grid0.coords t) (iblk0 V c 2 t) := by dsimp only [dat0]
theorem after0_7 (c : Dev nD) (t : Fin cfg0.N) : (dat0 V c).after 7 t = deltaBlk (iblk0 V c 0 t) (iblk0 V c 1 t) := by dsimp only [dat0]
theorem before0_0 (c : Dev nD) (t : Fin cfg0.N) (d) : (dat0 V c).before 0 t d = iblk0 V c 0 t := before0_0_of V (dat0 V c) (A0_eq V c 0) (after0_0 V c) t d
theorem before0_1 (c : Dev nD) (t : Fin cfg0.N) (d) : (dat0 V c).before 1 t d = iblk0 V c 1 t := before0_1_of V (dat0 V c) (A0_eq V c 1) (after0_1 V c) t d
theorem before0_2 (c : Dev nD) (t : Fin cfg0.N) (d) : (dat0 V c).before 2 t d = iblk0 V c 2 t := before0_2_of V (dat0 V c) (A0_eq V c 2) (after0_2 V c) t d

/-- The relational data of the call. -/
abbrev rdat0 (c : Dev nD) := (dat0 V c).toRRel fgt0 (rel0 V c)

theorem finds0_4 (c : Dev nD) (t : Fin cfg0.N) (Y) (h : (rdat0 V c).Finds 4 t Y) : ∀ y : S5x16.Idx, (y 1).val < t.val → Y y = scales0 V c y := fun y hy => by
  have hN : t.val < 16 := lt_of_lt_of_eq t.isLt (show cfg0.N = 16 from N_0)
  have h0 : 0 < t.val := by omega
  rcases ((rdat0 V c).finds_of_pos (w := 4) (t := t) (by rfl) (by omega) Y).mp h with hf | hl
  · exact absurd ((flush0_4 _).mp hf) (by show ¬ (t.val - 1) % 16 = 15; omega)
  · exact (Dat.toRRel_leaves (dat0 V c) (fgt := fgt0) (Rl := rel0 V c) (w := 4) rfl hl : known0 V c _ Y) y (by show (y 1).val ≤ t.val - 1; omega)

theorem step0_4 (c : Dev nD) (t : Fin cfg0.N) (Y : Vec F S5x16 .f32) (h : ∀ y : S5x16.Idx, (y 1).val < t.val → Y y = scales0 V c y) :
    known0 V c t (scalesBlk (grid0.coords t) (iblk0 V c 0 t) Y) := fun y hy => by
  rw [scalesBlk_apply, coords0_0]
  by_cases hl : (y 1).val = t.val
  · rw [if_pos hl]; unfold scales0
    rw [show pt0 (y 1) = t from Fin.ext hl]
  · rw [if_neg hl]; exact h y (by omega)

def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ Y, ⌜(rdat0 V c).Finds 4 t Y⌝ ∗ owns (c : Thread nD τ) (win0_4.stage (cfg0.slots t 4)) fullShare Y)
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d)))
def bodyPost0 (c : Dev nD) (t : Fin cfg0.N) : sProp 𝕄 :=
  iprop((dat0 V c).Φ t.succ ∗ (dat0 V c).owesAt () t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t)
    ∗ owns (c : Thread nD τ) (win0_3.stage (cfg0.slots t 3)) fullShare ((dat0 V c).after 3 t)
    ∗ (∃ X, ⌜rel0 V c 4 t X⌝ ∗ owns (c : Thread nD τ) (win0_4.stage (cfg0.slots t 4)) fullShare X)
    ∗ owns (c : Thread nD τ) (win0_5.stage (cfg0.slots t 5)) fullShare ((dat0 V c).after 5 t)
    ∗ owns (c : Thread nD τ) (win0_6.stage (cfg0.slots t 6)) fullShare ((dat0 V c).after 6 t)
    ∗ owns (c : Thread nD τ) (win0_7.stage (cfg0.slots t 7)) fullShare ((dat0 V c).after 7 t))

set_option maxHeartbeats 3200000 in
/-- The body at any point. -/
theorem sound0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = (dat0 V c).Φ t.castSucc from rfl]
  rw [after0_0, after0_1, after0_2, after0_3, after0_5, after0_6, after0_7]
  iintro ⟨HΦ, Ho, ⟨%d0, H0⟩, ⟨%d1, H1⟩, ⟨%d2, H2⟩, ⟨%d3, H3⟩, ⟨%Y, %hY, H4⟩, ⟨%d5, H5⟩, ⟨%d6, H6⟩, ⟨%d7, H7⟩⟩
  iapply (body0 c (grid0.coords t) _ _ _ _ _ _ _ _ _ _ _ _ _ _ _ _ (iblk0 V c 0 t) (iblk0 V c 1 t) (iblk0 V c 2 t) Y Set.univ _)
  isplitl [H0]; · iexact H0
  isplitl [H1]; · iexact H1
  isplitl [H2]; · iexact H2
  isplitl [H3]; · iexists _; iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iexists _; isplitr; swap; · iexact H4
    ipureintro
    exact step0_4 V c t Y (finds0_4 V c t Y hY)
  isplitl [H5]; · iexact H5
  isplitl [H6]; · iexact H6
  iexact H7

theorem defs₀_row0 (t : Fin cfg0.N) :
    defs₀ (F := F) .tc cfg0.body (cfg0.bodyArgs t (cfg0.slots t)) = bodyAt0 t := by
  unfold defs₀; rw [Defs.onTc_tc]

/-- The body's obligation at every point. -/
theorem obligation0 (c : Dev nD) : (rdat0 V c).BodyObligation (defs₀ (F := F)) Variants.none () Set.univ :=
  Pipeline.BodyObligationRel.toRRel (dat0 V c) (fun t => by
    rw [bigSep_W0, bigSep_W0, defs₀_row0]
    exact triple_restated (sound0 V c t) rfl .rfl fun _ => .rfl)

/-- What the arrays hold at the end is what the exact data names. -/
theorem arrAt0 (c : Dev nD) (w : Fin cfg0.W) (G) (h : (rdat0 V c).ArrAt w cfg0.N G) : G = (dat0 V c).arrAt w cfg0.N := by
  by_cases hw : fgt0 w = true
  · obtain ⟨X, hX, hG⟩ := h.exists_exact
    refine hG (dat0 V c).after fun u hu hf => ?_
    obtain rfl : w = 4 := of_decide_eq_true hw
    have h15 : u.val % 16 = 15 := (flush0_4 u).mp hf
    have hk : known0 V c u (X u) := Dat.toRRel_leaves (dat0 V c) (fgt := fgt0) (Rl := rel0 V c) (w := 4) rfl (hX u hu hf)
    rw [after0_4]
    exact funext fun y => (hk y (by have : (y 1).val < 16 := (y 1).isLt; omega)).symm
  · have hw' : fgt0 w = false := by simpa using hw
    exact (dat0 V c).toR_arrAt w cfg0.N G (((dat0 V c).toR.override_arrAt (by simp only [hw']) cfg0.N G).mp h)

theorem arraysAt0 (c : Dev nD) : (rdat0 V c).arraysAt cfg0.N ⊢ ((dat0 V c).arrays ((dat0 V c).arrAt · cfg0.N) : sProp 𝕄) :=
  Idealize.SL.BI.bigSep_mono fun w _ =>
    show iprop(∃ G, ⌜(rdat0 V c).ArrAt w cfg0.N G⌝ ∗ (cfg0.win w).arr.view.loc (c.tc : Thread nD τ) ↦[(cfg0.win w).arr.view.set]{(rdat0 V c).share w} G)
        ⊢ ((cfg0.win w).arr.view.loc (c.tc : Thread nD τ) ↦[(cfg0.win w).arr.view.set]{(dat0 V c).share w} (dat0 V c).arrAt w cfg0.N : sProp 𝕄) from by
      iintro ⟨%G, %hG, H⟩; rw [arrAt0 V c w G hG]; iexact H

end Cert.Kernel.Gen
-- ==== Proof.TripBits.lean ====
/-
  One trip of the second call's loop over the chunks of 512 keys of a tile, and the loop: what it leaves in the two
  gradient blocks (dk, dv) and in the transposed query gradient it accumulates.
-/
module

public import proofs.«01_k».proof.Proof.Gen.Kernel.Loops
public import proofs.«01_k».proof.Proof.Gen.Kernel.Points
public import Idealize.ShloMosaic.Lib.VecWindow
public import Idealize.ShloMosaic.Lib.Pipeline.Value
public import Idealize.ShloMosaic.Lib.Pipeline.FrameBody

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a chunk is computed from: the tile's blocks and the words the body read before the loop. -/
structure Blk (F : FTy → Type) where
  (k : Vec F S1x1x4096x128 .fp8e4m3) (ks : Vec F S1x16x16384 .f32) (v : Vec F S1x1x4096x128 .fp8e4m3) (vs : Vec F S1x16x16384 .f32)
  (dos : Elt F .f32) (q : Vec F S1x256x128 .bf16) (qt : Vec F S1x128x256 .bf16) (codes : Vec F S1x1x256x128 .fp8e5m2)
  (dot : Vec F S1x1x128x256 .bf16) (lse : Vec F S1x1x256x128 .f32) (del : Vec F S1x1x256x128 .f32)

/-- Chunk `k`'s rows of a tile. -/
abbrev rowsOf (k : Fin k1_t1_loop.trips) : Rect S1x1x4096x128 := Rect.unit (s := S1x1x4096x128) (k1_off3 k) S1x1x512x128.size (k1_off3_inb k)
/-- Chunk `k`'s keys in the scales of a head. -/
abbrev keysOf (i : grid1.Coords) (k : Fin k1_t1_loop.trips) : Rect S1x16x16384 := Rect.unit (s := S1x16x16384) (k1_off2 i k) S1x1x512.size (k1_off2_inb i k)

/-- Chunk `k`'s gradient of the scores, in the narrow type. -/
def dsOf (i : grid1.Coords) (B : Blk F) (k : Fin k1_t1_loop.trips) : FVec F S256x512 .bf16 :=
  k1_pay3 B.dos (k1_pay6 B.q) (k1_pay7 B.codes) (k1_pay9 B.lse) (k1_pay10 B.del) (View.ld B.ks (keysOf i k)) (View.ld B.vs (keysOf i k)) (View.ld B.k (rowsOf k)) (View.ld B.v (rowsOf k))
/-- Chunk `k`'s block of dv. -/
def dvOf (i : grid1.Coords) (B : Blk F) (k : Fin k1_t1_loop.trips) : Vec F S1x1x512x128 .bf16 :=
  k1_pay11 (k1_pay4 (k1_pay6 B.q) (k1_pay8 B.dot) (k1_pay9 B.lse) (View.ld B.ks (keysOf i k)) (View.ld B.k (rowsOf k)))
/-- Chunk `k`'s block of dk. -/
def dkOf (i : grid1.Coords) (B : Blk F) (k : Fin k1_t1_loop.trips) : Vec F S1x1x512x128 .bf16 := k1_pay12 B.qt (dsOf i B k)
/-- What chunk `k` makes of the transposed query gradient `d`. -/
def dqStep (i : grid1.Coords) (B : Blk F) (k : Fin k1_t1_loop.trips) (d : Vec F S128x256 .f32) : Vec F S128x256 .f32 :=
  k1_pay13 (k1_pay1 (View.ld B.ks (keysOf i k)) (View.ld B.k (rowsOf k))) (dsOf i B k) d

theorem off_zero2 : (![0, 0] : Fin 2 → Nat) = fun _ => 0 := funext fun a => by fin_cases a <;> rfl
theorem off_zero3 : (![0, 0, 0] : Fin 3 → Nat) = fun _ => 0 := funext fun a => by fin_cases a <;> rfl
theorem off_zero4 : (![0, 0, 0, 0] : Fin 4 → Nat) = fun _ => 0 := funext fun a => by fin_cases a <;> rfl

/-- What a trip holds: the blocks it reads at their contents, the blocks it writes at any. -/
abbrev TripRes1 (c : Dev nD) (arg6 : Memref sig .tc .vmem S1x1x4096x128 .fp8e4m3) (arg7 : Memref sig .tc .vmem S1x16x16384 .f32) (arg8 : Memref sig .tc .vmem S1x1x4096x128 .fp8e4m3) (arg9 : Memref sig .tc .vmem S1x16x16384 .f32) (arg16 : Memref sig .tc .vmem S1x1x4096x128 .bf16) (arg17 : Memref sig .tc .vmem S1x1x4096x128 .bf16) (arg18 : Memref sig .tc .vmem S128x256 .f32) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (f_arg16 : BufTy.Contents (Elt F) arg16.view.ty) (f_arg17 : BufTy.Contents (Elt F) arg17.view.ty) (f_arg18 : BufTy.Contents (Elt F) arg18.view.ty) : sProp 𝕄 :=
  iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18))

variable (𝒱 : Variants) (c : Dev nD) (bd : Option 𝒱.V) (i : grid1.Coords) (arg3 : Memref sig .tc .smem S5x16 .f32) (harg3 : arg3.IsWhole) (arg4 : Memref sig .tc .vmem S1x256x128 .bf16) (harg4 : arg4.IsWhole) (arg5 : Memref sig .tc .vmem S1x128x256 .bf16) (harg5 : arg5.IsWhole) (arg6 : Memref sig .tc .vmem S1x1x4096x128 .fp8e4m3) (harg6 : arg6.IsWhole) (arg7 : Memref sig .tc .vmem S1x16x16384 .f32) (harg7 : arg7.IsWhole) (arg8 : Memref sig .tc .vmem S1x1x4096x128 .fp8e4m3) (harg8 : arg8.IsWhole) (arg9 : Memref sig .tc .vmem S1x16x16384 .f32) (harg9 : arg9.IsWhole) (arg10 : Memref sig .tc .vmem S1x1x256x128 .fp8e5m2) (harg10 : arg10.IsWhole) (arg11 : Memref sig .tc .vmem S1x1x128x256 .bf16) (harg11 : arg11.IsWhole) (arg12 : Memref sig .tc .vmem S1x1x256x128 .f32) (harg12 : arg12.IsWhole) (arg13 : Memref sig .tc .vmem S1x1x256x128 .f32) (harg13 : arg13.IsWhole) (arg14 : Memref sig .tc .vmem S1x256x128 .bf16) (harg14 : arg14.IsWhole) (arg15 : Memref sig .tc .vmem S1x1x256x128 .f32) (harg15 : arg15.IsWhole) (arg16 : Memref sig .tc .vmem S1x1x4096x128 .bf16) (harg16 : arg16.IsWhole) (arg17 : Memref sig .tc .vmem S1x1x4096x128 .bf16) (harg17 : arg17.IsWhole) (arg18 : Memref sig .tc .vmem S128x256 .f32) (harg18 : arg18.IsWhole) (arg19 : Memref sig .tc .vmem S256x128 .f32) (harg19 : arg19.IsWhole)
  (arg1 : BitVec 32) (arg2 : BitVec 32) (v5 : Elt F .f32) (v6 : Vec F S1x256x128 .bf16) (v8 : Vec F S1x128x256 .bf16) (v10 : Vec F S1x1x256x128 .fp8e5m2) (v12 : Vec F S1x1x128x256 .bf16) (v14 : Vec F S1x1x256x128 .f32) (v17 : Vec F S1x1x256x128 .f32) (X_arg6 : BufTy.Contents (Elt F) arg6.view.ty) (X_arg7 : BufTy.Contents (Elt F) arg7.view.ty) (X_arg8 : BufTy.Contents (Elt F) arg8.view.ty) (X_arg9 : BufTy.Contents (Elt F) arg9.view.ty)

/-- The blocks a trip reads, of what its memrefs hold. -/
abbrev blkOf : Blk F :=
  ⟨arg6.view.read (Elt F) X_arg6, arg7.view.read (Elt F) X_arg7, arg8.view.read (Elt F) X_arg8, arg9.view.read (Elt F) X_arg9, v5, v6, v8, v10, v12, v14, v17⟩

local notation "𝔹" => blkOf arg6 arg7 arg8 arg9 v5 v6 v8 v10 v12 v14 v17 X_arg6 X_arg7 X_arg8 X_arg9

set_option maxHeartbeats 1600000 in
/-- One trip. -/
theorem trip1 (k : Fin k1_t1_loop.trips) (E : Set ℕ) (f_arg16 : BufTy.Contents (Elt F) arg16.view.ty) (f_arg17 : BufTy.Contents (Elt F) arg17.view.ty) (f_arg18 : BufTy.Contents (Elt F) arg18.view.ty) :
    TripRes1 (F := F) c arg6 arg7 arg8 arg9 arg16 arg17 arg18 X_arg6 X_arg7 X_arg8 X_arg9 f_arg16 f_arg17 f_arg18
      ⊢ wp frame (wpE (defs₀ (F := F)) 𝒱 (c : Thread nD τ) bd) E (k1_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 arg2 v5 v6 v8 v10 v12 v14 v17 k PUnit.unit)
          (fun _ => TripRes1 (F := F) c arg6 arg7 arg8 arg9 arg16 arg17 arg18 X_arg6 X_arg7 X_arg8 X_arg9
            (arg16.view.writes (Elt F) f_arg16 [⟨rowsOf k, dkOf i 𝔹 k⟩]) (arg17.view.writes (Elt F) f_arg17 [⟨rowsOf k, dvOf i 𝔹 k⟩])
            (arg18.view.writes (Elt F) f_arg18 [⟨Rect.unit (s := S128x256) ![0, 0] S128x256.size inb_S128x256_S128x256_0_0, dqStep i 𝔹 k (View.ld (arg18.view.read (Elt F) f_arg18) (Rect.unit (s := S128x256) ![0, 0] S128x256.size inb_S128x256_S128x256_0_0))⟩])) := by
  have hk : k.val < 8 := Nat.lt_of_lt_of_le k.isLt k1_t1_abs.2.1
  unfold k1_t1_body
  iintro ⟨HR_arg6, HR_arg7, HR_arg8, HR_arg9, HW_arg16, HW_arg17, HW_arg18⟩
  sl_exec
  sl_step
  isplitl [HR_arg6]; · iexact HR_arg6
  isplitl [HR_arg7]; · iexact HR_arg7
  isplitl [HR_arg8]; · iexact HR_arg8
  isplitl [HR_arg9]; · iexact HR_arg9
  isplitl [HW_arg16]; · iexact HW_arg16
  isplitl [HW_arg17]; · iexact HW_arg17
  iexact HW_arg18

/-- dk's block after the chunks below `k`, from `x`. -/
def dkAt (i : grid1.Coords) (B : Blk F) (x : Vec F S1x1x4096x128 .bf16) : ℕ → Vec F S1x1x4096x128 .bf16
  | 0 => x
  | k + 1 => if h : k < k1_t1_loop.trips then VecWindow.put (dkAt i B x k) (k1_off3 ⟨k, h⟩) S1x1x512x128.size (dkOf i B ⟨k, h⟩) else dkAt i B x k
/-- dv's block after the chunks below `k`, from `x`. -/
def dvAt (i : grid1.Coords) (B : Blk F) (x : Vec F S1x1x4096x128 .bf16) : ℕ → Vec F S1x1x4096x128 .bf16
  | 0 => x
  | k + 1 => if h : k < k1_t1_loop.trips then VecWindow.put (dvAt i B x k) (k1_off3 ⟨k, h⟩) S1x1x512x128.size (dvOf i B ⟨k, h⟩) else dvAt i B x k
/-- The transposed query gradient after the chunks below `k`, from `d`. -/
def dqAt (i : grid1.Coords) (B : Blk F) (d : Vec F S128x256 .f32) : ℕ → Vec F S128x256 .f32
  | 0 => d
  | k + 1 => if h : k < k1_t1_loop.trips then dqStep i B ⟨k, h⟩ (dqAt i B d k) else dqAt i B d k

theorem dkAt_succ (i : grid1.Coords) (B : Blk F) (x : Vec F S1x1x4096x128 .bf16) (k : Fin k1_t1_loop.trips) :
    dkAt i B x (k.val + 1) = VecWindow.put (dkAt i B x k.val) (k1_off3 k) S1x1x512x128.size (dkOf i B k) := dif_pos k.isLt
theorem dvAt_succ (i : grid1.Coords) (B : Blk F) (x : Vec F S1x1x4096x128 .bf16) (k : Fin k1_t1_loop.trips) :
    dvAt i B x (k.val + 1) = VecWindow.put (dvAt i B x k.val) (k1_off3 k) S1x1x512x128.size (dvOf i B k) := dif_pos k.isLt
theorem dqAt_succ (i : grid1.Coords) (B : Blk F) (d : Vec F S128x256 .f32) (k : Fin k1_t1_loop.trips) :
    dqAt i B d (k.val + 1) = dqStep i B k (dqAt i B d k.val) := dif_pos k.isLt

set_option warn.classDefReducibility false in
/-- The loop by its invariant. -/
@[sl_loop] def loopInv1 (E : Set ℕ) (G_arg16 : BufTy.Contents (Elt F) arg16.view.ty) (G_arg17 : BufTy.Contents (Elt F) arg17.view.ty) (G_arg18 : BufTy.Contents (Elt F) arg18.view.ty) :
    LoopInvTy_k1_t1 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 arg2 v5 v6 v8 v10 v12 v14 v17 where
  inv := fun k _ => iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9)
    ∗ (∃ f, (arg16.view.loc (c : Thread nD τ) ↦[arg16.view.set]{fullShare} f) ∗ ⌜arg16.view.read (Elt F) f = dkAt i 𝔹 (arg16.view.read (Elt F) G_arg16) k⌝)
    ∗ (∃ f, (arg17.view.loc (c : Thread nD τ) ↦[arg17.view.set]{fullShare} f) ∗ ⌜arg17.view.read (Elt F) f = dvAt i 𝔹 (arg17.view.read (Elt F) G_arg17) k⌝)
    ∗ (∃ f, (arg18.view.loc (c : Thread nD τ) ↦[arg18.view.set]{fullShare} f) ∗ ⌜arg18.view.read (Elt F) f = dqAt i 𝔹 (arg18.view.read (Elt F) G_arg18) k⌝))
  step k acc := by
    iintro ⟨HR_arg6, HR_arg7, HR_arg8, HR_arg9, ⟨%f_arg16, HW_arg16, %h_arg16⟩, ⟨%f_arg17, HW_arg17, %h_arg17⟩, ⟨%f_arg18, HW_arg18, %h_arg18⟩⟩
    iapply (wp_wand_r Idealize.ShloMosaic.frame (wpE (defs₀ (F := F)) 𝒱 (c : Thread nD τ) bd) E)
    isplitl [HR_arg6 HR_arg7 HR_arg8 HR_arg9 HW_arg16 HW_arg17 HW_arg18]
    · iapply (trip1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 arg2 v5 v6 v8 v10 v12 v14 v17 X_arg6 X_arg7 X_arg8 X_arg9 k E f_arg16 f_arg17 f_arg18)
      isplitl [HR_arg6]; · iexact HR_arg6
      isplitl [HR_arg7]; · iexact HR_arg7
      isplitl [HR_arg8]; · iexact HR_arg8
      isplitl [HR_arg9]; · iexact HR_arg9
      isplitl [HW_arg16]; · iexact HW_arg16
      isplitl [HW_arg17]; · iexact HW_arg17
      iexact HW_arg18
    · iintro %_ ⟨HR_arg6, HR_arg7, HR_arg8, HR_arg9, HW_arg16, HW_arg17, HW_arg18⟩
      isplitl [HR_arg6]; · iexact HR_arg6
      isplitl [HR_arg7]; · iexact HR_arg7
      isplitl [HR_arg8]; · iexact HR_arg8
      isplitl [HR_arg9]; · iexact HR_arg9
      isplitl [HW_arg16]
      · iexists _; isplitl [HW_arg16]; · iexact HW_arg16
        ipureintro
        refine (View.read_writes_cons_put arg16.view _ _ _ [] rfl).trans ?_
        rw [View.writes_nil, h_arg16]; exact (dkAt_succ i 𝔹 _ k).symm
      isplitl [HW_arg17]
      · iexists _; isplitl [HW_arg17]; · iexact HW_arg17
        ipureintro
        refine (View.read_writes_cons_put arg17.view _ _ _ [] rfl).trans ?_
        rw [View.writes_nil, h_arg17]; exact (dvAt_succ i 𝔹 _ k).symm
      iexists _; isplitl [HW_arg18]; · iexact HW_arg18
      ipureintro
      rw [show arg18.view.read (Elt F) (arg18.view.writes (Elt F) f_arg18 [⟨Rect.unit (s := S128x256) ![0, 0] S128x256.size inb_S128x256_S128x256_0_0, dqStep i 𝔹 k (View.ld (arg18.view.read (Elt F) f_arg18) (Rect.unit (s := S128x256) ![0, 0] S128x256.size inb_S128x256_S128x256_0_0))⟩])
          = dqStep i 𝔹 k (View.ld (arg18.view.read (Elt F) f_arg18) (Rect.unit (s := S128x256) ![0, 0] S128x256.size inb_S128x256_S128x256_0_0)) from View.read_writes_full arg18.view _ _ _ _,
        View.ld_unit_zero (S := S128x256) off_zero2, h_arg18]
      exact (dqAt_succ i 𝔹 _ k).symm

end Cert.Kernel.Gen

end
-- ==== Proof.TileBits.lean ====
/-
  The second call's blocks after a whole tile, by index: a row of dk and of dv is a row of its chunk.
-/
module

public import proofs.«01_k».proof.Proof.TripBits

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- dk's block of a tile: row `r` is row `r % 512` of chunk `r / 512`. -/
def dkTile (i : grid1.Coords) (B : Blk F) : Vec F S1x1x4096x128 .bf16 := fun y =>
  dkOf i B ⟨(y 2).val / 512, by have h : (y 2).val < 4096 := (y 2).isLt; show _ < 8; omega⟩
    (fun a => match a with
      | ⟨0, _⟩ => ⟨0, Nat.one_pos⟩ | ⟨1, _⟩ => ⟨0, Nat.one_pos⟩ | ⟨2, _⟩ => ⟨(y 2).val % 512, Nat.mod_lt _ (by decide)⟩ | ⟨3, _⟩ => ⟨(y 3).val, (y 3).isLt⟩)

/-- dv's block of a tile: row `r` is row `r % 512` of chunk `r / 512`. -/
def dvTile (i : grid1.Coords) (B : Blk F) : Vec F S1x1x4096x128 .bf16 := fun y =>
  dvOf i B ⟨(y 2).val / 512, by have h : (y 2).val < 4096 := (y 2).isLt; show _ < 8; omega⟩
    (fun a => match a with
      | ⟨0, _⟩ => ⟨0, Nat.one_pos⟩ | ⟨1, _⟩ => ⟨0, Nat.one_pos⟩ | ⟨2, _⟩ => ⟨(y 2).val % 512, Nat.mod_lt _ (by decide)⟩ | ⟨3, _⟩ => ⟨(y 3).val, (y 3).isLt⟩)

/-- The transposed query gradient after a tile. -/
def dqTile (i : grid1.Coords) (B : Blk F) (d : Vec F S128x256 .f32) : Vec F S128x256 .f32 := dqAt i B d 8

theorem dkAt_apply (i : grid1.Coords) (B : Blk F) (x : Vec F S1x1x4096x128 .bf16) (n : ℕ) (hn : n ≤ 8) (y : S1x1x4096x128.Idx) :
    dkAt i B x n y = if (y 2).val < 512 * n then dkTile i B y else x y := by
  have y0 : (y 0).val = 0 := by have h : (y 0).val < 1 := (y 0).isLt; omega
  have y1 : (y 1).val = 0 := by have h : (y 1).val < 1 := (y 1).isLt; omega
  have y3 : (y 3).val < 128 := (y 3).isLt
  induction n with
  | zero => exact (if_neg (by omega)).symm
  | succ n ih =>
    have hk : n < k1_t1_loop.trips := hn
    have ih := ih (by omega)
    rw [show dkAt i B x (n + 1) = _ from dkAt_succ i B x ⟨n, hk⟩]
    unfold VecWindow.put
    by_cases hy : 512 * n ≤ (y 2).val ∧ (y 2).val < 512 * n + 512
    · have h : ∀ a, k1_off3 ⟨n, hk⟩ a ≤ (y a).val ∧ (y a).val < k1_off3 ⟨n, hk⟩ a + S1x1x512x128.size a := by
        rw [k1_off3_eq]; intro a
        match a with
        | ⟨0, _⟩ => exact ⟨Nat.zero_le _, by show (y 0).val < 0 + 1; omega⟩
        | ⟨1, _⟩ => exact ⟨Nat.zero_le _, by show (y 1).val < 0 + 1; omega⟩
        | ⟨2, _⟩ => exact hy
        | ⟨3, _⟩ => exact ⟨Nat.zero_le _, by show (y 3).val < 0 + 128; omega⟩
      rw [dif_pos h, if_pos (by omega)]
      have hq : (y 2).val / 512 = n := by omega
      unfold dkTile
      have hk' : (⟨n, hk⟩ : Fin k1_t1_loop.trips) = ⟨(y 2).val / 512, by rw [hq]; exact hk⟩ := Fin.ext hq.symm
      have hz : Rect.unitLocal (s := S1x1x4096x128) (off := k1_off3 ⟨n, hk⟩) (size := S1x1x512x128.size) y h
          = (fun a => match a with
      | ⟨0, _⟩ => ⟨0, Nat.one_pos⟩ | ⟨1, _⟩ => ⟨0, Nat.one_pos⟩ | ⟨2, _⟩ => ⟨(y 2).val % 512, Nat.mod_lt _ (by decide)⟩ | ⟨3, _⟩ => ⟨(y 3).val, (y 3).isLt⟩ : S1x1x512x128.Idx) := by
        have ho := k1_off3_eq ⟨n, hk⟩
        funext a; apply Fin.ext
        show (y a).val - k1_off3 ⟨n, hk⟩ a = _
        rw [ho]
        match a with
        | ⟨0, _⟩ => show (y 0).val - 0 = 0; omega
        | ⟨1, _⟩ => show (y 1).val - 0 = 0; omega
        | ⟨2, _⟩ => show (y 2).val - 512 * n = (y 2).val % 512; omega
        | ⟨3, _⟩ => show (y 3).val - 0 = (y 3).val; omega
      rw [hz]
      exact congrArg (fun k => dkOf i B k _) hk'
    · have h : ¬ ∀ a, k1_off3 ⟨n, hk⟩ a ≤ (y a).val ∧ (y a).val < k1_off3 ⟨n, hk⟩ a + S1x1x512x128.size a := by
        rw [k1_off3_eq]; exact fun h => hy (h 2)
      rw [dif_neg h, ih]
      by_cases hl : (y 2).val < 512 * n
      · rw [if_pos hl, if_pos (by omega)]
      · rw [if_neg hl, if_neg (by omega)]

/-- The loop leaves the whole block, whatever it held. -/
theorem dkAt_tile (i : grid1.Coords) (B : Blk F) (x : Vec F S1x1x4096x128 .bf16) :
    dkAt i B x (Scf.trips k1_t1_loop.lb k1_t1_loop.ub k1_t1_loop.st) = dkTile i B := funext fun y => by
  rw [show Scf.trips k1_t1_loop.lb k1_t1_loop.ub k1_t1_loop.st = 8 from rfl, dkAt_apply i B x 8 le_rfl y]
  exact if_pos (by have h : (y 2).val < 4096 := (y 2).isLt; omega)

theorem dvAt_apply (i : grid1.Coords) (B : Blk F) (x : Vec F S1x1x4096x128 .bf16) (n : ℕ) (hn : n ≤ 8) (y : S1x1x4096x128.Idx) :
    dvAt i B x n y = if (y 2).val < 512 * n then dvTile i B y else x y := by
  have y0 : (y 0).val = 0 := by have h : (y 0).val < 1 := (y 0).isLt; omega
  have y1 : (y 1).val = 0 := by have h : (y 1).val < 1 := (y 1).isLt; omega
  have y3 : (y 3).val < 128 := (y 3).isLt
  induction n with
  | zero => exact (if_neg (by omega)).symm
  | succ n ih =>
    have hk : n < k1_t1_loop.trips := hn
    have ih := ih (by omega)
    rw [show dvAt i B x (n + 1) = _ from dvAt_succ i B x ⟨n, hk⟩]
    unfold VecWindow.put
    by_cases hy : 512 * n ≤ (y 2).val ∧ (y 2).val < 512 * n + 512
    · have h : ∀ a, k1_off3 ⟨n, hk⟩ a ≤ (y a).val ∧ (y a).val < k1_off3 ⟨n, hk⟩ a + S1x1x512x128.size a := by
        rw [k1_off3_eq]; intro a
        match a with
        | ⟨0, _⟩ => exact ⟨Nat.zero_le _, by show (y 0).val < 0 + 1; omega⟩
        | ⟨1, _⟩ => exact ⟨Nat.zero_le _, by show (y 1).val < 0 + 1; omega⟩
        | ⟨2, _⟩ => exact hy
        | ⟨3, _⟩ => exact ⟨Nat.zero_le _, by show (y 3).val < 0 + 128; omega⟩
      rw [dif_pos h, if_pos (by omega)]
      have hq : (y 2).val / 512 = n := by omega
      unfold dvTile
      have hk' : (⟨n, hk⟩ : Fin k1_t1_loop.trips) = ⟨(y 2).val / 512, by rw [hq]; exact hk⟩ := Fin.ext hq.symm
      have hz : Rect.unitLocal (s := S1x1x4096x128) (off := k1_off3 ⟨n, hk⟩) (size := S1x1x512x128.size) y h
          = (fun a => match a with
      | ⟨0, _⟩ => ⟨0, Nat.one_pos⟩ | ⟨1, _⟩ => ⟨0, Nat.one_pos⟩ | ⟨2, _⟩ => ⟨(y 2).val % 512, Nat.mod_lt _ (by decide)⟩ | ⟨3, _⟩ => ⟨(y 3).val, (y 3).isLt⟩ : S1x1x512x128.Idx) := by
        have ho := k1_off3_eq ⟨n, hk⟩
        funext a; apply Fin.ext
        show (y a).val - k1_off3 ⟨n, hk⟩ a = _
        rw [ho]
        match a with
        | ⟨0, _⟩ => show (y 0).val - 0 = 0; omega
        | ⟨1, _⟩ => show (y 1).val - 0 = 0; omega
        | ⟨2, _⟩ => show (y 2).val - 512 * n = (y 2).val % 512; omega
        | ⟨3, _⟩ => show (y 3).val - 0 = (y 3).val; omega
      rw [hz]
      exact congrArg (fun k => dvOf i B k _) hk'
    · have h : ¬ ∀ a, k1_off3 ⟨n, hk⟩ a ≤ (y a).val ∧ (y a).val < k1_off3 ⟨n, hk⟩ a + S1x1x512x128.size a := by
        rw [k1_off3_eq]; exact fun h => hy (h 2)
      rw [dif_neg h, ih]
      by_cases hl : (y 2).val < 512 * n
      · rw [if_pos hl, if_pos (by omega)]
      · rw [if_neg hl, if_neg (by omega)]

/-- The loop leaves the whole block, whatever it held. -/
theorem dvAt_tile (i : grid1.Coords) (B : Blk F) (x : Vec F S1x1x4096x128 .bf16) :
    dvAt i B x (Scf.trips k1_t1_loop.lb k1_t1_loop.ub k1_t1_loop.st) = dvTile i B := funext fun y => by
  rw [show Scf.trips k1_t1_loop.lb k1_t1_loop.ub k1_t1_loop.st = 8 from rfl, dvAt_apply i B x 8 le_rfl y]
  exact if_pos (by have h : (y 2).val < 4096 := (y 2).isLt; omega)

theorem dqAt_tile (i : grid1.Coords) (B : Blk F) (d : Vec F S128x256 .f32) :
    dqAt i B d (Scf.trips k1_t1_loop.lb k1_t1_loop.ub k1_t1_loop.st) = dqTile i B d := rfl

/-- The blocks a point's body reads, of what its windows hold. -/
def mkBlk (i : grid1.Coords) (x0 : Vec F S5x16 .f32) (x1 : Vec F S1x256x128 .bf16) (x2 : Vec F S1x128x256 .bf16) (x3 : Vec F S1x1x4096x128 .fp8e4m3) (x4 : Vec F S1x16x16384 .f32) (x5 : Vec F S1x1x4096x128 .fp8e4m3) (x6 : Vec F S1x16x16384 .f32) (x7 : Vec F S1x1x256x128 .fp8e5m2) (x8 : Vec F S1x1x128x256 .bf16) (x9 : Vec F S1x1x256x128 .f32) (x10 : Vec F S1x1x256x128 .f32) : Blk F :=
  ⟨x3, x4, x5, x6, View.ld x0 (Rect.unit (s := S5x16) (k1_off1 i) S1x1.size (k1_off1_inb i)) (Shape.Idx.first (by rw [show (Rect.unit (s := S5x16) (k1_off1 i) S1x1.size (k1_off1_inb i)).shape.numel = 1 from numel1_S1x1]; exact Nat.one_pos)), x1, x2, x7, x8, x9, x10⟩

end Cert.Kernel.Gen

end
-- ==== Proof.BodyABits.lean ====
/-
  The second call's body at a point, by what its windows hold before and after (one of the four kinds of points).
-/
module

public import proofs.«01_k».proof.Proof.TileBits

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6400000 in
/-- A head's first tile of a sequence. -/
theorem body1_A (c : Dev nD) (i : grid1.Coords) (arg3 : Memref sig .tc .smem S5x16 .f32) (harg3 : arg3.IsWhole) (arg4 : Memref sig .tc .vmem S1x256x128 .bf16) (harg4 : arg4.IsWhole) (arg5 : Memref sig .tc .vmem S1x128x256 .bf16) (harg5 : arg5.IsWhole) (arg6 : Memref sig .tc .vmem S1x1x4096x128 .fp8e4m3) (harg6 : arg6.IsWhole) (arg7 : Memref sig .tc .vmem S1x16x16384 .f32) (harg7 : arg7.IsWhole) (arg8 : Memref sig .tc .vmem S1x1x4096x128 .fp8e4m3) (harg8 : arg8.IsWhole) (arg9 : Memref sig .tc .vmem S1x16x16384 .f32) (harg9 : arg9.IsWhole) (arg10 : Memref sig .tc .vmem S1x1x256x128 .fp8e5m2) (harg10 : arg10.IsWhole) (arg11 : Memref sig .tc .vmem S1x1x128x256 .bf16) (harg11 : arg11.IsWhole) (arg12 : Memref sig .tc .vmem S1x1x256x128 .f32) (harg12 : arg12.IsWhole) (arg13 : Memref sig .tc .vmem S1x1x256x128 .f32) (harg13 : arg13.IsWhole) (arg14 : Memref sig .tc .vmem S1x256x128 .bf16) (harg14 : arg14.IsWhole) (arg15 : Memref sig .tc .vmem S1x1x256x128 .f32) (harg15 : arg15.IsWhole) (arg16 : Memref sig .tc .vmem S1x1x4096x128 .bf16) (harg16 : arg16.IsWhole) (arg17 : Memref sig .tc .vmem S1x1x4096x128 .bf16) (harg17 : arg17.IsWhole) (arg18 : Memref sig .tc .vmem S128x256 .f32) (harg18 : arg18.IsWhole) (arg19 : Memref sig .tc .vmem S256x128 .f32) (harg19 : arg19.IsWhole) (hc0 : (Scalar.cmpi .ne (Scalar.extui (Scalar.cmpi .eq (BitVec.ofNat 32 (i 2).val) 0#32)) 0#32) = 1#1) (hc1 : ¬k1_cond2 i = 1#1)
    (x0 : Vec F S5x16 .f32) (x1 : Vec F S1x256x128 .bf16) (x2 : Vec F S1x128x256 .bf16) (x3 : Vec F S1x1x4096x128 .fp8e4m3) (x4 : Vec F S1x16x16384 .f32) (x5 : Vec F S1x1x4096x128 .fp8e4m3) (x6 : Vec F S1x16x16384 .f32) (x7 : Vec F S1x1x256x128 .fp8e5m2) (x8 : Vec F S1x1x128x256 .bf16) (x9 : Vec F S1x1x256x128 .f32) (x10 : Vec F S1x1x256x128 .f32) (d : Vec F S128x256 .f32) (e : Vec F S256x128 .f32) (y14 : Vec F S1x256x128 .bf16) (y15 : Vec F S1x1x256x128 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y14 ∗ owns (c : Thread nD τ) arg15 fullShare y15 ∗ (∃ d, owns (c : Thread nD τ) arg16 fullShare d) ∗ (∃ d, owns (c : Thread nD τ) arg17 fullShare d) ∗ owns (c : Thread nD τ) arg18 fullShare d ∗ owns (c : Thread nD τ) arg19 fullShare e
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y14 ∗ owns (c : Thread nD τ) arg15 fullShare y15 ∗ owns (c : Thread nD τ) arg16 fullShare (dkTile i (mkBlk i x0 x1 x2 x3 x4 x5 x6 x7 x8 x9 x10)) ∗ owns (c : Thread nD τ) arg17 fullShare (dvTile i (mkBlk i x0 x1 x2 x3 x4 x5 x6 x7 x8 x9 x10)) ∗ owns (c : Thread nD τ) arg18 fullShare (dqTile i (mkBlk i x0 x1 x2 x3 x4 x5 x6 x7 x8 x9 x10) (k1_pay5 (F := F))) ∗ owns (c : Thread nD τ) arg19 fullShare e) -∗ K ⟨⟩))
          ⊢ wp frame (wpE (defs₀ (F := F)) Variants.none c none) E (cc1_xattn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1_xattn_bwd_eq_skeleton]; unfold cc1_xattn_bwd_skel
  simp only [k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg18.eq_unread hfs0; obtain rfl := harg19.eq_unread hfs1
  sl_exec (disch := first | sl_exact hc0 | sl_exact hc1)
  have h1 := hL5.trans (dkAt_tile (F := F) i _ _)
  have h2 := hL7.trans (dvAt_tile (F := F) i _ _)
  have h3 := hL9.trans (dqAt_tile (F := F) i _ _)
  unfold body1_A.sl.r at h1 h2 h3
  simp only [blkOf, View.readAt_eq_ld, View.ld_unit_zero (S := S1x256x128) off_zero3, View.ld_unit_zero (S := S1x128x256) off_zero3, View.ld_unit_zero (S := S1x1x256x128) off_zero4, View.ld_unit_zero (S := S1x1x128x256) off_zero4, harg3.read_unread, harg4.read_unread, harg5.read_unread, harg6.read_unread, harg7.read_unread, harg8.read_unread, harg9.read_unread, harg10.read_unread, harg11.read_unread, harg12.read_unread, harg13.read_unread] at h1 h2 h3
  unfold body1_A.sl.HS0_1 at h3
  rw [View.read_writes_full arg18.view _ _ _ _] at h3
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; swap; · iexact H13
    ipureintro; exact h1
  isplitl [H14]
  · iexists _; isplitr; swap; · iexact H14
    ipureintro; exact h2
  isplitl [HS0]
  · iexists _; isplitr; swap; · iexact HS0
    ipureintro; exact h3
  iexists _; isplitr; · ipureintro; exact harg19.read_unread _
  iexact HS1

end Cert.Kernel.Gen

end
-- ==== Proof.BodyBBits.lean ====
/-
  The second call's body at a point, by what its windows hold before and after (one of the four kinds of points).
-/
module

public import proofs.«01_k».proof.Proof.TileBits

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6400000 in
/-- A tile in the middle. -/
theorem body1_B (c : Dev nD) (i : grid1.Coords) (arg3 : Memref sig .tc .smem S5x16 .f32) (harg3 : arg3.IsWhole) (arg4 : Memref sig .tc .vmem S1x256x128 .bf16) (harg4 : arg4.IsWhole) (arg5 : Memref sig .tc .vmem S1x128x256 .bf16) (harg5 : arg5.IsWhole) (arg6 : Memref sig .tc .vmem S1x1x4096x128 .fp8e4m3) (harg6 : arg6.IsWhole) (arg7 : Memref sig .tc .vmem S1x16x16384 .f32) (harg7 : arg7.IsWhole) (arg8 : Memref sig .tc .vmem S1x1x4096x128 .fp8e4m3) (harg8 : arg8.IsWhole) (arg9 : Memref sig .tc .vmem S1x16x16384 .f32) (harg9 : arg9.IsWhole) (arg10 : Memref sig .tc .vmem S1x1x256x128 .fp8e5m2) (harg10 : arg10.IsWhole) (arg11 : Memref sig .tc .vmem S1x1x128x256 .bf16) (harg11 : arg11.IsWhole) (arg12 : Memref sig .tc .vmem S1x1x256x128 .f32) (harg12 : arg12.IsWhole) (arg13 : Memref sig .tc .vmem S1x1x256x128 .f32) (harg13 : arg13.IsWhole) (arg14 : Memref sig .tc .vmem S1x256x128 .bf16) (harg14 : arg14.IsWhole) (arg15 : Memref sig .tc .vmem S1x1x256x128 .f32) (harg15 : arg15.IsWhole) (arg16 : Memref sig .tc .vmem S1x1x4096x128 .bf16) (harg16 : arg16.IsWhole) (arg17 : Memref sig .tc .vmem S1x1x4096x128 .bf16) (harg17 : arg17.IsWhole) (arg18 : Memref sig .tc .vmem S128x256 .f32) (harg18 : arg18.IsWhole) (arg19 : Memref sig .tc .vmem S256x128 .f32) (harg19 : arg19.IsWhole) (hc0 : ¬(Scalar.cmpi .ne (Scalar.extui (Scalar.cmpi .eq (BitVec.ofNat 32 (i 2).val) 0#32)) 0#32) = 1#1) (hc1 : ¬k1_cond2 i = 1#1)
    (x0 : Vec F S5x16 .f32) (x1 : Vec F S1x256x128 .bf16) (x2 : Vec F S1x128x256 .bf16) (x3 : Vec F S1x1x4096x128 .fp8e4m3) (x4 : Vec F S1x16x16384 .f32) (x5 : Vec F S1x1x4096x128 .fp8e4m3) (x6 : Vec F S1x16x16384 .f32) (x7 : Vec F S1x1x256x128 .fp8e5m2) (x8 : Vec F S1x1x128x256 .bf16) (x9 : Vec F S1x1x256x128 .f32) (x10 : Vec F S1x1x256x128 .f32) (d : Vec F S128x256 .f32) (e : Vec F S256x128 .f32) (y14 : Vec F S1x256x128 .bf16) (y15 : Vec F S1x1x256x128 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y14 ∗ owns (c : Thread nD τ) arg15 fullShare y15 ∗ (∃ d, owns (c : Thread nD τ) arg16 fullShare d) ∗ (∃ d, owns (c : Thread nD τ) arg17 fullShare d) ∗ owns (c : Thread nD τ) arg18 fullShare d ∗ owns (c : Thread nD τ) arg19 fullShare e
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y14 ∗ owns (c : Thread nD τ) arg15 fullShare y15 ∗ owns (c : Thread nD τ) arg16 fullShare (dkTile i (mkBlk i x0 x1 x2 x3 x4 x5 x6 x7 x8 x9 x10)) ∗ owns (c : Thread nD τ) arg17 fullShare (dvTile i (mkBlk i x0 x1 x2 x3 x4 x5 x6 x7 x8 x9 x10)) ∗ owns (c : Thread nD τ) arg18 fullShare (dqTile i (mkBlk i x0 x1 x2 x3 x4 x5 x6 x7 x8 x9 x10) d) ∗ owns (c : Thread nD τ) arg19 fullShare e) -∗ K ⟨⟩))
          ⊢ wp frame (wpE (defs₀ (F := F)) Variants.none c none) E (cc1_xattn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1_xattn_bwd_eq_skeleton]; unfold cc1_xattn_bwd_skel
  simp only [k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg18.eq_unread hfs0; obtain rfl := harg19.eq_unread hfs1
  sl_exec (disch := first | sl_exact hc0 | sl_exact hc1)
  have h1 := hL5.trans (dkAt_tile (F := F) i _ _)
  have h2 := hL7.trans (dvAt_tile (F := F) i _ _)
  have h3 := hL9.trans (dqAt_tile (F := F) i _ _)
  unfold body1_B.sl.r at h1 h2 h3
  simp only [blkOf, View.readAt_eq_ld, View.ld_unit_zero (S := S1x256x128) off_zero3, View.ld_unit_zero (S := S1x128x256) off_zero3, View.ld_unit_zero (S := S1x1x256x128) off_zero4, View.ld_unit_zero (S := S1x1x128x256) off_zero4, harg3.read_unread, harg4.read_unread, harg5.read_unread, harg6.read_unread, harg7.read_unread, harg8.read_unread, harg9.read_unread, harg10.read_unread, harg11.read_unread, harg12.read_unread, harg13.read_unread] at h1 h2 h3
  rw [harg18.read_unread] at h3
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; swap; · iexact H13
    ipureintro; exact h1
  isplitl [H14]
  · iexists _; isplitr; swap; · iexact H14
    ipureintro; exact h2
  isplitl [HS0]
  · iexists _; isplitr; swap; · iexact HS0
    ipureintro; exact h3
  iexists _; isplitr; · ipureintro; exact harg19.read_unread _
  iexact HS1

end Cert.Kernel.Gen

end
-- ==== Proof.BodyCBits.lean ====
/-
  The second call's body at a point, by what its windows hold before and after (one of the four kinds of points).
-/
module

public import proofs.«01_k».proof.Proof.TileBits

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6400000 in
/-- A sequence's last tile. -/
theorem body1_C (c : Dev nD) (i : grid1.Coords) (arg3 : Memref sig .tc .smem S5x16 .f32) (harg3 : arg3.IsWhole) (arg4 : Memref sig .tc .vmem S1x256x128 .bf16) (harg4 : arg4.IsWhole) (arg5 : Memref sig .tc .vmem S1x128x256 .bf16) (harg5 : arg5.IsWhole) (arg6 : Memref sig .tc .vmem S1x1x4096x128 .fp8e4m3) (harg6 : arg6.IsWhole) (arg7 : Memref sig .tc .vmem S1x16x16384 .f32) (harg7 : arg7.IsWhole) (arg8 : Memref sig .tc .vmem S1x1x4096x128 .fp8e4m3) (harg8 : arg8.IsWhole) (arg9 : Memref sig .tc .vmem S1x16x16384 .f32) (harg9 : arg9.IsWhole) (arg10 : Memref sig .tc .vmem S1x1x256x128 .fp8e5m2) (harg10 : arg10.IsWhole) (arg11 : Memref sig .tc .vmem S1x1x128x256 .bf16) (harg11 : arg11.IsWhole) (arg12 : Memref sig .tc .vmem S1x1x256x128 .f32) (harg12 : arg12.IsWhole) (arg13 : Memref sig .tc .vmem S1x1x256x128 .f32) (harg13 : arg13.IsWhole) (arg14 : Memref sig .tc .vmem S1x256x128 .bf16) (harg14 : arg14.IsWhole) (arg15 : Memref sig .tc .vmem S1x1x256x128 .f32) (harg15 : arg15.IsWhole) (arg16 : Memref sig .tc .vmem S1x1x4096x128 .bf16) (harg16 : arg16.IsWhole) (arg17 : Memref sig .tc .vmem S1x1x4096x128 .bf16) (harg17 : arg17.IsWhole) (arg18 : Memref sig .tc .vmem S128x256 .f32) (harg18 : arg18.IsWhole) (arg19 : Memref sig .tc .vmem S256x128 .f32) (harg19 : arg19.IsWhole) (hc0 : ¬(Scalar.cmpi .ne (Scalar.extui (Scalar.cmpi .eq (BitVec.ofNat 32 (i 2).val) 0#32)) 0#32) = 1#1) (hc1 : k1_cond2 i = 1#1) (hc2 : ¬k1_cond3 i = 1#1)
    (x0 : Vec F S5x16 .f32) (x1 : Vec F S1x256x128 .bf16) (x2 : Vec F S1x128x256 .bf16) (x3 : Vec F S1x1x4096x128 .fp8e4m3) (x4 : Vec F S1x16x16384 .f32) (x5 : Vec F S1x1x4096x128 .fp8e4m3) (x6 : Vec F S1x16x16384 .f32) (x7 : Vec F S1x1x256x128 .fp8e5m2) (x8 : Vec F S1x1x128x256 .bf16) (x9 : Vec F S1x1x256x128 .f32) (x10 : Vec F S1x1x256x128 .f32) (d : Vec F S128x256 .f32) (e : Vec F S256x128 .f32) (y14 : Vec F S1x256x128 .bf16) (y15 : Vec F S1x1x256x128 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y14 ∗ owns (c : Thread nD τ) arg15 fullShare y15 ∗ (∃ d, owns (c : Thread nD τ) arg16 fullShare d) ∗ (∃ d, owns (c : Thread nD τ) arg17 fullShare d) ∗ owns (c : Thread nD τ) arg18 fullShare d ∗ owns (c : Thread nD τ) arg19 fullShare e
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y14 ∗ owns (c : Thread nD τ) arg15 fullShare (k1_pay15 (dqTile i (mkBlk i x0 x1 x2 x3 x4 x5 x6 x7 x8 x9 x10) d)) ∗ owns (c : Thread nD τ) arg16 fullShare (dkTile i (mkBlk i x0 x1 x2 x3 x4 x5 x6 x7 x8 x9 x10)) ∗ owns (c : Thread nD τ) arg17 fullShare (dvTile i (mkBlk i x0 x1 x2 x3 x4 x5 x6 x7 x8 x9 x10)) ∗ owns (c : Thread nD τ) arg18 fullShare (dqTile i (mkBlk i x0 x1 x2 x3 x4 x5 x6 x7 x8 x9 x10) d) ∗ owns (c : Thread nD τ) arg19 fullShare (k1_pay17 i (dqTile i (mkBlk i x0 x1 x2 x3 x4 x5 x6 x7 x8 x9 x10) d) e)) -∗ K ⟨⟩))
          ⊢ wp frame (wpE (defs₀ (F := F)) Variants.none c none) E (cc1_xattn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1_xattn_bwd_eq_skeleton]; unfold cc1_xattn_bwd_skel
  simp only [k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg18.eq_unread hfs0; obtain rfl := harg19.eq_unread hfs1
  sl_exec (disch := first | sl_exact hc0 | sl_exact hc1 | sl_exact hc2)
  have h1 := hL5.trans (dkAt_tile (F := F) i _ _)
  have h2 := hL7.trans (dvAt_tile (F := F) i _ _)
  have h3 := hL9.trans (dqAt_tile (F := F) i _ _)
  unfold body1_C.sl.r at h1 h2 h3
  simp only [blkOf, View.readAt_eq_ld, View.ld_unit_zero (S := S1x256x128) off_zero3, View.ld_unit_zero (S := S1x128x256) off_zero3, View.ld_unit_zero (S := S1x1x256x128) off_zero4, View.ld_unit_zero (S := S1x1x128x256) off_zero4, harg3.read_unread, harg4.read_unread, harg5.read_unread, harg6.read_unread, harg7.read_unread, harg8.read_unread, harg9.read_unread, harg10.read_unread, harg11.read_unread, harg12.read_unread, harg13.read_unread] at h1 h2 h3
  rw [harg18.read_unread] at h3
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; swap; · iexact H12
    ipureintro; exact (View.read_writes_full _ _ _ _ _).trans (by simp only [View.readAt_eq_ld, View.ld_unit_zero (S := S128x256) off_zero2, View.ld_unit_zero (S := S256x128) off_zero2, h3, harg19.read_unread]; rfl)
  isplitl [H13]
  · iexists _; isplitr; swap; · iexact H13
    ipureintro; exact h1
  isplitl [H14]
  · iexists _; isplitr; swap; · iexact H14
    ipureintro; exact h2
  isplitl [HS0]
  · iexists _; isplitr; swap; · iexact HS0
    ipureintro; exact h3
  iexists _; isplitr; swap; · iexact HS1
  ipureintro; exact (View.read_writes_full _ _ _ _ _).trans (by simp only [View.readAt_eq_ld, View.ld_unit_zero (S := S128x256) off_zero2, View.ld_unit_zero (S := S256x128) off_zero2, h3, harg19.read_unread]; rfl)

end Cert.Kernel.Gen

end
-- ==== Proof.BodyDBits.lean ====
/-
  The second call's body at a point, by what its windows hold before and after (one of the four kinds of points).
-/
module

public import proofs.«01_k».proof.Proof.TileBits

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6400000 in
/-- The last tile of a head. -/
theorem body1_D (c : Dev nD) (i : grid1.Coords) (arg3 : Memref sig .tc .smem S5x16 .f32) (harg3 : arg3.IsWhole) (arg4 : Memref sig .tc .vmem S1x256x128 .bf16) (harg4 : arg4.IsWhole) (arg5 : Memref sig .tc .vmem S1x128x256 .bf16) (harg5 : arg5.IsWhole) (arg6 : Memref sig .tc .vmem S1x1x4096x128 .fp8e4m3) (harg6 : arg6.IsWhole) (arg7 : Memref sig .tc .vmem S1x16x16384 .f32) (harg7 : arg7.IsWhole) (arg8 : Memref sig .tc .vmem S1x1x4096x128 .fp8e4m3) (harg8 : arg8.IsWhole) (arg9 : Memref sig .tc .vmem S1x16x16384 .f32) (harg9 : arg9.IsWhole) (arg10 : Memref sig .tc .vmem S1x1x256x128 .fp8e5m2) (harg10 : arg10.IsWhole) (arg11 : Memref sig .tc .vmem S1x1x128x256 .bf16) (harg11 : arg11.IsWhole) (arg12 : Memref sig .tc .vmem S1x1x256x128 .f32) (harg12 : arg12.IsWhole) (arg13 : Memref sig .tc .vmem S1x1x256x128 .f32) (harg13 : arg13.IsWhole) (arg14 : Memref sig .tc .vmem S1x256x128 .bf16) (harg14 : arg14.IsWhole) (arg15 : Memref sig .tc .vmem S1x1x256x128 .f32) (harg15 : arg15.IsWhole) (arg16 : Memref sig .tc .vmem S1x1x4096x128 .bf16) (harg16 : arg16.IsWhole) (arg17 : Memref sig .tc .vmem S1x1x4096x128 .bf16) (harg17 : arg17.IsWhole) (arg18 : Memref sig .tc .vmem S128x256 .f32) (harg18 : arg18.IsWhole) (arg19 : Memref sig .tc .vmem S256x128 .f32) (harg19 : arg19.IsWhole) (hc0 : ¬(Scalar.cmpi .ne (Scalar.extui (Scalar.cmpi .eq (BitVec.ofNat 32 (i 2).val) 0#32)) 0#32) = 1#1) (hc1 : k1_cond2 i = 1#1) (hc2 : k1_cond3 i = 1#1)
    (x0 : Vec F S5x16 .f32) (x1 : Vec F S1x256x128 .bf16) (x2 : Vec F S1x128x256 .bf16) (x3 : Vec F S1x1x4096x128 .fp8e4m3) (x4 : Vec F S1x16x16384 .f32) (x5 : Vec F S1x1x4096x128 .fp8e4m3) (x6 : Vec F S1x16x16384 .f32) (x7 : Vec F S1x1x256x128 .fp8e5m2) (x8 : Vec F S1x1x128x256 .bf16) (x9 : Vec F S1x1x256x128 .f32) (x10 : Vec F S1x1x256x128 .f32) (d : Vec F S128x256 .f32) (e : Vec F S256x128 .f32) (y14 : Vec F S1x256x128 .bf16) (y15 : Vec F S1x1x256x128 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y14 ∗ owns (c : Thread nD τ) arg15 fullShare y15 ∗ (∃ d, owns (c : Thread nD τ) arg16 fullShare d) ∗ (∃ d, owns (c : Thread nD τ) arg17 fullShare d) ∗ owns (c : Thread nD τ) arg18 fullShare d ∗ owns (c : Thread nD τ) arg19 fullShare e
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare (k1_pay18 i (dqTile i (mkBlk i x0 x1 x2 x3 x4 x5 x6 x7 x8 x9 x10) d) e) ∗ owns (c : Thread nD τ) arg15 fullShare (k1_pay15 (dqTile i (mkBlk i x0 x1 x2 x3 x4 x5 x6 x7 x8 x9 x10) d)) ∗ owns (c : Thread nD τ) arg16 fullShare (dkTile i (mkBlk i x0 x1 x2 x3 x4 x5 x6 x7 x8 x9 x10)) ∗ owns (c : Thread nD τ) arg17 fullShare (dvTile i (mkBlk i x0 x1 x2 x3 x4 x5 x6 x7 x8 x9 x10)) ∗ owns (c : Thread nD τ) arg18 fullShare (dqTile i (mkBlk i x0 x1 x2 x3 x4 x5 x6 x7 x8 x9 x10) d) ∗ owns (c : Thread nD τ) arg19 fullShare (k1_pay17 i (dqTile i (mkBlk i x0 x1 x2 x3 x4 x5 x6 x7 x8 x9 x10) d) e)) -∗ K ⟨⟩))
          ⊢ wp frame (wpE (defs₀ (F := F)) Variants.none c none) E (cc1_xattn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1_xattn_bwd_eq_skeleton]; unfold cc1_xattn_bwd_skel
  simp only [k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg18.eq_unread hfs0; obtain rfl := harg19.eq_unread hfs1
  sl_exec (disch := first | sl_exact hc0 | sl_exact hc1 | sl_exact hc2)
  have h1 := hL5.trans (dkAt_tile (F := F) i _ _)
  have h2 := hL7.trans (dvAt_tile (F := F) i _ _)
  have h3 := hL9.trans (dqAt_tile (F := F) i _ _)
  unfold body1_D.sl.r at h1 h2 h3
  simp only [blkOf, View.readAt_eq_ld, View.ld_unit_zero (S := S1x256x128) off_zero3, View.ld_unit_zero (S := S1x128x256) off_zero3, View.ld_unit_zero (S := S1x1x256x128) off_zero4, View.ld_unit_zero (S := S1x1x128x256) off_zero4, harg3.read_unread, harg4.read_unread, harg5.read_unread, harg6.read_unread, harg7.read_unread, harg8.read_unread, harg9.read_unread, harg10.read_unread, harg11.read_unread, harg12.read_unread, harg13.read_unread] at h1 h2 h3
  rw [harg18.read_unread] at h3
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; swap; · iexact H11
    ipureintro; exact (View.read_writes_full _ _ _ _ _).trans (by simp only [View.readAt_eq_ld, View.ld_unit_zero (S := S128x256) off_zero2, View.ld_unit_zero (S := S256x128) off_zero2, h3, harg19.read_unread]; rfl)
  isplitl [H12]
  · iexists _; isplitr; swap; · iexact H12
    ipureintro; exact (View.read_writes_full _ _ _ _ _).trans (by simp only [View.readAt_eq_ld, View.ld_unit_zero (S := S128x256) off_zero2, View.ld_unit_zero (S := S256x128) off_zero2, h3, harg19.read_unread]; rfl)
  isplitl [H13]
  · iexists _; isplitr; swap; · iexact H13
    ipureintro; exact h1
  isplitl [H14]
  · iexists _; isplitr; swap; · iexact H14
    ipureintro; exact h2
  isplitl [HS0]
  · iexists _; isplitr; swap; · iexact HS0
    ipureintro; exact h3
  iexists _; isplitr; swap; · iexact HS1
  ipureintro; exact (View.read_writes_full _ _ _ _ _).trans (by simp only [View.readAt_eq_ld, View.ld_unit_zero (S := S128x256) off_zero2, View.ld_unit_zero (S := S256x128) off_zero2, h3, harg19.read_unread]; rfl)

end Cert.Kernel.Gen

end
-- ==== Proof.Region1Bits.lean ====
/-
  The second call over the whole grid: what every point leaves in its windows, and the body's obligation there.
-/
module

public import proofs.«01_k».proof.Proof.BodyABits
public import proofs.«01_k».proof.Proof.BodyBBits
public import proofs.«01_k».proof.Proof.BodyCBits
public import proofs.«01_k».proof.Proof.BodyDBits
public import proofs.«01_k».proof.Proof.Gen.Kernel.Launch
public import Idealize.ShloMosaic.Lib.Pipeline.FrameBody
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- The block window `w` reads at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- The tile a point works on. -/
def tile1 (c : Dev nD) (t : Fin cfg1.N) : Blk F :=
  mkBlk (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)

/-- Point `n` of the grid. -/
def pt1 (n : ℕ) : Fin cfg1.N := ⟨n % 320, lt_of_lt_of_eq (Nat.mod_lt _ (by decide)) (show 320 = cfg1.N from N_1.symm)⟩
theorem pt1_val (t : Fin cfg1.N) : pt1 t.val = t :=
  Fin.ext (Nat.mod_eq_of_lt (lt_of_lt_of_eq t.isLt (show cfg1.N = 320 from N_1)))

/-- The transposed query gradient of one sequence before point `n`, over the tiles already done. -/
def dqtAt (c : Dev nD) : ℕ → Vec F S128x256 .f32
  | 0 => k1_pay5
  | n + 1 => dqTile (grid1.coords (pt1 n)) (tile1 V c (pt1 n)) (if n % 4 = 0 then k1_pay5 else dqtAt c n)
/-- The query gradient before point `n`, over the sequences already done. -/
def dqAccAt (c : Dev nD) : ℕ → Vec F S256x128 .f32
  | 0 => fun _ => Scalar.ofBits .f32 0x00000000#32
  | n + 1 => if n % 4 = 3 then k1_pay17 (grid1.coords (pt1 n)) (dqtAt V c (n + 1)) (dqAccAt c n) else dqAccAt c n

theorem dqtAt_first (c : Dev nD) (t : Fin cfg1.N) (h : t.val % 4 = 0) :
    dqtAt V c (t.val + 1) = dqTile (grid1.coords t) (tile1 V c t) k1_pay5 := by
  rw [dqtAt, if_pos h, pt1_val]
theorem dqtAt_next (c : Dev nD) (t : Fin cfg1.N) (h : ¬t.val % 4 = 0) :
    dqtAt V c (t.val + 1) = dqTile (grid1.coords t) (tile1 V c t) (dqtAt V c t.val) := by
  rw [dqtAt, if_neg h, pt1_val]
theorem dqAccAt_keep (c : Dev nD) (n : ℕ) (h : ¬n % 4 = 3) : dqAccAt V c (n + 1) = dqAccAt V c n := by
  rw [dqAccAt, if_neg h]
theorem dqAccAt_add (c : Dev nD) (t : Fin cfg1.N) (h : t.val % 4 = 3) :
    dqAccAt V c (t.val + 1) = k1_pay17 (grid1.coords t) (dqtAt V c (t.val + 1)) (dqAccAt V c t.val) := by
  rw [dqAccAt, if_pos h, pt1_val]

/-- At the first sequence the accumulator is not read. -/
theorem pay17_first (i : grid1.Coords) (h : (i 1).val = 0) (x : Vec F S128x256 .f32) (e e' : Vec F S256x128 .f32) :
    k1_pay17 i x e = k1_pay17 i x e' := by
  unfold k1_pay17 k1_pay16; rw [h]; rfl

theorem coords1_0 (t : Fin cfg1.N) : (grid1.coords t 0).val = t.val / 64 % 5 := Pipeline.Grid.coords_val t 0 (by decide) rfl
theorem coords1_1 (t : Fin cfg1.N) : (grid1.coords t 1).val = t.val / 4 % 16 := Pipeline.Grid.coords_val t 1 (by decide) rfl
theorem coords1_2 (t : Fin cfg1.N) : (grid1.coords t 2).val = t.val / 1 % 4 := Pipeline.Grid.coords_val t 2 (by decide) rfl

theorem hcond1_0 (t : Fin cfg1.N) : (Scalar.cmpi .ne (Scalar.extui (Scalar.cmpi .eq (BitVec.ofNat 32 (grid1.coords t 2).val) 0#32) : BitVec 32) 0#32) = 1#1 ↔ t.val % 4 = 0 := by
  have ht : t.val < 320 := Nat.lt_of_lt_of_eq t.isLt N_1
  simp only [coords1_2]
  word_cmp
theorem hcond1_1 (t : Fin cfg1.N) : k1_cond2 (grid1.coords t) = 1#1 ↔ t.val % 4 = 3 := by
  have ht : t.val < 320 := Nat.lt_of_lt_of_eq t.isLt N_1
  simp only [k1_cond2, coords1_2]
  word_cmp
theorem hcond1_2 (t : Fin cfg1.N) : k1_cond3 (grid1.coords t) = 1#1 ↔ t.val / 4 % 16 = 15 := by
  have ht : t.val < 320 := Nat.lt_of_lt_of_eq t.isLt N_1
  simp only [k1_cond3, coords1_1]
  word_cmp

theorem idle1_11 (t : Fin cfg1.N) (h : ¬(t.val % 4 = 3 ∧ t.val / 4 % 16 = 15)) : cfg1.idle 11 (grid1.coords t) = true := by
  show (!(k1_cond2 (grid1.coords t) == 1#1 && k1_cond3 (grid1.coords t) == 1#1)) = true
  rw [Bool.not_eq_true', Bool.and_eq_false_iff]
  by_cases h1 : t.val % 4 = 3
  · right; exact beq_eq_false_iff_ne.mpr fun h3 => h ⟨h1, (hcond1_2 t).mp h3⟩
  · left; exact beq_eq_false_iff_ne.mpr fun h3 => h1 ((hcond1_1 t).mp h3)
theorem live1_11 (t : Fin cfg1.N) (h1 : t.val % 4 = 3) (h2 : t.val / 4 % 16 = 15) : cfg1.idle 11 (grid1.coords t) = false := by
  show (!(k1_cond2 (grid1.coords t) == 1#1 && k1_cond3 (grid1.coords t) == 1#1)) = false
  rw [(hcond1_1 t).mpr h1, (hcond1_2 t).mpr h2]; rfl
theorem idle1_12 (t : Fin cfg1.N) (h : ¬t.val % 4 = 3) : cfg1.idle 12 (grid1.coords t) = true := by
  show (!(k1_cond2 (grid1.coords t) == 1#1)) = true
  rw [Bool.not_eq_true']
  exact beq_eq_false_iff_ne.mpr fun h3 => h ((hcond1_1 t).mp h3)
theorem live1_12 (t : Fin cfg1.N) (h : t.val % 4 = 3) : cfg1.idle 12 (grid1.coords t) = false := by
  show (!(k1_cond2 (grid1.coords t) == 1#1)) = false
  rw [(hcond1_1 t).mpr h]; rfl
theorem noFlush1_11 (t : Fin cfg1.N) (h : ¬(t.val % 4 = 3 ∧ t.val / 4 % 16 = 15)) : (cfg1.win 11).flush t = false :=
  Bool.eq_false_iff.mpr fun hf => h (by have := (flush1_11 t).mp hf; omega)
theorem noFlush1_12 (t : Fin cfg1.N) (h : ¬t.val % 4 = 3) : (cfg1.win 12).flush t = false :=
  Bool.eq_false_iff.mpr fun hf => h ((flush1_12 t).mp hf)

abbrev sc1_0 : Memref sig .tc .vmem S128x256 .f32 := Memref.whole cc1_scratch0
abbrev sc1_1 : Memref sig .tc .vmem S256x128 .f32 := Memref.whole cc1_scratch1

/-- The scoped buffers of the other call. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- What is known of the scratch before point `n`. -/
def known1 (c : Dev nD) (n : ℕ) (d : Vec F S128x256 .f32) (e : Vec F S256x128 .f32) : Prop :=
  (n % 4 ≠ 0 → d = dqtAt V c n) ∧ (n / 4 % 16 ≠ 0 → e = dqAccAt V c n)
/-- The scratch and the other call's buffers before point `n`. -/
def Phi1 (c : Dev nD) (n : ℕ) : sProp 𝕄 :=
  iprop((∃ d e, ⌜known1 V c n d e⌝ ∗ owns (c : Thread nD τ) sc1_0 fullShare d ∗ owns (c : Thread nD τ) sc1_1 fullShare e) ∗ rest1 c)

/-- The call's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => k1_pay18 (grid1.coords t) (dqtAt V c (t.val + 1)) (dqAccAt V c t.val)
    | ⟨12, _⟩ => k1_pay15 (dqtAt V c (t.val + 1))
    | ⟨13, _⟩ => dkTile (grid1.coords t) (tile1 V c t)
    | ⟨14, _⟩ => dvTile (grid1.coords t) (tile1 V c t)
  Φ t := Phi1 V c t.val
  q _ := fullShare
  owed _ := 0

theorem A1_eq (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = k1_pay18 (grid1.coords t) (dqtAt V c (t.val + 1)) (dqAccAt V c t.val) := by dsimp only [dat1]
theorem after1_12 (c : Dev nD) (t : Fin cfg1.N) : (dat1 V c).after 12 t = k1_pay15 (dqtAt V c (t.val + 1)) := by dsimp only [dat1]
theorem after1_13 (c : Dev nD) (t : Fin cfg1.N) : (dat1 V c).after 13 t = dkTile (grid1.coords t) (tile1 V c t) := by dsimp only [dat1]
theorem after1_14 (c : Dev nD) (t : Fin cfg1.N) : (dat1 V c).after 14 t = dvTile (grid1.coords t) (tile1 V c t) := by dsimp only [dat1]
theorem before1_0 (c : Dev nD) (t : Fin cfg1.N) (d) : (dat1 V c).before 0 t d = iblk1 V c 0 t := before1_0_of V (dat1 V c) (A1_eq V c 0) (after1_0 V c) t d
theorem before1_1 (c : Dev nD) (t : Fin cfg1.N) (d) : (dat1 V c).before 1 t d = iblk1 V c 1 t := before1_1_of V (dat1 V c) (A1_eq V c 1) (after1_1 V c) t d
theorem before1_2 (c : Dev nD) (t : Fin cfg1.N) (d) : (dat1 V c).before 2 t d = iblk1 V c 2 t := before1_2_of V (dat1 V c) (A1_eq V c 2) (after1_2 V c) t d
theorem before1_3 (c : Dev nD) (t : Fin cfg1.N) (d) : (dat1 V c).before 3 t d = iblk1 V c 3 t := before1_3_of V (dat1 V c) (A1_eq V c 3) (after1_3 V c) t d
theorem before1_4 (c : Dev nD) (t : Fin cfg1.N) (d) : (dat1 V c).before 4 t d = iblk1 V c 4 t := before1_4_of V (dat1 V c) (A1_eq V c 4) (after1_4 V c) t d
theorem before1_5 (c : Dev nD) (t : Fin cfg1.N) (d) : (dat1 V c).before 5 t d = iblk1 V c 5 t := before1_5_of V (dat1 V c) (A1_eq V c 5) (after1_5 V c) t d
theorem before1_6 (c : Dev nD) (t : Fin cfg1.N) (d) : (dat1 V c).before 6 t d = iblk1 V c 6 t := before1_6_of V (dat1 V c) (A1_eq V c 6) (after1_6 V c) t d
theorem before1_7 (c : Dev nD) (t : Fin cfg1.N) (d) : (dat1 V c).before 7 t d = iblk1 V c 7 t := before1_7_of V (dat1 V c) (A1_eq V c 7) (after1_7 V c) t d
theorem before1_8 (c : Dev nD) (t : Fin cfg1.N) (d) : (dat1 V c).before 8 t d = iblk1 V c 8 t := before1_8_of V (dat1 V c) (A1_eq V c 8) (after1_8 V c) t d
theorem before1_9 (c : Dev nD) (t : Fin cfg1.N) (d) : (dat1 V c).before 9 t d = iblk1 V c 9 t := before1_9_of V (dat1 V c) (A1_eq V c 9) (after1_9 V c) t d
theorem before1_10 (c : Dev nD) (t : Fin cfg1.N) (d) : (dat1 V c).before 10 t d = iblk1 V c 10 t := before1_10_of V (dat1 V c) (A1_eq V c 10) (after1_10 V c) t d

def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d))
    ∗ (∃ d, owns (c : Thread nD τ) (win1_7.stage (cfg1.slots t 7)) fullShare ((dat1 V c).before 7 t d))
    ∗ (∃ d, owns (c : Thread nD τ) (win1_8.stage (cfg1.slots t 8)) fullShare ((dat1 V c).before 8 t d))
    ∗ (∃ d, owns (c : Thread nD τ) (win1_9.stage (cfg1.slots t 9)) fullShare ((dat1 V c).before 9 t d))
    ∗ (∃ d, owns (c : Thread nD τ) (win1_10.stage (cfg1.slots t 10)) fullShare ((dat1 V c).before 10 t d))
    ∗ (∃ d, owns (c : Thread nD τ) (win1_11.stage (cfg1.slots t 11)) fullShare ((dat1 V c).before 11 t d))
    ∗ (∃ d, owns (c : Thread nD τ) (win1_12.stage (cfg1.slots t 12)) fullShare ((dat1 V c).before 12 t d))
    ∗ (∃ d, owns (c : Thread nD τ) (win1_13.stage (cfg1.slots t 13)) fullShare ((dat1 V c).before 13 t d))
    ∗ (∃ d, owns (c : Thread nD τ) (win1_14.stage (cfg1.slots t 14)) fullShare ((dat1 V c).before 14 t d)))
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t)

set_option maxHeartbeats 6400000 in
/-- The body at any point. -/
theorem sound1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).owesAt () t.succ = (dat1 V c).owesAt () t.castSucc from rfl]
  rw [show (dat1 V c).Φ t.castSucc = Phi1 V c t.val from rfl, show (dat1 V c).Φ t.succ = Phi1 V c (t.val + 1) from rfl]
  unfold Phi1
  have hN : t.val < 320 := lt_of_lt_of_eq t.isLt (show cfg1.N = 320 from N_1)
  rw [show (dat1 V c).leavesExact 0 t = owns (c : Thread nD τ) (win1_0.stage (cfg1.slots t 0)) fullShare ((dat1 V c).after 0 t) from by
    unfold Dat.leavesExact; rw [show cfg1.idle 0 (grid1.coords t) = false from rfl], after1_0]
  rw [show (dat1 V c).leavesExact 1 t = owns (c : Thread nD τ) (win1_1.stage (cfg1.slots t 1)) fullShare ((dat1 V c).after 1 t) from by
    unfold Dat.leavesExact; rw [show cfg1.idle 1 (grid1.coords t) = false from rfl], after1_1]
  rw [show (dat1 V c).leavesExact 2 t = owns (c : Thread nD τ) (win1_2.stage (cfg1.slots t 2)) fullShare ((dat1 V c).after 2 t) from by
    unfold Dat.leavesExact; rw [show cfg1.idle 2 (grid1.coords t) = false from rfl], after1_2]
  rw [show (dat1 V c).leavesExact 3 t = owns (c : Thread nD τ) (win1_3.stage (cfg1.slots t 3)) fullShare ((dat1 V c).after 3 t) from by
    unfold Dat.leavesExact; rw [show cfg1.idle 3 (grid1.coords t) = false from rfl], after1_3]
  rw [show (dat1 V c).leavesExact 4 t = owns (c : Thread nD τ) (win1_4.stage (cfg1.slots t 4)) fullShare ((dat1 V c).after 4 t) from by
    unfold Dat.leavesExact; rw [show cfg1.idle 4 (grid1.coords t) = false from rfl], after1_4]
  rw [show (dat1 V c).leavesExact 5 t = owns (c : Thread nD τ) (win1_5.stage (cfg1.slots t 5)) fullShare ((dat1 V c).after 5 t) from by
    unfold Dat.leavesExact; rw [show cfg1.idle 5 (grid1.coords t) = false from rfl], after1_5]
  rw [show (dat1 V c).leavesExact 6 t = owns (c : Thread nD τ) (win1_6.stage (cfg1.slots t 6)) fullShare ((dat1 V c).after 6 t) from by
    unfold Dat.leavesExact; rw [show cfg1.idle 6 (grid1.coords t) = false from rfl], after1_6]
  rw [show (dat1 V c).leavesExact 7 t = owns (c : Thread nD τ) (win1_7.stage (cfg1.slots t 7)) fullShare ((dat1 V c).after 7 t) from by
    unfold Dat.leavesExact; rw [show cfg1.idle 7 (grid1.coords t) = false from rfl], after1_7]
  rw [show (dat1 V c).leavesExact 8 t = owns (c : Thread nD τ) (win1_8.stage (cfg1.slots t 8)) fullShare ((dat1 V c).after 8 t) from by
    unfold Dat.leavesExact; rw [show cfg1.idle 8 (grid1.coords t) = false from rfl], after1_8]
  rw [show (dat1 V c).leavesExact 9 t = owns (c : Thread nD τ) (win1_9.stage (cfg1.slots t 9)) fullShare ((dat1 V c).after 9 t) from by
    unfold Dat.leavesExact; rw [show cfg1.idle 9 (grid1.coords t) = false from rfl], after1_9]
  rw [show (dat1 V c).leavesExact 10 t = owns (c : Thread nD τ) (win1_10.stage (cfg1.slots t 10)) fullShare ((dat1 V c).after 10 t) from by
    unfold Dat.leavesExact; rw [show cfg1.idle 10 (grid1.coords t) = false from rfl], after1_10]
  rw [show (dat1 V c).leavesExact 13 t = owns (c : Thread nD τ) (win1_13.stage (cfg1.slots t 13)) fullShare ((dat1 V c).after 13 t) from by
    unfold Dat.leavesExact; rw [show cfg1.idle 13 (grid1.coords t) = false from rfl], after1_13]
  rw [show (dat1 V c).leavesExact 14 t = owns (c : Thread nD τ) (win1_14.stage (cfg1.slots t 14)) fullShare ((dat1 V c).after 14 t) from by
    unfold Dat.leavesExact; rw [show cfg1.idle 14 (grid1.coords t) = false from rfl], after1_14]
  by_cases h0 : t.val % 4 = 0
  · have h1 : ¬t.val % 4 = 3 := by omega
    rw [Dat.leavesExact_idle (dat1 V c) 11 t (idle1_11 t (fun h => h1 h.1)) (noFlush1_11 t (fun h => h1 h.1))]
    rw [Dat.leavesExact_idle (dat1 V c) 12 t (idle1_12 t h1) (noFlush1_12 t h1)]
    iintro ⟨⟨⟨%d, %e, %hk, HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (body1_A c (grid1.coords t) _ _ _ _ _ _ _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) d e _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [HS0]; · iexact HS0
    isplitl [HS1]; · iexact HS1
    iintro ⟨H0, H1, H2, H3, H4, H5, H6, H7, H8, H9, H10, H11, H12, H13, H14, HS0, HS1⟩
    isplitl [HS0 HS1 Hr]
    · isplitl [HS0 HS1]; swap; · iexact Hr
      iexists _; iexists _; isplitr; swap
      · isplitl [HS0]; · iexact HS0
        iexact HS1
      ipureintro
      refine ⟨fun _ => (dqtAt_first V c t h0).symm, fun hb => (hk.2 (by omega)).trans (dqAccAt_keep V c t.val h1).symm⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexact H13
    iexact H14
  by_cases h1 : t.val % 4 = 3
  · by_cases h2 : t.val / 4 % 16 = 15
    · rw [show (dat1 V c).leavesExact 11 t = owns (c : Thread nD τ) (win1_11.stage (cfg1.slots t 11)) fullShare ((dat1 V c).after 11 t) from by
            unfold Dat.leavesExact; rw [live1_11 t h1 h2], after1_11]
      rw [show (dat1 V c).leavesExact 12 t = owns (c : Thread nD τ) (win1_12.stage (cfg1.slots t 12)) fullShare ((dat1 V c).after 12 t) from by
            unfold Dat.leavesExact; rw [live1_12 t h1], after1_12]
      iintro ⟨⟨⟨%d, %e, %hk, HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      obtain rfl : d = dqtAt V c t.val := hk.1 h0
      obtain rfl : e = dqAccAt V c t.val := hk.2 (by omega)
      iapply (body1_D c (grid1.coords t) _ _ _ _ _ _ _ _ _ _ _ _ _ _ _ _ _ _ _ _ _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (dqtAt V c t.val) (dqAccAt V c t.val) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [HS0]; · iexact HS0
      isplitl [HS1]; · iexact HS1
      iintro ⟨H0, H1, H2, H3, H4, H5, H6, H7, H8, H9, H10, H11, H12, H13, H14, HS0, HS1⟩
      isplitl [HS0 HS1 Hr]
      · isplitl [HS0 HS1]; swap; · iexact Hr
        iexists _; iexists _; isplitr; swap
        · isplitl [HS0]; · iexact HS0
          iexact HS1
        ipureintro
        refine ⟨fun h => absurd (show (t.val + 1) % 4 = 0 by omega) h, fun hb => ?_⟩
        rw [dqAccAt_add V c t h1, dqtAt_next V c t h0]
        rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · rw [dqtAt_next V c t h0]; iexact H11
      isplitl [H12]; · rw [dqtAt_next V c t h0]; iexact H12
      isplitl [H13]; · iexact H13
      iexact H14
    · rw [Dat.leavesExact_idle (dat1 V c) 11 t (idle1_11 t (fun h => h2 h.2)) (noFlush1_11 t (fun h => h2 h.2))]
      rw [show (dat1 V c).leavesExact 12 t = owns (c : Thread nD τ) (win1_12.stage (cfg1.slots t 12)) fullShare ((dat1 V c).after 12 t) from by
            unfold Dat.leavesExact; rw [live1_12 t h1], after1_12]
      iintro ⟨⟨⟨%d, %e, %hk, HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      obtain rfl : d = dqtAt V c t.val := hk.1 h0
      iapply (body1_C c (grid1.coords t) _ _ _ _ _ _ _ _ _ _ _ _ _ _ _ _ _ _ _ _ _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (dqtAt V c t.val) e _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [HS0]; · iexact HS0
      isplitl [HS1]; · iexact HS1
      iintro ⟨H0, H1, H2, H3, H4, H5, H6, H7, H8, H9, H10, H11, H12, H13, H14, HS0, HS1⟩
      isplitl [HS0 HS1 Hr]
      · isplitl [HS0 HS1]; swap; · iexact Hr
        iexists _; iexists _; isplitr; swap
        · isplitl [HS0]; · iexact HS0
          iexact HS1
        ipureintro
        refine ⟨fun h => absurd (show (t.val + 1) % 4 = 0 by omega) h, fun hb => ?_⟩
        rw [dqAccAt_add V c t h1, dqtAt_next V c t h0]
        by_cases hb0 : t.val / 4 % 16 = 0
        · exact pay17_first _ (by rw [coords1_1]; exact hb0) _ _ _
        · rw [hk.2 hb0]; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · rw [dqtAt_next V c t h0]; iexact H12
      isplitl [H13]; · iexact H13
      iexact H14
  · rw [Dat.leavesExact_idle (dat1 V c) 11 t (idle1_11 t (fun h => h1 h.1)) (noFlush1_11 t (fun h => h1 h.1))]
    rw [Dat.leavesExact_idle (dat1 V c) 12 t (idle1_12 t h1) (noFlush1_12 t h1)]
    iintro ⟨⟨⟨%d, %e, %hk, HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    obtain rfl : d = dqtAt V c t.val := hk.1 h0
    iapply (body1_B c (grid1.coords t) _ _ _ _ _ _ _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (dqtAt V c t.val) e _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [HS0]; · iexact HS0
    isplitl [HS1]; · iexact HS1
    iintro ⟨H0, H1, H2, H3, H4, H5, H6, H7, H8, H9, H10, H11, H12, H13, H14, HS0, HS1⟩
    isplitl [HS0 HS1 Hr]
    · isplitl [HS0 HS1]; swap; · iexact Hr
      iexists _; iexists _; isplitr; swap
      · isplitl [HS0]; · iexact HS0
        iexact HS1
      ipureintro
      refine ⟨fun _ => (dqtAt_next V c t h0).symm, fun hb => (hk.2 (by omega)).trans (dqAccAt_keep V c t.val h1).symm⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexact H13
    iexact H14

theorem defs₀_row1 (t : Fin cfg1.N) :
    defs₀ (F := F) .tc cfg1.body (cfg1.bodyArgs t (cfg1.slots t)) = bodyAt1 t := by
  unfold defs₀; rw [Defs.onTc_tc]

/-- The body's obligation at every point. -/
theorem obligation1 (c : Dev nD) : BodyObligation (dat1 V c) (defs₀ (F := F)) Variants.none () Set.univ := fun t => by
  rw [bigSep_W1, bigSep_W1, defs₀_row1]
  exact triple_restated (sound1 V c t) rfl .rfl fun _ => .rfl

/-- The scoped buffers, scratch first. -/
theorem scoped1_in (c : Dev nD) : (Pipeline.scopedRest (Ix := Unit) (Name := ℕ) (U := UR sig nD τ) (Lvl := ℕ) (Val := Elt F) spec1 c : sProp 𝕄) ⊢ Phi1 V c 0 := by
  rw [scopedRest1_eq]; unfold Phi1 rest1
  simp only [sc1_0, sc1_1, owns_whole]
  iintro ⟨R0, R1, R2, R3, R4, R5, R6, R7, R8, R9, R10, R11, R12, R13, ⟨%f, S0⟩, ⟨%g, S1⟩⟩
  isplitl [S0 S1]
  · iexists f; iexists g; isplitr
    · ipureintro; exact ⟨fun h => absurd rfl h, fun h => absurd rfl h⟩
    isplitl [S0]; · iexact S0
    iexact S1
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact R13

theorem scoped1_out (c : Dev nD) (n : ℕ) : Phi1 V c n ⊢ (Pipeline.scopedRest (Ix := Unit) (Name := ℕ) (U := UR sig nD τ) (Lvl := ℕ) (Val := Elt F) spec1 c : sProp 𝕄) := by
  rw [scopedRest1_eq]; unfold Phi1 rest1
  simp only [sc1_0, sc1_1, owns_whole]
  iintro ⟨⟨%f, %g, -, S0, S1⟩, R0, R1, R2, R3, R4, R5, R6, R7, R8, R9, R10, R11, R12, R13⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [S0]; · iexists _; iexact S0
  iexists _; iexact S1

end Cert.Kernel.Gen

end
-- ==== Proof.RunBits.lean ====
/-
  The whole run: the host's reshapes, the quantiser's call, the main call and the host's reshapes of its results, one after the
  other; every buffer's contents at the end, the arguments as launched.
-/
module

public import proofs.«01_k».proof.Proof.Region0Bits
public import proofs.«01_k».proof.Proof.Region1Bits
public import proofs.«01_k».proof.Proof.Gen.Kernel.Regions
public import Idealize.ShloMosaic.Lib.Pipeline.Regions
public import Idealize.ShloMosaic.Lib.Pipeline.RegionsLoop

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers after the first call. -/
def W2 (c : Dev nD) : Valuation τ sig (Elt F) := Function.update (Function.update (Function.update (Function.update (Function.update (V1 m c) main_v9_0 ((dat0 (V1 m) c).arrAt 3 cfg0.N)) main_v9_1 ((dat0 (V1 m) c).arrAt 4 cfg0.N)) main_v9_2 ((dat0 (V1 m) c).arrAt 5 cfg0.N)) main_v9_3 ((dat0 (V1 m) c).arrAt 6 cfg0.N)) main_v9_4 ((dat0 (V1 m) c).arrAt 7 cfg0.N)
/-- The buffers after the second call. -/
def W3 (c : Dev nD) : Valuation τ sig (Elt F) := Function.update (Function.update (Function.update (Function.update (W2 m c) main_v10_0 ((dat1 (W2 m) c).arrAt 11 cfg1.N)) main_v10_1 ((dat1 (W2 m) c).arrAt 12 cfg1.N)) main_v10_2 ((dat1 (W2 m) c).arrAt 13 cfg1.N)) main_v10_3 ((dat1 (W2 m) c).arrAt 14 cfg1.N)
/-- The buffers at the end. -/
def W4 (c : Dev nD) : Valuation τ sig (Elt F) := StableHlo.after hostOps2 (W3 m c)

theorem W2_of (c : Dev nD) (r : Ref sig .tc) (h : r ∉ ([main_v9_0, main_v9_1, main_v9_2, main_v9_3, main_v9_4] : List (Ref sig .tc))) : W2 m c r = V1 m c r := by
  simp only [W2, Function.update_of_ne (StableHlo.devRef_ne_of_ne (List.ne_of_not_mem_cons h) : (Proc.devRef .tc r : DevRef τ sig) ≠ Proc.devRef .tc main_v9_0), Function.update_of_ne (StableHlo.devRef_ne_of_ne (List.ne_of_not_mem_cons (List.not_mem_of_not_mem_cons h)) : (Proc.devRef .tc r : DevRef τ sig) ≠ Proc.devRef .tc main_v9_1), Function.update_of_ne (StableHlo.devRef_ne_of_ne (List.ne_of_not_mem_cons (List.not_mem_of_not_mem_cons (List.not_mem_of_not_mem_cons h))) : (Proc.devRef .tc r : DevRef τ sig) ≠ Proc.devRef .tc main_v9_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v9_3), Function.update_of_ne (StableHlo.devRef_ne_of_ne (List.ne_of_not_mem_cons (List.not_mem_of_not_mem_cons (List.not_mem_of_not_mem_cons (List.not_mem_of_not_mem_cons (List.not_mem_of_not_mem_cons h))))) : (Proc.devRef .tc r : DevRef τ sig) ≠ Proc.devRef .tc main_v9_4)]
theorem W3_of (c : Dev nD) (r : Ref sig .tc) (h : r ∉ ([main_v10_0, main_v10_1, main_v10_2, main_v10_3] : List (Ref sig .tc))) : W3 m c r = W2 m c r := by
  simp only [W3, Function.update_of_ne (StableHlo.devRef_ne_of_ne (List.ne_of_not_mem_cons h) : (Proc.devRef .tc r : DevRef τ sig) ≠ Proc.devRef .tc main_v10_0), Function.update_of_ne (StableHlo.devRef_ne_of_ne (List.ne_of_not_mem_cons (List.not_mem_of_not_mem_cons h)) : (Proc.devRef .tc r : DevRef τ sig) ≠ Proc.devRef .tc main_v10_1), Function.update_of_ne (StableHlo.devRef_ne_of_ne (List.ne_of_not_mem_cons (List.not_mem_of_not_mem_cons (List.not_mem_of_not_mem_cons h))) : (Proc.devRef .tc r : DevRef τ sig) ≠ Proc.devRef .tc main_v10_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v10_3)]
theorem W2_main_v9_0 (c : Dev nD) : W2 m c main_v9_0 = (dat0 (V1 m) c).arrAt 3 cfg0.N := by
  simp only [W2, Function.update_of_ne (StableHlo.devRef_ne_of_ne (by decide : (main_v9_0 : Ref sig .tc) ≠ main_v9_1) : (Proc.devRef .tc main_v9_0 : DevRef τ sig) ≠ Proc.devRef .tc main_v9_1), Function.update_of_ne (StableHlo.devRef_ne_of_ne (by decide : (main_v9_0 : Ref sig .tc) ≠ main_v9_2) : (Proc.devRef .tc main_v9_0 : DevRef τ sig) ≠ Proc.devRef .tc main_v9_2), Function.update_of_ne (StableHlo.devRef_ne_of_ne (by decide : (main_v9_0 : Ref sig .tc) ≠ main_v9_3) : (Proc.devRef .tc main_v9_0 : DevRef τ sig) ≠ Proc.devRef .tc main_v9_3), Function.update_of_ne (StableHlo.devRef_ne_of_ne (by decide : (main_v9_0 : Ref sig .tc) ≠ main_v9_4) : (Proc.devRef .tc main_v9_0 : DevRef τ sig) ≠ Proc.devRef .tc main_v9_4), Function.update_self]
theorem W2_main_v9_1 (c : Dev nD) : W2 m c main_v9_1 = (dat0 (V1 m) c).arrAt 4 cfg0.N := by
  simp only [W2, Function.update_of_ne (StableHlo.devRef_ne_of_ne (by decide : (main_v9_1 : Ref sig .tc) ≠ main_v9_2) : (Proc.devRef .tc main_v9_1 : DevRef τ sig) ≠ Proc.devRef .tc main_v9_2), Function.update_of_ne (StableHlo.devRef_ne_of_ne (by decide : (main_v9_1 : Ref sig .tc) ≠ main_v9_3) : (Proc.devRef .tc main_v9_1 : DevRef τ sig) ≠ Proc.devRef .tc main_v9_3), Function.update_of_ne (StableHlo.devRef_ne_of_ne (by decide : (main_v9_1 : Ref sig .tc) ≠ main_v9_4) : (Proc.devRef .tc main_v9_1 : DevRef τ sig) ≠ Proc.devRef .tc main_v9_4), Function.update_self]
theorem W2_main_v9_2 (c : Dev nD) : W2 m c main_v9_2 = (dat0 (V1 m) c).arrAt 5 cfg0.N := by
  simp only [W2, Function.update_of_ne (StableHlo.devRef_ne_of_ne (by decide : (main_v9_2 : Ref sig .tc) ≠ main_v9_3) : (Proc.devRef .tc main_v9_2 : DevRef τ sig) ≠ Proc.devRef .tc main_v9_3), Function.update_of_ne (StableHlo.devRef_ne_of_ne (by decide : (main_v9_2 : Ref sig .tc) ≠ main_v9_4) : (Proc.devRef .tc main_v9_2 : DevRef τ sig) ≠ Proc.devRef .tc main_v9_4), Function.update_self]
theorem W2_main_v9_3 (c : Dev nD) : W2 m c main_v9_3 = (dat0 (V1 m) c).arrAt 6 cfg0.N := by
  simp only [W2, Function.update_of_ne (StableHlo.devRef_ne_of_ne (by decide : (main_v9_3 : Ref sig .tc) ≠ main_v9_4) : (Proc.devRef .tc main_v9_3 : DevRef τ sig) ≠ Proc.devRef .tc main_v9_4), Function.update_self]
theorem W2_main_v9_4 (c : Dev nD) : W2 m c main_v9_4 = (dat0 (V1 m) c).arrAt 7 cfg0.N := by
  simp only [W2, Function.update_self]
theorem W3_main_v10_0 (c : Dev nD) : W3 m c main_v10_0 = (dat1 (W2 m) c).arrAt 11 cfg1.N := by
  simp only [W3, Function.update_of_ne (StableHlo.devRef_ne_of_ne (by decide : (main_v10_0 : Ref sig .tc) ≠ main_v10_1) : (Proc.devRef .tc main_v10_0 : DevRef τ sig) ≠ Proc.devRef .tc main_v10_1), Function.update_of_ne (StableHlo.devRef_ne_of_ne (by decide : (main_v10_0 : Ref sig .tc) ≠ main_v10_2) : (Proc.devRef .tc main_v10_0 : DevRef τ sig) ≠ Proc.devRef .tc main_v10_2), Function.update_of_ne (StableHlo.devRef_ne_of_ne (by decide : (main_v10_0 : Ref sig .tc) ≠ main_v10_3) : (Proc.devRef .tc main_v10_0 : DevRef τ sig) ≠ Proc.devRef .tc main_v10_3), Function.update_self]
theorem W3_main_v10_1 (c : Dev nD) : W3 m c main_v10_1 = (dat1 (W2 m) c).arrAt 12 cfg1.N := by
  simp only [W3, Function.update_of_ne (StableHlo.devRef_ne_of_ne (by decide : (main_v10_1 : Ref sig .tc) ≠ main_v10_2) : (Proc.devRef .tc main_v10_1 : DevRef τ sig) ≠ Proc.devRef .tc main_v10_2), Function.update_of_ne (StableHlo.devRef_ne_of_ne (by decide : (main_v10_1 : Ref sig .tc) ≠ main_v10_3) : (Proc.devRef .tc main_v10_1 : DevRef τ sig) ≠ Proc.devRef .tc main_v10_3), Function.update_self]
theorem W3_main_v10_2 (c : Dev nD) : W3 m c main_v10_2 = (dat1 (W2 m) c).arrAt 13 cfg1.N := by
  simp only [W3, Function.update_of_ne (StableHlo.devRef_ne_of_ne (by decide : (main_v10_2 : Ref sig .tc) ≠ main_v10_3) : (Proc.devRef .tc main_v10_2 : DevRef τ sig) ≠ Proc.devRef .tc main_v10_3), Function.update_self]
theorem W3_main_v10_3 (c : Dev nD) : W3 m c main_v10_3 = (dat1 (W2 m) c).arrAt 14 cfg1.N := by
  simp only [W3, Function.update_self]
theorem W4_of (c : Dev nD) (r : Ref sig .tc) (h : r ∉ hostOps2_W) : W4 m c r = W3 m c r :=
  StableHlo.after_of_writes_sub hostOps2 _ hostOps2_writes h
theorem W4_arg (c : Dev nD) (r : Ref sig .tc) (h4 : r ∉ hostOps2_W) (h3 : r ∉ ([main_v10_0, main_v10_1, main_v10_2, main_v10_3] : List (Ref sig .tc))) (h2 : r ∉ ([main_v9_0, main_v9_1, main_v9_2, main_v9_3, main_v9_4] : List (Ref sig .tc))) (h1 : r ∉ hostOps0_W) :
    W4 m c r = m ((c : Thread nD τ).loc r) :=
  (W4_of m c r h4).trans ((W3_of m c r h3).trans ((W2_of m c r h2).trans ((V1_of m c r h1).trans rfl)))

/-- Each call's exact data, and its relational data. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (W2 m) c
def rdats : (p : Fin 2) → (c : Dev nD) → Pipeline.RDat τ (Elt F) Unit ℕ (UR sig nD τ) ℕ (Pipeline.pin (pcfgs (F := F)) adm p) c
  | ⟨0, _⟩ => fun c => rdat0 (V1 m) c
  | ⟨1, _⟩ => fun c => (dat1 (W2 m) c).toR

abbrev noL : GSem nD τ sig → Finset Unit := fun _ => ∅
abbrev noLv : GSem nD τ sig → Unit → ℕ := fun _ _ => 0
/-- A core owes nothing. -/
abbrev owing (c : Dev nD) : sProp 𝕄 := iprop(∃ W, owes (c : Thread nD τ) (0 : CellTallies nD τ sig Unit) W)

theorem final0_0 (c : Dev nD) : (pdats m 0 c).arrAt 0 cfg0.N = W2 m c (Pipeline.arrRef spec0 0) := ((pdats m 0 c).arrAt_in 0 rfl _).trans (W2_of m c main_v6 (by decide)).symm
theorem final0_1 (c : Dev nD) : (pdats m 0 c).arrAt 1 cfg0.N = W2 m c (Pipeline.arrRef spec0 1) := ((pdats m 0 c).arrAt_in 1 rfl _).trans (W2_of m c main_v5 (by decide)).symm
theorem final0_2 (c : Dev nD) : (pdats m 0 c).arrAt 2 cfg0.N = W2 m c (Pipeline.arrRef spec0 2) := ((pdats m 0 c).arrAt_in 2 rfl _).trans (W2_of m c main_v7 (by decide)).symm
theorem final0_3 (c : Dev nD) : (pdats m 0 c).arrAt 3 cfg0.N = W2 m c (Pipeline.arrRef spec0 3) := (W2_main_v9_0 m c).symm
theorem final0_4 (c : Dev nD) : (pdats m 0 c).arrAt 4 cfg0.N = W2 m c (Pipeline.arrRef spec0 4) := (W2_main_v9_1 m c).symm
theorem final0_5 (c : Dev nD) : (pdats m 0 c).arrAt 5 cfg0.N = W2 m c (Pipeline.arrRef spec0 5) := (W2_main_v9_2 m c).symm
theorem final0_6 (c : Dev nD) : (pdats m 0 c).arrAt 6 cfg0.N = W2 m c (Pipeline.arrRef spec0 6) := (W2_main_v9_3 m c).symm
theorem final0_7 (c : Dev nD) : (pdats m 0 c).arrAt 7 cfg0.N = W2 m c (Pipeline.arrRef spec0 7) := (W2_main_v9_4 m c).symm
set_option maxHeartbeats 3200000 in
theorem final0 (c : Dev nD) : ∀ w : Fin 8, (pdats m 0 c).arrAt w cfg0.N = W2 m c (Pipeline.arrRef spec0 w)
  | ⟨0, _⟩ => final0_0 m c
  | ⟨1, _⟩ => final0_1 m c
  | ⟨2, _⟩ => final0_2 m c
  | ⟨3, _⟩ => final0_3 m c
  | ⟨4, _⟩ => final0_4 m c
  | ⟨5, _⟩ => final0_5 m c
  | ⟨6, _⟩ => final0_6 m c
  | ⟨7, _⟩ => final0_7 m c

set_option backward.isDefEq.respectTransparency.types false in
/-- Call 0 as a segment of the run. -/
def reg0 : Pipeline.RDat.RegionSeg (pcfgs (F := F)) adm (rdats m) () defs₀ Variants.none noL noLv 0 where
  win := launch0.win.to₀
  block_pos := launch0.block_pos
  stage_whole := launch0.stage_whole
  K := PEmpty
  osem k := k.elim
  ho := Pipeline.OwnSemFacts.none _
  hbody c := obligation0 (V1 m) c
  hwaits := Pipeline.RDat.hwaits_of_owed_zero _ _ _ _ noL noLv 0 fun _ _ => rfl
  pre c := iprop(StableHlo.held (c : Thread nD τ) (Pipeline.ucRefs τ sig) (V1 m c) ∗ owing c)
  post c := iprop(StableHlo.held (c : Thread nD τ) (Pipeline.ucRefs τ sig) (W2 m c) ∗ owing c)
  X _ := BI.emp
  Y _ := BI.emp
  Z c := Pipeline.unscopedRest (Ix := Unit) (Name := ℕ) (U := UR sig nD τ) (Lvl := ℕ) spec0 c (fun b => V1 m c b)
  hentry c := by
    rw [Pipeline.ownSems0_none, ← Pipeline.unscopedBufs_held (Ix := Unit) (Name := ℕ) (U := UR sig nD τ) (Lvl := ℕ) c (V1 m c)]
    have hsplit := Pipeline.RDat.arrays_of_unscopedBufs (p := 0) (pcfgs (F := F)) adm (rdats m) launch0.win launch0.arr_whole c
      ((pdats m 0 c).share_full fun _ => rfl) (fun b => V1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rdats m 0 c).Φ 0 = Pipeline.scopedRest spec0 c from rfl]
    iintro ⟨-, -, Hr⟩
    iexact Hr
  hout c := by
    rw [Pipeline.ownSems0_none, show (rdats m 0 c).Φ (Fin.last _) = Pipeline.scopedRest spec0 c from rfl]
    iintro Hr
    isplitr; · iempintro
    isplitr; · iempintro
    iexact Hr
  hexit c := by
    rw [← Pipeline.unscopedBufs_held (Ix := Unit) (Name := ℕ) (U := UR sig nD τ) (Lvl := ℕ) c (W2 m c)]
    have harr : (rdats m 0 c).arraysAt cfg0.N ⊢ ((pdats m 0 c).arrays ((pdats m 0 c).arrAt · cfg0.N) : sProp 𝕄) := arraysAt0 (V1 m) c
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (fun b => V1 m c b) (fun b => W2 m c b) ((pdats m 0 c).arrAt · cfg0.N)
      (final0 m c)
      (fun b hb => W2_of m c b fun hm => by
        rcases List.mem_cons.mp hm with h | hm
        · exact hb (Finset.mem_image.mpr ⟨3, Finset.mem_univ _, h.symm⟩)
        rcases List.mem_cons.mp hm with h | hm
        · exact hb (Finset.mem_image.mpr ⟨4, Finset.mem_univ _, h.symm⟩)
        rcases List.mem_cons.mp hm with h | hm
        · exact hb (Finset.mem_image.mpr ⟨5, Finset.mem_univ _, h.symm⟩)
        rcases List.mem_cons.mp hm with h | hm
        · exact hb (Finset.mem_image.mpr ⟨6, Finset.mem_univ _, h.symm⟩)
        rcases List.mem_cons.mp hm with h | hm
        · exact hb (Finset.mem_image.mpr ⟨7, Finset.mem_univ _, h.symm⟩)
        exact absurd hm List.not_mem_nil)
    iintro ⟨Ha, HO, -, Hrest⟩
    imodintro
    isplitl [Ha Hrest]
    · iapply hjoin; isplitl [Ha]
      · iapply harr; iexact Ha
      · iexact Hrest
    unfold Pipeline.RDat.owesAt Pipeline.owesWithin
    icases HO with ⟨%W, -, HO⟩; iexists W; iexact HO

theorem final1_0 (c : Dev nD) : (pdats m 1 c).arrAt 0 cfg1.N = W3 m c (Pipeline.arrRef spec1 0) := ((pdats m 1 c).arrAt_in 0 rfl _).trans (W3_of m c main_v9_1 (by decide)).symm
theorem final1_1 (c : Dev nD) : (pdats m 1 c).arrAt 1 cfg1.N = W3 m c (Pipeline.arrRef spec1 1) := ((pdats m 1 c).arrAt_in 1 rfl _).trans (W3_of m c main_v0 (by decide)).symm
theorem final1_2 (c : Dev nD) : (pdats m 1 c).arrAt 2 cfg1.N = W3 m c (Pipeline.arrRef spec1 2) := ((pdats m 1 c).arrAt_in 2 rfl _).trans (W3_of m c main_v8 (by decide)).symm
theorem final1_3 (c : Dev nD) : (pdats m 1 c).arrAt 3 cfg1.N = W3 m c (Pipeline.arrRef spec1 3) := ((pdats m 1 c).arrAt_in 3 rfl _).trans (W3_of m c main_v1 (by decide)).symm
theorem final1_4 (c : Dev nD) : (pdats m 1 c).arrAt 4 cfg1.N = W3 m c (Pipeline.arrRef spec1 4) := ((pdats m 1 c).arrAt_in 4 rfl _).trans (W3_of m c main_v3 (by decide)).symm
theorem final1_5 (c : Dev nD) : (pdats m 1 c).arrAt 5 cfg1.N = W3 m c (Pipeline.arrRef spec1 5) := ((pdats m 1 c).arrAt_in 5 rfl _).trans (W3_of m c main_v2 (by decide)).symm
theorem final1_6 (c : Dev nD) : (pdats m 1 c).arrAt 6 cfg1.N = W3 m c (Pipeline.arrRef spec1 6) := ((pdats m 1 c).arrAt_in 6 rfl _).trans (W3_of m c main_v4 (by decide)).symm
theorem final1_7 (c : Dev nD) : (pdats m 1 c).arrAt 7 cfg1.N = W3 m c (Pipeline.arrRef spec1 7) := ((pdats m 1 c).arrAt_in 7 rfl _).trans (W3_of m c main_v9_0 (by decide)).symm
theorem final1_8 (c : Dev nD) : (pdats m 1 c).arrAt 8 cfg1.N = W3 m c (Pipeline.arrRef spec1 8) := ((pdats m 1 c).arrAt_in 8 rfl _).trans (W3_of m c main_v9_2 (by decide)).symm
theorem final1_9 (c : Dev nD) : (pdats m 1 c).arrAt 9 cfg1.N = W3 m c (Pipeline.arrRef spec1 9) := ((pdats m 1 c).arrAt_in 9 rfl _).trans (W3_of m c main_v9_3 (by decide)).symm
theorem final1_10 (c : Dev nD) : (pdats m 1 c).arrAt 10 cfg1.N = W3 m c (Pipeline.arrRef spec1 10) := ((pdats m 1 c).arrAt_in 10 rfl _).trans (W3_of m c main_v9_4 (by decide)).symm
theorem final1_11 (c : Dev nD) : (pdats m 1 c).arrAt 11 cfg1.N = W3 m c (Pipeline.arrRef spec1 11) := (W3_main_v10_0 m c).symm
theorem final1_12 (c : Dev nD) : (pdats m 1 c).arrAt 12 cfg1.N = W3 m c (Pipeline.arrRef spec1 12) := (W3_main_v10_1 m c).symm
theorem final1_13 (c : Dev nD) : (pdats m 1 c).arrAt 13 cfg1.N = W3 m c (Pipeline.arrRef spec1 13) := (W3_main_v10_2 m c).symm
theorem final1_14 (c : Dev nD) : (pdats m 1 c).arrAt 14 cfg1.N = W3 m c (Pipeline.arrRef spec1 14) := (W3_main_v10_3 m c).symm
set_option maxHeartbeats 3200000 in
theorem final1 (c : Dev nD) : ∀ w : Fin 15, (pdats m 1 c).arrAt w cfg1.N = W3 m c (Pipeline.arrRef spec1 w)
  | ⟨0, _⟩ => final1_0 m c
  | ⟨1, _⟩ => final1_1 m c
  | ⟨2, _⟩ => final1_2 m c
  | ⟨3, _⟩ => final1_3 m c
  | ⟨4, _⟩ => final1_4 m c
  | ⟨5, _⟩ => final1_5 m c
  | ⟨6, _⟩ => final1_6 m c
  | ⟨7, _⟩ => final1_7 m c
  | ⟨8, _⟩ => final1_8 m c
  | ⟨9, _⟩ => final1_9 m c
  | ⟨10, _⟩ => final1_10 m c
  | ⟨11, _⟩ => final1_11 m c
  | ⟨12, _⟩ => final1_12 m c
  | ⟨13, _⟩ => final1_13 m c
  | ⟨14, _⟩ => final1_14 m c

set_option backward.isDefEq.respectTransparency.types false in
/-- Call 1 as a segment of the run. -/
def reg1 : Pipeline.RDat.RegionSeg (pcfgs (F := F)) adm (rdats m) () defs₀ Variants.none noL noLv 1 where
  win := launch1.win.to₀
  block_pos := launch1.block_pos
  stage_whole := launch1.stage_whole
  K := PEmpty
  osem k := k.elim
  ho := Pipeline.OwnSemFacts.none _
  hbody c := ((obligation1 (W2 m) c).loose).toR
  hwaits := Pipeline.RDat.hwaits_of_owed_zero _ _ _ _ noL noLv 1 fun _ _ => rfl
  pre c := iprop(StableHlo.held (c : Thread nD τ) (Pipeline.ucRefs τ sig) (W2 m c) ∗ owing c)
  post c := iprop(StableHlo.held (c : Thread nD τ) (Pipeline.ucRefs τ sig) (W3 m c) ∗ owing c)
  X _ := BI.emp
  Y _ := BI.emp
  Z c := Pipeline.unscopedRest (Ix := Unit) (Name := ℕ) (U := UR sig nD τ) (Lvl := ℕ) spec1 c (fun b => W2 m c b)
  hentry c := by
    rw [Pipeline.ownSems0_none, ← Pipeline.unscopedBufs_held (Ix := Unit) (Name := ℕ) (U := UR sig nD τ) (Lvl := ℕ) c (W2 m c)]
    have hsplit := Pipeline.RDat.arrays_of_unscopedBufs (p := 1) (pcfgs (F := F)) adm (rdats m) launch1.win launch1.arr_whole c
      ((pdats m 1 c).share_full fun _ => rfl) (fun b => W2 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rdats m 1 c).Φ 0 = Phi1 (W2 m) c 0 from rfl]
    iintro ⟨-, -, Hr⟩
    iapply (scoped1_in (W2 m) c); iexact Hr
  hout c := by
    rw [Pipeline.ownSems0_none, show (rdats m 1 c).Φ (Fin.last _) = Phi1 (W2 m) c cfg1.N from rfl]
    iintro Hr
    isplitr; · iempintro
    isplitr; · iempintro
    iapply (scoped1_out (W2 m) c cfg1.N); iexact Hr
  hexit c := by
    rw [← Pipeline.unscopedBufs_held (Ix := Unit) (Name := ℕ) (U := UR sig nD τ) (Lvl := ℕ) c (W3 m c)]
    have harr : (rdats m 1 c).arraysAt cfg1.N ⊢ ((pdats m 1 c).arrays ((pdats m 1 c).arrAt · cfg1.N) : sProp 𝕄) := (dat1 (W2 m) c).toR_arraysAt_post _
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (fun b => W2 m c b) (fun b => W3 m c b) ((pdats m 1 c).arrAt · cfg1.N)
      (final1 m c)
      (fun b hb => W3_of m c b fun hm => by
        rcases List.mem_cons.mp hm with h | hm
        · exact hb (Finset.mem_image.mpr ⟨11, Finset.mem_univ _, h.symm⟩)
        rcases List.mem_cons.mp hm with h | hm
        · exact hb (Finset.mem_image.mpr ⟨12, Finset.mem_univ _, h.symm⟩)
        rcases List.mem_cons.mp hm with h | hm
        · exact hb (Finset.mem_image.mpr ⟨13, Finset.mem_univ _, h.symm⟩)
        rcases List.mem_cons.mp hm with h | hm
        · exact hb (Finset.mem_image.mpr ⟨14, Finset.mem_univ _, h.symm⟩)
        exact absurd hm List.not_mem_nil)
    iintro ⟨Ha, HO, -, Hrest⟩
    imodintro
    isplitl [Ha Hrest]
    · iapply hjoin; isplitl [Ha]
      · iapply harr; iexact Ha
      · iexact Hrest
    unfold Pipeline.RDat.owesAt Pipeline.owesWithin
    icases HO with ⟨%W, -, HO⟩; iexists W; iexact HO

/-- The host's operations before and after the calls. -/
def host0 : Pipeline.HostSeg (Ix := Unit) (Name := ℕ) (U := UR sig nD τ) (Lvl := ℕ) (pcfgs (F := F)) defs₀ Variants.none noL noLv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) owing
def host3 : Pipeline.HostSeg (Ix := Unit) (Name := ℕ) (U := UR sig nD τ) (Lvl := ℕ) (pcfgs (F := F)) defs₀ Variants.none noL noLv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) owing
abbrev rsegs (c : Dev nD) : List (Pipeline.RDat.Seg (pcfgs (F := F)) adm (rdats m) () defs₀ Variants.none noL noLv) :=
  [.host (host0 m), .region (reg0 m), .region (reg1 m), .host (host3 m)]

/-- What a final state holds: each result as the last operations leave it, each argument as launched. -/
def Ends (c : Dev nD) (s : MemSt nD τ sig (Elt F)) : Prop :=
  s.mem ((c.tc : Thread nD τ).loc main_v11) = W4 m c main_v11 ∧ s.mem ((c.tc : Thread nD τ).loc main_v12) = W4 m c main_v12 ∧ s.mem ((c.tc : Thread nD τ).loc main_v13) = W4 m c main_v13 ∧ s.mem ((c.tc : Thread nD τ).loc main_v14) = W4 m c main_v14 ∧ s.mem ((c.tc : Thread nD τ).loc main_v15) = W4 m c main_v15 ∧ s.mem ((c.tc : Thread nD τ).loc main_v16) = W4 m c main_v16 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7)

set_option backward.isDefEq.respectTransparency.types false in
/-- Every run ends, with these contents and every counter at zero. -/
theorem run (ρ : Dev nD → PrngReg) :
    θ_run defs (onTc (τ := τ) (main (F := F))) ⟨m, fun _ => 0, ρ⟩ (fun r => (∀ c : Dev nD, Ends m c r.2) ∧ r.2.sem = fun _ => 0) := by
  refine Pipeline.RDat.θ_run_regions_kit_dev_sems (pcfgs (F := F)) adm (rdats m) () cellOf_inj emb₁ defs₀ Variants.none noL noLv m ρ main
    (rsegs m)
    (fun c Q => by
      rewrite [main_chain c, Pipeline.RDat.Seg.run_eq_chain,
        show (rsegs m c).map Pipeline.RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [rsegs, Pipeline.RDat.Seg.pipes_host, Pipeline.RDat.Seg.pipes_region, Pipeline.RDat.Seg.pipes_nil]; decide) (fun _ => 0) (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ owing c))
    (Tₙ := fun c => StableHlo.held (c : Thread nD τ) (Pipeline.ucRefs τ sig) (W4 m c))
    (hch := fun c => ⟨.rfl, .rfl, .rfl, .rfl, .rfl⟩)
    (hinit := ?_) (QY := fun c s => Ends m c s)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ iprop(emp)))
        ⊢ (bigSep Finset.univ fun c : Dev nD => iprop(StableHlo.held (c : Thread nD τ) (Pipeline.ucRefs τ sig) (V0 m c) ∗ owing c) : sProp 𝕄) :=
      bigSep_mono fun c _ => show (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ iprop(emp)) : sProp 𝕄) ⊢ iprop(StableHlo.held (c : Thread nD τ) (Pipeline.ucRefs τ sig) (V0 m c) ∗ owing c) from by
        rw [← Pipeline.unscopedBufs_held (Ix := Unit) (Name := ℕ) (U := UR sig nD τ) (Lvl := ℕ) c (V0 m c)]
        iintro ⟨Hb, -, HO, -, -, -⟩
        isplitl [Hb]; · iexact Hb
        iexists _; iexact HO
    iintro ⟨H, -⟩
    imodintro
    iapply hsplit; iexact H
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact ⟨(h (Proc.devRef .tc main_v11) (Finset.mem_filter.mpr ⟨StableHlo.devRef_mem_tcRefs main_v11, by decide⟩)),
        (h (Proc.devRef .tc main_v12) (Finset.mem_filter.mpr ⟨StableHlo.devRef_mem_tcRefs main_v12, by decide⟩)),
        (h (Proc.devRef .tc main_v13) (Finset.mem_filter.mpr ⟨StableHlo.devRef_mem_tcRefs main_v13, by decide⟩)),
        (h (Proc.devRef .tc main_v14) (Finset.mem_filter.mpr ⟨StableHlo.devRef_mem_tcRefs main_v14, by decide⟩)),
        (h (Proc.devRef .tc main_v15) (Finset.mem_filter.mpr ⟨StableHlo.devRef_mem_tcRefs main_v15, by decide⟩)),
        (h (Proc.devRef .tc main_v16) (Finset.mem_filter.mpr ⟨StableHlo.devRef_mem_tcRefs main_v16, by decide⟩)),
        (h (Proc.devRef .tc main_arg0) (Finset.mem_filter.mpr ⟨StableHlo.devRef_mem_tcRefs main_arg0, by decide⟩)).trans (W4_arg m c main_arg0 (by decide) (by decide) (by decide) (by decide)),
        (h (Proc.devRef .tc main_arg1) (Finset.mem_filter.mpr ⟨StableHlo.devRef_mem_tcRefs main_arg1, by decide⟩)).trans (W4_arg m c main_arg1 (by decide) (by decide) (by decide) (by decide)),
        (h (Proc.devRef .tc main_arg2) (Finset.mem_filter.mpr ⟨StableHlo.devRef_mem_tcRefs main_arg2, by decide⟩)).trans (W4_arg m c main_arg2 (by decide) (by decide) (by decide) (by decide)),
        (h (Proc.devRef .tc main_arg3) (Finset.mem_filter.mpr ⟨StableHlo.devRef_mem_tcRefs main_arg3, by decide⟩)).trans (W4_arg m c main_arg3 (by decide) (by decide) (by decide) (by decide)),
        (h (Proc.devRef .tc main_arg4) (Finset.mem_filter.mpr ⟨StableHlo.devRef_mem_tcRefs main_arg4, by decide⟩)).trans (W4_arg m c main_arg4 (by decide) (by decide) (by decide) (by decide)),
        (h (Proc.devRef .tc main_arg5) (Finset.mem_filter.mpr ⟨StableHlo.devRef_mem_tcRefs main_arg5, by decide⟩)).trans (W4_arg m c main_arg5 (by decide) (by decide) (by decide) (by decide)),
        (h (Proc.devRef .tc main_arg6) (Finset.mem_filter.mpr ⟨StableHlo.devRef_mem_tcRefs main_arg6, by decide⟩)).trans (W4_arg m c main_arg6 (by decide) (by decide) (by decide) (by decide)),
        (h (Proc.devRef .tc main_arg7) (Finset.mem_filter.mpr ⟨StableHlo.devRef_mem_tcRefs main_arg7, by decide⟩)).trans (W4_arg m c main_arg7 (by decide) (by decide) (by decide) (by decide))⟩
    · iexact HSI

end Cert.Kernel.Gen

end
-- ==== Proof.HeadsIdeal.lean ====
/-
  The first call's quantiser, head by head: what a point leaves in its windows, by index.
-/
module

public import proofs.«01_k».proof.Proof.Gen.KernelIdeal.Loops
public import proofs.«01_k».proof.Proof.Gen.KernelIdeal.Points
public import Idealize.ShloMosaic.Lib.VecWindow
public import Idealize.ShloMosaic.Lib.Pipeline.Value
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Head `h` of a block of five heads. -/
def headOf {α : Type} (x : S1x5x256x128.Idx → α) (h : Fin 5) : S1x1x256x128.Idx → α := fun y =>
  x (fun a => match a with | ⟨0, _⟩ => ⟨0, Nat.one_pos⟩ | ⟨1, _⟩ => h | ⟨2, _⟩ => y 2 | ⟨3, _⟩ => y 3)
/-- Head `h` and sequence `i` of the logarithms. -/
def lseRow (x : Vec F S5x16x256 .f32) (i : grid0.Coords) (h : Fin 5) : Vec F S1x1x256 .f32 := fun y =>
  x (fun a => match a with | ⟨0, _⟩ => h | ⟨1, _⟩ => i 0 | ⟨2, _⟩ => y 2)
/-- Head `h`'s row of the scales. -/
def scaleRow (x : Vec F S5x16 .f32) (h : Fin 5) : Vec F S1x16 .f32 := fun y =>
  x (fun a => match a with | ⟨0, _⟩ => h | ⟨1, _⟩ => y 1)

/-- A head's codes, scale, scale's row, transposed gradient, logarithms and row sums. -/
def codesOf (x : Vec F S1x1x256x128 .bf16) : Vec F S1x1x256x128 .fp8e5m2 := k0_pay7 (k0_pay2 x) (k0_pay5 x) 23#32
def scaleOf (x : Vec F S1x1x256x128 .bf16) : FVec F S1x1 .f32 := k0_pay4 x
def rowStep (i : grid0.Coords) (x : Vec F S1x1x256x128 .bf16) (s : Vec F S1x16 .f32) : Vec F S1x16 .f32 := k0_pay13 (BitVec.ofNat 32 (i 0).val) (scaleOf x) s
def dotOf (x : Vec F S1x1x256x128 .bf16) : Vec F S1x1x128x256 .bf16 := k0_pay10 (k0_pay2 x) (k0_pay4 x) (k0_pay5 x) 23#32
def lse2Of (l : Vec F S1x1x256 .f32) : Vec F S1x1x256x128 .f32 := k0_pay12 (k0_pay11 l) (Named.named κ "log2e" 0x3FB8AA3B#32)
def deltaOf (x o : Vec F S1x1x256x128 .bf16) : Vec F S1x1x256x128 .f32 := k0_pay9 (k0_pay2 x) (k0_pay4 x) (k0_pay5 x) 23#32 o

/-- Five heads side by side. -/
def heads {α : Type} (w : Fin 5 → S1x1x256x128.Idx → α) : S1x5x256x128.Idx → α := fun y =>
  w (y 1) (fun a => match a with | ⟨0, _⟩ => ⟨0, Nat.one_pos⟩ | ⟨1, _⟩ => ⟨0, Nat.one_pos⟩ | ⟨2, _⟩ => y 2 | ⟨3, _⟩ => y 3)
def headsT {α : Type} (w : Fin 5 → S1x1x128x256.Idx → α) : S1x5x128x256.Idx → α := fun y =>
  w (y 1) (fun a => match a with | ⟨0, _⟩ => ⟨0, Nat.one_pos⟩ | ⟨1, _⟩ => ⟨0, Nat.one_pos⟩ | ⟨2, _⟩ => y 2 | ⟨3, _⟩ => y 3)
def rows {α : Type} (w : Fin 5 → S1x16.Idx → α) : S5x16.Idx → α := fun y =>
  w (y 0) (fun a => match a with | ⟨0, _⟩ => ⟨0, Nat.one_pos⟩ | ⟨1, _⟩ => y 1)

/-- The windows a point leaves. -/
def codesBlk (x1 : Vec F S1x5x256x128 .bf16) : Vec F S1x5x256x128 .fp8e5m2 := heads fun h => codesOf (headOf x1 h)
def scalesBlk (i : grid0.Coords) (x1 : Vec F S1x5x256x128 .bf16) (y : Vec F S5x16 .f32) : Vec F S5x16 .f32 := rows fun h => rowStep i (headOf x1 h) (scaleRow y h)
def dotBlk (x1 : Vec F S1x5x256x128 .bf16) : Vec F S1x5x128x256 .bf16 := headsT fun h => dotOf (headOf x1 h)
def lse2Blk (i : grid0.Coords) (x3 : Vec F S5x16x256 .f32) : Vec F S1x5x256x128 .f32 := heads fun h => lse2Of (lseRow x3 i h)
def deltaBlk (x1 x2 : Vec F S1x5x256x128 .bf16) : Vec F S1x5x256x128 .f32 := heads fun h => deltaOf (headOf x1 h) (headOf x2 h)

theorem heads_put {α : Type} (x : S1x5x256x128.Idx → α) (w0 w1 w2 w3 w4 : S1x1x256x128.Idx → α) (w : Fin 5 → S1x1x256x128.Idx → α)
    (e0 : w0 = w 0) (e1 : w1 = w 1) (e2 : w2 = w 2) (e3 : w3 = w 3) (e4 : w4 = w 4) :
    VecWindow.put (VecWindow.put (VecWindow.put (VecWindow.put (VecWindow.put (x) ![0, 0, 0, 0] S1x1x256x128.size w0) ![0, 1, 0, 0] S1x1x256x128.size w1) ![0, 2, 0, 0] S1x1x256x128.size w2) ![0, 3, 0, 0] S1x1x256x128.size w3) ![0, 4, 0, 0] S1x1x256x128.size w4 = heads w := by
  subst e0 e1 e2 e3 e4
  funext y
  have b0 : (y 0).val < 1 := (y 0).isLt
  have b1 : (y 1).val < 5 := (y 1).isLt
  have b2 : (y 2).val < 256 := (y 2).isLt
  have b3 : (y 3).val < 128 := (y 3).isLt
  by_cases h4 : (y 1).val = 4
  · have hy : ∀ a, (![0, 4, 0, 0] : Fin 4 → ℕ) a ≤ (y a).val ∧ (y a).val < (![0, 4, 0, 0] : Fin 4 → ℕ) a + S1x1x256x128.size a := by
      intro a
      match a with
      | ⟨0, _⟩ => exact ⟨by show 0 ≤ (y 0).val; omega, by show (y 0).val < 0 + 1; omega⟩
      | ⟨1, _⟩ => exact ⟨by show 4 ≤ (y 1).val; omega, by show (y 1).val < 4 + 1; omega⟩
      | ⟨2, _⟩ => exact ⟨by show 0 ≤ (y 2).val; omega, by show (y 2).val < 0 + 256; omega⟩
      | ⟨3, _⟩ => exact ⟨by show 0 ≤ (y 3).val; omega, by show (y 3).val < 0 + 128; omega⟩
    refine (dif_pos hy).trans ?_
    have hw : y 1 = ⟨4, by decide⟩ := Fin.ext h4
    unfold heads
    rw [hw]
    refine congrArg (w ⟨4, by decide⟩) (funext fun a => Fin.ext ?_)
    match a with
    | ⟨0, _⟩ => show (y 0).val - 0 = 0; omega
    | ⟨1, _⟩ => show (y 1).val - 4 = 0; omega
    | ⟨2, _⟩ => show (y 2).val - 0 = (y 2).val; omega
    | ⟨3, _⟩ => show (y 3).val - 0 = (y 3).val; omega
  refine (dif_neg fun hy => h4 (by have h1 : 4 ≤ (y 1).val := (hy 1).1; have h2 : (y 1).val < 4 + 1 := (hy 1).2; omega)).trans ?_
  by_cases h3 : (y 1).val = 3
  · have hy : ∀ a, (![0, 3, 0, 0] : Fin 4 → ℕ) a ≤ (y a).val ∧ (y a).val < (![0, 3, 0, 0] : Fin 4 → ℕ) a + S1x1x256x128.size a := by
      intro a
      match a with
      | ⟨0, _⟩ => exact ⟨by show 0 ≤ (y 0).val; omega, by show (y 0).val < 0 + 1; omega⟩
      | ⟨1, _⟩ => exact ⟨by show 3 ≤ (y 1).val; omega, by show (y 1).val < 3 + 1; omega⟩
      | ⟨2, _⟩ => exact ⟨by show 0 ≤ (y 2).val; omega, by show (y 2).val < 0 + 256; omega⟩
      | ⟨3, _⟩ => exact ⟨by show 0 ≤ (y 3).val; omega, by show (y 3).val < 0 + 128; omega⟩
    refine (dif_pos hy).trans ?_
    have hw : y 1 = ⟨3, by decide⟩ := Fin.ext h3
    unfold heads
    rw [hw]
    refine congrArg (w ⟨3, by decide⟩) (funext fun a => Fin.ext ?_)
    match a with
    | ⟨0, _⟩ => show (y 0).val - 0 = 0; omega
    | ⟨1, _⟩ => show (y 1).val - 3 = 0; omega
    | ⟨2, _⟩ => show (y 2).val - 0 = (y 2).val; omega
    | ⟨3, _⟩ => show (y 3).val - 0 = (y 3).val; omega
  refine (dif_neg fun hy => h3 (by have h1 : 3 ≤ (y 1).val := (hy 1).1; have h2 : (y 1).val < 3 + 1 := (hy 1).2; omega)).trans ?_
  by_cases h2 : (y 1).val = 2
  · have hy : ∀ a, (![0, 2, 0, 0] : Fin 4 → ℕ) a ≤ (y a).val ∧ (y a).val < (![0, 2, 0, 0] : Fin 4 → ℕ) a + S1x1x256x128.size a := by
      intro a
      match a with
      | ⟨0, _⟩ => exact ⟨by show 0 ≤ (y 0).val; omega, by show (y 0).val < 0 + 1; omega⟩
      | ⟨1, _⟩ => exact ⟨by show 2 ≤ (y 1).val; omega, by show (y 1).val < 2 + 1; omega⟩
      | ⟨2, _⟩ => exact ⟨by show 0 ≤ (y 2).val; omega, by show (y 2).val < 0 + 256; omega⟩
      | ⟨3, _⟩ => exact ⟨by show 0 ≤ (y 3).val; omega, by show (y 3).val < 0 + 128; omega⟩
    refine (dif_pos hy).trans ?_
    have hw : y 1 = ⟨2, by decide⟩ := Fin.ext h2
    unfold heads
    rw [hw]
    refine congrArg (w ⟨2, by decide⟩) (funext fun a => Fin.ext ?_)
    match a with
    | ⟨0, _⟩ => show (y 0).val - 0 = 0; omega
    | ⟨1, _⟩ => show (y 1).val - 2 = 0; omega
    | ⟨2, _⟩ => show (y 2).val - 0 = (y 2).val; omega
    | ⟨3, _⟩ => show (y 3).val - 0 = (y 3).val; omega
  refine (dif_neg fun hy => h2 (by have h1 : 2 ≤ (y 1).val := (hy 1).1; have h2 : (y 1).val < 2 + 1 := (hy 1).2; omega)).trans ?_
  by_cases h1 : (y 1).val = 1
  · have hy : ∀ a, (![0, 1, 0, 0] : Fin 4 → ℕ) a ≤ (y a).val ∧ (y a).val < (![0, 1, 0, 0] : Fin 4 → ℕ) a + S1x1x256x128.size a := by
      intro a
      match a with
      | ⟨0, _⟩ => exact ⟨by show 0 ≤ (y 0).val; omega, by show (y 0).val < 0 + 1; omega⟩
      | ⟨1, _⟩ => exact ⟨by show 1 ≤ (y 1).val; omega, by show (y 1).val < 1 + 1; omega⟩
      | ⟨2, _⟩ => exact ⟨by show 0 ≤ (y 2).val; omega, by show (y 2).val < 0 + 256; omega⟩
      | ⟨3, _⟩ => exact ⟨by show 0 ≤ (y 3).val; omega, by show (y 3).val < 0 + 128; omega⟩
    refine (dif_pos hy).trans ?_
    have hw : y 1 = ⟨1, by decide⟩ := Fin.ext h1
    unfold heads
    rw [hw]
    refine congrArg (w ⟨1, by decide⟩) (funext fun a => Fin.ext ?_)
    match a with
    | ⟨0, _⟩ => show (y 0).val - 0 = 0; omega
    | ⟨1, _⟩ => show (y 1).val - 1 = 0; omega
    | ⟨2, _⟩ => show (y 2).val - 0 = (y 2).val; omega
    | ⟨3, _⟩ => show (y 3).val - 0 = (y 3).val; omega
  refine (dif_neg fun hy => h1 (by have h1 : 1 ≤ (y 1).val := (hy 1).1; have h2 : (y 1).val < 1 + 1 := (hy 1).2; omega)).trans ?_
  by_cases h0 : (y 1).val = 0
  · have hy : ∀ a, (![0, 0, 0, 0] : Fin 4 → ℕ) a ≤ (y a).val ∧ (y a).val < (![0, 0, 0, 0] : Fin 4 → ℕ) a + S1x1x256x128.size a := by
      intro a
      match a with
      | ⟨0, _⟩ => exact ⟨by show 0 ≤ (y 0).val; omega, by show (y 0).val < 0 + 1; omega⟩
      | ⟨1, _⟩ => exact ⟨by show 0 ≤ (y 1).val; omega, by show (y 1).val < 0 + 1; omega⟩
      | ⟨2, _⟩ => exact ⟨by show 0 ≤ (y 2).val; omega, by show (y 2).val < 0 + 256; omega⟩
      | ⟨3, _⟩ => exact ⟨by show 0 ≤ (y 3).val; omega, by show (y 3).val < 0 + 128; omega⟩
    refine (dif_pos hy).trans ?_
    have hw : y 1 = ⟨0, by decide⟩ := Fin.ext h0
    unfold heads
    rw [hw]
    refine congrArg (w ⟨0, by decide⟩) (funext fun a => Fin.ext ?_)
    match a with
    | ⟨0, _⟩ => show (y 0).val - 0 = 0; omega
    | ⟨1, _⟩ => show (y 1).val - 0 = 0; omega
    | ⟨2, _⟩ => show (y 2).val - 0 = (y 2).val; omega
    | ⟨3, _⟩ => show (y 3).val - 0 = (y 3).val; omega
  refine (dif_neg fun hy => h0 (by have h1 : 0 ≤ (y 1).val := (hy 1).1; have h2 : (y 1).val < 0 + 1 := (hy 1).2; omega)).trans ?_
  exact absurd b1 (by omega)

theorem headsT_put {α : Type} (x : S1x5x128x256.Idx → α) (w0 w1 w2 w3 w4 : S1x1x128x256.Idx → α) (w : Fin 5 → S1x1x128x256.Idx → α)
    (e0 : w0 = w 0) (e1 : w1 = w 1) (e2 : w2 = w 2) (e3 : w3 = w 3) (e4 : w4 = w 4) :
    VecWindow.put (VecWindow.put (VecWindow.put (VecWindow.put (VecWindow.put (x) ![0, 0, 0, 0] S1x1x128x256.size w0) ![0, 1, 0, 0] S1x1x128x256.size w1) ![0, 2, 0, 0] S1x1x128x256.size w2) ![0, 3, 0, 0] S1x1x128x256.size w3) ![0, 4, 0, 0] S1x1x128x256.size w4 = headsT w := by
  subst e0 e1 e2 e3 e4
  funext y
  have b0 : (y 0).val < 1 := (y 0).isLt
  have b1 : (y 1).val < 5 := (y 1).isLt
  have b2 : (y 2).val < 128 := (y 2).isLt
  have b3 : (y 3).val < 256 := (y 3).isLt
  by_cases h4 : (y 1).val = 4
  · have hy : ∀ a, (![0, 4, 0, 0] : Fin 4 → ℕ) a ≤ (y a).val ∧ (y a).val < (![0, 4, 0, 0] : Fin 4 → ℕ) a + S1x1x128x256.size a := by
      intro a
      match a with
      | ⟨0, _⟩ => exact ⟨by show 0 ≤ (y 0).val; omega, by show (y 0).val < 0 + 1; omega⟩
      | ⟨1, _⟩ => exact ⟨by show 4 ≤ (y 1).val; omega, by show (y 1).val < 4 + 1; omega⟩
      | ⟨2, _⟩ => exact ⟨by show 0 ≤ (y 2).val; omega, by show (y 2).val < 0 + 128; omega⟩
      | ⟨3, _⟩ => exact ⟨by show 0 ≤ (y 3).val; omega, by show (y 3).val < 0 + 256; omega⟩
    refine (dif_pos hy).trans ?_
    have hw : y 1 = ⟨4, by decide⟩ := Fin.ext h4
    unfold headsT
    rw [hw]
    refine congrArg (w ⟨4, by decide⟩) (funext fun a => Fin.ext ?_)
    match a with
    | ⟨0, _⟩ => show (y 0).val - 0 = 0; omega
    | ⟨1, _⟩ => show (y 1).val - 4 = 0; omega
    | ⟨2, _⟩ => show (y 2).val - 0 = (y 2).val; omega
    | ⟨3, _⟩ => show (y 3).val - 0 = (y 3).val; omega
  refine (dif_neg fun hy => h4 (by have h1 : 4 ≤ (y 1).val := (hy 1).1; have h2 : (y 1).val < 4 + 1 := (hy 1).2; omega)).trans ?_
  by_cases h3 : (y 1).val = 3
  · have hy : ∀ a, (![0, 3, 0, 0] : Fin 4 → ℕ) a ≤ (y a).val ∧ (y a).val < (![0, 3, 0, 0] : Fin 4 → ℕ) a + S1x1x128x256.size a := by
      intro a
      match a with
      | ⟨0, _⟩ => exact ⟨by show 0 ≤ (y 0).val; omega, by show (y 0).val < 0 + 1; omega⟩
      | ⟨1, _⟩ => exact ⟨by show 3 ≤ (y 1).val; omega, by show (y 1).val < 3 + 1; omega⟩
      | ⟨2, _⟩ => exact ⟨by show 0 ≤ (y 2).val; omega, by show (y 2).val < 0 + 128; omega⟩
      | ⟨3, _⟩ => exact ⟨by show 0 ≤ (y 3).val; omega, by show (y 3).val < 0 + 256; omega⟩
    refine (dif_pos hy).trans ?_
    have hw : y 1 = ⟨3, by decide⟩ := Fin.ext h3
    unfold headsT
    rw [hw]
    refine congrArg (w ⟨3, by decide⟩) (funext fun a => Fin.ext ?_)
    match a with
    | ⟨0, _⟩ => show (y 0).val - 0 = 0; omega
    | ⟨1, _⟩ => show (y 1).val - 3 = 0; omega
    | ⟨2, _⟩ => show (y 2).val - 0 = (y 2).val; omega
    | ⟨3, _⟩ => show (y 3).val - 0 = (y 3).val; omega
  refine (dif_neg fun hy => h3 (by have h1 : 3 ≤ (y 1).val := (hy 1).1; have h2 : (y 1).val < 3 + 1 := (hy 1).2; omega)).trans ?_
  by_cases h2 : (y 1).val = 2
  · have hy : ∀ a, (![0, 2, 0, 0] : Fin 4 → ℕ) a ≤ (y a).val ∧ (y a).val < (![0, 2, 0, 0] : Fin 4 → ℕ) a + S1x1x128x256.size a := by
      intro a
      match a with
      | ⟨0, _⟩ => exact ⟨by show 0 ≤ (y 0).val; omega, by show (y 0).val < 0 + 1; omega⟩
      | ⟨1, _⟩ => exact ⟨by show 2 ≤ (y 1).val; omega, by show (y 1).val < 2 + 1; omega⟩
      | ⟨2, _⟩ => exact ⟨by show 0 ≤ (y 2).val; omega, by show (y 2).val < 0 + 128; omega⟩
      | ⟨3, _⟩ => exact ⟨by show 0 ≤ (y 3).val; omega, by show (y 3).val < 0 + 256; omega⟩
    refine (dif_pos hy).trans ?_
    have hw : y 1 = ⟨2, by decide⟩ := Fin.ext h2
    unfold headsT
    rw [hw]
    refine congrArg (w ⟨2, by decide⟩) (funext fun a => Fin.ext ?_)
    match a with
    | ⟨0, _⟩ => show (y 0).val - 0 = 0; omega
    | ⟨1, _⟩ => show (y 1).val - 2 = 0; omega
    | ⟨2, _⟩ => show (y 2).val - 0 = (y 2).val; omega
    | ⟨3, _⟩ => show (y 3).val - 0 = (y 3).val; omega
  refine (dif_neg fun hy => h2 (by have h1 : 2 ≤ (y 1).val := (hy 1).1; have h2 : (y 1).val < 2 + 1 := (hy 1).2; omega)).trans ?_
  by_cases h1 : (y 1).val = 1
  · have hy : ∀ a, (![0, 1, 0, 0] : Fin 4 → ℕ) a ≤ (y a).val ∧ (y a).val < (![0, 1, 0, 0] : Fin 4 → ℕ) a + S1x1x128x256.size a := by
      intro a
      match a with
      | ⟨0, _⟩ => exact ⟨by show 0 ≤ (y 0).val; omega, by show (y 0).val < 0 + 1; omega⟩
      | ⟨1, _⟩ => exact ⟨by show 1 ≤ (y 1).val; omega, by show (y 1).val < 1 + 1; omega⟩
      | ⟨2, _⟩ => exact ⟨by show 0 ≤ (y 2).val; omega, by show (y 2).val < 0 + 128; omega⟩
      | ⟨3, _⟩ => exact ⟨by show 0 ≤ (y 3).val; omega, by show (y 3).val < 0 + 256; omega⟩
    refine (dif_pos hy).trans ?_
    have hw : y 1 = ⟨1, by decide⟩ := Fin.ext h1
    unfold headsT
    rw [hw]
    refine congrArg (w ⟨1, by decide⟩) (funext fun a => Fin.ext ?_)
    match a with
    | ⟨0, _⟩ => show (y 0).val - 0 = 0; omega
    | ⟨1, _⟩ => show (y 1).val - 1 = 0; omega
    | ⟨2, _⟩ => show (y 2).val - 0 = (y 2).val; omega
    | ⟨3, _⟩ => show (y 3).val - 0 = (y 3).val; omega
  refine (dif_neg fun hy => h1 (by have h1 : 1 ≤ (y 1).val := (hy 1).1; have h2 : (y 1).val < 1 + 1 := (hy 1).2; omega)).trans ?_
  by_cases h0 : (y 1).val = 0
  · have hy : ∀ a, (![0, 0, 0, 0] : Fin 4 → ℕ) a ≤ (y a).val ∧ (y a).val < (![0, 0, 0, 0] : Fin 4 → ℕ) a + S1x1x128x256.size a := by
      intro a
      match a with
      | ⟨0, _⟩ => exact ⟨by show 0 ≤ (y 0).val; omega, by show (y 0).val < 0 + 1; omega⟩
      | ⟨1, _⟩ => exact ⟨by show 0 ≤ (y 1).val; omega, by show (y 1).val < 0 + 1; omega⟩
      | ⟨2, _⟩ => exact ⟨by show 0 ≤ (y 2).val; omega, by show (y 2).val < 0 + 128; omega⟩
      | ⟨3, _⟩ => exact ⟨by show 0 ≤ (y 3).val; omega, by show (y 3).val < 0 + 256; omega⟩
    refine (dif_pos hy).trans ?_
    have hw : y 1 = ⟨0, by decide⟩ := Fin.ext h0
    unfold headsT
    rw [hw]
    refine congrArg (w ⟨0, by decide⟩) (funext fun a => Fin.ext ?_)
    match a with
    | ⟨0, _⟩ => show (y 0).val - 0 = 0; omega
    | ⟨1, _⟩ => show (y 1).val - 0 = 0; omega
    | ⟨2, _⟩ => show (y 2).val - 0 = (y 2).val; omega
    | ⟨3, _⟩ => show (y 3).val - 0 = (y 3).val; omega
  refine (dif_neg fun hy => h0 (by have h1 : 0 ≤ (y 1).val := (hy 1).1; have h2 : (y 1).val < 0 + 1 := (hy 1).2; omega)).trans ?_
  exact absurd b1 (by omega)

theorem rows_put {α : Type} (x : S5x16.Idx → α) (w0 w1 w2 w3 w4 : S1x16.Idx → α) (w : Fin 5 → S1x16.Idx → α)
    (e0 : w0 = w 0) (e1 : w1 = w 1) (e2 : w2 = w 2) (e3 : w3 = w 3) (e4 : w4 = w 4) :
    VecWindow.put (VecWindow.put (VecWindow.put (VecWindow.put (VecWindow.put (x) ![0, 0] S1x16.size w0) ![1, 0] S1x16.size w1) ![2, 0] S1x16.size w2) ![3, 0] S1x16.size w3) ![4, 0] S1x16.size w4 = rows w := by
  subst e0 e1 e2 e3 e4
  funext y
  have b0 : (y 0).val < 5 := (y 0).isLt
  have b1 : (y 1).val < 16 := (y 1).isLt
  by_cases h4 : (y 0).val = 4
  · have hy : ∀ a, (![4, 0] : Fin 2 → ℕ) a ≤ (y a).val ∧ (y a).val < (![4, 0] : Fin 2 → ℕ) a + S1x16.size a := by
      intro a
      match a with
      | ⟨0, _⟩ => exact ⟨by show 4 ≤ (y 0).val; omega, by show (y 0).val < 4 + 1; omega⟩
      | ⟨1, _⟩ => exact ⟨by show 0 ≤ (y 1).val; omega, by show (y 1).val < 0 + 16; omega⟩
    refine (dif_pos hy).trans ?_
    have hw : y 0 = ⟨4, by decide⟩ := Fin.ext h4
    unfold rows
    rw [hw]
    refine congrArg (w ⟨4, by decide⟩) (funext fun a => Fin.ext ?_)
    match a with
    | ⟨0, _⟩ => show (y 0).val - 4 = 0; omega
    | ⟨1, _⟩ => show (y 1).val - 0 = (y 1).val; omega
  refine (dif_neg fun hy => h4 (by have h1 : 4 ≤ (y 0).val := (hy 0).1; have h2 : (y 0).val < 4 + 1 := (hy 0).2; omega)).trans ?_
  by_cases h3 : (y 0).val = 3
  · have hy : ∀ a, (![3, 0] : Fin 2 → ℕ) a ≤ (y a).val ∧ (y a).val < (![3, 0] : Fin 2 → ℕ) a + S1x16.size a := by
      intro a
      match a with
      | ⟨0, _⟩ => exact ⟨by show 3 ≤ (y 0).val; omega, by show (y 0).val < 3 + 1; omega⟩
      | ⟨1, _⟩ => exact ⟨by show 0 ≤ (y 1).val; omega, by show (y 1).val < 0 + 16; omega⟩
    refine (dif_pos hy).trans ?_
    have hw : y 0 = ⟨3, by decide⟩ := Fin.ext h3
    unfold rows
    rw [hw]
    refine congrArg (w ⟨3, by decide⟩) (funext fun a => Fin.ext ?_)
    match a with
    | ⟨0, _⟩ => show (y 0).val - 3 = 0; omega
    | ⟨1, _⟩ => show (y 1).val - 0 = (y 1).val; omega
  refine (dif_neg fun hy => h3 (by have h1 : 3 ≤ (y 0).val := (hy 0).1; have h2 : (y 0).val < 3 + 1 := (hy 0).2; omega)).trans ?_
  by_cases h2 : (y 0).val = 2
  · have hy : ∀ a, (![2, 0] : Fin 2 → ℕ) a ≤ (y a).val ∧ (y a).val < (![2, 0] : Fin 2 → ℕ) a + S1x16.size a := by
      intro a
      match a with
      | ⟨0, _⟩ => exact ⟨by show 2 ≤ (y 0).val; omega, by show (y 0).val < 2 + 1; omega⟩
      | ⟨1, _⟩ => exact ⟨by show 0 ≤ (y 1).val; omega, by show (y 1).val < 0 + 16; omega⟩
    refine (dif_pos hy).trans ?_
    have hw : y 0 = ⟨2, by decide⟩ := Fin.ext h2
    unfold rows
    rw [hw]
    refine congrArg (w ⟨2, by decide⟩) (funext fun a => Fin.ext ?_)
    match a with
    | ⟨0, _⟩ => show (y 0).val - 2 = 0; omega
    | ⟨1, _⟩ => show (y 1).val - 0 = (y 1).val; omega
  refine (dif_neg fun hy => h2 (by have h1 : 2 ≤ (y 0).val := (hy 0).1; have h2 : (y 0).val < 2 + 1 := (hy 0).2; omega)).trans ?_
  by_cases h1 : (y 0).val = 1
  · have hy : ∀ a, (![1, 0] : Fin 2 → ℕ) a ≤ (y a).val ∧ (y a).val < (![1, 0] : Fin 2 → ℕ) a + S1x16.size a := by
      intro a
      match a with
      | ⟨0, _⟩ => exact ⟨by show 1 ≤ (y 0).val; omega, by show (y 0).val < 1 + 1; omega⟩
      | ⟨1, _⟩ => exact ⟨by show 0 ≤ (y 1).val; omega, by show (y 1).val < 0 + 16; omega⟩
    refine (dif_pos hy).trans ?_
    have hw : y 0 = ⟨1, by decide⟩ := Fin.ext h1
    unfold rows
    rw [hw]
    refine congrArg (w ⟨1, by decide⟩) (funext fun a => Fin.ext ?_)
    match a with
    | ⟨0, _⟩ => show (y 0).val - 1 = 0; omega
    | ⟨1, _⟩ => show (y 1).val - 0 = (y 1).val; omega
  refine (dif_neg fun hy => h1 (by have h1 : 1 ≤ (y 0).val := (hy 0).1; have h2 : (y 0).val < 1 + 1 := (hy 0).2; omega)).trans ?_
  by_cases h0 : (y 0).val = 0
  · have hy : ∀ a, (![0, 0] : Fin 2 → ℕ) a ≤ (y a).val ∧ (y a).val < (![0, 0] : Fin 2 → ℕ) a + S1x16.size a := by
      intro a
      match a with
      | ⟨0, _⟩ => exact ⟨by show 0 ≤ (y 0).val; omega, by show (y 0).val < 0 + 1; omega⟩
      | ⟨1, _⟩ => exact ⟨by show 0 ≤ (y 1).val; omega, by show (y 1).val < 0 + 16; omega⟩
    refine (dif_pos hy).trans ?_
    have hw : y 0 = ⟨0, by decide⟩ := Fin.ext h0
    unfold rows
    rw [hw]
    refine congrArg (w ⟨0, by decide⟩) (funext fun a => Fin.ext ?_)
    match a with
    | ⟨0, _⟩ => show (y 0).val - 0 = 0; omega
    | ⟨1, _⟩ => show (y 1).val - 0 = (y 1).val; omega
  refine (dif_neg fun hy => h0 (by have h1 : 0 ≤ (y 0).val := (hy 0).1; have h2 : (y 0).val < 0 + 1 := (hy 0).2; omega)).trans ?_
  exact absurd b0 (by omega)

theorem ld_head0 {e : EltTy} (x : Vec F S1x5x256x128 e) : View.ld x (Rect.unit (s := S1x5x256x128) ![0, 0, 0, 0] S1x1x256x128.size inb_S1x5x256x128_S1x1x256x128_0_0_0_0) = headOf x 0 := funext fun y => by
  have b0 : (y 0).val < 1 := (y 0).isLt
  have b1 : (y 1).val < 1 := (y 1).isLt
  refine congrArg x (funext fun a => Fin.ext ?_)
  match a with
  | ⟨0, _⟩ => show 0 + 1 * (y 0).val = 0; omega
  | ⟨1, _⟩ => show 0 + 1 * (y 1).val = 0; omega
  | ⟨2, _⟩ => show 0 + 1 * (y 2).val = (y 2).val; omega
  | ⟨3, _⟩ => show 0 + 1 * (y 3).val = (y 3).val; omega
theorem ld_row0 (x : Vec F S5x16 .f32) : View.ld x (Rect.unit (s := S5x16) ![0, 0] S1x16.size inb_S5x16_S1x16_0_0) = scaleRow x 0 := funext fun y => by
  have b0 : (y 0).val < 1 := (y 0).isLt
  refine congrArg x (funext fun a => Fin.ext ?_)
  match a with
  | ⟨0, _⟩ => show 0 + 1 * (y 0).val = 0; omega
  | ⟨1, _⟩ => show 0 + 1 * (y 1).val = (y 1).val; omega
theorem ld_lse0 (x : Vec F S5x16x256 .f32) (i : grid0.Coords) : View.ld x (Rect.unit (s := S5x16x256) (k0_off1 i) S1x1x256.size (k0_off1_inb i)) = lseRow x i 0 := funext fun y => by
  have b0 : (y 0).val < 1 := (y 0).isLt
  have b1 : (y 1).val < 1 := (y 1).isLt
  refine congrArg x (funext fun a => Fin.ext ?_)
  have hi : (i 0).val < 16 := (i 0).isLt
  have ho : k0_off1 i = ![0, (i 0).val, 0] := k0_off1_eq i
  have e0 : k0_off1 i 0 = 0 := congrFun ho 0
  have e1 : k0_off1 i 1 = (i 0).val := congrFun ho 1
  have e2 : k0_off1 i 2 = 0 := congrFun ho 2
  match a with
  | ⟨0, _⟩ => show k0_off1 i 0 + 1 * (y 0).val = 0; omega
  | ⟨1, _⟩ => show k0_off1 i 1 + 1 * (y 1).val = (i 0).val; omega
  | ⟨2, _⟩ => show k0_off1 i 2 + 1 * (y 2).val = (y 2).val; omega

theorem ld_head1 {e : EltTy} (x : Vec F S1x5x256x128 e) : View.ld x (Rect.unit (s := S1x5x256x128) ![0, 1, 0, 0] S1x1x256x128.size inb_S1x5x256x128_S1x1x256x128_0_1_0_0) = headOf x 1 := funext fun y => by
  have b0 : (y 0).val < 1 := (y 0).isLt
  have b1 : (y 1).val < 1 := (y 1).isLt
  refine congrArg x (funext fun a => Fin.ext ?_)
  match a with
  | ⟨0, _⟩ => show 0 + 1 * (y 0).val = 0; omega
  | ⟨1, _⟩ => show 1 + 1 * (y 1).val = 1; omega
  | ⟨2, _⟩ => show 0 + 1 * (y 2).val = (y 2).val; omega
  | ⟨3, _⟩ => show 0 + 1 * (y 3).val = (y 3).val; omega
theorem ld_row1 (x : Vec F S5x16 .f32) : View.ld x (Rect.unit (s := S5x16) ![1, 0] S1x16.size inb_S5x16_S1x16_1_0) = scaleRow x 1 := funext fun y => by
  have b0 : (y 0).val < 1 := (y 0).isLt
  refine congrArg x (funext fun a => Fin.ext ?_)
  match a with
  | ⟨0, _⟩ => show 1 + 1 * (y 0).val = 1; omega
  | ⟨1, _⟩ => show 0 + 1 * (y 1).val = (y 1).val; omega
theorem ld_lse1 (x : Vec F S5x16x256 .f32) (i : grid0.Coords) : View.ld x (Rect.unit (s := S5x16x256) (k0_off2 i) S1x1x256.size (k0_off2_inb i)) = lseRow x i 1 := funext fun y => by
  have b0 : (y 0).val < 1 := (y 0).isLt
  have b1 : (y 1).val < 1 := (y 1).isLt
  refine congrArg x (funext fun a => Fin.ext ?_)
  have hi : (i 0).val < 16 := (i 0).isLt
  have ho : k0_off2 i = ![1, (i 0).val, 0] := k0_off2_eq i
  have e0 : k0_off2 i 0 = 1 := congrFun ho 0
  have e1 : k0_off2 i 1 = (i 0).val := congrFun ho 1
  have e2 : k0_off2 i 2 = 0 := congrFun ho 2
  match a with
  | ⟨0, _⟩ => show k0_off2 i 0 + 1 * (y 0).val = 1; omega
  | ⟨1, _⟩ => show k0_off2 i 1 + 1 * (y 1).val = (i 0).val; omega
  | ⟨2, _⟩ => show k0_off2 i 2 + 1 * (y 2).val = (y 2).val; omega

theorem ld_head2 {e : EltTy} (x : Vec F S1x5x256x128 e) : View.ld x (Rect.unit (s := S1x5x256x128) ![0, 2, 0, 0] S1x1x256x128.size inb_S1x5x256x128_S1x1x256x128_0_2_0_0) = headOf x 2 := funext fun y => by
  have b0 : (y 0).val < 1 := (y 0).isLt
  have b1 : (y 1).val < 1 := (y 1).isLt
  refine congrArg x (funext fun a => Fin.ext ?_)
  match a with
  | ⟨0, _⟩ => show 0 + 1 * (y 0).val = 0; omega
  | ⟨1, _⟩ => show 2 + 1 * (y 1).val = 2; omega
  | ⟨2, _⟩ => show 0 + 1 * (y 2).val = (y 2).val; omega
  | ⟨3, _⟩ => show 0 + 1 * (y 3).val = (y 3).val; omega
theorem ld_row2 (x : Vec F S5x16 .f32) : View.ld x (Rect.unit (s := S5x16) ![2, 0] S1x16.size inb_S5x16_S1x16_2_0) = scaleRow x 2 := funext fun y => by
  have b0 : (y 0).val < 1 := (y 0).isLt
  refine congrArg x (funext fun a => Fin.ext ?_)
  match a with
  | ⟨0, _⟩ => show 2 + 1 * (y 0).val = 2; omega
  | ⟨1, _⟩ => show 0 + 1 * (y 1).val = (y 1).val; omega
theorem ld_lse2 (x : Vec F S5x16x256 .f32) (i : grid0.Coords) : View.ld x (Rect.unit (s := S5x16x256) (k0_off3 i) S1x1x256.size (k0_off3_inb i)) = lseRow x i 2 := funext fun y => by
  have b0 : (y 0).val < 1 := (y 0).isLt
  have b1 : (y 1).val < 1 := (y 1).isLt
  refine congrArg x (funext fun a => Fin.ext ?_)
  have hi : (i 0).val < 16 := (i 0).isLt
  have ho : k0_off3 i = ![2, (i 0).val, 0] := k0_off3_eq i
  have e0 : k0_off3 i 0 = 2 := congrFun ho 0
  have e1 : k0_off3 i 1 = (i 0).val := congrFun ho 1
  have e2 : k0_off3 i 2 = 0 := congrFun ho 2
  match a with
  | ⟨0, _⟩ => show k0_off3 i 0 + 1 * (y 0).val = 2; omega
  | ⟨1, _⟩ => show k0_off3 i 1 + 1 * (y 1).val = (i 0).val; omega
  | ⟨2, _⟩ => show k0_off3 i 2 + 1 * (y 2).val = (y 2).val; omega

theorem ld_head3 {e : EltTy} (x : Vec F S1x5x256x128 e) : View.ld x (Rect.unit (s := S1x5x256x128) ![0, 3, 0, 0] S1x1x256x128.size inb_S1x5x256x128_S1x1x256x128_0_3_0_0) = headOf x 3 := funext fun y => by
  have b0 : (y 0).val < 1 := (y 0).isLt
  have b1 : (y 1).val < 1 := (y 1).isLt
  refine congrArg x (funext fun a => Fin.ext ?_)
  match a with
  | ⟨0, _⟩ => show 0 + 1 * (y 0).val = 0; omega
  | ⟨1, _⟩ => show 3 + 1 * (y 1).val = 3; omega
  | ⟨2, _⟩ => show 0 + 1 * (y 2).val = (y 2).val; omega
  | ⟨3, _⟩ => show 0 + 1 * (y 3).val = (y 3).val; omega
theorem ld_row3 (x : Vec F S5x16 .f32) : View.ld x (Rect.unit (s := S5x16) ![3, 0] S1x16.size inb_S5x16_S1x16_3_0) = scaleRow x 3 := funext fun y => by
  have b0 : (y 0).val < 1 := (y 0).isLt
  refine congrArg x (funext fun a => Fin.ext ?_)
  match a with
  | ⟨0, _⟩ => show 3 + 1 * (y 0).val = 3; omega
  | ⟨1, _⟩ => show 0 + 1 * (y 1).val = (y 1).val; omega
theorem ld_lse3 (x : Vec F S5x16x256 .f32) (i : grid0.Coords) : View.ld x (Rect.unit (s := S5x16x256) (k0_off4 i) S1x1x256.size (k0_off4_inb i)) = lseRow x i 3 := funext fun y => by
  have b0 : (y 0).val < 1 := (y 0).isLt
  have b1 : (y 1).val < 1 := (y 1).isLt
  refine congrArg x (funext fun a => Fin.ext ?_)
  have hi : (i 0).val < 16 := (i 0).isLt
  have ho : k0_off4 i = ![3, (i 0).val, 0] := k0_off4_eq i
  have e0 : k0_off4 i 0 = 3 := congrFun ho 0
  have e1 : k0_off4 i 1 = (i 0).val := congrFun ho 1
  have e2 : k0_off4 i 2 = 0 := congrFun ho 2
  match a with
  | ⟨0, _⟩ => show k0_off4 i 0 + 1 * (y 0).val = 3; omega
  | ⟨1, _⟩ => show k0_off4 i 1 + 1 * (y 1).val = (i 0).val; omega
  | ⟨2, _⟩ => show k0_off4 i 2 + 1 * (y 2).val = (y 2).val; omega

theorem ld_head4 {e : EltTy} (x : Vec F S1x5x256x128 e) : View.ld x (Rect.unit (s := S1x5x256x128) ![0, 4, 0, 0] S1x1x256x128.size inb_S1x5x256x128_S1x1x256x128_0_4_0_0) = headOf x 4 := funext fun y => by
  have b0 : (y 0).val < 1 := (y 0).isLt
  have b1 : (y 1).val < 1 := (y 1).isLt
  refine congrArg x (funext fun a => Fin.ext ?_)
  match a with
  | ⟨0, _⟩ => show 0 + 1 * (y 0).val = 0; omega
  | ⟨1, _⟩ => show 4 + 1 * (y 1).val = 4; omega
  | ⟨2, _⟩ => show 0 + 1 * (y 2).val = (y 2).val; omega
  | ⟨3, _⟩ => show 0 + 1 * (y 3).val = (y 3).val; omega
theorem ld_row4 (x : Vec F S5x16 .f32) : View.ld x (Rect.unit (s := S5x16) ![4, 0] S1x16.size inb_S5x16_S1x16_4_0) = scaleRow x 4 := funext fun y => by
  have b0 : (y 0).val < 1 := (y 0).isLt
  refine congrArg x (funext fun a => Fin.ext ?_)
  match a with
  | ⟨0, _⟩ => show 4 + 1 * (y 0).val = 4; omega
  | ⟨1, _⟩ => show 0 + 1 * (y 1).val = (y 1).val; omega
theorem ld_lse4 (x : Vec F S5x16x256 .f32) (i : grid0.Coords) : View.ld x (Rect.unit (s := S5x16x256) (k0_off5 i) S1x1x256.size (k0_off5_inb i)) = lseRow x i 4 := funext fun y => by
  have b0 : (y 0).val < 1 := (y 0).isLt
  have b1 : (y 1).val < 1 := (y 1).isLt
  refine congrArg x (funext fun a => Fin.ext ?_)
  have hi : (i 0).val < 16 := (i 0).isLt
  have ho : k0_off5 i = ![4, (i 0).val, 0] := k0_off5_eq i
  have e0 : k0_off5 i 0 = 4 := congrFun ho 0
  have e1 : k0_off5 i 1 = (i 0).val := congrFun ho 1
  have e2 : k0_off5 i 2 = 0 := congrFun ho 2
  match a with
  | ⟨0, _⟩ => show k0_off5 i 0 + 1 * (y 0).val = 4; omega
  | ⟨1, _⟩ => show k0_off5 i 1 + 1 * (y 1).val = (i 0).val; omega
  | ⟨2, _⟩ => show k0_off5 i 2 + 1 * (y 2).val = (y 2).val; omega

theorem heads_read {κ' : Kind} {sp : Space} {e : EltTy} (v : View sig κ' sp S1x5x256x128 e) (f : BufTy.Contents (Elt F) v.ty) (w0 w1 w2 w3 w4 : Vec F S1x1x256x128 e) (w : Fin 5 → Vec F S1x1x256x128 e)
    (e0 : w0 = w 0) (e1 : w1 = w 1) (e2 : w2 = w 2) (e3 : w3 = w 3) (e4 : w4 = w 4) :
    v.read (Elt F) (v.writes (Elt F) f [⟨Rect.unit (s := S1x5x256x128) ![0, 4, 0, 0] S1x1x256x128.size inb_S1x5x256x128_S1x1x256x128_0_4_0_0, w4⟩, ⟨Rect.unit (s := S1x5x256x128) ![0, 3, 0, 0] S1x1x256x128.size inb_S1x5x256x128_S1x1x256x128_0_3_0_0, w3⟩, ⟨Rect.unit (s := S1x5x256x128) ![0, 2, 0, 0] S1x1x256x128.size inb_S1x5x256x128_S1x1x256x128_0_2_0_0, w2⟩, ⟨Rect.unit (s := S1x5x256x128) ![0, 1, 0, 0] S1x1x256x128.size inb_S1x5x256x128_S1x1x256x128_0_1_0_0, w1⟩, ⟨Rect.unit (s := S1x5x256x128) ![0, 0, 0, 0] S1x1x256x128.size inb_S1x5x256x128_S1x1x256x128_0_0_0_0, w0⟩]) = heads w := by
  have a0 := View.read_writes_cons_put v f inb_S1x5x256x128_S1x1x256x128_0_0_0_0 w0 [] rfl
  have a1 := View.read_writes_cons_put v f inb_S1x5x256x128_S1x1x256x128_0_1_0_0 w1 [⟨Rect.unit (s := S1x5x256x128) ![0, 0, 0, 0] S1x1x256x128.size inb_S1x5x256x128_S1x1x256x128_0_0_0_0, w0⟩] rfl
  have a2 := View.read_writes_cons_put v f inb_S1x5x256x128_S1x1x256x128_0_2_0_0 w2 [⟨Rect.unit (s := S1x5x256x128) ![0, 1, 0, 0] S1x1x256x128.size inb_S1x5x256x128_S1x1x256x128_0_1_0_0, w1⟩, ⟨Rect.unit (s := S1x5x256x128) ![0, 0, 0, 0] S1x1x256x128.size inb_S1x5x256x128_S1x1x256x128_0_0_0_0, w0⟩] rfl
  have a3 := View.read_writes_cons_put v f inb_S1x5x256x128_S1x1x256x128_0_3_0_0 w3 [⟨Rect.unit (s := S1x5x256x128) ![0, 2, 0, 0] S1x1x256x128.size inb_S1x5x256x128_S1x1x256x128_0_2_0_0, w2⟩, ⟨Rect.unit (s := S1x5x256x128) ![0, 1, 0, 0] S1x1x256x128.size inb_S1x5x256x128_S1x1x256x128_0_1_0_0, w1⟩, ⟨Rect.unit (s := S1x5x256x128) ![0, 0, 0, 0] S1x1x256x128.size inb_S1x5x256x128_S1x1x256x128_0_0_0_0, w0⟩] rfl
  have a4 := View.read_writes_cons_put v f inb_S1x5x256x128_S1x1x256x128_0_4_0_0 w4 [⟨Rect.unit (s := S1x5x256x128) ![0, 3, 0, 0] S1x1x256x128.size inb_S1x5x256x128_S1x1x256x128_0_3_0_0, w3⟩, ⟨Rect.unit (s := S1x5x256x128) ![0, 2, 0, 0] S1x1x256x128.size inb_S1x5x256x128_S1x1x256x128_0_2_0_0, w2⟩, ⟨Rect.unit (s := S1x5x256x128) ![0, 1, 0, 0] S1x1x256x128.size inb_S1x5x256x128_S1x1x256x128_0_1_0_0, w1⟩, ⟨Rect.unit (s := S1x5x256x128) ![0, 0, 0, 0] S1x1x256x128.size inb_S1x5x256x128_S1x1x256x128_0_0_0_0, w0⟩] rfl
  rw [View.writes_nil] at a0
  rw [a0] at a1; rw [a1] at a2; rw [a2] at a3; rw [a3] at a4
  exact a4.trans (heads_put _ w0 w1 w2 w3 w4 w e0 e1 e2 e3 e4)

theorem headsT_read {κ' : Kind} {sp : Space} {e : EltTy} (v : View sig κ' sp S1x5x128x256 e) (f : BufTy.Contents (Elt F) v.ty) (w0 w1 w2 w3 w4 : Vec F S1x1x128x256 e) (w : Fin 5 → Vec F S1x1x128x256 e)
    (e0 : w0 = w 0) (e1 : w1 = w 1) (e2 : w2 = w 2) (e3 : w3 = w 3) (e4 : w4 = w 4) :
    v.read (Elt F) (v.writes (Elt F) f [⟨Rect.unit (s := S1x5x128x256) ![0, 4, 0, 0] S1x1x128x256.size inb_S1x5x128x256_S1x1x128x256_0_4_0_0, w4⟩, ⟨Rect.unit (s := S1x5x128x256) ![0, 3, 0, 0] S1x1x128x256.size inb_S1x5x128x256_S1x1x128x256_0_3_0_0, w3⟩, ⟨Rect.unit (s := S1x5x128x256) ![0, 2, 0, 0] S1x1x128x256.size inb_S1x5x128x256_S1x1x128x256_0_2_0_0, w2⟩, ⟨Rect.unit (s := S1x5x128x256) ![0, 1, 0, 0] S1x1x128x256.size inb_S1x5x128x256_S1x1x128x256_0_1_0_0, w1⟩, ⟨Rect.unit (s := S1x5x128x256) ![0, 0, 0, 0] S1x1x128x256.size inb_S1x5x128x256_S1x1x128x256_0_0_0_0, w0⟩]) = headsT w := by
  have a0 := View.read_writes_cons_put v f inb_S1x5x128x256_S1x1x128x256_0_0_0_0 w0 [] rfl
  have a1 := View.read_writes_cons_put v f inb_S1x5x128x256_S1x1x128x256_0_1_0_0 w1 [⟨Rect.unit (s := S1x5x128x256) ![0, 0, 0, 0] S1x1x128x256.size inb_S1x5x128x256_S1x1x128x256_0_0_0_0, w0⟩] rfl
  have a2 := View.read_writes_cons_put v f inb_S1x5x128x256_S1x1x128x256_0_2_0_0 w2 [⟨Rect.unit (s := S1x5x128x256) ![0, 1, 0, 0] S1x1x128x256.size inb_S1x5x128x256_S1x1x128x256_0_1_0_0, w1⟩, ⟨Rect.unit (s := S1x5x128x256) ![0, 0, 0, 0] S1x1x128x256.size inb_S1x5x128x256_S1x1x128x256_0_0_0_0, w0⟩] rfl
  have a3 := View.read_writes_cons_put v f inb_S1x5x128x256_S1x1x128x256_0_3_0_0 w3 [⟨Rect.unit (s := S1x5x128x256) ![0, 2, 0, 0] S1x1x128x256.size inb_S1x5x128x256_S1x1x128x256_0_2_0_0, w2⟩, ⟨Rect.unit (s := S1x5x128x256) ![0, 1, 0, 0] S1x1x128x256.size inb_S1x5x128x256_S1x1x128x256_0_1_0_0, w1⟩, ⟨Rect.unit (s := S1x5x128x256) ![0, 0, 0, 0] S1x1x128x256.size inb_S1x5x128x256_S1x1x128x256_0_0_0_0, w0⟩] rfl
  have a4 := View.read_writes_cons_put v f inb_S1x5x128x256_S1x1x128x256_0_4_0_0 w4 [⟨Rect.unit (s := S1x5x128x256) ![0, 3, 0, 0] S1x1x128x256.size inb_S1x5x128x256_S1x1x128x256_0_3_0_0, w3⟩, ⟨Rect.unit (s := S1x5x128x256) ![0, 2, 0, 0] S1x1x128x256.size inb_S1x5x128x256_S1x1x128x256_0_2_0_0, w2⟩, ⟨Rect.unit (s := S1x5x128x256) ![0, 1, 0, 0] S1x1x128x256.size inb_S1x5x128x256_S1x1x128x256_0_1_0_0, w1⟩, ⟨Rect.unit (s := S1x5x128x256) ![0, 0, 0, 0] S1x1x128x256.size inb_S1x5x128x256_S1x1x128x256_0_0_0_0, w0⟩] rfl
  rw [View.writes_nil] at a0
  rw [a0] at a1; rw [a1] at a2; rw [a2] at a3; rw [a3] at a4
  exact a4.trans (headsT_put _ w0 w1 w2 w3 w4 w e0 e1 e2 e3 e4)

theorem rows_read {κ' : Kind} {sp : Space} {e : EltTy} (v : View sig κ' sp S5x16 e) (f : BufTy.Contents (Elt F) v.ty) (w0 w1 w2 w3 w4 : Vec F S1x16 e) (w : Fin 5 → Vec F S1x16 e)
    (e0 : w0 = w 0) (e1 : w1 = w 1) (e2 : w2 = w 2) (e3 : w3 = w 3) (e4 : w4 = w 4) :
    v.read (Elt F) (v.writes (Elt F) f [⟨Rect.unit (s := S5x16) ![4, 0] S1x16.size inb_S5x16_S1x16_4_0, w4⟩, ⟨Rect.unit (s := S5x16) ![3, 0] S1x16.size inb_S5x16_S1x16_3_0, w3⟩, ⟨Rect.unit (s := S5x16) ![2, 0] S1x16.size inb_S5x16_S1x16_2_0, w2⟩, ⟨Rect.unit (s := S5x16) ![1, 0] S1x16.size inb_S5x16_S1x16_1_0, w1⟩, ⟨Rect.unit (s := S5x16) ![0, 0] S1x16.size inb_S5x16_S1x16_0_0, w0⟩]) = rows w := by
  have a0 := View.read_writes_cons_put v f inb_S5x16_S1x16_0_0 w0 [] rfl
  have a1 := View.read_writes_cons_put v f inb_S5x16_S1x16_1_0 w1 [⟨Rect.unit (s := S5x16) ![0, 0] S1x16.size inb_S5x16_S1x16_0_0, w0⟩] rfl
  have a2 := View.read_writes_cons_put v f inb_S5x16_S1x16_2_0 w2 [⟨Rect.unit (s := S5x16) ![1, 0] S1x16.size inb_S5x16_S1x16_1_0, w1⟩, ⟨Rect.unit (s := S5x16) ![0, 0] S1x16.size inb_S5x16_S1x16_0_0, w0⟩] rfl
  have a3 := View.read_writes_cons_put v f inb_S5x16_S1x16_3_0 w3 [⟨Rect.unit (s := S5x16) ![2, 0] S1x16.size inb_S5x16_S1x16_2_0, w2⟩, ⟨Rect.unit (s := S5x16) ![1, 0] S1x16.size inb_S5x16_S1x16_1_0, w1⟩, ⟨Rect.unit (s := S5x16) ![0, 0] S1x16.size inb_S5x16_S1x16_0_0, w0⟩] rfl
  have a4 := View.read_writes_cons_put v f inb_S5x16_S1x16_4_0 w4 [⟨Rect.unit (s := S5x16) ![3, 0] S1x16.size inb_S5x16_S1x16_3_0, w3⟩, ⟨Rect.unit (s := S5x16) ![2, 0] S1x16.size inb_S5x16_S1x16_2_0, w2⟩, ⟨Rect.unit (s := S5x16) ![1, 0] S1x16.size inb_S5x16_S1x16_1_0, w1⟩, ⟨Rect.unit (s := S5x16) ![0, 0] S1x16.size inb_S5x16_S1x16_0_0, w0⟩] rfl
  rw [View.writes_nil] at a0
  rw [a0] at a1; rw [a1] at a2; rw [a2] at a3; rw [a3] at a4
  exact a4.trans (rows_put _ w0 w1 w2 w3 w4 w e0 e1 e2 e3 e4)

theorem read_cons_row0 {κ' : Kind} {sp : Space} {e : EltTy} (v : View sig κ' sp S5x16 e) (f : BufTy.Contents (Elt F) v.ty) (w : Vec F S1x16 e) (L : List (View.Piece (Elt F) S5x16 e)) :
    v.read (Elt F) (v.writes (Elt F) f (⟨Rect.unit (s := S5x16) ![0, 0] S1x16.size inb_S5x16_S1x16_0_0, w⟩ :: L)) = VecWindow.put (v.read (Elt F) (v.writes (Elt F) f L)) ![0, 0] S1x16.size w :=
  View.read_writes_cons_put v f inb_S5x16_S1x16_0_0 w L rfl
theorem ld_put_row01 (x : Vec F S5x16 .f32) (w : Vec F S1x16 .f32) :
    View.ld (Val := Elt F) (e' := .f32) (VecWindow.put (s := S5x16) x ![0, 0] S1x16.size w) (Rect.unit (s := S5x16) ![1, 0] S1x16.size inb_S5x16_S1x16_1_0) = View.ld x (Rect.unit (s := S5x16) ![1, 0] S1x16.size inb_S5x16_S1x16_1_0) :=
  VecWindow.window_put_of_disjoint (s := S5x16) x ![0, 0] S1x16.size ![1, 0] S1x16.size inb_S5x16_S1x16_1_0 w 0 (.inr (by show 0 + 1 ≤ 1; decide))
theorem ld_put_row02 (x : Vec F S5x16 .f32) (w : Vec F S1x16 .f32) :
    View.ld (Val := Elt F) (e' := .f32) (VecWindow.put (s := S5x16) x ![0, 0] S1x16.size w) (Rect.unit (s := S5x16) ![2, 0] S1x16.size inb_S5x16_S1x16_2_0) = View.ld x (Rect.unit (s := S5x16) ![2, 0] S1x16.size inb_S5x16_S1x16_2_0) :=
  VecWindow.window_put_of_disjoint (s := S5x16) x ![0, 0] S1x16.size ![2, 0] S1x16.size inb_S5x16_S1x16_2_0 w 0 (.inr (by show 0 + 1 ≤ 2; decide))
theorem ld_put_row03 (x : Vec F S5x16 .f32) (w : Vec F S1x16 .f32) :
    View.ld (Val := Elt F) (e' := .f32) (VecWindow.put (s := S5x16) x ![0, 0] S1x16.size w) (Rect.unit (s := S5x16) ![3, 0] S1x16.size inb_S5x16_S1x16_3_0) = View.ld x (Rect.unit (s := S5x16) ![3, 0] S1x16.size inb_S5x16_S1x16_3_0) :=
  VecWindow.window_put_of_disjoint (s := S5x16) x ![0, 0] S1x16.size ![3, 0] S1x16.size inb_S5x16_S1x16_3_0 w 0 (.inr (by show 0 + 1 ≤ 3; decide))
theorem ld_put_row04 (x : Vec F S5x16 .f32) (w : Vec F S1x16 .f32) :
    View.ld (Val := Elt F) (e' := .f32) (VecWindow.put (s := S5x16) x ![0, 0] S1x16.size w) (Rect.unit (s := S5x16) ![4, 0] S1x16.size inb_S5x16_S1x16_4_0) = View.ld x (Rect.unit (s := S5x16) ![4, 0] S1x16.size inb_S5x16_S1x16_4_0) :=
  VecWindow.window_put_of_disjoint (s := S5x16) x ![0, 0] S1x16.size ![4, 0] S1x16.size inb_S5x16_S1x16_4_0 w 0 (.inr (by show 0 + 1 ≤ 4; decide))

theorem read_cons_row1 {κ' : Kind} {sp : Space} {e : EltTy} (v : View sig κ' sp S5x16 e) (f : BufTy.Contents (Elt F) v.ty) (w : Vec F S1x16 e) (L : List (View.Piece (Elt F) S5x16 e)) :
    v.read (Elt F) (v.writes (Elt F) f (⟨Rect.unit (s := S5x16) ![1, 0] S1x16.size inb_S5x16_S1x16_1_0, w⟩ :: L)) = VecWindow.put (v.read (Elt F) (v.writes (Elt F) f L)) ![1, 0] S1x16.size w :=
  View.read_writes_cons_put v f inb_S5x16_S1x16_1_0 w L rfl
theorem ld_put_row12 (x : Vec F S5x16 .f32) (w : Vec F S1x16 .f32) :
    View.ld (Val := Elt F) (e' := .f32) (VecWindow.put (s := S5x16) x ![1, 0] S1x16.size w) (Rect.unit (s := S5x16) ![2, 0] S1x16.size inb_S5x16_S1x16_2_0) = View.ld x (Rect.unit (s := S5x16) ![2, 0] S1x16.size inb_S5x16_S1x16_2_0) :=
  VecWindow.window_put_of_disjoint (s := S5x16) x ![1, 0] S1x16.size ![2, 0] S1x16.size inb_S5x16_S1x16_2_0 w 0 (.inr (by show 1 + 1 ≤ 2; decide))
theorem ld_put_row13 (x : Vec F S5x16 .f32) (w : Vec F S1x16 .f32) :
    View.ld (Val := Elt F) (e' := .f32) (VecWindow.put (s := S5x16) x ![1, 0] S1x16.size w) (Rect.unit (s := S5x16) ![3, 0] S1x16.size inb_S5x16_S1x16_3_0) = View.ld x (Rect.unit (s := S5x16) ![3, 0] S1x16.size inb_S5x16_S1x16_3_0) :=
  VecWindow.window_put_of_disjoint (s := S5x16) x ![1, 0] S1x16.size ![3, 0] S1x16.size inb_S5x16_S1x16_3_0 w 0 (.inr (by show 1 + 1 ≤ 3; decide))
theorem ld_put_row14 (x : Vec F S5x16 .f32) (w : Vec F S1x16 .f32) :
    View.ld (Val := Elt F) (e' := .f32) (VecWindow.put (s := S5x16) x ![1, 0] S1x16.size w) (Rect.unit (s := S5x16) ![4, 0] S1x16.size inb_S5x16_S1x16_4_0) = View.ld x (Rect.unit (s := S5x16) ![4, 0] S1x16.size inb_S5x16_S1x16_4_0) :=
  VecWindow.window_put_of_disjoint (s := S5x16) x ![1, 0] S1x16.size ![4, 0] S1x16.size inb_S5x16_S1x16_4_0 w 0 (.inr (by show 1 + 1 ≤ 4; decide))

theorem read_cons_row2 {κ' : Kind} {sp : Space} {e : EltTy} (v : View sig κ' sp S5x16 e) (f : BufTy.Contents (Elt F) v.ty) (w : Vec F S1x16 e) (L : List (View.Piece (Elt F) S5x16 e)) :
    v.read (Elt F) (v.writes (Elt F) f (⟨Rect.unit (s := S5x16) ![2, 0] S1x16.size inb_S5x16_S1x16_2_0, w⟩ :: L)) = VecWindow.put (v.read (Elt F) (v.writes (Elt F) f L)) ![2, 0] S1x16.size w :=
  View.read_writes_cons_put v f inb_S5x16_S1x16_2_0 w L rfl
theorem ld_put_row23 (x : Vec F S5x16 .f32) (w : Vec F S1x16 .f32) :
    View.ld (Val := Elt F) (e' := .f32) (VecWindow.put (s := S5x16) x ![2, 0] S1x16.size w) (Rect.unit (s := S5x16) ![3, 0] S1x16.size inb_S5x16_S1x16_3_0) = View.ld x (Rect.unit (s := S5x16) ![3, 0] S1x16.size inb_S5x16_S1x16_3_0) :=
  VecWindow.window_put_of_disjoint (s := S5x16) x ![2, 0] S1x16.size ![3, 0] S1x16.size inb_S5x16_S1x16_3_0 w 0 (.inr (by show 2 + 1 ≤ 3; decide))
theorem ld_put_row24 (x : Vec F S5x16 .f32) (w : Vec F S1x16 .f32) :
    View.ld (Val := Elt F) (e' := .f32) (VecWindow.put (s := S5x16) x ![2, 0] S1x16.size w) (Rect.unit (s := S5x16) ![4, 0] S1x16.size inb_S5x16_S1x16_4_0) = View.ld x (Rect.unit (s := S5x16) ![4, 0] S1x16.size inb_S5x16_S1x16_4_0) :=
  VecWindow.window_put_of_disjoint (s := S5x16) x ![2, 0] S1x16.size ![4, 0] S1x16.size inb_S5x16_S1x16_4_0 w 0 (.inr (by show 2 + 1 ≤ 4; decide))

theorem read_cons_row3 {κ' : Kind} {sp : Space} {e : EltTy} (v : View sig κ' sp S5x16 e) (f : BufTy.Contents (Elt F) v.ty) (w : Vec F S1x16 e) (L : List (View.Piece (Elt F) S5x16 e)) :
    v.read (Elt F) (v.writes (Elt F) f (⟨Rect.unit (s := S5x16) ![3, 0] S1x16.size inb_S5x16_S1x16_3_0, w⟩ :: L)) = VecWindow.put (v.read (Elt F) (v.writes (Elt F) f L)) ![3, 0] S1x16.size w :=
  View.read_writes_cons_put v f inb_S5x16_S1x16_3_0 w L rfl
theorem ld_put_row34 (x : Vec F S5x16 .f32) (w : Vec F S1x16 .f32) :
    View.ld (Val := Elt F) (e' := .f32) (VecWindow.put (s := S5x16) x ![3, 0] S1x16.size w) (Rect.unit (s := S5x16) ![4, 0] S1x16.size inb_S5x16_S1x16_4_0) = View.ld x (Rect.unit (s := S5x16) ![4, 0] S1x16.size inb_S5x16_S1x16_4_0) :=
  VecWindow.window_put_of_disjoint (s := S5x16) x ![3, 0] S1x16.size ![4, 0] S1x16.size inb_S5x16_S1x16_4_0 w 0 (.inr (by show 3 + 1 ≤ 4; decide))

end Cert.KernelIdeal.Gen

end
-- ==== Proof.PrepIdeal.lean ====
/-
  The first call's body at a point: what it leaves in its windows.
-/
module

public import proofs.«01_k».proof.Proof.HeadsIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 6400000 in
/-- The body at a point. -/
theorem body0 (c : Dev nD) (i : grid0.Coords) (arg1 : Memref sig .tc .vmem S1x5x256x128 .bf16) (harg1 : arg1.IsWhole) (arg2 : Memref sig .tc .vmem S1x5x256x128 .bf16) (harg2 : arg2.IsWhole) (arg3 : Memref sig .tc .vmem S5x16x256 .f32) (harg3 : arg3.IsWhole) (arg4 : Memref sig .tc .vmem S1x5x256x128 .fp8e5m2) (harg4 : arg4.IsWhole) (arg5 : Memref sig .tc .vmem S5x16 .f32) (harg5 : arg5.IsWhole) (arg6 : Memref sig .tc .vmem S1x5x128x256 .bf16) (harg6 : arg6.IsWhole) (arg7 : Memref sig .tc .vmem S1x5x256x128 .f32) (harg7 : arg7.IsWhole) (arg8 : Memref sig .tc .vmem S1x5x256x128 .f32) (harg8 : arg8.IsWhole) (x1 : Vec F S1x5x256x128 .bf16) (x2 : Vec F S1x5x256x128 .bf16) (x3 : Vec F S5x16x256 .f32) (y5 : Vec F S5x16 .f32) (E : Set ℕ) (K : PUnit → sProp 𝕄) :
        iprop(owns (c : Thread nD τ) arg1 fullShare x1 ∗ owns (c : Thread nD τ) arg2 fullShare x2 ∗ owns (c : Thread nD τ) arg3 fullShare x3 ∗ (∃ d, owns (c : Thread nD τ) arg4 fullShare d) ∗ owns (c : Thread nD τ) arg5 fullShare y5 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x1 ∗ owns (c : Thread nD τ) arg2 fullShare x2 ∗ owns (c : Thread nD τ) arg3 fullShare x3 ∗ owns (c : Thread nD τ) arg4 fullShare (codesBlk x1) ∗ owns (c : Thread nD τ) arg5 fullShare (scalesBlk i x1 y5) ∗ owns (c : Thread nD τ) arg6 fullShare (dotBlk x1) ∗ owns (c : Thread nD τ) arg7 fullShare (lse2Blk i x3) ∗ owns (c : Thread nD τ) arg8 fullShare (deltaBlk x1 x2)) -∗ K ⟨⟩))
          ⊢ wp frame (wpE (defs₀ (F := F)) Variants.none c none) E (cc0_quantise_grad i arg1 harg1 arg2 harg2 arg3 harg3 arg4 harg4 arg5 harg5 arg6 harg6 arg7 harg7 arg8 harg8) K := by
  simp only [cc0_quantise_grad_eq_skeleton]; unfold cc0_quantise_grad_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f1, %hf1, H1⟩, ⟨%f2, %hf2, H2⟩, ⟨%f3, %hf3, H3⟩, ⟨%d4, %f4, -, H4⟩, ⟨%f5, %hf5, H5⟩, ⟨%d6, %f6, -, H6⟩, ⟨%d7, %f7, -, H7⟩, ⟨%d8, %f8, -, H8⟩, Hk⟩
  obtain rfl := harg1.eq_unread hf1; obtain rfl := harg2.eq_unread hf2; obtain rfl := harg3.eq_unread hf3; obtain rfl := harg5.eq_unread hf5
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    refine heads_read _ _ _ _ _ _ _ _ ?_ ?_ ?_ ?_ ?_
    · sl_unfold_run_names; simp only [View.readAt_eq_ld, harg1.read_unread]; exact Eq.trans (by rfl) (congrArg codesOf (ld_head0 x1))
    · sl_unfold_run_names; simp only [View.readAt_eq_ld, harg1.read_unread]; exact Eq.trans (by rfl) (congrArg codesOf (ld_head1 x1))
    · sl_unfold_run_names; simp only [View.readAt_eq_ld, harg1.read_unread]; exact Eq.trans (by rfl) (congrArg codesOf (ld_head2 x1))
    · sl_unfold_run_names; simp only [View.readAt_eq_ld, harg1.read_unread]; exact Eq.trans (by rfl) (congrArg codesOf (ld_head3 x1))
    · sl_unfold_run_names; simp only [View.readAt_eq_ld, harg1.read_unread]; exact Eq.trans (by rfl) (congrArg codesOf (ld_head4 x1))
  isplitl [H5]
  · iexists _; isplitr; swap; · iexact H5
    ipureintro
    refine rows_read _ _ _ _ _ _ _ _ ?_ ?_ ?_ ?_ ?_
    · refine Eq.trans (congrArg (k0_pay13 (BitVec.ofNat 32 (i 0).val) (body0.sl.r_1 c arg1 harg1 x1)) (show _ = scaleRow y5 0 from ?_)) ?_
      · rw [View.readAt_eq_ld, harg5.read_unread]; exact ld_row0 y5
      sl_unfold_run_names; simp only [View.readAt_eq_ld, harg1.read_unread]; exact Eq.trans (by rfl) (congrArg (fun s => rowStep i s (scaleRow y5 0)) (ld_head0 x1))
    · refine Eq.trans (congrArg (k0_pay25 (BitVec.ofNat 32 (i 0).val) (body0.sl.r_6 c arg1 harg1 x1)) (show body0.sl.v178 c arg5 harg5 y5 = scaleRow y5 1 from by unfold body0.sl.v178; rw [View.readAt_eq_ld, harg5.read_unread]; exact ld_row1 y5)) ?_
      sl_unfold_run_names; simp only [View.readAt_eq_ld, harg1.read_unread]; exact Eq.trans (by rfl) (congrArg (fun s => rowStep i s (scaleRow y5 1)) (ld_head1 x1))
    · refine Eq.trans (congrArg (k0_pay38 (BitVec.ofNat 32 (i 0).val) (body0.sl.r_10 c arg1 harg1 x1)) (show body0.sl.v269 c arg5 harg5 y5 = scaleRow y5 2 from by unfold body0.sl.v269; rw [View.readAt_eq_ld, harg5.read_unread]; exact ld_row2 y5)) ?_
      sl_unfold_run_names; simp only [View.readAt_eq_ld, harg1.read_unread]; exact Eq.trans (by rfl) (congrArg (fun s => rowStep i s (scaleRow y5 2)) (ld_head2 x1))
    · refine Eq.trans (congrArg (k0_pay51 (BitVec.ofNat 32 (i 0).val) (body0.sl.r_15 c arg1 harg1 x1)) (show body0.sl.v360 c arg5 harg5 y5 = scaleRow y5 3 from by unfold body0.sl.v360; rw [View.readAt_eq_ld, harg5.read_unread]; exact ld_row3 y5)) ?_
      sl_unfold_run_names; simp only [View.readAt_eq_ld, harg1.read_unread]; exact Eq.trans (by rfl) (congrArg (fun s => rowStep i s (scaleRow y5 3)) (ld_head3 x1))
    · refine Eq.trans (congrArg (k0_pay1 (BitVec.ofNat 32 (i 0).val) (body0.sl.r_22 c arg1 harg1 x1) body0.sl.v448) (show body0.sl.v451 c arg5 harg5 y5 = scaleRow y5 4 from by unfold body0.sl.v451; rw [View.readAt_eq_ld, harg5.read_unread]; exact ld_row4 y5)) ?_
      sl_unfold_run_names; simp only [View.readAt_eq_ld, harg1.read_unread]; exact Eq.trans (by rfl) (congrArg (fun s => rowStep i s (scaleRow y5 4)) (ld_head4 x1))
  isplitl [H6]
  · iexists _; isplitr; swap; · iexact H6
    ipureintro
    refine headsT_read _ _ _ _ _ _ _ _ ?_ ?_ ?_ ?_ ?_
    · sl_unfold_run_names; simp only [View.readAt_eq_ld, harg1.read_unread]; exact Eq.trans (by rfl) (congrArg dotOf (ld_head0 x1))
    · sl_unfold_run_names; simp only [View.readAt_eq_ld, harg1.read_unread]; exact Eq.trans (by rfl) (congrArg dotOf (ld_head1 x1))
    · sl_unfold_run_names; simp only [View.readAt_eq_ld, harg1.read_unread]; exact Eq.trans (by rfl) (congrArg dotOf (ld_head2 x1))
    · sl_unfold_run_names; simp only [View.readAt_eq_ld, harg1.read_unread]; exact Eq.trans (by rfl) (congrArg dotOf (ld_head3 x1))
    · sl_unfold_run_names; simp only [View.readAt_eq_ld, harg1.read_unread]; exact Eq.trans (by rfl) (congrArg dotOf (ld_head4 x1))
  isplitl [H7]
  · iexists _; isplitr; swap; · iexact H7
    ipureintro
    refine heads_read _ _ _ _ _ _ _ _ ?_ ?_ ?_ ?_ ?_
    · sl_unfold_run_names; simp only [View.readAt_eq_ld, harg3.read_unread]; exact Eq.trans (by rfl) (congrArg lse2Of (ld_lse0 x3 i))
    · sl_unfold_run_names; simp only [View.readAt_eq_ld, harg3.read_unread]; exact Eq.trans (by rfl) (congrArg lse2Of (ld_lse1 x3 i))
    · sl_unfold_run_names; simp only [View.readAt_eq_ld, harg3.read_unread]; exact Eq.trans (by rfl) (congrArg lse2Of (ld_lse2 x3 i))
    · sl_unfold_run_names; simp only [View.readAt_eq_ld, harg3.read_unread]; exact Eq.trans (by rfl) (congrArg lse2Of (ld_lse3 x3 i))
    · sl_unfold_run_names; simp only [View.readAt_eq_ld, harg3.read_unread]; exact Eq.trans (by rfl) (congrArg lse2Of (ld_lse4 x3 i))
  iexists _; isplitr; swap; · iexact H8
  ipureintro
  refine heads_read _ _ _ _ _ _ _ _ ?_ ?_ ?_ ?_ ?_
  · sl_unfold_run_names; simp only [View.readAt_eq_ld, harg1.read_unread, harg2.read_unread]; exact Eq.trans (by rfl) (congrArg₂ deltaOf (ld_head0 x1) (ld_head0 x2))
  · sl_unfold_run_names; simp only [View.readAt_eq_ld, harg1.read_unread, harg2.read_unread]; exact Eq.trans (by rfl) (congrArg₂ deltaOf (ld_head1 x1) (ld_head1 x2))
  · sl_unfold_run_names; simp only [View.readAt_eq_ld, harg1.read_unread, harg2.read_unread]; exact Eq.trans (by rfl) (congrArg₂ deltaOf (ld_head2 x1) (ld_head2 x2))
  · sl_unfold_run_names; simp only [View.readAt_eq_ld, harg1.read_unread, harg2.read_unread]; exact Eq.trans (by rfl) (congrArg₂ deltaOf (ld_head3 x1) (ld_head3 x2))
  · sl_unfold_run_names; simp only [View.readAt_eq_ld, harg1.read_unread, harg2.read_unread]; exact Eq.trans (by rfl) (congrArg₂ deltaOf (ld_head4 x1) (ld_head4 x2))

end Cert.KernelIdeal.Gen

end
-- ==== Proof.Region0Ideal.lean ====
/-
  The first call over the whole grid: what every point leaves in its windows, and the body's obligation there. The window of
  the scales is one block which the points fill lane by lane, so what a point finds in it is known only of the lanes filled before.
-/
module

public import proofs.«01_k».proof.Proof.PrepIdeal
public import proofs.«01_k».proof.Proof.Gen.KernelIdeal.Launch
public import Idealize.ShloMosaic.Lib.Pipeline.FrameBody
public import Idealize.ShloMosaic.Lib.Pipeline.DatRel
public import Idealize.ShloMosaic.Lib.Pipeline.ArrRel
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → Valuation τ sig (Elt F))

/-- The block window `w` reads at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem coords0_0 (t : Fin cfg0.N) : (grid0.coords t 0).val = t.val := by
  have h : t.val < 16 := lt_of_lt_of_eq t.isLt (show cfg0.N = 16 from N_0)
  rw [show (grid0.coords t 0).val = t.val / 1 % 16 from Pipeline.Grid.coords_val t 0 (by decide) rfl]; omega

/-- The one position of a single scale. -/
def at00 : S1x1.Idx := fun a => match a with | ⟨0, _⟩ => ⟨0, Nat.one_pos⟩ | ⟨1, _⟩ => ⟨0, Nat.one_pos⟩

/-- Point `n` of the grid. -/
def pt0 (n : Fin 16) : Fin cfg0.N := ⟨n.val, lt_of_lt_of_eq n.isLt (show 16 = cfg0.N from N_0.symm)⟩
/-- All the scales: lane `n` of row `h` is the scale of head `h` of sequence `n`. -/
def scales0 (c : Dev nD) : Vec F S5x16 .f32 := fun y => scaleOf (headOf (iblk0 V c 0 (pt0 (y 1))) (y 0)) at00

/-- A point writes its own lane and keeps the others. -/
theorem rowStep_apply (i : grid0.Coords) (x : Vec F S1x1x256x128 .bf16) (s : Vec F S1x16 .f32) (y : S1x16.Idx) :
    rowStep i x s y = if (y 1).val = (i 0).val then scaleOf x at00 else s y := by
  have hy : (y 1).val < 16 := (y 1).isLt
  have hi : (i 0).val < 16 := (i 0).isLt
  have hd : ([1] : List (Fin 2)).foldl (fun n a => n * S1x16.size a + (y a).val) 0 = (y 1).val := by
    show 0 * 16 + (y 1).val = _; omega
  unfold rowStep k0_pay13
  rw [WordCmp.select_at, WordCmp.cmpi_at, WordCmp.iota_at, WordCmp.broadcast_at, hd, shapeCast_self, shapeCast_self,
    WordCmp.cmpi_eq_ofNat (by omega) (by omega), WordCmp.select_decide]
  exact congrArg (fun z => if (y 1).val = (i 0).val then z else s y) (congrArg (scaleOf x) (funext fun a => by
    match a with
    | ⟨0, _⟩ => exact Subsingleton.elim (α := Fin 1) _ _
    | ⟨1, _⟩ => exact Subsingleton.elim (α := Fin 1) _ _))

theorem scalesBlk_apply (i : grid0.Coords) (x : Vec F S1x5x256x128 .bf16) (s : Vec F S5x16 .f32) (y : S5x16.Idx) :
    scalesBlk i x s y = if (y 1).val = (i 0).val then scaleOf (headOf x (y 0)) at00 else s y := by
  refine (rowStep_apply i (headOf x (y 0)) (scaleRow s (y 0)) _).trans ?_
  refine congrArg (fun z => if (y 1).val = (i 0).val then scaleOf (headOf x (y 0)) at00 else z) (congrArg s (funext fun a => ?_))
  match a with
  | ⟨0, _⟩ => rfl
  | ⟨1, _⟩ => rfl

/-- The call's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => codesBlk (iblk0 V c 0 t)
    | ⟨4, _⟩ => scales0 V c
    | ⟨5, _⟩ => dotBlk (iblk0 V c 0 t)
    | ⟨6, _⟩ => lse2Blk (grid0.coords t) (iblk0 V c 2 t)
    | ⟨7, _⟩ => deltaBlk (iblk0 V c 0 t) (iblk0 V c 1 t)
  Φ t := Pipeline.scopedRest spec0 c
  q _ := fullShare
  owed _ := 0

/-- The window known only in part. -/
def fgt0 : Fin cfg0.W → Bool := fun w => decide (w = 4)
/-- What is known of it: the lanes up to the point. -/
def known0 (c : Dev nD) (t : Fin cfg0.N) (X : Vec F S5x16 .f32) : Prop := ∀ y : S5x16.Idx, (y 1).val ≤ t.val → X y = scales0 V c y
def rel0 (c : Dev nD) (w : Fin cfg0.W) (t : Fin cfg0.N) : ((cfg0.win w).block.Idx → Elt F (cfg0.win w).elt) → Prop :=
  match w with
  | ⟨4, _⟩ => fun X => known0 V c t X
  | ⟨0, _⟩ | ⟨1, _⟩ | ⟨2, _⟩ | ⟨3, _⟩ | ⟨5, _⟩ | ⟨6, _⟩ | ⟨7, _⟩ => fun _ => True

theorem A0_eq (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = codesBlk (iblk0 V c 0 t) := by dsimp only [dat0]
theorem after0_4 (c : Dev nD) (t : Fin cfg0.N) : (dat0 V c).after 4 t = scales0 V c := by dsimp only [dat0]
theorem after0_5 (c : Dev nD) (t : Fin cfg0.N) : (dat0 V c).after 5 t = dotBlk (iblk0 V c 0 t) := by dsimp only [dat0]
theorem after0_6 (c : Dev nD) (t : Fin cfg0.N) : (dat0 V c).after 6 t = lse2Blk (grid0.coords t) (iblk0 V c 2 t) := by dsimp only [dat0]
theorem after0_7 (c : Dev nD) (t : Fin cfg0.N) : (dat0 V c).after 7 t = deltaBlk (iblk0 V c 0 t) (iblk0 V c 1 t) := by dsimp only [dat0]
theorem before0_0 (c : Dev nD) (t : Fin cfg0.N) (d) : (dat0 V c).before 0 t d = iblk0 V c 0 t := before0_0_of V (dat0 V c) (A0_eq V c 0) (after0_0 V c) t d
theorem before0_1 (c : Dev nD) (t : Fin cfg0.N) (d) : (dat0 V c).before 1 t d = iblk0 V c 1 t := before0_1_of V (dat0 V c) (A0_eq V c 1) (after0_1 V c) t d
theorem before0_2 (c : Dev nD) (t : Fin cfg0.N) (d) : (dat0 V c).before 2 t d = iblk0 V c 2 t := before0_2_of V (dat0 V c) (A0_eq V c 2) (after0_2 V c) t d

/-- The relational data of the call. -/
abbrev rdat0 (c : Dev nD) := (dat0 V c).toRRel fgt0 (rel0 V c)

theorem finds0_4 (c : Dev nD) (t : Fin cfg0.N) (Y) (h : (rdat0 V c).Finds 4 t Y) : ∀ y : S5x16.Idx, (y 1).val < t.val → Y y = scales0 V c y := fun y hy => by
  have hN : t.val < 16 := lt_of_lt_of_eq t.isLt (show cfg0.N = 16 from N_0)
  have h0 : 0 < t.val := by omega
  rcases ((rdat0 V c).finds_of_pos (w := 4) (t := t) (by rfl) (by omega) Y).mp h with hf | hl
  · exact absurd ((flush0_4 _).mp hf) (by show ¬ (t.val - 1) % 16 = 15; omega)
  · exact (Dat.toRRel_leaves (dat0 V c) (fgt := fgt0) (Rl := rel0 V c) (w := 4) rfl hl : known0 V c _ Y) y (by show (y 1).val ≤ t.val - 1; omega)

theorem step0_4 (c : Dev nD) (t : Fin cfg0.N) (Y : Vec F S5x16 .f32) (h : ∀ y : S5x16.Idx, (y 1).val < t.val → Y y = scales0 V c y) :
    known0 V c t (scalesBlk (grid0.coords t) (iblk0 V c 0 t) Y) := fun y hy => by
  rw [scalesBlk_apply, coords0_0]
  by_cases hl : (y 1).val = t.val
  · rw [if_pos hl]; unfold scales0
    rw [show pt0 (y 1) = t from Fin.ext hl]
  · rw [if_neg hl]; exact h y (by omega)

def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ Y, ⌜(rdat0 V c).Finds 4 t Y⌝ ∗ owns (c : Thread nD τ) (win0_4.stage (cfg0.slots t 4)) fullShare Y)
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d)))
def bodyPost0 (c : Dev nD) (t : Fin cfg0.N) : sProp 𝕄 :=
  iprop((dat0 V c).Φ t.succ ∗ (dat0 V c).owesAt () t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t)
    ∗ owns (c : Thread nD τ) (win0_3.stage (cfg0.slots t 3)) fullShare ((dat0 V c).after 3 t)
    ∗ (∃ X, ⌜rel0 V c 4 t X⌝ ∗ owns (c : Thread nD τ) (win0_4.stage (cfg0.slots t 4)) fullShare X)
    ∗ owns (c : Thread nD τ) (win0_5.stage (cfg0.slots t 5)) fullShare ((dat0 V c).after 5 t)
    ∗ owns (c : Thread nD τ) (win0_6.stage (cfg0.slots t 6)) fullShare ((dat0 V c).after 6 t)
    ∗ owns (c : Thread nD τ) (win0_7.stage (cfg0.slots t 7)) fullShare ((dat0 V c).after 7 t))

set_option maxHeartbeats 3200000 in
/-- The body at any point. -/
theorem sound0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = (dat0 V c).Φ t.castSucc from rfl]
  rw [after0_0, after0_1, after0_2, after0_3, after0_5, after0_6, after0_7]
  iintro ⟨HΦ, Ho, ⟨%d0, H0⟩, ⟨%d1, H1⟩, ⟨%d2, H2⟩, ⟨%d3, H3⟩, ⟨%Y, %hY, H4⟩, ⟨%d5, H5⟩, ⟨%d6, H6⟩, ⟨%d7, H7⟩⟩
  iapply (body0 c (grid0.coords t) _ _ _ _ _ _ _ _ _ _ _ _ _ _ _ _ (iblk0 V c 0 t) (iblk0 V c 1 t) (iblk0 V c 2 t) Y Set.univ _)
  isplitl [H0]; · iexact H0
  isplitl [H1]; · iexact H1
  isplitl [H2]; · iexact H2
  isplitl [H3]; · iexists _; iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iexists _; isplitr; swap; · iexact H4
    ipureintro
    exact step0_4 V c t Y (finds0_4 V c t Y hY)
  isplitl [H5]; · iexact H5
  isplitl [H6]; · iexact H6
  iexact H7

theorem defs₀_row0 (t : Fin cfg0.N) :
    defs₀ (F := F) .tc cfg0.body (cfg0.bodyArgs t (cfg0.slots t)) = bodyAt0 t := by
  unfold defs₀; rw [Defs.onTc_tc]

/-- The body's obligation at every point. -/
theorem obligation0 (c : Dev nD) : (rdat0 V c).BodyObligation (defs₀ (F := F)) Variants.none () Set.univ :=
  Pipeline.BodyObligationRel.toRRel (dat0 V c) (fun t => by
    rw [bigSep_W0, bigSep_W0, defs₀_row0]
    exact triple_restated (sound0 V c t) rfl .rfl fun _ => .rfl)

/-- What the arrays hold at the end is what the exact data names. -/
theorem arrAt0 (c : Dev nD) (w : Fin cfg0.W) (G) (h : (rdat0 V c).ArrAt w cfg0.N G) : G = (dat0 V c).arrAt w cfg0.N := by
  by_cases hw : fgt0 w = true
  · obtain ⟨X, hX, hG⟩ := h.exists_exact
    refine hG (dat0 V c).after fun u hu hf => ?_
    obtain rfl : w = 4 := of_decide_eq_true hw
    have h15 : u.val % 16 = 15 := (flush0_4 u).mp hf
    have hk : known0 V c u (X u) := Dat.toRRel_leaves (dat0 V c) (fgt := fgt0) (Rl := rel0 V c) (w := 4) rfl (hX u hu hf)
    rw [after0_4]
    exact funext fun y => (hk y (by have : (y 1).val < 16 := (y 1).isLt; omega)).symm
  · have hw' : fgt0 w = false := by simpa using hw
    exact (dat0 V c).toR_arrAt w cfg0.N G (((dat0 V c).toR.override_arrAt (by simp only [hw']) cfg0.N G).mp h)

theorem arraysAt0 (c : Dev nD) : (rdat0 V c).arraysAt cfg0.N ⊢ ((dat0 V c).arrays ((dat0 V c).arrAt · cfg0.N) : sProp 𝕄) :=
  Idealize.SL.BI.bigSep_mono fun w _ =>
    show iprop(∃ G, ⌜(rdat0 V c).ArrAt w cfg0.N G⌝ ∗ (cfg0.win w).arr.view.loc (c.tc : Thread nD τ) ↦[(cfg0.win w).arr.view.set]{(rdat0 V c).share w} G)
        ⊢ ((cfg0.win w).arr.view.loc (c.tc : Thread nD τ) ↦[(cfg0.win w).arr.view.set]{(dat0 V c).share w} (dat0 V c).arrAt w cfg0.N : sProp 𝕄) from by
      iintro ⟨%G, %hG, H⟩; rw [arrAt0 V c w G hG]; iexact H

end Cert.KernelIdeal.Gen
-- ==== Proof.TripIdeal.lean ====
/-
  One trip of the second call's loop over the chunks of 512 keys of a tile, and the loop: what it leaves in the two
  gradient blocks (dk, dv) and in the transposed query gradient it accumulates.
-/
module

public import proofs.«01_k».proof.Proof.Gen.KernelIdeal.Loops
public import proofs.«01_k».proof.Proof.Gen.KernelIdeal.Points
public import Idealize.ShloMosaic.Lib.VecWindow
public import Idealize.ShloMosaic.Lib.Pipeline.Value
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What a chunk is computed from: the tile's blocks and the words the body read before the loop. -/
structure Blk (F : FTy → Type) where
  (k : Vec F S1x1x4096x128 .fp8e4m3) (ks : Vec F S1x16x16384 .f32) (v : Vec F S1x1x4096x128 .fp8e4m3) (vs : Vec F S1x16x16384 .f32)
  (dos : Elt F .f32) (q : Vec F S1x256x128 .bf16) (qt : Vec F S1x128x256 .bf16) (codes : Vec F S1x1x256x128 .fp8e5m2)
  (dot : Vec F S1x1x128x256 .bf16) (lse : Vec F S1x1x256x128 .f32) (del : Vec F S1x1x256x128 .f32)

/-- Chunk `k`'s rows of a tile. -/
abbrev rowsOf (k : Fin k1_t1_loop.trips) : Rect S1x1x4096x128 := Rect.unit (s := S1x1x4096x128) (k1_off3 k) S1x1x512x128.size (k1_off3_inb k)
/-- Chunk `k`'s keys in the scales of a head. -/
abbrev keysOf (i : grid1.Coords) (k : Fin k1_t1_loop.trips) : Rect S1x16x16384 := Rect.unit (s := S1x16x16384) (k1_off2 i k) S1x1x512.size (k1_off2_inb i k)

/-- Chunk `k`'s gradient of the scores, in the narrow type. -/
def dsOf (i : grid1.Coords) (B : Blk F) (k : Fin k1_t1_loop.trips) : FVec F S256x512 .bf16 :=
  k1_pay3 B.dos (k1_pay6 B.q) (k1_pay7 B.codes) (k1_pay9 B.lse) (k1_pay10 B.del) (View.ld B.ks (keysOf i k)) (View.ld B.vs (keysOf i k)) (View.ld B.k (rowsOf k)) (View.ld B.v (rowsOf k))
/-- Chunk `k`'s block of dv. -/
def dvOf (i : grid1.Coords) (B : Blk F) (k : Fin k1_t1_loop.trips) : Vec F S1x1x512x128 .bf16 :=
  k1_pay11 (k1_pay4 (k1_pay6 B.q) (k1_pay8 B.dot) (k1_pay9 B.lse) (View.ld B.ks (keysOf i k)) (View.ld B.k (rowsOf k)))
/-- Chunk `k`'s block of dk. -/
def dkOf (i : grid1.Coords) (B : Blk F) (k : Fin k1_t1_loop.trips) : Vec F S1x1x512x128 .bf16 := k1_pay12 B.qt (dsOf i B k)
/-- What chunk `k` makes of the transposed query gradient `d`. -/
def dqStep (i : grid1.Coords) (B : Blk F) (k : Fin k1_t1_loop.trips) (d : Vec F S128x256 .f32) : Vec F S128x256 .f32 :=
  k1_pay13 (k1_pay1 (View.ld B.ks (keysOf i k)) (View.ld B.k (rowsOf k))) (dsOf i B k) d

theorem off_zero2 : (![0, 0] : Fin 2 → Nat) = fun _ => 0 := funext fun a => by fin_cases a <;> rfl
theorem off_zero3 : (![0, 0, 0] : Fin 3 → Nat) = fun _ => 0 := funext fun a => by fin_cases a <;> rfl
theorem off_zero4 : (![0, 0, 0, 0] : Fin 4 → Nat) = fun _ => 0 := funext fun a => by fin_cases a <;> rfl

/-- What a trip holds: the blocks it reads at their contents, the blocks it writes at any. -/
abbrev TripRes1 (c : Dev nD) (arg6 : Memref sig .tc .vmem S1x1x4096x128 .fp8e4m3) (arg7 : Memref sig .tc .vmem S1x16x16384 .f32) (arg8 : Memref sig .tc .vmem S1x1x4096x128 .fp8e4m3) (arg9 : Memref sig .tc .vmem S1x16x16384 .f32) (arg16 : Memref sig .tc .vmem S1x1x4096x128 .bf16) (arg17 : Memref sig .tc .vmem S1x1x4096x128 .bf16) (arg18 : Memref sig .tc .vmem S128x256 .f32) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (f_arg16 : BufTy.Contents (Elt F) arg16.view.ty) (f_arg17 : BufTy.Contents (Elt F) arg17.view.ty) (f_arg18 : BufTy.Contents (Elt F) arg18.view.ty) : sProp 𝕄 :=
  iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18))

variable (𝒱 : Variants) (c : Dev nD) (bd : Option 𝒱.V) (i : grid1.Coords) (arg3 : Memref sig .tc .smem S5x16 .f32) (harg3 : arg3.IsWhole) (arg4 : Memref sig .tc .vmem S1x256x128 .bf16) (harg4 : arg4.IsWhole) (arg5 : Memref sig .tc .vmem S1x128x256 .bf16) (harg5 : arg5.IsWhole) (arg6 : Memref sig .tc .vmem S1x1x4096x128 .fp8e4m3) (harg6 : arg6.IsWhole) (arg7 : Memref sig .tc .vmem S1x16x16384 .f32) (harg7 : arg7.IsWhole) (arg8 : Memref sig .tc .vmem S1x1x4096x128 .fp8e4m3) (harg8 : arg8.IsWhole) (arg9 : Memref sig .tc .vmem S1x16x16384 .f32) (harg9 : arg9.IsWhole) (arg10 : Memref sig .tc .vmem S1x1x256x128 .fp8e5m2) (harg10 : arg10.IsWhole) (arg11 : Memref sig .tc .vmem S1x1x128x256 .bf16) (harg11 : arg11.IsWhole) (arg12 : Memref sig .tc .vmem S1x1x256x128 .f32) (harg12 : arg12.IsWhole) (arg13 : Memref sig .tc .vmem S1x1x256x128 .f32) (harg13 : arg13.IsWhole) (arg14 : Memref sig .tc .vmem S1x256x128 .bf16) (harg14 : arg14.IsWhole) (arg15 : Memref sig .tc .vmem S1x1x256x128 .f32) (harg15 : arg15.IsWhole) (arg16 : Memref sig .tc .vmem S1x1x4096x128 .bf16) (harg16 : arg16.IsWhole) (arg17 : Memref sig .tc .vmem S1x1x4096x128 .bf16) (harg17 : arg17.IsWhole) (arg18 : Memref sig .tc .vmem S128x256 .f32) (harg18 : arg18.IsWhole) (arg19 : Memref sig .tc .vmem S256x128 .f32) (harg19 : arg19.IsWhole)
  (arg1 : BitVec 32) (arg2 : BitVec 32) (v5 : Elt F .f32) (v6 : Vec F S1x256x128 .bf16) (v8 : Vec F S1x128x256 .bf16) (v10 : Vec F S1x1x256x128 .fp8e5m2) (v12 : Vec F S1x1x128x256 .bf16) (v14 : Vec F S1x1x256x128 .f32) (v17 : Vec F S1x1x256x128 .f32) (X_arg6 : BufTy.Contents (Elt F) arg6.view.ty) (X_arg7 : BufTy.Contents (Elt F) arg7.view.ty) (X_arg8 : BufTy.Contents (Elt F) arg8.view.ty) (X_arg9 : BufTy.Contents (Elt F) arg9.view.ty)

/-- The blocks a trip reads, of what its memrefs hold. -/
abbrev blkOf : Blk F :=
  ⟨arg6.view.read (Elt F) X_arg6, arg7.view.read (Elt F) X_arg7, arg8.view.read (Elt F) X_arg8, arg9.view.read (Elt F) X_arg9, v5, v6, v8, v10, v12, v14, v17⟩

local notation "𝔹" => blkOf arg6 arg7 arg8 arg9 v5 v6 v8 v10 v12 v14 v17 X_arg6 X_arg7 X_arg8 X_arg9

set_option maxHeartbeats 1600000 in
/-- One trip. -/
theorem trip1 (k : Fin k1_t1_loop.trips) (E : Set ℕ) (f_arg16 : BufTy.Contents (Elt F) arg16.view.ty) (f_arg17 : BufTy.Contents (Elt F) arg17.view.ty) (f_arg18 : BufTy.Contents (Elt F) arg18.view.ty) :
    TripRes1 (F := F) c arg6 arg7 arg8 arg9 arg16 arg17 arg18 X_arg6 X_arg7 X_arg8 X_arg9 f_arg16 f_arg17 f_arg18
      ⊢ wp frame (wpE (defs₀ (F := F)) 𝒱 (c : Thread nD τ) bd) E (k1_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 arg2 v5 v6 v8 v10 v12 v14 v17 k PUnit.unit)
          (fun _ => TripRes1 (F := F) c arg6 arg7 arg8 arg9 arg16 arg17 arg18 X_arg6 X_arg7 X_arg8 X_arg9
            (arg16.view.writes (Elt F) f_arg16 [⟨rowsOf k, dkOf i 𝔹 k⟩]) (arg17.view.writes (Elt F) f_arg17 [⟨rowsOf k, dvOf i 𝔹 k⟩])
            (arg18.view.writes (Elt F) f_arg18 [⟨Rect.unit (s := S128x256) ![0, 0] S128x256.size inb_S128x256_S128x256_0_0, dqStep i 𝔹 k (View.ld (arg18.view.read (Elt F) f_arg18) (Rect.unit (s := S128x256) ![0, 0] S128x256.size inb_S128x256_S128x256_0_0))⟩])) := by
  have hk : k.val < 8 := Nat.lt_of_lt_of_le k.isLt k1_t1_abs.2.1
  unfold k1_t1_body
  iintro ⟨HR_arg6, HR_arg7, HR_arg8, HR_arg9, HW_arg16, HW_arg17, HW_arg18⟩
  sl_exec
  sl_step
  isplitl [HR_arg6]; · iexact HR_arg6
  isplitl [HR_arg7]; · iexact HR_arg7
  isplitl [HR_arg8]; · iexact HR_arg8
  isplitl [HR_arg9]; · iexact HR_arg9
  isplitl [HW_arg16]; · iexact HW_arg16
  isplitl [HW_arg17]; · iexact HW_arg17
  iexact HW_arg18

/-- dk's block after the chunks below `k`, from `x`. -/
def dkAt (i : grid1.Coords) (B : Blk F) (x : Vec F S1x1x4096x128 .bf16) : ℕ → Vec F S1x1x4096x128 .bf16
  | 0 => x
  | k + 1 => if h : k < k1_t1_loop.trips then VecWindow.put (dkAt i B x k) (k1_off3 ⟨k, h⟩) S1x1x512x128.size (dkOf i B ⟨k, h⟩) else dkAt i B x k
/-- dv's block after the chunks below `k`, from `x`. -/
def dvAt (i : grid1.Coords) (B : Blk F) (x : Vec F S1x1x4096x128 .bf16) : ℕ → Vec F S1x1x4096x128 .bf16
  | 0 => x
  | k + 1 => if h : k < k1_t1_loop.trips then VecWindow.put (dvAt i B x k) (k1_off3 ⟨k, h⟩) S1x1x512x128.size (dvOf i B ⟨k, h⟩) else dvAt i B x k
/-- The transposed query gradient after the chunks below `k`, from `d`. -/
def dqAt (i : grid1.Coords) (B : Blk F) (d : Vec F S128x256 .f32) : ℕ → Vec F S128x256 .f32
  | 0 => d
  | k + 1 => if h : k < k1_t1_loop.trips then dqStep i B ⟨k, h⟩ (dqAt i B d k) else dqAt i B d k

theorem dkAt_succ (i : grid1.Coords) (B : Blk F) (x : Vec F S1x1x4096x128 .bf16) (k : Fin k1_t1_loop.trips) :
    dkAt i B x (k.val + 1) = VecWindow.put (dkAt i B x k.val) (k1_off3 k) S1x1x512x128.size (dkOf i B k) := dif_pos k.isLt
theorem dvAt_succ (i : grid1.Coords) (B : Blk F) (x : Vec F S1x1x4096x128 .bf16) (k : Fin k1_t1_loop.trips) :
    dvAt i B x (k.val + 1) = VecWindow.put (dvAt i B x k.val) (k1_off3 k) S1x1x512x128.size (dvOf i B k) := dif_pos k.isLt
theorem dqAt_succ (i : grid1.Coords) (B : Blk F) (d : Vec F S128x256 .f32) (k : Fin k1_t1_loop.trips) :
    dqAt i B d (k.val + 1) = dqStep i B k (dqAt i B d k.val) := dif_pos k.isLt

set_option warn.classDefReducibility false in
/-- The loop by its invariant. -/
@[sl_loop] def loopInv1 (E : Set ℕ) (G_arg16 : BufTy.Contents (Elt F) arg16.view.ty) (G_arg17 : BufTy.Contents (Elt F) arg17.view.ty) (G_arg18 : BufTy.Contents (Elt F) arg18.view.ty) :
    LoopInvTy_k1_t1 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 arg2 v5 v6 v8 v10 v12 v14 v17 where
  inv := fun k _ => iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9)
    ∗ (∃ f, (arg16.view.loc (c : Thread nD τ) ↦[arg16.view.set]{fullShare} f) ∗ ⌜arg16.view.read (Elt F) f = dkAt i 𝔹 (arg16.view.read (Elt F) G_arg16) k⌝)
    ∗ (∃ f, (arg17.view.loc (c : Thread nD τ) ↦[arg17.view.set]{fullShare} f) ∗ ⌜arg17.view.read (Elt F) f = dvAt i 𝔹 (arg17.view.read (Elt F) G_arg17) k⌝)
    ∗ (∃ f, (arg18.view.loc (c : Thread nD τ) ↦[arg18.view.set]{fullShare} f) ∗ ⌜arg18.view.read (Elt F) f = dqAt i 𝔹 (arg18.view.read (Elt F) G_arg18) k⌝))
  step k acc := by
    iintro ⟨HR_arg6, HR_arg7, HR_arg8, HR_arg9, ⟨%f_arg16, HW_arg16, %h_arg16⟩, ⟨%f_arg17, HW_arg17, %h_arg17⟩, ⟨%f_arg18, HW_arg18, %h_arg18⟩⟩
    iapply (wp_wand_r Idealize.ShloMosaic.frame (wpE (defs₀ (F := F)) 𝒱 (c : Thread nD τ) bd) E)
    isplitl [HR_arg6 HR_arg7 HR_arg8 HR_arg9 HW_arg16 HW_arg17 HW_arg18]
    · iapply (trip1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 arg2 v5 v6 v8 v10 v12 v14 v17 X_arg6 X_arg7 X_arg8 X_arg9 k E f_arg16 f_arg17 f_arg18)
      isplitl [HR_arg6]; · iexact HR_arg6
      isplitl [HR_arg7]; · iexact HR_arg7
      isplitl [HR_arg8]; · iexact HR_arg8
      isplitl [HR_arg9]; · iexact HR_arg9
      isplitl [HW_arg16]; · iexact HW_arg16
      isplitl [HW_arg17]; · iexact HW_arg17
      iexact HW_arg18
    · iintro %_ ⟨HR_arg6, HR_arg7, HR_arg8, HR_arg9, HW_arg16, HW_arg17, HW_arg18⟩
      isplitl [HR_arg6]; · iexact HR_arg6
      isplitl [HR_arg7]; · iexact HR_arg7
      isplitl [HR_arg8]; · iexact HR_arg8
      isplitl [HR_arg9]; · iexact HR_arg9
      isplitl [HW_arg16]
      · iexists _; isplitl [HW_arg16]; · iexact HW_arg16
        ipureintro
        refine (View.read_writes_cons_put arg16.view _ _ _ [] rfl).trans ?_
        rw [View.writes_nil, h_arg16]; exact (dkAt_succ i 𝔹 _ k).symm
      isplitl [HW_arg17]
      · iexists _; isplitl [HW_arg17]; · iexact HW_arg17
        ipureintro
        refine (View.read_writes_cons_put arg17.view _ _ _ [] rfl).trans ?_
        rw [View.writes_nil, h_arg17]; exact (dvAt_succ i 𝔹 _ k).symm
      iexists _; isplitl [HW_arg18]; · iexact HW_arg18
      ipureintro
      rw [show arg18.view.read (Elt F) (arg18.view.writes (Elt F) f_arg18 [⟨Rect.unit (s := S128x256) ![0, 0] S128x256.size inb_S128x256_S128x256_0_0, dqStep i 𝔹 k (View.ld (arg18.view.read (Elt F) f_arg18) (Rect.unit (s := S128x256) ![0, 0] S128x256.size inb_S128x256_S128x256_0_0))⟩])
          = dqStep i 𝔹 k (View.ld (arg18.view.read (Elt F) f_arg18) (Rect.unit (s := S128x256) ![0, 0] S128x256.size inb_S128x256_S128x256_0_0)) from View.read_writes_full arg18.view _ _ _ _,
        View.ld_unit_zero (S := S128x256) off_zero2, h_arg18]
      exact (dqAt_succ i 𝔹 _ k).symm

end Cert.KernelIdeal.Gen

end
-- ==== Proof.TileIdeal.lean ====
/-
  The second call's blocks after a whole tile, by index: a row of dk and of dv is a row of its chunk.
-/
module

public import proofs.«01_k».proof.Proof.TripIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- dk's block of a tile: row `r` is row `r % 512` of chunk `r / 512`. -/
def dkTile (i : grid1.Coords) (B : Blk F) : Vec F S1x1x4096x128 .bf16 := fun y =>
  dkOf i B ⟨(y 2).val / 512, by have h : (y 2).val < 4096 := (y 2).isLt; show _ < 8; omega⟩
    (fun a => match a with
      | ⟨0, _⟩ => ⟨0, Nat.one_pos⟩ | ⟨1, _⟩ => ⟨0, Nat.one_pos⟩ | ⟨2, _⟩ => ⟨(y 2).val % 512, Nat.mod_lt _ (by decide)⟩ | ⟨3, _⟩ => ⟨(y 3).val, (y 3).isLt⟩)

/-- dv's block of a tile: row `r` is row `r % 512` of chunk `r / 512`. -/
def dvTile (i : grid1.Coords) (B : Blk F) : Vec F S1x1x4096x128 .bf16 := fun y =>
  dvOf i B ⟨(y 2).val / 512, by have h : (y 2).val < 4096 := (y 2).isLt; show _ < 8; omega⟩
    (fun a => match a with
      | ⟨0, _⟩ => ⟨0, Nat.one_pos⟩ | ⟨1, _⟩ => ⟨0, Nat.one_pos⟩ | ⟨2, _⟩ => ⟨(y 2).val % 512, Nat.mod_lt _ (by decide)⟩ | ⟨3, _⟩ => ⟨(y 3).val, (y 3).isLt⟩)

/-- The transposed query gradient after a tile. -/
def dqTile (i : grid1.Coords) (B : Blk F) (d : Vec F S128x256 .f32) : Vec F S128x256 .f32 := dqAt i B d 8

theorem dkAt_apply (i : grid1.Coords) (B : Blk F) (x : Vec F S1x1x4096x128 .bf16) (n : ℕ) (hn : n ≤ 8) (y : S1x1x4096x128.Idx) :
    dkAt i B x n y = if (y 2).val < 512 * n then dkTile i B y else x y := by
  have y0 : (y 0).val = 0 := by have h : (y 0).val < 1 := (y 0).isLt; omega
  have y1 : (y 1).val = 0 := by have h : (y 1).val < 1 := (y 1).isLt; omega
  have y3 : (y 3).val < 128 := (y 3).isLt
  induction n with
  | zero => exact (if_neg (by omega)).symm
  | succ n ih =>
    have hk : n < k1_t1_loop.trips := hn
    have ih := ih (by omega)
    rw [show dkAt i B x (n + 1) = _ from dkAt_succ i B x ⟨n, hk⟩]
    unfold VecWindow.put
    by_cases hy : 512 * n ≤ (y 2).val ∧ (y 2).val < 512 * n + 512
    · have h : ∀ a, k1_off3 ⟨n, hk⟩ a ≤ (y a).val ∧ (y a).val < k1_off3 ⟨n, hk⟩ a + S1x1x512x128.size a := by
        rw [k1_off3_eq]; intro a
        match a with
        | ⟨0, _⟩ => exact ⟨Nat.zero_le _, by show (y 0).val < 0 + 1; omega⟩
        | ⟨1, _⟩ => exact ⟨Nat.zero_le _, by show (y 1).val < 0 + 1; omega⟩
        | ⟨2, _⟩ => exact hy
        | ⟨3, _⟩ => exact ⟨Nat.zero_le _, by show (y 3).val < 0 + 128; omega⟩
      rw [dif_pos h, if_pos (by omega)]
      have hq : (y 2).val / 512 = n := by omega
      unfold dkTile
      have hk' : (⟨n, hk⟩ : Fin k1_t1_loop.trips) = ⟨(y 2).val / 512, by rw [hq]; exact hk⟩ := Fin.ext hq.symm
      have hz : Rect.unitLocal (s := S1x1x4096x128) (off := k1_off3 ⟨n, hk⟩) (size := S1x1x512x128.size) y h
          = (fun a => match a with
      | ⟨0, _⟩ => ⟨0, Nat.one_pos⟩ | ⟨1, _⟩ => ⟨0, Nat.one_pos⟩ | ⟨2, _⟩ => ⟨(y 2).val % 512, Nat.mod_lt _ (by decide)⟩ | ⟨3, _⟩ => ⟨(y 3).val, (y 3).isLt⟩ : S1x1x512x128.Idx) := by
        have ho := k1_off3_eq ⟨n, hk⟩
        funext a; apply Fin.ext
        show (y a).val - k1_off3 ⟨n, hk⟩ a = _
        rw [ho]
        match a with
        | ⟨0, _⟩ => show (y 0).val - 0 = 0; omega
        | ⟨1, _⟩ => show (y 1).val - 0 = 0; omega
        | ⟨2, _⟩ => show (y 2).val - 512 * n = (y 2).val % 512; omega
        | ⟨3, _⟩ => show (y 3).val - 0 = (y 3).val; omega
      rw [hz]
      exact congrArg (fun k => dkOf i B k _) hk'
    · have h : ¬ ∀ a, k1_off3 ⟨n, hk⟩ a ≤ (y a).val ∧ (y a).val < k1_off3 ⟨n, hk⟩ a + S1x1x512x128.size a := by
        rw [k1_off3_eq]; exact fun h => hy (h 2)
      rw [dif_neg h, ih]
      by_cases hl : (y 2).val < 512 * n
      · rw [if_pos hl, if_pos (by omega)]
      · rw [if_neg hl, if_neg (by omega)]

/-- The loop leaves the whole block, whatever it held. -/
theorem dkAt_tile (i : grid1.Coords) (B : Blk F) (x : Vec F S1x1x4096x128 .bf16) :
    dkAt i B x (Scf.trips k1_t1_loop.lb k1_t1_loop.ub k1_t1_loop.st) = dkTile i B := funext fun y => by
  rw [show Scf.trips k1_t1_loop.lb k1_t1_loop.ub k1_t1_loop.st = 8 from rfl, dkAt_apply i B x 8 le_rfl y]
  exact if_pos (by have h : (y 2).val < 4096 := (y 2).isLt; omega)

theorem dvAt_apply (i : grid1.Coords) (B : Blk F) (x : Vec F S1x1x4096x128 .bf16) (n : ℕ) (hn : n ≤ 8) (y : S1x1x4096x128.Idx) :
    dvAt i B x n y = if (y 2).val < 512 * n then dvTile i B y else x y := by
  have y0 : (y 0).val = 0 := by have h : (y 0).val < 1 := (y 0).isLt; omega
  have y1 : (y 1).val = 0 := by have h : (y 1).val < 1 := (y 1).isLt; omega
  have y3 : (y 3).val < 128 := (y 3).isLt
  induction n with
  | zero => exact (if_neg (by omega)).symm
  | succ n ih =>
    have hk : n < k1_t1_loop.trips := hn
    have ih := ih (by omega)
    rw [show dvAt i B x (n + 1) = _ from dvAt_succ i B x ⟨n, hk⟩]
    unfold VecWindow.put
    by_cases hy : 512 * n ≤ (y 2).val ∧ (y 2).val < 512 * n + 512
    · have h : ∀ a, k1_off3 ⟨n, hk⟩ a ≤ (y a).val ∧ (y a).val < k1_off3 ⟨n, hk⟩ a + S1x1x512x128.size a := by
        rw [k1_off3_eq]; intro a
        match a with
        | ⟨0, _⟩ => exact ⟨Nat.zero_le _, by show (y 0).val < 0 + 1; omega⟩
        | ⟨1, _⟩ => exact ⟨Nat.zero_le _, by show (y 1).val < 0 + 1; omega⟩
        | ⟨2, _⟩ => exact hy
        | ⟨3, _⟩ => exact ⟨Nat.zero_le _, by show (y 3).val < 0 + 128; omega⟩
      rw [dif_pos h, if_pos (by omega)]
      have hq : (y 2).val / 512 = n := by omega
      unfold dvTile
      have hk' : (⟨n, hk⟩ : Fin k1_t1_loop.trips) = ⟨(y 2).val / 512, by rw [hq]; exact hk⟩ := Fin.ext hq.symm
      have hz : Rect.unitLocal (s := S1x1x4096x128) (off := k1_off3 ⟨n, hk⟩) (size := S1x1x512x128.size) y h
          = (fun a => match a with
      | ⟨0, _⟩ => ⟨0, Nat.one_pos⟩ | ⟨1, _⟩ => ⟨0, Nat.one_pos⟩ | ⟨2, _⟩ => ⟨(y 2).val % 512, Nat.mod_lt _ (by decide)⟩ | ⟨3, _⟩ => ⟨(y 3).val, (y 3).isLt⟩ : S1x1x512x128.Idx) := by
        have ho := k1_off3_eq ⟨n, hk⟩
        funext a; apply Fin.ext
        show (y a).val - k1_off3 ⟨n, hk⟩ a = _
        rw [ho]
        match a with
        | ⟨0, _⟩ => show (y 0).val - 0 = 0; omega
        | ⟨1, _⟩ => show (y 1).val - 0 = 0; omega
        | ⟨2, _⟩ => show (y 2).val - 512 * n = (y 2).val % 512; omega
        | ⟨3, _⟩ => show (y 3).val - 0 = (y 3).val; omega
      rw [hz]
      exact congrArg (fun k => dvOf i B k _) hk'
    · have h : ¬ ∀ a, k1_off3 ⟨n, hk⟩ a ≤ (y a).val ∧ (y a).val < k1_off3 ⟨n, hk⟩ a + S1x1x512x128.size a := by
        rw [k1_off3_eq]; exact fun h => hy (h 2)
      rw [dif_neg h, ih]
      by_cases hl : (y 2).val < 512 * n
      · rw [if_pos hl, if_pos (by omega)]
      · rw [if_neg hl, if_neg (by omega)]

/-- The loop leaves the whole block, whatever it held. -/
theorem dvAt_tile (i : grid1.Coords) (B : Blk F) (x : Vec F S1x1x4096x128 .bf16) :
    dvAt i B x (Scf.trips k1_t1_loop.lb k1_t1_loop.ub k1_t1_loop.st) = dvTile i B := funext fun y => by
  rw [show Scf.trips k1_t1_loop.lb k1_t1_loop.ub k1_t1_loop.st = 8 from rfl, dvAt_apply i B x 8 le_rfl y]
  exact if_pos (by have h : (y 2).val < 4096 := (y 2).isLt; omega)

theorem dqAt_tile (i : grid1.Coords) (B : Blk F) (d : Vec F S128x256 .f32) :
    dqAt i B d (Scf.trips k1_t1_loop.lb k1_t1_loop.ub k1_t1_loop.st) = dqTile i B d := rfl

/-- The blocks a point's body reads, of what its windows hold. -/
def mkBlk (i : grid1.Coords) (x0 : Vec F S5x16 .f32) (x1 : Vec F S1x256x128 .bf16) (x2 : Vec F S1x128x256 .bf16) (x3 : Vec F S1x1x4096x128 .fp8e4m3) (x4 : Vec F S1x16x16384 .f32) (x5 : Vec F S1x1x4096x128 .fp8e4m3) (x6 : Vec F S1x16x16384 .f32) (x7 : Vec F S1x1x256x128 .fp8e5m2) (x8 : Vec F S1x1x128x256 .bf16) (x9 : Vec F S1x1x256x128 .f32) (x10 : Vec F S1x1x256x128 .f32) : Blk F :=
  ⟨x3, x4, x5, x6, View.ld x0 (Rect.unit (s := S5x16) (k1_off1 i) S1x1.size (k1_off1_inb i)) (Shape.Idx.first (by rw [show (Rect.unit (s := S5x16) (k1_off1 i) S1x1.size (k1_off1_inb i)).shape.numel = 1 from numel1_S1x1]; exact Nat.one_pos)), x1, x2, x7, x8, x9, x10⟩

end Cert.KernelIdeal.Gen

end
-- ==== Proof.BodyAIdeal.lean ====
/-
  The second call's body at a point, by what its windows hold before and after (one of the four kinds of points).
-/
module

public import proofs.«01_k».proof.Proof.TileIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 6400000 in
/-- A head's first tile of a sequence. -/
theorem body1_A (c : Dev nD) (i : grid1.Coords) (arg3 : Memref sig .tc .smem S5x16 .f32) (harg3 : arg3.IsWhole) (arg4 : Memref sig .tc .vmem S1x256x128 .bf16) (harg4 : arg4.IsWhole) (arg5 : Memref sig .tc .vmem S1x128x256 .bf16) (harg5 : arg5.IsWhole) (arg6 : Memref sig .tc .vmem S1x1x4096x128 .fp8e4m3) (harg6 : arg6.IsWhole) (arg7 : Memref sig .tc .vmem S1x16x16384 .f32) (harg7 : arg7.IsWhole) (arg8 : Memref sig .tc .vmem S1x1x4096x128 .fp8e4m3) (harg8 : arg8.IsWhole) (arg9 : Memref sig .tc .vmem S1x16x16384 .f32) (harg9 : arg9.IsWhole) (arg10 : Memref sig .tc .vmem S1x1x256x128 .fp8e5m2) (harg10 : arg10.IsWhole) (arg11 : Memref sig .tc .vmem S1x1x128x256 .bf16) (harg11 : arg11.IsWhole) (arg12 : Memref sig .tc .vmem S1x1x256x128 .f32) (harg12 : arg12.IsWhole) (arg13 : Memref sig .tc .vmem S1x1x256x128 .f32) (harg13 : arg13.IsWhole) (arg14 : Memref sig .tc .vmem S1x256x128 .bf16) (harg14 : arg14.IsWhole) (arg15 : Memref sig .tc .vmem S1x1x256x128 .f32) (harg15 : arg15.IsWhole) (arg16 : Memref sig .tc .vmem S1x1x4096x128 .bf16) (harg16 : arg16.IsWhole) (arg17 : Memref sig .tc .vmem S1x1x4096x128 .bf16) (harg17 : arg17.IsWhole) (arg18 : Memref sig .tc .vmem S128x256 .f32) (harg18 : arg18.IsWhole) (arg19 : Memref sig .tc .vmem S256x128 .f32) (harg19 : arg19.IsWhole) (hc0 : (Scalar.cmpi .ne (Scalar.extui (Scalar.cmpi .eq (BitVec.ofNat 32 (i 2).val) 0#32)) 0#32) = 1#1) (hc1 : ¬k1_cond2 i = 1#1)
    (x0 : Vec F S5x16 .f32) (x1 : Vec F S1x256x128 .bf16) (x2 : Vec F S1x128x256 .bf16) (x3 : Vec F S1x1x4096x128 .fp8e4m3) (x4 : Vec F S1x16x16384 .f32) (x5 : Vec F S1x1x4096x128 .fp8e4m3) (x6 : Vec F S1x16x16384 .f32) (x7 : Vec F S1x1x256x128 .fp8e5m2) (x8 : Vec F S1x1x128x256 .bf16) (x9 : Vec F S1x1x256x128 .f32) (x10 : Vec F S1x1x256x128 .f32) (d : Vec F S128x256 .f32) (e : Vec F S256x128 .f32) (y14 : Vec F S1x256x128 .bf16) (y15 : Vec F S1x1x256x128 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y14 ∗ owns (c : Thread nD τ) arg15 fullShare y15 ∗ (∃ d, owns (c : Thread nD τ) arg16 fullShare d) ∗ (∃ d, owns (c : Thread nD τ) arg17 fullShare d) ∗ owns (c : Thread nD τ) arg18 fullShare d ∗ owns (c : Thread nD τ) arg19 fullShare e
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y14 ∗ owns (c : Thread nD τ) arg15 fullShare y15 ∗ owns (c : Thread nD τ) arg16 fullShare (dkTile i (mkBlk i x0 x1 x2 x3 x4 x5 x6 x7 x8 x9 x10)) ∗ owns (c : Thread nD τ) arg17 fullShare (dvTile i (mkBlk i x0 x1 x2 x3 x4 x5 x6 x7 x8 x9 x10)) ∗ owns (c : Thread nD τ) arg18 fullShare (dqTile i (mkBlk i x0 x1 x2 x3 x4 x5 x6 x7 x8 x9 x10) (k1_pay5 (F := F))) ∗ owns (c : Thread nD τ) arg19 fullShare e) -∗ K ⟨⟩))
          ⊢ wp frame (wpE (defs₀ (F := F)) Variants.none c none) E (cc1_xattn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1_xattn_bwd_eq_skeleton]; unfold cc1_xattn_bwd_skel
  simp only [k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg18.eq_unread hfs0; obtain rfl := harg19.eq_unread hfs1
  sl_exec (disch := first | sl_exact hc0 | sl_exact hc1)
  have h1 := hL5.trans (dkAt_tile (F := F) i _ _)
  have h2 := hL7.trans (dvAt_tile (F := F) i _ _)
  have h3 := hL9.trans (dqAt_tile (F := F) i _ _)
  unfold body1_A.sl.r at h1 h2 h3
  simp only [blkOf, View.readAt_eq_ld, View.ld_unit_zero (S := S1x256x128) off_zero3, View.ld_unit_zero (S := S1x128x256) off_zero3, View.ld_unit_zero (S := S1x1x256x128) off_zero4, View.ld_unit_zero (S := S1x1x128x256) off_zero4, harg3.read_unread, harg4.read_unread, harg5.read_unread, harg6.read_unread, harg7.read_unread, harg8.read_unread, harg9.read_unread, harg10.read_unread, harg11.read_unread, harg12.read_unread, harg13.read_unread] at h1 h2 h3
  unfold body1_A.sl.HS0_1 at h3
  rw [View.read_writes_full arg18.view _ _ _ _] at h3
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; swap; · iexact H13
    ipureintro; exact h1
  isplitl [H14]
  · iexists _; isplitr; swap; · iexact H14
    ipureintro; exact h2
  isplitl [HS0]
  · iexists _; isplitr; swap; · iexact HS0
    ipureintro; exact h3
  iexists _; isplitr; · ipureintro; exact harg19.read_unread _
  iexact HS1

end Cert.KernelIdeal.Gen

end
-- ==== Proof.BodyBIdeal.lean ====
/-
  The second call's body at a point, by what its windows hold before and after (one of the four kinds of points).
-/
module

public import proofs.«01_k».proof.Proof.TileIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 6400000 in
/-- A tile in the middle. -/
theorem body1_B (c : Dev nD) (i : grid1.Coords) (arg3 : Memref sig .tc .smem S5x16 .f32) (harg3 : arg3.IsWhole) (arg4 : Memref sig .tc .vmem S1x256x128 .bf16) (harg4 : arg4.IsWhole) (arg5 : Memref sig .tc .vmem S1x128x256 .bf16) (harg5 : arg5.IsWhole) (arg6 : Memref sig .tc .vmem S1x1x4096x128 .fp8e4m3) (harg6 : arg6.IsWhole) (arg7 : Memref sig .tc .vmem S1x16x16384 .f32) (harg7 : arg7.IsWhole) (arg8 : Memref sig .tc .vmem S1x1x4096x128 .fp8e4m3) (harg8 : arg8.IsWhole) (arg9 : Memref sig .tc .vmem S1x16x16384 .f32) (harg9 : arg9.IsWhole) (arg10 : Memref sig .tc .vmem S1x1x256x128 .fp8e5m2) (harg10 : arg10.IsWhole) (arg11 : Memref sig .tc .vmem S1x1x128x256 .bf16) (harg11 : arg11.IsWhole) (arg12 : Memref sig .tc .vmem S1x1x256x128 .f32) (harg12 : arg12.IsWhole) (arg13 : Memref sig .tc .vmem S1x1x256x128 .f32) (harg13 : arg13.IsWhole) (arg14 : Memref sig .tc .vmem S1x256x128 .bf16) (harg14 : arg14.IsWhole) (arg15 : Memref sig .tc .vmem S1x1x256x128 .f32) (harg15 : arg15.IsWhole) (arg16 : Memref sig .tc .vmem S1x1x4096x128 .bf16) (harg16 : arg16.IsWhole) (arg17 : Memref sig .tc .vmem S1x1x4096x128 .bf16) (harg17 : arg17.IsWhole) (arg18 : Memref sig .tc .vmem S128x256 .f32) (harg18 : arg18.IsWhole) (arg19 : Memref sig .tc .vmem S256x128 .f32) (harg19 : arg19.IsWhole) (hc0 : ¬(Scalar.cmpi .ne (Scalar.extui (Scalar.cmpi .eq (BitVec.ofNat 32 (i 2).val) 0#32)) 0#32) = 1#1) (hc1 : ¬k1_cond2 i = 1#1)
    (x0 : Vec F S5x16 .f32) (x1 : Vec F S1x256x128 .bf16) (x2 : Vec F S1x128x256 .bf16) (x3 : Vec F S1x1x4096x128 .fp8e4m3) (x4 : Vec F S1x16x16384 .f32) (x5 : Vec F S1x1x4096x128 .fp8e4m3) (x6 : Vec F S1x16x16384 .f32) (x7 : Vec F S1x1x256x128 .fp8e5m2) (x8 : Vec F S1x1x128x256 .bf16) (x9 : Vec F S1x1x256x128 .f32) (x10 : Vec F S1x1x256x128 .f32) (d : Vec F S128x256 .f32) (e : Vec F S256x128 .f32) (y14 : Vec F S1x256x128 .bf16) (y15 : Vec F S1x1x256x128 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y14 ∗ owns (c : Thread nD τ) arg15 fullShare y15 ∗ (∃ d, owns (c : Thread nD τ) arg16 fullShare d) ∗ (∃ d, owns (c : Thread nD τ) arg17 fullShare d) ∗ owns (c : Thread nD τ) arg18 fullShare d ∗ owns (c : Thread nD τ) arg19 fullShare e
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y14 ∗ owns (c : Thread nD τ) arg15 fullShare y15 ∗ owns (c : Thread nD τ) arg16 fullShare (dkTile i (mkBlk i x0 x1 x2 x3 x4 x5 x6 x7 x8 x9 x10)) ∗ owns (c : Thread nD τ) arg17 fullShare (dvTile i (mkBlk i x0 x1 x2 x3 x4 x5 x6 x7 x8 x9 x10)) ∗ owns (c : Thread nD τ) arg18 fullShare (dqTile i (mkBlk i x0 x1 x2 x3 x4 x5 x6 x7 x8 x9 x10) d) ∗ owns (c : Thread nD τ) arg19 fullShare e) -∗ K ⟨⟩))
          ⊢ wp frame (wpE (defs₀ (F := F)) Variants.none c none) E (cc1_xattn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1_xattn_bwd_eq_skeleton]; unfold cc1_xattn_bwd_skel
  simp only [k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg18.eq_unread hfs0; obtain rfl := harg19.eq_unread hfs1
  sl_exec (disch := first | sl_exact hc0 | sl_exact hc1)
  have h1 := hL5.trans (dkAt_tile (F := F) i _ _)
  have h2 := hL7.trans (dvAt_tile (F := F) i _ _)
  have h3 := hL9.trans (dqAt_tile (F := F) i _ _)
  unfold body1_B.sl.r at h1 h2 h3
  simp only [blkOf, View.readAt_eq_ld, View.ld_unit_zero (S := S1x256x128) off_zero3, View.ld_unit_zero (S := S1x128x256) off_zero3, View.ld_unit_zero (S := S1x1x256x128) off_zero4, View.ld_unit_zero (S := S1x1x128x256) off_zero4, harg3.read_unread, harg4.read_unread, harg5.read_unread, harg6.read_unread, harg7.read_unread, harg8.read_unread, harg9.read_unread, harg10.read_unread, harg11.read_unread, harg12.read_unread, harg13.read_unread] at h1 h2 h3
  rw [harg18.read_unread] at h3
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; swap; · iexact H13
    ipureintro; exact h1
  isplitl [H14]
  · iexists _; isplitr; swap; · iexact H14
    ipureintro; exact h2
  isplitl [HS0]
  · iexists _; isplitr; swap; · iexact HS0
    ipureintro; exact h3
  iexists _; isplitr; · ipureintro; exact harg19.read_unread _
  iexact HS1

end Cert.KernelIdeal.Gen

end
-- ==== Proof.BodyCIdeal.lean ====
/-
  The second call's body at a point, by what its windows hold before and after (one of the four kinds of points).
-/
module

public import proofs.«01_k».proof.Proof.TileIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 6400000 in
/-- A sequence's last tile. -/
theorem body1_C (c : Dev nD) (i : grid1.Coords) (arg3 : Memref sig .tc .smem S5x16 .f32) (harg3 : arg3.IsWhole) (arg4 : Memref sig .tc .vmem S1x256x128 .bf16) (harg4 : arg4.IsWhole) (arg5 : Memref sig .tc .vmem S1x128x256 .bf16) (harg5 : arg5.IsWhole) (arg6 : Memref sig .tc .vmem S1x1x4096x128 .fp8e4m3) (harg6 : arg6.IsWhole) (arg7 : Memref sig .tc .vmem S1x16x16384 .f32) (harg7 : arg7.IsWhole) (arg8 : Memref sig .tc .vmem S1x1x4096x128 .fp8e4m3) (harg8 : arg8.IsWhole) (arg9 : Memref sig .tc .vmem S1x16x16384 .f32) (harg9 : arg9.IsWhole) (arg10 : Memref sig .tc .vmem S1x1x256x128 .fp8e5m2) (harg10 : arg10.IsWhole) (arg11 : Memref sig .tc .vmem S1x1x128x256 .bf16) (harg11 : arg11.IsWhole) (arg12 : Memref sig .tc .vmem S1x1x256x128 .f32) (harg12 : arg12.IsWhole) (arg13 : Memref sig .tc .vmem S1x1x256x128 .f32) (harg13 : arg13.IsWhole) (arg14 : Memref sig .tc .vmem S1x256x128 .bf16) (harg14 : arg14.IsWhole) (arg15 : Memref sig .tc .vmem S1x1x256x128 .f32) (harg15 : arg15.IsWhole) (arg16 : Memref sig .tc .vmem S1x1x4096x128 .bf16) (harg16 : arg16.IsWhole) (arg17 : Memref sig .tc .vmem S1x1x4096x128 .bf16) (harg17 : arg17.IsWhole) (arg18 : Memref sig .tc .vmem S128x256 .f32) (harg18 : arg18.IsWhole) (arg19 : Memref sig .tc .vmem S256x128 .f32) (harg19 : arg19.IsWhole) (hc0 : ¬(Scalar.cmpi .ne (Scalar.extui (Scalar.cmpi .eq (BitVec.ofNat 32 (i 2).val) 0#32)) 0#32) = 1#1) (hc1 : k1_cond2 i = 1#1) (hc2 : ¬k1_cond3 i = 1#1)
    (x0 : Vec F S5x16 .f32) (x1 : Vec F S1x256x128 .bf16) (x2 : Vec F S1x128x256 .bf16) (x3 : Vec F S1x1x4096x128 .fp8e4m3) (x4 : Vec F S1x16x16384 .f32) (x5 : Vec F S1x1x4096x128 .fp8e4m3) (x6 : Vec F S1x16x16384 .f32) (x7 : Vec F S1x1x256x128 .fp8e5m2) (x8 : Vec F S1x1x128x256 .bf16) (x9 : Vec F S1x1x256x128 .f32) (x10 : Vec F S1x1x256x128 .f32) (d : Vec F S128x256 .f32) (e : Vec F S256x128 .f32) (y14 : Vec F S1x256x128 .bf16) (y15 : Vec F S1x1x256x128 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y14 ∗ owns (c : Thread nD τ) arg15 fullShare y15 ∗ (∃ d, owns (c : Thread nD τ) arg16 fullShare d) ∗ (∃ d, owns (c : Thread nD τ) arg17 fullShare d) ∗ owns (c : Thread nD τ) arg18 fullShare d ∗ owns (c : Thread nD τ) arg19 fullShare e
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y14 ∗ owns (c : Thread nD τ) arg15 fullShare (k1_pay15 (dqTile i (mkBlk i x0 x1 x2 x3 x4 x5 x6 x7 x8 x9 x10) d)) ∗ owns (c : Thread nD τ) arg16 fullShare (dkTile i (mkBlk i x0 x1 x2 x3 x4 x5 x6 x7 x8 x9 x10)) ∗ owns (c : Thread nD τ) arg17 fullShare (dvTile i (mkBlk i x0 x1 x2 x3 x4 x5 x6 x7 x8 x9 x10)) ∗ owns (c : Thread nD τ) arg18 fullShare (dqTile i (mkBlk i x0 x1 x2 x3 x4 x5 x6 x7 x8 x9 x10) d) ∗ owns (c : Thread nD τ) arg19 fullShare (k1_pay17 i (dqTile i (mkBlk i x0 x1 x2 x3 x4 x5 x6 x7 x8 x9 x10) d) e)) -∗ K ⟨⟩))
          ⊢ wp frame (wpE (defs₀ (F := F)) Variants.none c none) E (cc1_xattn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1_xattn_bwd_eq_skeleton]; unfold cc1_xattn_bwd_skel
  simp only [k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg18.eq_unread hfs0; obtain rfl := harg19.eq_unread hfs1
  sl_exec (disch := first | sl_exact hc0 | sl_exact hc1 | sl_exact hc2)
  have h1 := hL5.trans (dkAt_tile (F := F) i _ _)
  have h2 := hL7.trans (dvAt_tile (F := F) i _ _)
  have h3 := hL9.trans (dqAt_tile (F := F) i _ _)
  unfold body1_C.sl.r at h1 h2 h3
  simp only [blkOf, View.readAt_eq_ld, View.ld_unit_zero (S := S1x256x128) off_zero3, View.ld_unit_zero (S := S1x128x256) off_zero3, View.ld_unit_zero (S := S1x1x256x128) off_zero4, View.ld_unit_zero (S := S1x1x128x256) off_zero4, harg3.read_unread, harg4.read_unread, harg5.read_unread, harg6.read_unread, harg7.read_unread, harg8.read_unread, harg9.read_unread, harg10.read_unread, harg11.read_unread, harg12.read_unread, harg13.read_unread] at h1 h2 h3
  rw [harg18.read_unread] at h3
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; swap; · iexact H12
    ipureintro; exact (View.read_writes_full _ _ _ _ _).trans (by simp only [View.readAt_eq_ld, View.ld_unit_zero (S := S128x256) off_zero2, View.ld_unit_zero (S := S256x128) off_zero2, h3, harg19.read_unread]; rfl)
  isplitl [H13]
  · iexists _; isplitr; swap; · iexact H13
    ipureintro; exact h1
  isplitl [H14]
  · iexists _; isplitr; swap; · iexact H14
    ipureintro; exact h2
  isplitl [HS0]
  · iexists _; isplitr; swap; · iexact HS0
    ipureintro; exact h3
  iexists _; isplitr; swap; · iexact HS1
  ipureintro; exact (View.read_writes_full _ _ _ _ _).trans (by simp only [View.readAt_eq_ld, View.ld_unit_zero (S := S128x256) off_zero2, View.ld_unit_zero (S := S256x128) off_zero2, h3, harg19.read_unread]; rfl)

end Cert.KernelIdeal.Gen

end
-- ==== Proof.BodyDIdeal.lean ====
/-
  The second call's body at a point, by what its windows hold before and after (one of the four kinds of points).
-/
module

public import proofs.«01_k».proof.Proof.TileIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 6400000 in
/-- The last tile of a head. -/
theorem body1_D (c : Dev nD) (i : grid1.Coords) (arg3 : Memref sig .tc .smem S5x16 .f32) (harg3 : arg3.IsWhole) (arg4 : Memref sig .tc .vmem S1x256x128 .bf16) (harg4 : arg4.IsWhole) (arg5 : Memref sig .tc .vmem S1x128x256 .bf16) (harg5 : arg5.IsWhole) (arg6 : Memref sig .tc .vmem S1x1x4096x128 .fp8e4m3) (harg6 : arg6.IsWhole) (arg7 : Memref sig .tc .vmem S1x16x16384 .f32) (harg7 : arg7.IsWhole) (arg8 : Memref sig .tc .vmem S1x1x4096x128 .fp8e4m3) (harg8 : arg8.IsWhole) (arg9 : Memref sig .tc .vmem S1x16x16384 .f32) (harg9 : arg9.IsWhole) (arg10 : Memref sig .tc .vmem S1x1x256x128 .fp8e5m2) (harg10 : arg10.IsWhole) (arg11 : Memref sig .tc .vmem S1x1x128x256 .bf16) (harg11 : arg11.IsWhole) (arg12 : Memref sig .tc .vmem S1x1x256x128 .f32) (harg12 : arg12.IsWhole) (arg13 : Memref sig .tc .vmem S1x1x256x128 .f32) (harg13 : arg13.IsWhole) (arg14 : Memref sig .tc .vmem S1x256x128 .bf16) (harg14 : arg14.IsWhole) (arg15 : Memref sig .tc .vmem S1x1x256x128 .f32) (harg15 : arg15.IsWhole) (arg16 : Memref sig .tc .vmem S1x1x4096x128 .bf16) (harg16 : arg16.IsWhole) (arg17 : Memref sig .tc .vmem S1x1x4096x128 .bf16) (harg17 : arg17.IsWhole) (arg18 : Memref sig .tc .vmem S128x256 .f32) (harg18 : arg18.IsWhole) (arg19 : Memref sig .tc .vmem S256x128 .f32) (harg19 : arg19.IsWhole) (hc0 : ¬(Scalar.cmpi .ne (Scalar.extui (Scalar.cmpi .eq (BitVec.ofNat 32 (i 2).val) 0#32)) 0#32) = 1#1) (hc1 : k1_cond2 i = 1#1) (hc2 : k1_cond3 i = 1#1)
    (x0 : Vec F S5x16 .f32) (x1 : Vec F S1x256x128 .bf16) (x2 : Vec F S1x128x256 .bf16) (x3 : Vec F S1x1x4096x128 .fp8e4m3) (x4 : Vec F S1x16x16384 .f32) (x5 : Vec F S1x1x4096x128 .fp8e4m3) (x6 : Vec F S1x16x16384 .f32) (x7 : Vec F S1x1x256x128 .fp8e5m2) (x8 : Vec F S1x1x128x256 .bf16) (x9 : Vec F S1x1x256x128 .f32) (x10 : Vec F S1x1x256x128 .f32) (d : Vec F S128x256 .f32) (e : Vec F S256x128 .f32) (y14 : Vec F S1x256x128 .bf16) (y15 : Vec F S1x1x256x128 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y14 ∗ owns (c : Thread nD τ) arg15 fullShare y15 ∗ (∃ d, owns (c : Thread nD τ) arg16 fullShare d) ∗ (∃ d, owns (c : Thread nD τ) arg17 fullShare d) ∗ owns (c : Thread nD τ) arg18 fullShare d ∗ owns (c : Thread nD τ) arg19 fullShare e
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare (k1_pay18 i (dqTile i (mkBlk i x0 x1 x2 x3 x4 x5 x6 x7 x8 x9 x10) d) e) ∗ owns (c : Thread nD τ) arg15 fullShare (k1_pay15 (dqTile i (mkBlk i x0 x1 x2 x3 x4 x5 x6 x7 x8 x9 x10) d)) ∗ owns (c : Thread nD τ) arg16 fullShare (dkTile i (mkBlk i x0 x1 x2 x3 x4 x5 x6 x7 x8 x9 x10)) ∗ owns (c : Thread nD τ) arg17 fullShare (dvTile i (mkBlk i x0 x1 x2 x3 x4 x5 x6 x7 x8 x9 x10)) ∗ owns (c : Thread nD τ) arg18 fullShare (dqTile i (mkBlk i x0 x1 x2 x3 x4 x5 x6 x7 x8 x9 x10) d) ∗ owns (c : Thread nD τ) arg19 fullShare (k1_pay17 i (dqTile i (mkBlk i x0 x1 x2 x3 x4 x5 x6 x7 x8 x9 x10) d) e)) -∗ K ⟨⟩))
          ⊢ wp frame (wpE (defs₀ (F := F)) Variants.none c none) E (cc1_xattn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1_xattn_bwd_eq_skeleton]; unfold cc1_xattn_bwd_skel
  simp only [k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg18.eq_unread hfs0; obtain rfl := harg19.eq_unread hfs1
  sl_exec (disch := first | sl_exact hc0 | sl_exact hc1 | sl_exact hc2)
  have h1 := hL5.trans (dkAt_tile (F := F) i _ _)
  have h2 := hL7.trans (dvAt_tile (F := F) i _ _)
  have h3 := hL9.trans (dqAt_tile (F := F) i _ _)
  unfold body1_D.sl.r at h1 h2 h3
  simp only [blkOf, View.readAt_eq_ld, View.ld_unit_zero (S := S1x256x128) off_zero3, View.ld_unit_zero (S := S1x128x256) off_zero3, View.ld_unit_zero (S := S1x1x256x128) off_zero4, View.ld_unit_zero (S := S1x1x128x256) off_zero4, harg3.read_unread, harg4.read_unread, harg5.read_unread, harg6.read_unread, harg7.read_unread, harg8.read_unread, harg9.read_unread, harg10.read_unread, harg11.read_unread, harg12.read_unread, harg13.read_unread] at h1 h2 h3
  rw [harg18.read_unread] at h3
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; swap; · iexact H11
    ipureintro; exact (View.read_writes_full _ _ _ _ _).trans (by simp only [View.readAt_eq_ld, View.ld_unit_zero (S := S128x256) off_zero2, View.ld_unit_zero (S := S256x128) off_zero2, h3, harg19.read_unread]; rfl)
  isplitl [H12]
  · iexists _; isplitr; swap; · iexact H12
    ipureintro; exact (View.read_writes_full _ _ _ _ _).trans (by simp only [View.readAt_eq_ld, View.ld_unit_zero (S := S128x256) off_zero2, View.ld_unit_zero (S := S256x128) off_zero2, h3, harg19.read_unread]; rfl)
  isplitl [H13]
  · iexists _; isplitr; swap; · iexact H13
    ipureintro; exact h1
  isplitl [H14]
  · iexists _; isplitr; swap; · iexact H14
    ipureintro; exact h2
  isplitl [HS0]
  · iexists _; isplitr; swap; · iexact HS0
    ipureintro; exact h3
  iexists _; isplitr; swap; · iexact HS1
  ipureintro; exact (View.read_writes_full _ _ _ _ _).trans (by simp only [View.readAt_eq_ld, View.ld_unit_zero (S := S128x256) off_zero2, View.ld_unit_zero (S := S256x128) off_zero2, h3, harg19.read_unread]; rfl)

end Cert.KernelIdeal.Gen

end
-- ==== Proof.Region1Ideal.lean ====
/-
  The second call over the whole grid: what every point leaves in its windows, and the body's obligation there.
-/
module

public import proofs.«01_k».proof.Proof.BodyAIdeal
public import proofs.«01_k».proof.Proof.BodyBIdeal
public import proofs.«01_k».proof.Proof.BodyCIdeal
public import proofs.«01_k».proof.Proof.BodyDIdeal
public import proofs.«01_k».proof.Proof.Gen.KernelIdeal.Launch
public import Idealize.ShloMosaic.Lib.Pipeline.FrameBody
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → Valuation τ sig (Elt F))

/-- The block window `w` reads at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- The tile a point works on. -/
def tile1 (c : Dev nD) (t : Fin cfg1.N) : Blk F :=
  mkBlk (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)

/-- Point `n` of the grid. -/
def pt1 (n : ℕ) : Fin cfg1.N := ⟨n % 320, lt_of_lt_of_eq (Nat.mod_lt _ (by decide)) (show 320 = cfg1.N from N_1.symm)⟩
theorem pt1_val (t : Fin cfg1.N) : pt1 t.val = t :=
  Fin.ext (Nat.mod_eq_of_lt (lt_of_lt_of_eq t.isLt (show cfg1.N = 320 from N_1)))

/-- The transposed query gradient of one sequence before point `n`, over the tiles already done. -/
def dqtAt (c : Dev nD) : ℕ → Vec F S128x256 .f32
  | 0 => k1_pay5
  | n + 1 => dqTile (grid1.coords (pt1 n)) (tile1 V c (pt1 n)) (if n % 4 = 0 then k1_pay5 else dqtAt c n)
/-- The query gradient before point `n`, over the sequences already done. -/
def dqAccAt (c : Dev nD) : ℕ → Vec F S256x128 .f32
  | 0 => fun _ => Scalar.ofBits .f32 0x00000000#32
  | n + 1 => if n % 4 = 3 then k1_pay17 (grid1.coords (pt1 n)) (dqtAt V c (n + 1)) (dqAccAt c n) else dqAccAt c n

theorem dqtAt_first (c : Dev nD) (t : Fin cfg1.N) (h : t.val % 4 = 0) :
    dqtAt V c (t.val + 1) = dqTile (grid1.coords t) (tile1 V c t) k1_pay5 := by
  rw [dqtAt, if_pos h, pt1_val]
theorem dqtAt_next (c : Dev nD) (t : Fin cfg1.N) (h : ¬t.val % 4 = 0) :
    dqtAt V c (t.val + 1) = dqTile (grid1.coords t) (tile1 V c t) (dqtAt V c t.val) := by
  rw [dqtAt, if_neg h, pt1_val]
theorem dqAccAt_keep (c : Dev nD) (n : ℕ) (h : ¬n % 4 = 3) : dqAccAt V c (n + 1) = dqAccAt V c n := by
  rw [dqAccAt, if_neg h]
theorem dqAccAt_add (c : Dev nD) (t : Fin cfg1.N) (h : t.val % 4 = 3) :
    dqAccAt V c (t.val + 1) = k1_pay17 (grid1.coords t) (dqtAt V c (t.val + 1)) (dqAccAt V c t.val) := by
  rw [dqAccAt, if_pos h, pt1_val]

/-- At the first sequence the accumulator is not read. -/
theorem pay17_first (i : grid1.Coords) (h : (i 1).val = 0) (x : Vec F S128x256 .f32) (e e' : Vec F S256x128 .f32) :
    k1_pay17 i x e = k1_pay17 i x e' := by
  unfold k1_pay17 k1_pay16; rw [h]; rfl

theorem coords1_0 (t : Fin cfg1.N) : (grid1.coords t 0).val = t.val / 64 % 5 := Pipeline.Grid.coords_val t 0 (by decide) rfl
theorem coords1_1 (t : Fin cfg1.N) : (grid1.coords t 1).val = t.val / 4 % 16 := Pipeline.Grid.coords_val t 1 (by decide) rfl
theorem coords1_2 (t : Fin cfg1.N) : (grid1.coords t 2).val = t.val / 1 % 4 := Pipeline.Grid.coords_val t 2 (by decide) rfl

theorem hcond1_0 (t : Fin cfg1.N) : (Scalar.cmpi .ne (Scalar.extui (Scalar.cmpi .eq (BitVec.ofNat 32 (grid1.coords t 2).val) 0#32) : BitVec 32) 0#32) = 1#1 ↔ t.val % 4 = 0 := by
  have ht : t.val < 320 := Nat.lt_of_lt_of_eq t.isLt N_1
  simp only [coords1_2]
  word_cmp
theorem hcond1_1 (t : Fin cfg1.N) : k1_cond2 (grid1.coords t) = 1#1 ↔ t.val % 4 = 3 := by
  have ht : t.val < 320 := Nat.lt_of_lt_of_eq t.isLt N_1
  simp only [k1_cond2, coords1_2]
  word_cmp
theorem hcond1_2 (t : Fin cfg1.N) : k1_cond3 (grid1.coords t) = 1#1 ↔ t.val / 4 % 16 = 15 := by
  have ht : t.val < 320 := Nat.lt_of_lt_of_eq t.isLt N_1
  simp only [k1_cond3, coords1_1]
  word_cmp

theorem idle1_11 (t : Fin cfg1.N) (h : ¬(t.val % 4 = 3 ∧ t.val / 4 % 16 = 15)) : cfg1.idle 11 (grid1.coords t) = true := by
  show (!(k1_cond2 (grid1.coords t) == 1#1 && k1_cond3 (grid1.coords t) == 1#1)) = true
  rw [Bool.not_eq_true', Bool.and_eq_false_iff]
  by_cases h1 : t.val % 4 = 3
  · right; exact beq_eq_false_iff_ne.mpr fun h3 => h ⟨h1, (hcond1_2 t).mp h3⟩
  · left; exact beq_eq_false_iff_ne.mpr fun h3 => h1 ((hcond1_1 t).mp h3)
theorem live1_11 (t : Fin cfg1.N) (h1 : t.val % 4 = 3) (h2 : t.val / 4 % 16 = 15) : cfg1.idle 11 (grid1.coords t) = false := by
  show (!(k1_cond2 (grid1.coords t) == 1#1 && k1_cond3 (grid1.coords t) == 1#1)) = false
  rw [(hcond1_1 t).mpr h1, (hcond1_2 t).mpr h2]; rfl
theorem idle1_12 (t : Fin cfg1.N) (h : ¬t.val % 4 = 3) : cfg1.idle 12 (grid1.coords t) = true := by
  show (!(k1_cond2 (grid1.coords t) == 1#1)) = true
  rw [Bool.not_eq_true']
  exact beq_eq_false_iff_ne.mpr fun h3 => h ((hcond1_1 t).mp h3)
theorem live1_12 (t : Fin cfg1.N) (h : t.val % 4 = 3) : cfg1.idle 12 (grid1.coords t) = false := by
  show (!(k1_cond2 (grid1.coords t) == 1#1)) = false
  rw [(hcond1_1 t).mpr h]; rfl
theorem noFlush1_11 (t : Fin cfg1.N) (h : ¬(t.val % 4 = 3 ∧ t.val / 4 % 16 = 15)) : (cfg1.win 11).flush t = false :=
  Bool.eq_false_iff.mpr fun hf => h (by have := (flush1_11 t).mp hf; omega)
theorem noFlush1_12 (t : Fin cfg1.N) (h : ¬t.val % 4 = 3) : (cfg1.win 12).flush t = false :=
  Bool.eq_false_iff.mpr fun hf => h ((flush1_12 t).mp hf)

abbrev sc1_0 : Memref sig .tc .vmem S128x256 .f32 := Memref.whole cc1_scratch0
abbrev sc1_1 : Memref sig .tc .vmem S256x128 .f32 := Memref.whole cc1_scratch1

/-- The scoped buffers of the other call. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- What is known of the scratch before point `n`. -/
def known1 (c : Dev nD) (n : ℕ) (d : Vec F S128x256 .f32) (e : Vec F S256x128 .f32) : Prop :=
  (n % 4 ≠ 0 → d = dqtAt V c n) ∧ (n / 4 % 16 ≠ 0 → e = dqAccAt V c n)
/-- The scratch and the other call's buffers before point `n`. -/
def Phi1 (c : Dev nD) (n : ℕ) : sProp 𝕄 :=
  iprop((∃ d e, ⌜known1 V c n d e⌝ ∗ owns (c : Thread nD τ) sc1_0 fullShare d ∗ owns (c : Thread nD τ) sc1_1 fullShare e) ∗ rest1 c)

/-- The call's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => k1_pay18 (grid1.coords t) (dqtAt V c (t.val + 1)) (dqAccAt V c t.val)
    | ⟨12, _⟩ => k1_pay15 (dqtAt V c (t.val + 1))
    | ⟨13, _⟩ => dkTile (grid1.coords t) (tile1 V c t)
    | ⟨14, _⟩ => dvTile (grid1.coords t) (tile1 V c t)
  Φ t := Phi1 V c t.val
  q _ := fullShare
  owed _ := 0

theorem A1_eq (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = k1_pay18 (grid1.coords t) (dqtAt V c (t.val + 1)) (dqAccAt V c t.val) := by dsimp only [dat1]
theorem after1_12 (c : Dev nD) (t : Fin cfg1.N) : (dat1 V c).after 12 t = k1_pay15 (dqtAt V c (t.val + 1)) := by dsimp only [dat1]
theorem after1_13 (c : Dev nD) (t : Fin cfg1.N) : (dat1 V c).after 13 t = dkTile (grid1.coords t) (tile1 V c t) := by dsimp only [dat1]
theorem after1_14 (c : Dev nD) (t : Fin cfg1.N) : (dat1 V c).after 14 t = dvTile (grid1.coords t) (tile1 V c t) := by dsimp only [dat1]
theorem before1_0 (c : Dev nD) (t : Fin cfg1.N) (d) : (dat1 V c).before 0 t d = iblk1 V c 0 t := before1_0_of V (dat1 V c) (A1_eq V c 0) (after1_0 V c) t d
theorem before1_1 (c : Dev nD) (t : Fin cfg1.N) (d) : (dat1 V c).before 1 t d = iblk1 V c 1 t := before1_1_of V (dat1 V c) (A1_eq V c 1) (after1_1 V c) t d
theorem before1_2 (c : Dev nD) (t : Fin cfg1.N) (d) : (dat1 V c).before 2 t d = iblk1 V c 2 t := before1_2_of V (dat1 V c) (A1_eq V c 2) (after1_2 V c) t d
theorem before1_3 (c : Dev nD) (t : Fin cfg1.N) (d) : (dat1 V c).before 3 t d = iblk1 V c 3 t := before1_3_of V (dat1 V c) (A1_eq V c 3) (after1_3 V c) t d
theorem before1_4 (c : Dev nD) (t : Fin cfg1.N) (d) : (dat1 V c).before 4 t d = iblk1 V c 4 t := before1_4_of V (dat1 V c) (A1_eq V c 4) (after1_4 V c) t d
theorem before1_5 (c : Dev nD) (t : Fin cfg1.N) (d) : (dat1 V c).before 5 t d = iblk1 V c 5 t := before1_5_of V (dat1 V c) (A1_eq V c 5) (after1_5 V c) t d
theorem before1_6 (c : Dev nD) (t : Fin cfg1.N) (d) : (dat1 V c).before 6 t d = iblk1 V c 6 t := before1_6_of V (dat1 V c) (A1_eq V c 6) (after1_6 V c) t d
theorem before1_7 (c : Dev nD) (t : Fin cfg1.N) (d) : (dat1 V c).before 7 t d = iblk1 V c 7 t := before1_7_of V (dat1 V c) (A1_eq V c 7) (after1_7 V c) t d
theorem before1_8 (c : Dev nD) (t : Fin cfg1.N) (d) : (dat1 V c).before 8 t d = iblk1 V c 8 t := before1_8_of V (dat1 V c) (A1_eq V c 8) (after1_8 V c) t d
theorem before1_9 (c : Dev nD) (t : Fin cfg1.N) (d) : (dat1 V c).before 9 t d = iblk1 V c 9 t := before1_9_of V (dat1 V c) (A1_eq V c 9) (after1_9 V c) t d
theorem before1_10 (c : Dev nD) (t : Fin cfg1.N) (d) : (dat1 V c).before 10 t d = iblk1 V c 10 t := before1_10_of V (dat1 V c) (A1_eq V c 10) (after1_10 V c) t d

def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d))
    ∗ (∃ d, owns (c : Thread nD τ) (win1_7.stage (cfg1.slots t 7)) fullShare ((dat1 V c).before 7 t d))
    ∗ (∃ d, owns (c : Thread nD τ) (win1_8.stage (cfg1.slots t 8)) fullShare ((dat1 V c).before 8 t d))
    ∗ (∃ d, owns (c : Thread nD τ) (win1_9.stage (cfg1.slots t 9)) fullShare ((dat1 V c).before 9 t d))
    ∗ (∃ d, owns (c : Thread nD τ) (win1_10.stage (cfg1.slots t 10)) fullShare ((dat1 V c).before 10 t d))
    ∗ (∃ d, owns (c : Thread nD τ) (win1_11.stage (cfg1.slots t 11)) fullShare ((dat1 V c).before 11 t d))
    ∗ (∃ d, owns (c : Thread nD τ) (win1_12.stage (cfg1.slots t 12)) fullShare ((dat1 V c).before 12 t d))
    ∗ (∃ d, owns (c : Thread nD τ) (win1_13.stage (cfg1.slots t 13)) fullShare ((dat1 V c).before 13 t d))
    ∗ (∃ d, owns (c : Thread nD τ) (win1_14.stage (cfg1.slots t 14)) fullShare ((dat1 V c).before 14 t d)))
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t)

set_option maxHeartbeats 6400000 in
/-- The body at any point. -/
theorem sound1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).owesAt () t.succ = (dat1 V c).owesAt () t.castSucc from rfl]
  rw [show (dat1 V c).Φ t.castSucc = Phi1 V c t.val from rfl, show (dat1 V c).Φ t.succ = Phi1 V c (t.val + 1) from rfl]
  unfold Phi1
  have hN : t.val < 320 := lt_of_lt_of_eq t.isLt (show cfg1.N = 320 from N_1)
  rw [show (dat1 V c).leavesExact 0 t = owns (c : Thread nD τ) (win1_0.stage (cfg1.slots t 0)) fullShare ((dat1 V c).after 0 t) from by
    unfold Dat.leavesExact; rw [show cfg1.idle 0 (grid1.coords t) = false from rfl], after1_0]
  rw [show (dat1 V c).leavesExact 1 t = owns (c : Thread nD τ) (win1_1.stage (cfg1.slots t 1)) fullShare ((dat1 V c).after 1 t) from by
    unfold Dat.leavesExact; rw [show cfg1.idle 1 (grid1.coords t) = false from rfl], after1_1]
  rw [show (dat1 V c).leavesExact 2 t = owns (c : Thread nD τ) (win1_2.stage (cfg1.slots t 2)) fullShare ((dat1 V c).after 2 t) from by
    unfold Dat.leavesExact; rw [show cfg1.idle 2 (grid1.coords t) = false from rfl], after1_2]
  rw [show (dat1 V c).leavesExact 3 t = owns (c : Thread nD τ) (win1_3.stage (cfg1.slots t 3)) fullShare ((dat1 V c).after 3 t) from by
    unfold Dat.leavesExact; rw [show cfg1.idle 3 (grid1.coords t) = false from rfl], after1_3]
  rw [show (dat1 V c).leavesExact 4 t = owns (c : Thread nD τ) (win1_4.stage (cfg1.slots t 4)) fullShare ((dat1 V c).after 4 t) from by
    unfold Dat.leavesExact; rw [show cfg1.idle 4 (grid1.coords t) = false from rfl], after1_4]
  rw [show (dat1 V c).leavesExact 5 t = owns (c : Thread nD τ) (win1_5.stage (cfg1.slots t 5)) fullShare ((dat1 V c).after 5 t) from by
    unfold Dat.leavesExact; rw [show cfg1.idle 5 (grid1.coords t) = false from rfl], after1_5]
  rw [show (dat1 V c).leavesExact 6 t = owns (c : Thread nD τ) (win1_6.stage (cfg1.slots t 6)) fullShare ((dat1 V c).after 6 t) from by
    unfold Dat.leavesExact; rw [show cfg1.idle 6 (grid1.coords t) = false from rfl], after1_6]
  rw [show (dat1 V c).leavesExact 7 t = owns (c : Thread nD τ) (win1_7.stage (cfg1.slots t 7)) fullShare ((dat1 V c).after 7 t) from by
    unfold Dat.leavesExact; rw [show cfg1.idle 7 (grid1.coords t) = false from rfl], after1_7]
  rw [show (dat1 V c).leavesExact 8 t = owns (c : Thread nD τ) (win1_8.stage (cfg1.slots t 8)) fullShare ((dat1 V c).after 8 t) from by
    unfold Dat.leavesExact; rw [show cfg1.idle 8 (grid1.coords t) = false from rfl], after1_8]
  rw [show (dat1 V c).leavesExact 9 t = owns (c : Thread nD τ) (win1_9.stage (cfg1.slots t 9)) fullShare ((dat1 V c).after 9 t) from by
    unfold Dat.leavesExact; rw [show cfg1.idle 9 (grid1.coords t) = false from rfl], after1_9]
  rw [show (dat1 V c).leavesExact 10 t = owns (c : Thread nD τ) (win1_10.stage (cfg1.slots t 10)) fullShare ((dat1 V c).after 10 t) from by
    unfold Dat.leavesExact; rw [show cfg1.idle 10 (grid1.coords t) = false from rfl], after1_10]
  rw [show (dat1 V c).leavesExact 13 t = owns (c : Thread nD τ) (win1_13.stage (cfg1.slots t 13)) fullShare ((dat1 V c).after 13 t) from by
    unfold Dat.leavesExact; rw [show cfg1.idle 13 (grid1.coords t) = false from rfl], after1_13]
  rw [show (dat1 V c).leavesExact 14 t = owns (c : Thread nD τ) (win1_14.stage (cfg1.slots t 14)) fullShare ((dat1 V c).after 14 t) from by
    unfold Dat.leavesExact; rw [show cfg1.idle 14 (grid1.coords t) = false from rfl], after1_14]
  by_cases h0 : t.val % 4 = 0
  · have h1 : ¬t.val % 4 = 3 := by omega
    rw [Dat.leavesExact_idle (dat1 V c) 11 t (idle1_11 t (fun h => h1 h.1)) (noFlush1_11 t (fun h => h1 h.1))]
    rw [Dat.leavesExact_idle (dat1 V c) 12 t (idle1_12 t h1) (noFlush1_12 t h1)]
    iintro ⟨⟨⟨%d, %e, %hk, HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (body1_A c (grid1.coords t) _ _ _ _ _ _ _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) d e _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [HS0]; · iexact HS0
    isplitl [HS1]; · iexact HS1
    iintro ⟨H0, H1, H2, H3, H4, H5, H6, H7, H8, H9, H10, H11, H12, H13, H14, HS0, HS1⟩
    isplitl [HS0 HS1 Hr]
    · isplitl [HS0 HS1]; swap; · iexact Hr
      iexists _; iexists _; isplitr; swap
      · isplitl [HS0]; · iexact HS0
        iexact HS1
      ipureintro
      refine ⟨fun _ => (dqtAt_first V c t h0).symm, fun hb => (hk.2 (by omega)).trans (dqAccAt_keep V c t.val h1).symm⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexact H13
    iexact H14
  by_cases h1 : t.val % 4 = 3
  · by_cases h2 : t.val / 4 % 16 = 15
    · rw [show (dat1 V c).leavesExact 11 t = owns (c : Thread nD τ) (win1_11.stage (cfg1.slots t 11)) fullShare ((dat1 V c).after 11 t) from by
            unfold Dat.leavesExact; rw [live1_11 t h1 h2], after1_11]
      rw [show (dat1 V c).leavesExact 12 t = owns (c : Thread nD τ) (win1_12.stage (cfg1.slots t 12)) fullShare ((dat1 V c).after 12 t) from by
            unfold Dat.leavesExact; rw [live1_12 t h1], after1_12]
      iintro ⟨⟨⟨%d, %e, %hk, HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      obtain rfl : d = dqtAt V c t.val := hk.1 h0
      obtain rfl : e = dqAccAt V c t.val := hk.2 (by omega)
      iapply (body1_D c (grid1.coords t) _ _ _ _ _ _ _ _ _ _ _ _ _ _ _ _ _ _ _ _ _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (dqtAt V c t.val) (dqAccAt V c t.val) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [HS0]; · iexact HS0
      isplitl [HS1]; · iexact HS1
      iintro ⟨H0, H1, H2, H3, H4, H5, H6, H7, H8, H9, H10, H11, H12, H13, H14, HS0, HS1⟩
      isplitl [HS0 HS1 Hr]
      · isplitl [HS0 HS1]; swap; · iexact Hr
        iexists _; iexists _; isplitr; swap
        · isplitl [HS0]; · iexact HS0
          iexact HS1
        ipureintro
        refine ⟨fun h => absurd (show (t.val + 1) % 4 = 0 by omega) h, fun hb => ?_⟩
        rw [dqAccAt_add V c t h1, dqtAt_next V c t h0]
        rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · rw [dqtAt_next V c t h0]; iexact H11
      isplitl [H12]; · rw [dqtAt_next V c t h0]; iexact H12
      isplitl [H13]; · iexact H13
      iexact H14
    · rw [Dat.leavesExact_idle (dat1 V c) 11 t (idle1_11 t (fun h => h2 h.2)) (noFlush1_11 t (fun h => h2 h.2))]
      rw [show (dat1 V c).leavesExact 12 t = owns (c : Thread nD τ) (win1_12.stage (cfg1.slots t 12)) fullShare ((dat1 V c).after 12 t) from by
            unfold Dat.leavesExact; rw [live1_12 t h1], after1_12]
      iintro ⟨⟨⟨%d, %e, %hk, HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      obtain rfl : d = dqtAt V c t.val := hk.1 h0
      iapply (body1_C c (grid1.coords t) _ _ _ _ _ _ _ _ _ _ _ _ _ _ _ _ _ _ _ _ _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (dqtAt V c t.val) e _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [HS0]; · iexact HS0
      isplitl [HS1]; · iexact HS1
      iintro ⟨H0, H1, H2, H3, H4, H5, H6, H7, H8, H9, H10, H11, H12, H13, H14, HS0, HS1⟩
      isplitl [HS0 HS1 Hr]
      · isplitl [HS0 HS1]; swap; · iexact Hr
        iexists _; iexists _; isplitr; swap
        · isplitl [HS0]; · iexact HS0
          iexact HS1
        ipureintro
        refine ⟨fun h => absurd (show (t.val + 1) % 4 = 0 by omega) h, fun hb => ?_⟩
        rw [dqAccAt_add V c t h1, dqtAt_next V c t h0]
        by_cases hb0 : t.val / 4 % 16 = 0
        · exact pay17_first _ (by rw [coords1_1]; exact hb0) _ _ _
        · rw [hk.2 hb0]; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · rw [dqtAt_next V c t h0]; iexact H12
      isplitl [H13]; · iexact H13
      iexact H14
  · rw [Dat.leavesExact_idle (dat1 V c) 11 t (idle1_11 t (fun h => h1 h.1)) (noFlush1_11 t (fun h => h1 h.1))]
    rw [Dat.leavesExact_idle (dat1 V c) 12 t (idle1_12 t h1) (noFlush1_12 t h1)]
    iintro ⟨⟨⟨%d, %e, %hk, HS0, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    obtain rfl : d = dqtAt V c t.val := hk.1 h0
    iapply (body1_B c (grid1.coords t) _ _ _ _ _ _ _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (dqtAt V c t.val) e _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [HS0]; · iexact HS0
    isplitl [HS1]; · iexact HS1
    iintro ⟨H0, H1, H2, H3, H4, H5, H6, H7, H8, H9, H10, H11, H12, H13, H14, HS0, HS1⟩
    isplitl [HS0 HS1 Hr]
    · isplitl [HS0 HS1]; swap; · iexact Hr
      iexists _; iexists _; isplitr; swap
      · isplitl [HS0]; · iexact HS0
        iexact HS1
      ipureintro
      refine ⟨fun _ => (dqtAt_next V c t h0).symm, fun hb => (hk.2 (by omega)).trans (dqAccAt_keep V c t.val h1).symm⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexact H13
    iexact H14

theorem defs₀_row1 (t : Fin cfg1.N) :
    defs₀ (F := F) .tc cfg1.body (cfg1.bodyArgs t (cfg1.slots t)) = bodyAt1 t := by
  unfold defs₀; rw [Defs.onTc_tc]

/-- The body's obligation at every point. -/
theorem obligation1 (c : Dev nD) : BodyObligation (dat1 V c) (defs₀ (F := F)) Variants.none () Set.univ := fun t => by
  rw [bigSep_W1, bigSep_W1, defs₀_row1]
  exact triple_restated (sound1 V c t) rfl .rfl fun _ => .rfl

/-- The scoped buffers, scratch first. -/
theorem scoped1_in (c : Dev nD) : (Pipeline.scopedRest (Ix := Unit) (Name := ℕ) (U := UR sig nD τ) (Lvl := ℕ) (Val := Elt F) spec1 c : sProp 𝕄) ⊢ Phi1 V c 0 := by
  rw [scopedRest1_eq]; unfold Phi1 rest1
  simp only [sc1_0, sc1_1, owns_whole]
  iintro ⟨R0, R1, R2, R3, R4, R5, R6, R7, R8, R9, R10, R11, R12, R13, ⟨%f, S0⟩, ⟨%g, S1⟩⟩
  isplitl [S0 S1]
  · iexists f; iexists g; isplitr
    · ipureintro; exact ⟨fun h => absurd rfl h, fun h => absurd rfl h⟩
    isplitl [S0]; · iexact S0
    iexact S1
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact R13

theorem scoped1_out (c : Dev nD) (n : ℕ) : Phi1 V c n ⊢ (Pipeline.scopedRest (Ix := Unit) (Name := ℕ) (U := UR sig nD τ) (Lvl := ℕ) (Val := Elt F) spec1 c : sProp 𝕄) := by
  rw [scopedRest1_eq]; unfold Phi1 rest1
  simp only [sc1_0, sc1_1, owns_whole]
  iintro ⟨⟨%f, %g, -, S0, S1⟩, R0, R1, R2, R3, R4, R5, R6, R7, R8, R9, R10, R11, R12, R13⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [S0]; · iexists _; iexact S0
  iexists _; iexact S1

end Cert.KernelIdeal.Gen

end
-- ==== Proof.RunIdeal.lean ====
/-
  The whole run: the host's reshapes, the quantiser's call, the main call and the host's reshapes of its results, one after the
  other; every buffer's contents at the end, the arguments as launched.
-/
module

public import proofs.«01_k».proof.Proof.Region0Ideal
public import proofs.«01_k».proof.Proof.Region1Ideal
public import proofs.«01_k».proof.Proof.Gen.KernelIdeal.Regions
public import Idealize.ShloMosaic.Lib.Pipeline.Regions
public import Idealize.ShloMosaic.Lib.Pipeline.RegionsLoop

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The buffers after the first call. -/
def W2 (c : Dev nD) : Valuation τ sig (Elt F) := Function.update (Function.update (Function.update (Function.update (Function.update (V1 m c) main_v9_0 ((dat0 (V1 m) c).arrAt 3 cfg0.N)) main_v9_1 ((dat0 (V1 m) c).arrAt 4 cfg0.N)) main_v9_2 ((dat0 (V1 m) c).arrAt 5 cfg0.N)) main_v9_3 ((dat0 (V1 m) c).arrAt 6 cfg0.N)) main_v9_4 ((dat0 (V1 m) c).arrAt 7 cfg0.N)
/-- The buffers after the second call. -/
def W3 (c : Dev nD) : Valuation τ sig (Elt F) := Function.update (Function.update (Function.update (Function.update (W2 m c) main_v10_0 ((dat1 (W2 m) c).arrAt 11 cfg1.N)) main_v10_1 ((dat1 (W2 m) c).arrAt 12 cfg1.N)) main_v10_2 ((dat1 (W2 m) c).arrAt 13 cfg1.N)) main_v10_3 ((dat1 (W2 m) c).arrAt 14 cfg1.N)
/-- The buffers at the end. -/
def W4 (c : Dev nD) : Valuation τ sig (Elt F) := StableHlo.after hostOps2 (W3 m c)

theorem W2_of (c : Dev nD) (r : Ref sig .tc) (h : r ∉ ([main_v9_0, main_v9_1, main_v9_2, main_v9_3, main_v9_4] : List (Ref sig .tc))) : W2 m c r = V1 m c r := by
  simp only [W2, Function.update_of_ne (StableHlo.devRef_ne_of_ne (List.ne_of_not_mem_cons h) : (Proc.devRef .tc r : DevRef τ sig) ≠ Proc.devRef .tc main_v9_0), Function.update_of_ne (StableHlo.devRef_ne_of_ne (List.ne_of_not_mem_cons (List.not_mem_of_not_mem_cons h)) : (Proc.devRef .tc r : DevRef τ sig) ≠ Proc.devRef .tc main_v9_1), Function.update_of_ne (StableHlo.devRef_ne_of_ne (List.ne_of_not_mem_cons (List.not_mem_of_not_mem_cons (List.not_mem_of_not_mem_cons h))) : (Proc.devRef .tc r : DevRef τ sig) ≠ Proc.devRef .tc main_v9_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v9_3), Function.update_of_ne (StableHlo.devRef_ne_of_ne (List.ne_of_not_mem_cons (List.not_mem_of_not_mem_cons (List.not_mem_of_not_mem_cons (List.not_mem_of_not_mem_cons (List.not_mem_of_not_mem_cons h))))) : (Proc.devRef .tc r : DevRef τ sig) ≠ Proc.devRef .tc main_v9_4)]
theorem W3_of (c : Dev nD) (r : Ref sig .tc) (h : r ∉ ([main_v10_0, main_v10_1, main_v10_2, main_v10_3] : List (Ref sig .tc))) : W3 m c r = W2 m c r := by
  simp only [W3, Function.update_of_ne (StableHlo.devRef_ne_of_ne (List.ne_of_not_mem_cons h) : (Proc.devRef .tc r : DevRef τ sig) ≠ Proc.devRef .tc main_v10_0), Function.update_of_ne (StableHlo.devRef_ne_of_ne (List.ne_of_not_mem_cons (List.not_mem_of_not_mem_cons h)) : (Proc.devRef .tc r : DevRef τ sig) ≠ Proc.devRef .tc main_v10_1), Function.update_of_ne (StableHlo.devRef_ne_of_ne (List.ne_of_not_mem_cons (List.not_mem_of_not_mem_cons (List.not_mem_of_not_mem_cons h))) : (Proc.devRef .tc r : DevRef τ sig) ≠ Proc.devRef .tc main_v10_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v10_3)]
theorem W2_main_v9_0 (c : Dev nD) : W2 m c main_v9_0 = (dat0 (V1 m) c).arrAt 3 cfg0.N := by
  simp only [W2, Function.update_of_ne (StableHlo.devRef_ne_of_ne (by decide : (main_v9_0 : Ref sig .tc) ≠ main_v9_1) : (Proc.devRef .tc main_v9_0 : DevRef τ sig) ≠ Proc.devRef .tc main_v9_1), Function.update_of_ne (StableHlo.devRef_ne_of_ne (by decide : (main_v9_0 : Ref sig .tc) ≠ main_v9_2) : (Proc.devRef .tc main_v9_0 : DevRef τ sig) ≠ Proc.devRef .tc main_v9_2), Function.update_of_ne (StableHlo.devRef_ne_of_ne (by decide : (main_v9_0 : Ref sig .tc) ≠ main_v9_3) : (Proc.devRef .tc main_v9_0 : DevRef τ sig) ≠ Proc.devRef .tc main_v9_3), Function.update_of_ne (StableHlo.devRef_ne_of_ne (by decide : (main_v9_0 : Ref sig .tc) ≠ main_v9_4) : (Proc.devRef .tc main_v9_0 : DevRef τ sig) ≠ Proc.devRef .tc main_v9_4), Function.update_self]
theorem W2_main_v9_1 (c : Dev nD) : W2 m c main_v9_1 = (dat0 (V1 m) c).arrAt 4 cfg0.N := by
  simp only [W2, Function.update_of_ne (StableHlo.devRef_ne_of_ne (by decide : (main_v9_1 : Ref sig .tc) ≠ main_v9_2) : (Proc.devRef .tc main_v9_1 : DevRef τ sig) ≠ Proc.devRef .tc main_v9_2), Function.update_of_ne (StableHlo.devRef_ne_of_ne (by decide : (main_v9_1 : Ref sig .tc) ≠ main_v9_3) : (Proc.devRef .tc main_v9_1 : DevRef τ sig) ≠ Proc.devRef .tc main_v9_3), Function.update_of_ne (StableHlo.devRef_ne_of_ne (by decide : (main_v9_1 : Ref sig .tc) ≠ main_v9_4) : (Proc.devRef .tc main_v9_1 : DevRef τ sig) ≠ Proc.devRef .tc main_v9_4), Function.update_self]
theorem W2_main_v9_2 (c : Dev nD) : W2 m c main_v9_2 = (dat0 (V1 m) c).arrAt 5 cfg0.N := by
  simp only [W2, Function.update_of_ne (StableHlo.devRef_ne_of_ne (by decide : (main_v9_2 : Ref sig .tc) ≠ main_v9_3) : (Proc.devRef .tc main_v9_2 : DevRef τ sig) ≠ Proc.devRef .tc main_v9_3), Function.update_of_ne (StableHlo.devRef_ne_of_ne (by decide : (main_v9_2 : Ref sig .tc) ≠ main_v9_4) : (Proc.devRef .tc main_v9_2 : DevRef τ sig) ≠ Proc.devRef .tc main_v9_4), Function.update_self]
theorem W2_main_v9_3 (c : Dev nD) : W2 m c main_v9_3 = (dat0 (V1 m) c).arrAt 6 cfg0.N := by
  simp only [W2, Function.update_of_ne (StableHlo.devRef_ne_of_ne (by decide : (main_v9_3 : Ref sig .tc) ≠ main_v9_4) : (Proc.devRef .tc main_v9_3 : DevRef τ sig) ≠ Proc.devRef .tc main_v9_4), Function.update_self]
theorem W2_main_v9_4 (c : Dev nD) : W2 m c main_v9_4 = (dat0 (V1 m) c).arrAt 7 cfg0.N := by
  simp only [W2, Function.update_self]
theorem W3_main_v10_0 (c : Dev nD) : W3 m c main_v10_0 = (dat1 (W2 m) c).arrAt 11 cfg1.N := by
  simp only [W3, Function.update_of_ne (StableHlo.devRef_ne_of_ne (by decide : (main_v10_0 : Ref sig .tc) ≠ main_v10_1) : (Proc.devRef .tc main_v10_0 : DevRef τ sig) ≠ Proc.devRef .tc main_v10_1), Function.update_of_ne (StableHlo.devRef_ne_of_ne (by decide : (main_v10_0 : Ref sig .tc) ≠ main_v10_2) : (Proc.devRef .tc main_v10_0 : DevRef τ sig) ≠ Proc.devRef .tc main_v10_2), Function.update_of_ne (StableHlo.devRef_ne_of_ne (by decide : (main_v10_0 : Ref sig .tc) ≠ main_v10_3) : (Proc.devRef .tc main_v10_0 : DevRef τ sig) ≠ Proc.devRef .tc main_v10_3), Function.update_self]
theorem W3_main_v10_1 (c : Dev nD) : W3 m c main_v10_1 = (dat1 (W2 m) c).arrAt 12 cfg1.N := by
  simp only [W3, Function.update_of_ne (StableHlo.devRef_ne_of_ne (by decide : (main_v10_1 : Ref sig .tc) ≠ main_v10_2) : (Proc.devRef .tc main_v10_1 : DevRef τ sig) ≠ Proc.devRef .tc main_v10_2), Function.update_of_ne (StableHlo.devRef_ne_of_ne (by decide : (main_v10_1 : Ref sig .tc) ≠ main_v10_3) : (Proc.devRef .tc main_v10_1 : DevRef τ sig) ≠ Proc.devRef .tc main_v10_3), Function.update_self]
theorem W3_main_v10_2 (c : Dev nD) : W3 m c main_v10_2 = (dat1 (W2 m) c).arrAt 13 cfg1.N := by
  simp only [W3, Function.update_of_ne (StableHlo.devRef_ne_of_ne (by decide : (main_v10_2 : Ref sig .tc) ≠ main_v10_3) : (Proc.devRef .tc main_v10_2 : DevRef τ sig) ≠ Proc.devRef .tc main_v10_3), Function.update_self]
theorem W3_main_v10_3 (c : Dev nD) : W3 m c main_v10_3 = (dat1 (W2 m) c).arrAt 14 cfg1.N := by
  simp only [W3, Function.update_self]
theorem W4_of (c : Dev nD) (r : Ref sig .tc) (h : r ∉ hostOps2_W) : W4 m c r = W3 m c r :=
  StableHlo.after_of_writes_sub hostOps2 _ hostOps2_writes h
theorem W4_arg (c : Dev nD) (r : Ref sig .tc) (h4 : r ∉ hostOps2_W) (h3 : r ∉ ([main_v10_0, main_v10_1, main_v10_2, main_v10_3] : List (Ref sig .tc))) (h2 : r ∉ ([main_v9_0, main_v9_1, main_v9_2, main_v9_3, main_v9_4] : List (Ref sig .tc))) (h1 : r ∉ hostOps0_W) :
    W4 m c r = m ((c : Thread nD τ).loc r) :=
  (W4_of m c r h4).trans ((W3_of m c r h3).trans ((W2_of m c r h2).trans ((V1_of m c r h1).trans rfl)))

/-- Each call's exact data, and its relational data. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (W2 m) c
def rdats : (p : Fin 2) → (c : Dev nD) → Pipeline.RDat τ (Elt F) Unit ℕ (UR sig nD τ) ℕ (Pipeline.pin (pcfgs (F := F)) adm p) c
  | ⟨0, _⟩ => fun c => rdat0 (V1 m) c
  | ⟨1, _⟩ => fun c => (dat1 (W2 m) c).toR

abbrev noL : GSem nD τ sig → Finset Unit := fun _ => ∅
abbrev noLv : GSem nD τ sig → Unit → ℕ := fun _ _ => 0
/-- A core owes nothing. -/
abbrev owing (c : Dev nD) : sProp 𝕄 := iprop(∃ W, owes (c : Thread nD τ) (0 : CellTallies nD τ sig Unit) W)

theorem final0_0 (c : Dev nD) : (pdats m 0 c).arrAt 0 cfg0.N = W2 m c (Pipeline.arrRef spec0 0) := ((pdats m 0 c).arrAt_in 0 rfl _).trans (W2_of m c main_v6 (by decide)).symm
theorem final0_1 (c : Dev nD) : (pdats m 0 c).arrAt 1 cfg0.N = W2 m c (Pipeline.arrRef spec0 1) := ((pdats m 0 c).arrAt_in 1 rfl _).trans (W2_of m c main_v5 (by decide)).symm
theorem final0_2 (c : Dev nD) : (pdats m 0 c).arrAt 2 cfg0.N = W2 m c (Pipeline.arrRef spec0 2) := ((pdats m 0 c).arrAt_in 2 rfl _).trans (W2_of m c main_v7 (by decide)).symm
theorem final0_3 (c : Dev nD) : (pdats m 0 c).arrAt 3 cfg0.N = W2 m c (Pipeline.arrRef spec0 3) := (W2_main_v9_0 m c).symm
theorem final0_4 (c : Dev nD) : (pdats m 0 c).arrAt 4 cfg0.N = W2 m c (Pipeline.arrRef spec0 4) := (W2_main_v9_1 m c).symm
theorem final0_5 (c : Dev nD) : (pdats m 0 c).arrAt 5 cfg0.N = W2 m c (Pipeline.arrRef spec0 5) := (W2_main_v9_2 m c).symm
theorem final0_6 (c : Dev nD) : (pdats m 0 c).arrAt 6 cfg0.N = W2 m c (Pipeline.arrRef spec0 6) := (W2_main_v9_3 m c).symm
theorem final0_7 (c : Dev nD) : (pdats m 0 c).arrAt 7 cfg0.N = W2 m c (Pipeline.arrRef spec0 7) := (W2_main_v9_4 m c).symm
set_option maxHeartbeats 3200000 in
theorem final0 (c : Dev nD) : ∀ w : Fin 8, (pdats m 0 c).arrAt w cfg0.N = W2 m c (Pipeline.arrRef spec0 w)
  | ⟨0, _⟩ => final0_0 m c
  | ⟨1, _⟩ => final0_1 m c
  | ⟨2, _⟩ => final0_2 m c
  | ⟨3, _⟩ => final0_3 m c
  | ⟨4, _⟩ => final0_4 m c
  | ⟨5, _⟩ => final0_5 m c
  | ⟨6, _⟩ => final0_6 m c
  | ⟨7, _⟩ => final0_7 m c

set_option backward.isDefEq.respectTransparency.types false in
/-- Call 0 as a segment of the run. -/
def reg0 : Pipeline.RDat.RegionSeg (pcfgs (F := F)) adm (rdats m) () defs₀ Variants.none noL noLv 0 where
  win := launch0.win.to₀
  block_pos := launch0.block_pos
  stage_whole := launch0.stage_whole
  K := PEmpty
  osem k := k.elim
  ho := Pipeline.OwnSemFacts.none _
  hbody c := obligation0 (V1 m) c
  hwaits := Pipeline.RDat.hwaits_of_owed_zero _ _ _ _ noL noLv 0 fun _ _ => rfl
  pre c := iprop(StableHlo.held (c : Thread nD τ) (Pipeline.ucRefs τ sig) (V1 m c) ∗ owing c)
  post c := iprop(StableHlo.held (c : Thread nD τ) (Pipeline.ucRefs τ sig) (W2 m c) ∗ owing c)
  X _ := BI.emp
  Y _ := BI.emp
  Z c := Pipeline.unscopedRest (Ix := Unit) (Name := ℕ) (U := UR sig nD τ) (Lvl := ℕ) spec0 c (fun b => V1 m c b)
  hentry c := by
    rw [Pipeline.ownSems0_none, ← Pipeline.unscopedBufs_held (Ix := Unit) (Name := ℕ) (U := UR sig nD τ) (Lvl := ℕ) c (V1 m c)]
    have hsplit := Pipeline.RDat.arrays_of_unscopedBufs (p := 0) (pcfgs (F := F)) adm (rdats m) launch0.win launch0.arr_whole c
      ((pdats m 0 c).share_full fun _ => rfl) (fun b => V1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rdats m 0 c).Φ 0 = Pipeline.scopedRest spec0 c from rfl]
    iintro ⟨-, -, Hr⟩
    iexact Hr
  hout c := by
    rw [Pipeline.ownSems0_none, show (rdats m 0 c).Φ (Fin.last _) = Pipeline.scopedRest spec0 c from rfl]
    iintro Hr
    isplitr; · iempintro
    isplitr; · iempintro
    iexact Hr
  hexit c := by
    rw [← Pipeline.unscopedBufs_held (Ix := Unit) (Name := ℕ) (U := UR sig nD τ) (Lvl := ℕ) c (W2 m c)]
    have harr : (rdats m 0 c).arraysAt cfg0.N ⊢ ((pdats m 0 c).arrays ((pdats m 0 c).arrAt · cfg0.N) : sProp 𝕄) := arraysAt0 (V1 m) c
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (fun b => V1 m c b) (fun b => W2 m c b) ((pdats m 0 c).arrAt · cfg0.N)
      (final0 m c)
      (fun b hb => W2_of m c b fun hm => by
        rcases List.mem_cons.mp hm with h | hm
        · exact hb (Finset.mem_image.mpr ⟨3, Finset.mem_univ _, h.symm⟩)
        rcases List.mem_cons.mp hm with h | hm
        · exact hb (Finset.mem_image.mpr ⟨4, Finset.mem_univ _, h.symm⟩)
        rcases List.mem_cons.mp hm with h | hm
        · exact hb (Finset.mem_image.mpr ⟨5, Finset.mem_univ _, h.symm⟩)
        rcases List.mem_cons.mp hm with h | hm
        · exact hb (Finset.mem_image.mpr ⟨6, Finset.mem_univ _, h.symm⟩)
        rcases List.mem_cons.mp hm with h | hm
        · exact hb (Finset.mem_image.mpr ⟨7, Finset.mem_univ _, h.symm⟩)
        exact absurd hm List.not_mem_nil)
    iintro ⟨Ha, HO, -, Hrest⟩
    imodintro
    isplitl [Ha Hrest]
    · iapply hjoin; isplitl [Ha]
      · iapply harr; iexact Ha
      · iexact Hrest
    unfold Pipeline.RDat.owesAt Pipeline.owesWithin
    icases HO with ⟨%W, -, HO⟩; iexists W; iexact HO

theorem final1_0 (c : Dev nD) : (pdats m 1 c).arrAt 0 cfg1.N = W3 m c (Pipeline.arrRef spec1 0) := ((pdats m 1 c).arrAt_in 0 rfl _).trans (W3_of m c main_v9_1 (by decide)).symm
theorem final1_1 (c : Dev nD) : (pdats m 1 c).arrAt 1 cfg1.N = W3 m c (Pipeline.arrRef spec1 1) := ((pdats m 1 c).arrAt_in 1 rfl _).trans (W3_of m c main_v0 (by decide)).symm
theorem final1_2 (c : Dev nD) : (pdats m 1 c).arrAt 2 cfg1.N = W3 m c (Pipeline.arrRef spec1 2) := ((pdats m 1 c).arrAt_in 2 rfl _).trans (W3_of m c main_v8 (by decide)).symm
theorem final1_3 (c : Dev nD) : (pdats m 1 c).arrAt 3 cfg1.N = W3 m c (Pipeline.arrRef spec1 3) := ((pdats m 1 c).arrAt_in 3 rfl _).trans (W3_of m c main_v1 (by decide)).symm
theorem final1_4 (c : Dev nD) : (pdats m 1 c).arrAt 4 cfg1.N = W3 m c (Pipeline.arrRef spec1 4) := ((pdats m 1 c).arrAt_in 4 rfl _).trans (W3_of m c main_v3 (by decide)).symm
theorem final1_5 (c : Dev nD) : (pdats m 1 c).arrAt 5 cfg1.N = W3 m c (Pipeline.arrRef spec1 5) := ((pdats m 1 c).arrAt_in 5 rfl _).trans (W3_of m c main_v2 (by decide)).symm
theorem final1_6 (c : Dev nD) : (pdats m 1 c).arrAt 6 cfg1.N = W3 m c (Pipeline.arrRef spec1 6) := ((pdats m 1 c).arrAt_in 6 rfl _).trans (W3_of m c main_v4 (by decide)).symm
theorem final1_7 (c : Dev nD) : (pdats m 1 c).arrAt 7 cfg1.N = W3 m c (Pipeline.arrRef spec1 7) := ((pdats m 1 c).arrAt_in 7 rfl _).trans (W3_of m c main_v9_0 (by decide)).symm
theorem final1_8 (c : Dev nD) : (pdats m 1 c).arrAt 8 cfg1.N = W3 m c (Pipeline.arrRef spec1 8) := ((pdats m 1 c).arrAt_in 8 rfl _).trans (W3_of m c main_v9_2 (by decide)).symm
theorem final1_9 (c : Dev nD) : (pdats m 1 c).arrAt 9 cfg1.N = W3 m c (Pipeline.arrRef spec1 9) := ((pdats m 1 c).arrAt_in 9 rfl _).trans (W3_of m c main_v9_3 (by decide)).symm
theorem final1_10 (c : Dev nD) : (pdats m 1 c).arrAt 10 cfg1.N = W3 m c (Pipeline.arrRef spec1 10) := ((pdats m 1 c).arrAt_in 10 rfl _).trans (W3_of m c main_v9_4 (by decide)).symm
theorem final1_11 (c : Dev nD) : (pdats m 1 c).arrAt 11 cfg1.N = W3 m c (Pipeline.arrRef spec1 11) := (W3_main_v10_0 m c).symm
theorem final1_12 (c : Dev nD) : (pdats m 1 c).arrAt 12 cfg1.N = W3 m c (Pipeline.arrRef spec1 12) := (W3_main_v10_1 m c).symm
theorem final1_13 (c : Dev nD) : (pdats m 1 c).arrAt 13 cfg1.N = W3 m c (Pipeline.arrRef spec1 13) := (W3_main_v10_2 m c).symm
theorem final1_14 (c : Dev nD) : (pdats m 1 c).arrAt 14 cfg1.N = W3 m c (Pipeline.arrRef spec1 14) := (W3_main_v10_3 m c).symm
set_option maxHeartbeats 3200000 in
theorem final1 (c : Dev nD) : ∀ w : Fin 15, (pdats m 1 c).arrAt w cfg1.N = W3 m c (Pipeline.arrRef spec1 w)
  | ⟨0, _⟩ => final1_0 m c
  | ⟨1, _⟩ => final1_1 m c
  | ⟨2, _⟩ => final1_2 m c
  | ⟨3, _⟩ => final1_3 m c
  | ⟨4, _⟩ => final1_4 m c
  | ⟨5, _⟩ => final1_5 m c
  | ⟨6, _⟩ => final1_6 m c
  | ⟨7, _⟩ => final1_7 m c
  | ⟨8, _⟩ => final1_8 m c
  | ⟨9, _⟩ => final1_9 m c
  | ⟨10, _⟩ => final1_10 m c
  | ⟨11, _⟩ => final1_11 m c
  | ⟨12, _⟩ => final1_12 m c
  | ⟨13, _⟩ => final1_13 m c
  | ⟨14, _⟩ => final1_14 m c

set_option backward.isDefEq.respectTransparency.types false in
/-- Call 1 as a segment of the run. -/
def reg1 : Pipeline.RDat.RegionSeg (pcfgs (F := F)) adm (rdats m) () defs₀ Variants.none noL noLv 1 where
  win := launch1.win.to₀
  block_pos := launch1.block_pos
  stage_whole := launch1.stage_whole
  K := PEmpty
  osem k := k.elim
  ho := Pipeline.OwnSemFacts.none _
  hbody c := ((obligation1 (W2 m) c).loose).toR
  hwaits := Pipeline.RDat.hwaits_of_owed_zero _ _ _ _ noL noLv 1 fun _ _ => rfl
  pre c := iprop(StableHlo.held (c : Thread nD τ) (Pipeline.ucRefs τ sig) (W2 m c) ∗ owing c)
  post c := iprop(StableHlo.held (c : Thread nD τ) (Pipeline.ucRefs τ sig) (W3 m c) ∗ owing c)
  X _ := BI.emp
  Y _ := BI.emp
  Z c := Pipeline.unscopedRest (Ix := Unit) (Name := ℕ) (U := UR sig nD τ) (Lvl := ℕ) spec1 c (fun b => W2 m c b)
  hentry c := by
    rw [Pipeline.ownSems0_none, ← Pipeline.unscopedBufs_held (Ix := Unit) (Name := ℕ) (U := UR sig nD τ) (Lvl := ℕ) c (W2 m c)]
    have hsplit := Pipeline.RDat.arrays_of_unscopedBufs (p := 1) (pcfgs (F := F)) adm (rdats m) launch1.win launch1.arr_whole c
      ((pdats m 1 c).share_full fun _ => rfl) (fun b => W2 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rdats m 1 c).Φ 0 = Phi1 (W2 m) c 0 from rfl]
    iintro ⟨-, -, Hr⟩
    iapply (scoped1_in (W2 m) c); iexact Hr
  hout c := by
    rw [Pipeline.ownSems0_none, show (rdats m 1 c).Φ (Fin.last _) = Phi1 (W2 m) c cfg1.N from rfl]
    iintro Hr
    isplitr; · iempintro
    isplitr; · iempintro
    iapply (scoped1_out (W2 m) c cfg1.N); iexact Hr
  hexit c := by
    rw [← Pipeline.unscopedBufs_held (Ix := Unit) (Name := ℕ) (U := UR sig nD τ) (Lvl := ℕ) c (W3 m c)]
    have harr : (rdats m 1 c).arraysAt cfg1.N ⊢ ((pdats m 1 c).arrays ((pdats m 1 c).arrAt · cfg1.N) : sProp 𝕄) := (dat1 (W2 m) c).toR_arraysAt_post _
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (fun b => W2 m c b) (fun b => W3 m c b) ((pdats m 1 c).arrAt · cfg1.N)
      (final1 m c)
      (fun b hb => W3_of m c b fun hm => by
        rcases List.mem_cons.mp hm with h | hm
        · exact hb (Finset.mem_image.mpr ⟨11, Finset.mem_univ _, h.symm⟩)
        rcases List.mem_cons.mp hm with h | hm
        · exact hb (Finset.mem_image.mpr ⟨12, Finset.mem_univ _, h.symm⟩)
        rcases List.mem_cons.mp hm with h | hm
        · exact hb (Finset.mem_image.mpr ⟨13, Finset.mem_univ _, h.symm⟩)
        rcases List.mem_cons.mp hm with h | hm
        · exact hb (Finset.mem_image.mpr ⟨14, Finset.mem_univ _, h.symm⟩)
        exact absurd hm List.not_mem_nil)
    iintro ⟨Ha, HO, -, Hrest⟩
    imodintro
    isplitl [Ha Hrest]
    · iapply hjoin; isplitl [Ha]
      · iapply harr; iexact Ha
      · iexact Hrest
    unfold Pipeline.RDat.owesAt Pipeline.owesWithin
    icases HO with ⟨%W, -, HO⟩; iexists W; iexact HO

/-- The host's operations before and after the calls. -/
def host0 : Pipeline.HostSeg (Ix := Unit) (Name := ℕ) (U := UR sig nD τ) (Lvl := ℕ) (pcfgs (F := F)) defs₀ Variants.none noL noLv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) owing
def host3 : Pipeline.HostSeg (Ix := Unit) (Name := ℕ) (U := UR sig nD τ) (Lvl := ℕ) (pcfgs (F := F)) defs₀ Variants.none noL noLv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) owing
abbrev rsegs (c : Dev nD) : List (Pipeline.RDat.Seg (pcfgs (F := F)) adm (rdats m) () defs₀ Variants.none noL noLv) :=
  [.host (host0 m), .region (reg0 m), .region (reg1 m), .host (host3 m)]

/-- What a final state holds: each result as the last operations leave it, each argument as launched. -/
def Ends (c : Dev nD) (s : MemSt nD τ sig (Elt F)) : Prop :=
  s.mem ((c.tc : Thread nD τ).loc main_v11) = W4 m c main_v11 ∧ s.mem ((c.tc : Thread nD τ).loc main_v12) = W4 m c main_v12 ∧ s.mem ((c.tc : Thread nD τ).loc main_v13) = W4 m c main_v13 ∧ s.mem ((c.tc : Thread nD τ).loc main_v14) = W4 m c main_v14 ∧ s.mem ((c.tc : Thread nD τ).loc main_v15) = W4 m c main_v15 ∧ s.mem ((c.tc : Thread nD τ).loc main_v16) = W4 m c main_v16 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7)

set_option backward.isDefEq.respectTransparency.types false in
/-- Every run ends, with these contents and every counter at zero. -/
theorem run (ρ : Dev nD → PrngReg) :
    θ_run defs (onTc (τ := τ) (main (F := F))) ⟨m, fun _ => 0, ρ⟩ (fun r => (∀ c : Dev nD, Ends m c r.2) ∧ r.2.sem = fun _ => 0) := by
  refine Pipeline.RDat.θ_run_regions_kit_dev_sems (pcfgs (F := F)) adm (rdats m) () cellOf_inj emb₁ defs₀ Variants.none noL noLv m ρ main
    (rsegs m)
    (fun c Q => by
      rewrite [main_chain c, Pipeline.RDat.Seg.run_eq_chain,
        show (rsegs m c).map Pipeline.RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [rsegs, Pipeline.RDat.Seg.pipes_host, Pipeline.RDat.Seg.pipes_region, Pipeline.RDat.Seg.pipes_nil]; decide) (fun _ => 0) (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ owing c))
    (Tₙ := fun c => StableHlo.held (c : Thread nD τ) (Pipeline.ucRefs τ sig) (W4 m c))
    (hch := fun c => ⟨.rfl, .rfl, .rfl, .rfl, .rfl⟩)
    (hinit := ?_) (QY := fun c s => Ends m c s)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ iprop(emp)))
        ⊢ (bigSep Finset.univ fun c : Dev nD => iprop(StableHlo.held (c : Thread nD τ) (Pipeline.ucRefs τ sig) (V0 m c) ∗ owing c) : sProp 𝕄) :=
      bigSep_mono fun c _ => show (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ iprop(emp)) : sProp 𝕄) ⊢ iprop(StableHlo.held (c : Thread nD τ) (Pipeline.ucRefs τ sig) (V0 m c) ∗ owing c) from by
        rw [← Pipeline.unscopedBufs_held (Ix := Unit) (Name := ℕ) (U := UR sig nD τ) (Lvl := ℕ) c (V0 m c)]
        iintro ⟨Hb, -, HO, -, -, -⟩
        isplitl [Hb]; · iexact Hb
        iexists _; iexact HO
    iintro ⟨H, -⟩
    imodintro
    iapply hsplit; iexact H
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact ⟨(h (Proc.devRef .tc main_v11) (Finset.mem_filter.mpr ⟨StableHlo.devRef_mem_tcRefs main_v11, by decide⟩)),
        (h (Proc.devRef .tc main_v12) (Finset.mem_filter.mpr ⟨StableHlo.devRef_mem_tcRefs main_v12, by decide⟩)),
        (h (Proc.devRef .tc main_v13) (Finset.mem_filter.mpr ⟨StableHlo.devRef_mem_tcRefs main_v13, by decide⟩)),
        (h (Proc.devRef .tc main_v14) (Finset.mem_filter.mpr ⟨StableHlo.devRef_mem_tcRefs main_v14, by decide⟩)),
        (h (Proc.devRef .tc main_v15) (Finset.mem_filter.mpr ⟨StableHlo.devRef_mem_tcRefs main_v15, by decide⟩)),
        (h (Proc.devRef .tc main_v16) (Finset.mem_filter.mpr ⟨StableHlo.devRef_mem_tcRefs main_v16, by decide⟩)),
        (h (Proc.devRef .tc main_arg0) (Finset.mem_filter.mpr ⟨StableHlo.devRef_mem_tcRefs main_arg0, by decide⟩)).trans (W4_arg m c main_arg0 (by decide) (by decide) (by decide) (by decide)),
        (h (Proc.devRef .tc main_arg1) (Finset.mem_filter.mpr ⟨StableHlo.devRef_mem_tcRefs main_arg1, by decide⟩)).trans (W4_arg m c main_arg1 (by decide) (by decide) (by decide) (by decide)),
        (h (Proc.devRef .tc main_arg2) (Finset.mem_filter.mpr ⟨StableHlo.devRef_mem_tcRefs main_arg2, by decide⟩)).trans (W4_arg m c main_arg2 (by decide) (by decide) (by decide) (by decide)),
        (h (Proc.devRef .tc main_arg3) (Finset.mem_filter.mpr ⟨StableHlo.devRef_mem_tcRefs main_arg3, by decide⟩)).trans (W4_arg m c main_arg3 (by decide) (by decide) (by decide) (by decide)),
        (h (Proc.devRef .tc main_arg4) (Finset.mem_filter.mpr ⟨StableHlo.devRef_mem_tcRefs main_arg4, by decide⟩)).trans (W4_arg m c main_arg4 (by decide) (by decide) (by decide) (by decide)),
        (h (Proc.devRef .tc main_arg5) (Finset.mem_filter.mpr ⟨StableHlo.devRef_mem_tcRefs main_arg5, by decide⟩)).trans (W4_arg m c main_arg5 (by decide) (by decide) (by decide) (by decide)),
        (h (Proc.devRef .tc main_arg6) (Finset.mem_filter.mpr ⟨StableHlo.devRef_mem_tcRefs main_arg6, by decide⟩)).trans (W4_arg m c main_arg6 (by decide) (by decide) (by decide) (by decide)),
        (h (Proc.devRef .tc main_arg7) (Finset.mem_filter.mpr ⟨StableHlo.devRef_mem_tcRefs main_arg7, by decide⟩)).trans (W4_arg m c main_arg7 (by decide) (by decide) (by decide) (by decide))⟩
    · iexact HSI

end Cert.KernelIdeal.Gen

end
-- ==== Proof.Expo.lean ====
/-
The exponent of a scale: the number of powers of two at most a quotient is the floor of its logarithm, and the words
shifted into the exponent field are the powers of two of both signs.
-/
module

public import Idealize.ShloMosaic.Lib.Pointwise
public import Idealize.ShloMosaic.Lib.IdealHost

@[expose] public section

set_option maxRecDepth 16384

noncomputable section
namespace Cert.Expo
open Idealize.ShloMosaic

theorem word (k : Fin 255) : ((BitVec.ofNat 32 k.val <<< 23).extractLsb' 31 1 = 0#1) ∧
    ((BitVec.ofNat 32 k.val <<< 23).extractLsb' 23 8).toNat = k.val ∧
    ((BitVec.ofNat 32 k.val <<< 23).extractLsb' 0 23).toNat = 0 := by
  revert k; decide +kernel

theorem shl (x : BitVec 32) : IntOp.shli .vector x 23#32 = x <<< 23 := by
  unfold IntOp.shli; simp

theorem real_pow (k : ℕ) : ((2 ^ 23 + 0 : ℕ) : ℝ) * (2 : ℝ) ^ ((k : ℤ) - (2 ^ 7 - 1) - 23) = (2 : ℝ) ^ ((k : ℤ) - 127) := by
  have h : ((2 ^ 23 + 0 : ℕ) : ℝ) = (2 : ℝ) ^ (23 : ℤ) := by norm_num
  rw [h, ← zpow_add₀ (by norm_num)]
  congr 1
  ring

theorem ieee_pow (b : BitVec 32) (k : ℕ) (h1 : 1 ≤ k) (h2 : k ≤ 254) (ha : b.extractLsb' 31 1 = 0#1)
    (hb : (b.extractLsb' 23 8).toNat = k) (hc : (b.extractLsb' 0 23).toNat = 0) :
    Ideal.ieee 8 23 b = (((2 : ℝ) ^ ((k : ℤ) - 127) : ℝ) : EReal) := by
  have e1 : ¬ k = 2 ^ 8 - 1 := by omega
  have e2 : ¬ k = 0 := by omega
  have hn : (0#1 == 1#1) = false := by decide
  unfold Ideal.ieee
  dsimp only
  rw [show (8 + 23 : ℕ) = 31 from rfl, ha, hb, hc, hn, if_neg e1, if_neg e2]
  refine congrArg Real.toEReal ?_
  rw [if_neg (by simp), one_mul, ← real_pow]
  rfl

/-- The word whose exponent field is `k`, read as a float. -/
theorem ofBits_pow (k : ℕ) (h1 : 1 ≤ k) (h2 : k ≤ 254) :
    Ideal.ofBits .f32 (IntOp.shli .vector (BitVec.ofNat 32 k) 23#32) = (((2 : ℝ) ^ ((k : ℤ) - 127) : ℝ) : EReal) := by
  have w := word ⟨k, by omega⟩
  rw [shl]
  exact ieee_pow _ k h1 h2 w.1 w.2.1 w.2.2

theorem ofBits_top : Ideal.ofBits .f32 (IntOp.shli .vector 255#32 23#32) = ⊤ := by
  rw [shl]
  simp [Ideal.ofBits, Ideal.ieee]

theorem fold_count (M : Fin 256) :
    Finset.fold IntOp.addi (0#32) (fun x : Fin 256 => if x.val < M.val then 1#32 else 0#32) Finset.univ
      = BitVec.ofNat 32 M.val := by
  revert M; decide +kernel

/-- Whether the float of exponent field `x + 1` is at most `y`, for the fields 1 .. 255. -/
def bit (y : EReal) (x : Fin 256) : BitVec 32 :=
  Scalar.select (IntOp.andi (IntOp.cmpi .slt (BitVec.ofNat 32 x.val) 255#32)
    (BitVec.ofBool (decide (Ideal.ofBits .f32 (IntOp.shli .vector (IntOp.addi (BitVec.ofNat 32 x.val) 1#32) 23#32) ≤ y)))) 1#32 0#32

def count (y : EReal) : BitVec 32 := Finset.fold IntOp.addi (0#32) (bit y) Finset.univ

theorem slt255 (x : Fin 256) : IntOp.cmpi .slt (BitVec.ofNat 32 x.val) 255#32 = BitVec.ofBool (decide (x.val < 255)) := by
  revert x; decide +kernel

theorem add1 (x : ℕ) : IntOp.addi (BitVec.ofNat 32 x) 1#32 = BitVec.ofNat 32 (x + 1) := by
  unfold IntOp.addi
  rw [← BitVec.ofNat_add]

theorem select_ofBool (p q : Bool) : Scalar.select (IntOp.andi (BitVec.ofBool p) (BitVec.ofBool q)) 1#32 0#32
    = if (p && q) = true then 1#32 else 0#32 := by
  revert p q; decide

theorem count_eq (y : ℝ) (M : ℕ) (hM : M ≤ 253)
    (h : ∀ x : ℕ, x ≤ 253 → (((2 : ℝ) ^ ((x : ℤ) - 126) ≤ y) ↔ x < M)) : count (y : EReal) = BitVec.ofNat 32 M := by
  rw [← fold_count ⟨M, by omega⟩]
  unfold count
  refine congrArg (fun f => Finset.fold IntOp.addi (0#32) f Finset.univ) ?_
  funext x
  unfold bit
  rw [slt255, add1, select_ofBool]
  refine if_congr ?_ rfl rfl
  simp only [Bool.and_eq_true, decide_eq_true_eq]
  by_cases hx : x.val ≤ 253
  · rw [ofBits_pow _ (by omega) (by omega), EReal.coe_le_coe_iff,
      show ((x.val + 1 : ℕ) : ℤ) - 127 = (x.val : ℤ) - 126 by push_cast; ring, h _ hx]
    exact ⟨fun hh => hh.2, fun hh => ⟨by omega, hh⟩⟩
  · have hx' : x.val = 254 ∨ x.val = 255 := by omega
    rcases hx' with hx' | hx'
    · rw [hx', show BitVec.ofNat 32 (254 + 1) = 255#32 from rfl, ofBits_top]
      constructor
      · intro hh; exact absurd hh.2 (by simp)
      · intro hh; omega
    · constructor
      · intro hh; omega
      · intro hh; omega

theorem pow_le (y : ℝ) (hy : 0 < y) (n : ℤ) : (2 : ℝ) ^ n ≤ y ↔ n ≤ ⌊Real.log y / Real.log 2⌋ := by
  rw [Int.le_floor, le_div_iff₀ (Real.log_pos (by norm_num)), ← Real.log_zpow,
    Real.log_le_log_iff (by positivity) hy]

/-- The exponent of the scale of a quotient `y`. -/
def expOf (y : ℝ) : ℤ := if y < (2 : ℝ) ^ (-126 : ℤ) then 0 else ⌊Real.log y / Real.log 2⌋ + 1

theorem expOf_range (y : ℝ) (h1 : y < (2 : ℝ) ^ (113 : ℤ)) : -125 ≤ expOf y ∧ expOf y ≤ 113 := by
  unfold expOf
  split
  · omega
  · rename_i h
    have h := not_lt.1 h
    have hy : 0 < y := lt_of_lt_of_le (by positivity) h
    have a := (pow_le y hy (-126)).1 h
    have b : ¬ (113 : ℤ) ≤ ⌊Real.log y / Real.log 2⌋ := fun hh => absurd ((pow_le y hy 113).2 hh) (not_le.2 h1)
    omega

/-- The kernel's exponent word. -/
def word32 (y : EReal) : BitVec 32 :=
  Scalar.select (IntOp.cmpi .eq (count y) 0#32) 0#32 (IntOp.subi (count y) 126#32)

theorem sub126 (M : ℕ) (h : 1 ≤ M) (h' : M ≤ 253) : Scalar.select (IntOp.cmpi .eq (BitVec.ofNat 32 M) 0#32) (0#32 : BitVec 32) (IntOp.subi (BitVec.ofNat 32 M) 126#32)
     = BitVec.ofInt 32 ((M : ℤ) - 126) := by
  have : ∀ M : Fin 254, 1 ≤ M.val → Scalar.select (IntOp.cmpi .eq (BitVec.ofNat 32 M.val) 0#32) (0#32 : BitVec 32) (IntOp.subi (BitVec.ofNat 32 M.val) 126#32)
     = BitVec.ofInt 32 ((M.val : ℤ) - 126) := by decide +kernel
  exact this ⟨M, by omega⟩ h

theorem word32_eq (y : ℝ) (h1 : y < (2 : ℝ) ^ (113 : ℤ)) : word32 (y : EReal) = BitVec.ofInt 32 (expOf y) := by
  have hr := expOf_range y h1
  by_cases h : y < (2 : ℝ) ^ (-126 : ℤ)
  · have hc : count (y : EReal) = BitVec.ofNat 32 0 := by
      refine count_eq y 0 (by omega) fun x _ => ⟨fun hh => ?_, fun hh => absurd hh (by omega)⟩
      refine absurd (hh.trans_lt h) (not_lt.2 ?_)
      exact zpow_le_zpow_right₀ (by norm_num) (by omega)
    unfold word32 expOf
    rw [hc, if_pos h]
    decide
  · have h' := not_lt.1 h
    have hy : 0 < y := lt_of_lt_of_le (by positivity) h'
    have hE : expOf y = ⌊Real.log y / Real.log 2⌋ + 1 := if_neg h
    have hc : count (y : EReal) = BitVec.ofNat 32 (expOf y + 126).toNat := by
      refine count_eq y _ (by omega) fun x _ => ?_
      rw [pow_le y hy]
      omega
    unfold word32
    rw [hc, sub126 _ (by omega) (by omega)]
    congr 1
    omega

theorem add127 (e : ℤ) (h : -125 ≤ e) (h' : e ≤ 113) :
    IntOp.addi 127#32 (BitVec.ofInt 32 e) = BitVec.ofNat 32 (127 + e).toNat := by
  have : ∀ k : Fin 239, IntOp.addi 127#32 (BitVec.ofInt 32 ((k.val : ℤ) - 125)) = BitVec.ofNat 32 (k.val + 2) := by
    decide +kernel
  have := this ⟨(e + 125).toNat, by omega⟩
  simp only at this
  rw [show (((e + 125).toNat : ℕ) : ℤ) - 125 = e by omega] at this
  rw [this]
  congr 1
  omega

theorem sub127 (e : ℤ) (h : -125 ≤ e) (h' : e ≤ 113) :
    IntOp.subi 127#32 (BitVec.ofInt 32 e) = BitVec.ofNat 32 (127 - e).toNat := by
  have : ∀ k : Fin 239, IntOp.subi 127#32 (BitVec.ofInt 32 ((k.val : ℤ) - 125)) = BitVec.ofNat 32 (252 - k.val) := by
    decide +kernel
  have := this ⟨(e + 125).toNat, by omega⟩
  simp only at this
  rw [show (((e + 125).toNat : ℕ) : ℤ) - 125 = e by omega] at this
  rw [this]
  congr 1
  omega

/-- The kernel's scale is two to the exponent, and its inverse two to the opposite one. -/
theorem scale_eq (y : ℝ) (h1 : y < (2 : ℝ) ^ (113 : ℤ)) :
    Ideal.ofBits .f32 (IntOp.shli .vector (IntOp.addi 127#32 (word32 (y : EReal))) 23#32)
      = (((2 : ℝ) ^ expOf y : ℝ) : EReal) := by
  have hr := expOf_range y h1
  rw [word32_eq y h1, add127 _ hr.1 hr.2, ofBits_pow _ (by omega) (by omega)]
  congr 2
  omega

theorem inv_eq (y : ℝ) (h1 : y < (2 : ℝ) ^ (113 : ℤ)) :
    Ideal.ofBits .f32 (IntOp.shli .vector (IntOp.subi 127#32 (word32 (y : EReal))) 23#32)
      = (((2 : ℝ) ^ (-expOf y) : ℝ) : EReal) := by
  have hr := expOf_range y h1
  rw [word32_eq y h1, sub127 _ hr.1 hr.2, ofBits_pow _ (by omega) (by omega)]
  congr 2
  omega

end Cert.Expo

end
-- ==== Proof.Spec.lean ====
/-
The mathematics both programs meet at: the six results as functions of the arguments by coordinates.
-/
module

public import proofs.«01_k».proof.Proof.Expo
public import Idealize.ShloMosaic.Lib.IdealHost

@[expose] public section

set_option maxRecDepth 16384

noncomputable section
namespace Cert.Spec
open Idealize.ShloMosaic Cert.Expo

/-- The arguments, by coordinates. -/
structure Args where
  q : Fin 256 → Fin 5 → Fin 128 → EReal
  k : Fin 16 → Fin 16384 → Fin 5 → Fin 128 → EReal
  ks : Fin 16 → Fin 16384 → Fin 5 → EReal
  v : Fin 16 → Fin 16384 → Fin 5 → Fin 128 → EReal
  vs : Fin 16 → Fin 16384 → Fin 5 → EReal
  o : Fin 16 → Fin 256 → Fin 5 → Fin 128 → EReal
  lse : Fin 16 → Fin 5 → Fin 256 → EReal
  g : Fin 16 → Fin 256 → Fin 5 → Fin 128 → EReal

variable (A : Args)

def amax (b : Fin 16) (h : Fin 5) : EReal :=
  Finset.univ.sup fun p : Fin 256 × Fin 128 => max (A.g b p.1 h p.2) (-A.g b p.1 h p.2)

/-- The largest |gradient| of a sequence and head over the largest code. -/
def quo (b : Fin 16) (h : Fin 5) : EReal := amax A b h * Ideal.ofBits .f32 0x37924925#32

def ex (b : Fin 16) (h : Fin 5) : ℤ := expOf (quo A b h).toReal

def dos (b : Fin 16) (h : Fin 5) : EReal := (((2 : ℝ) ^ ex A b h : ℝ) : EReal)

def code (b : Fin 16) (l : Fin 256) (h : Fin 5) (d : Fin 128) : EReal :=
  min (Ideal.ofBits .f32 0x47600000#32) (max (Ideal.ofBits .f32 0xC7600000#32)
    (A.g b l h d * (((2 : ℝ) ^ (-ex A b h) : ℝ) : EReal)))

def sm : ℝ := (Real.sqrt 128)⁻¹

def p (b : Fin 16) (h : Fin 5) (l : Fin 256) (t : Fin 16384) : EReal :=
  Ideal.exp ((∑ x, A.k b t h x * A.q l h x) * ((sm : EReal) * A.ks b t h) - A.lse b h l)

def delta (b : Fin 16) (h : Fin 5) (l : Fin 256) : EReal := ∑ x, code A b l h x * dos A b h * A.o b l h x

def ds (b : Fin 16) (h : Fin 5) (l : Fin 256) (t : Fin 16384) : EReal :=
  p A b h l t * ((∑ x, code A b l h x * A.v b t h x) * (dos A b h * A.vs b t h) - delta A b h l)

def dv (b : Fin 16) (t : Fin 16384) (h : Fin 5) (d : Fin 128) : EReal :=
  (∑ l, code A b l h d * p A b h l t) * dos A b h

def dk (b : Fin 16) (t : Fin 16384) (h : Fin 5) (d : Fin 128) : EReal :=
  (sm : EReal) * ∑ l, A.q l h d * ds A b h l t

def dqs (b : Fin 16) (l : Fin 256) (h : Fin 5) (d : Fin 128) : EReal :=
  (sm : EReal) * ∑ t, A.k b t h d * (ds A b h l t * A.ks b t h)

def dq (l : Fin 256) (h : Fin 5) (d : Fin 128) : EReal := ∑ b, dqs A b l h d

/-- The scales of k are finite and at least zero, the gradient is finite. -/
structure Tame : Prop where
  ks0 : ∀ b t h, 0 ≤ A.ks b t h
  ks1 : ∀ b t h, A.ks b t h ≤ Ideal.ofBits .f32 0x7F7FFFFF#32
  g0 : ∀ b l h d, Ideal.ofBits .f32 0xFF7F0000#32 ≤ A.g b l h d
  g1 : ∀ b l h d, A.g b l h d ≤ Ideal.ofBits .f32 0x7F7F0000#32

theorem ofBits_top : Ideal.ofBits .f32 0x7F7F0000#32 = (((16711680 : ℝ) * 2 ^ (104 : ℤ) : ℝ) : EReal) := by
  simp [Ideal.ofBits, Ideal.ieee, -EReal.coe_mul]
theorem ofBits_max : Ideal.ofBits .f32 0x7F7FFFFF#32 = (((16777215 : ℝ) * 2 ^ (104 : ℤ) : ℝ) : EReal) := by
  simp [Ideal.ofBits, Ideal.ieee, -EReal.coe_mul]
theorem ofBits_bot : Ideal.ofBits .f32 0xFF7F0000#32 = ((-((16711680 : ℝ) * 2 ^ (104 : ℤ)) : ℝ) : EReal) := by
  simp [Ideal.ofBits, Ideal.ieee, -EReal.coe_mul, -EReal.coe_neg]
theorem ofBits_quot : Ideal.ofBits .f32 0x37924925#32 = (((9586981 : ℝ) * 2 ^ (-39 : ℤ) : ℝ) : EReal) := by
  simp [Ideal.ofBits, Ideal.ieee, -EReal.coe_mul]
theorem ofBits_normal : Ideal.ofBits .f32 0x00800000#32 = (((2 : ℝ) ^ (-126 : ℤ) : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_ninf : Ideal.ofBits .f32 0xFF800000#32 = (⊥ : EReal) := by
  simp [Ideal.ofBits, Ideal.ieee]

variable {A}

theorem amax_le (T : Tame A) (b : Fin 16) (h : Fin 5) : amax A b h ≤ (((16711680 : ℝ) * 2 ^ (104 : ℤ) : ℝ) : EReal) := by
  refine Finset.sup_le fun p _ => max_le ?_ ?_
  · rw [← ofBits_top]; exact T.g1 _ _ _ _
  · have h := T.g0 b p.1 h p.2
    rw [ofBits_bot, EReal.coe_neg] at h
    exact EReal.neg_le_of_neg_le h

theorem amax_nonneg (b : Fin 16) (h : Fin 5) : 0 ≤ amax A b h := by
  refine le_trans ?_ (Finset.le_sup (Finset.mem_univ ((0, 0) : Fin 256 × Fin 128)))
  rcases le_total 0 (A.g b 0 h 0) with h' | h'
  · exact le_max_of_le_left h'
  · exact le_max_of_le_right (EReal.neg_nonneg.2 h')

theorem quo_real (T : Tame A) (b : Fin 16) (h : Fin 5) :
    ∃ y : ℝ, quo A b h = (y : EReal) ∧ y < (2 : ℝ) ^ (113 : ℤ) := by
  have h0 := amax_nonneg (A := A) b h
  have h1 := amax_le T b h
  have ht : amax A b h ≠ ⊤ := fun e => by rw [e] at h1; exact EReal.coe_ne_top _ (top_le_iff.1 h1)
  have hb : amax A b h ≠ ⊥ := fun e => by rw [e] at h0; exact absurd h0 (by simp)
  obtain ⟨r, hr⟩ : ∃ r : ℝ, amax A b h = (r : EReal) := ⟨_, (EReal.coe_toReal ht hb).symm⟩
  rw [hr] at h1
  have h1 := EReal.coe_le_coe_iff.1 h1
  refine ⟨r * (9586981 * 2 ^ (-39 : ℤ)), ?_, ?_⟩
  · unfold quo; rw [hr, ofBits_quot, ← EReal.coe_mul]
  · refine lt_of_le_of_lt (mul_le_mul_of_nonneg_right h1 (by positivity)) ?_
    norm_num

theorem quo_coe (T : Tame A) (b : Fin 16) (h : Fin 5) : quo A b h = ((quo A b h).toReal : EReal) := by
  obtain ⟨y, hy, _⟩ := quo_real T b h
  rw [hy, EReal.toReal_coe]

theorem quo_lt (T : Tame A) (b : Fin 16) (h : Fin 5) : (quo A b h).toReal < (2 : ℝ) ^ (113 : ℤ) := by
  obtain ⟨y, hy, h'⟩ := quo_real T b h
  rw [hy, EReal.toReal_coe]; exact h'

/-- The kernel's scale. -/
theorem kernel_scale (T : Tame A) (b : Fin 16) (h : Fin 5) :
    Ideal.ofBits .f32 (IntOp.shli .vector (IntOp.addi 127#32 (word32 (quo A b h))) 23#32) = dos A b h := by
  rw [quo_coe T]; exact scale_eq _ (quo_lt T b h)

theorem kernel_inv (T : Tame A) (b : Fin 16) (h : Fin 5) :
    Ideal.ofBits .f32 (IntOp.shli .vector (IntOp.subi 127#32 (word32 (quo A b h))) 23#32)
      = (((2 : ℝ) ^ (-ex A b h) : ℝ) : EReal) := by
  rw [quo_coe T]; exact inv_eq _ (quo_lt T b h)

/-- The reference's exponent. -/
theorem ref_exp (T : Tame A) (b : Fin 16) (h : Fin 5) :
    (if quo A b h < Ideal.ofBits .f32 0x00800000#32 then (0 : EReal)
      else Ideal.liftRound Int.floor (Ideal.div (Ideal.log (quo A b h)) (Ideal.log (Ideal.ofBits .f32 0x40000000#32))) + 1)
      = ((ex A b h : ℝ) : EReal) := by
  unfold ex expOf
  rw [quo_coe T, ofBits_normal, EReal.toReal_coe, ofBits_two]
  generalize (quo A b h).toReal = y
  by_cases hy : y < (2 : ℝ) ^ (-126 : ℤ)
  · rw [if_pos hy, if_pos (EReal.coe_lt_coe_iff.2 hy)]; simp
  · rw [if_neg hy, if_neg (fun hh => hy (EReal.coe_lt_coe_iff.1 hh))]
    have hp : 0 < y := lt_of_lt_of_le (by positivity) (not_lt.1 hy)
    have h2 : (0 : ℝ) < Real.log 2 := Real.log_pos (by norm_num)
    have e1 : Ideal.log (y : EReal) = (Real.log y : EReal) := if_neg (not_le.2 hp)
    have e2 : Ideal.log ((2 : ℝ) : EReal) = (Real.log 2 : EReal) := if_neg (by norm_num)
    rw [e1, e2]
    have e3 : Ideal.div (Real.log y : EReal) (Real.log 2 : EReal) = ((Real.log y / Real.log 2 : ℝ) : EReal) := by
      unfold Ideal.div
      rw [if_neg (by rw [← EReal.coe_zero, EReal.coe_eq_coe_iff]; exact ne_of_gt h2), ← EReal.coe_inv, ← EReal.coe_mul,
        div_eq_mul_inv]
    rw [e3]
    show (((⌊Real.log y / Real.log 2⌋ : ℝ)) : EReal) + 1 = _
    rw [← EReal.coe_one, ← EReal.coe_add]
    congr 1
    push_cast
    rfl

theorem ref_scale (e : ℤ) : Ideal.pow (Ideal.ofBits .f32 0x40000000#32) ((e : ℝ) : EReal) = (((2 : ℝ) ^ e : ℝ) : EReal) := by
  rw [ofBits_two]
  show ((Real.rpow 2 (e : ℝ) : ℝ) : EReal) = _
  congr 1
  exact Real.rpow_intCast 2 e

theorem ref_inv (e : ℤ) : Ideal.pow (Ideal.ofBits .f32 0x40000000#32) (-((e : ℝ) : EReal)) = (((2 : ℝ) ^ (-e) : ℝ) : EReal) := by
  rw [← ref_scale, Int.cast_neg, EReal.coe_neg]

theorem ref_sm : Ideal.div 1 (Ideal.sqrt (Ideal.ofBits .f32 0x43000000#32)) = ((sm : ℝ) : EReal) := by
  rw [ofBits_128]
  have e1 : Ideal.sqrt ((128 : ℝ) : EReal) = (Real.sqrt 128 : EReal) := if_neg (by norm_num)
  have h2 : (0 : ℝ) < Real.sqrt 128 := Real.sqrt_pos.2 (by norm_num)
  rw [e1]
  unfold Ideal.div sm
  rw [if_neg (by rw [← EReal.coe_zero, EReal.coe_eq_coe_iff]; exact ne_of_gt h2), one_mul, ← EReal.coe_inv]

/-- The scales of k are real numbers of at least zero. -/
theorem ks_real (T : Tame A) (b : Fin 16) (t : Fin 16384) (h : Fin 5) : ∃ r : ℝ, 0 ≤ r ∧ A.ks b t h = (r : EReal) := by
  have h0 := T.ks0 b t h
  have h1 := T.ks1 b t h
  rw [ofBits_max] at h1
  have ht : A.ks b t h ≠ ⊤ := fun e => by rw [e] at h1; exact EReal.coe_ne_top _ (top_le_iff.1 h1)
  have hb : A.ks b t h ≠ ⊥ := fun e => by rw [e] at h0; exact absurd h0 (by simp)
  refine ⟨(A.ks b t h).toReal, EReal.toReal_nonneg h0, (EReal.coe_toReal ht hb).symm⟩

/-- A real factor of at least zero goes through a finite sum. -/
theorem sum_mul_real {ι : Type} (s : Finset ι) (f : ι → EReal) (r : ℝ) (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.2 hr) (EReal.coe_ne_top r)]

/-- Two to a multiple of the base-two logarithm of e. -/
theorem exp2_eq (z : EReal) : Ideal.exp2 (z * (((Real.log 2)⁻¹ : ℝ) : EReal)) = Ideal.exp z := by
  have h2 : (0 : ℝ) < (Real.log 2)⁻¹ := inv_pos.2 (Real.log_pos (by norm_num))
  induction z using EReal.rec with
  | bot => rw [EReal.bot_mul_coe_of_pos h2]; rfl
  | top => rw [EReal.top_mul_coe_of_pos h2]; rfl
  | coe r =>
    rw [← EReal.coe_mul]
    show ((Real.rpow 2 (r * (Real.log 2)⁻¹) : ℝ) : EReal) = (Real.exp r : EReal)
    congr 1
    have : Real.rpow 2 (r * (Real.log 2)⁻¹) = Real.exp (Real.log 2 * (r * (Real.log 2)⁻¹)) := Real.rpow_def_of_pos (by norm_num) _
    rw [this]
    congr 1
    have : Real.log 2 ≠ 0 := ne_of_gt (Real.log_pos (by norm_num))
    field_simp

theorem sub_mul_real (x y : EReal) (r : ℝ) (hr : 0 ≤ r) : x * (r : EReal) - y * (r : EReal) = (x - y) * (r : EReal) := by
  rw [sub_eq_add_neg, sub_eq_add_neg, ← EReal.neg_mul,
    EReal.right_distrib_of_nonneg_of_ne_top (EReal.coe_nonneg.2 hr) (EReal.coe_ne_top r)]

end Cert.Spec

end
-- ==== Proof.KerIn.lean ====
/-
The host's reorderings before and after the two calls, at an index.
-/
module

public import proofs.«01_k».proof.Proof.RunIdeal
public import proofs.«01_k».proof.Proof.Spec
public import Idealize.ShloMosaic.Lib.Pointwise
public import Idealize.ShloMosaic.Lib.StableHlo.ReadAt

@[expose] public section

set_option maxRecDepth 16384

noncomputable section
namespace Cert.KernelIdeal.Gen
open Idealize.ShloMosaic Idealize.ShloMosaic.TcCoe

/-- The kernel's arguments by coordinates. -/
def argsK (V : Valuation τ sig (Elt Ideal)) : Spec.Args where
  q l h d := V main_arg0 (ix3 l h d)
  k b t h d := V main_arg1 (ix4 b t h d)
  ks b t h := V main_arg2 (ix3 b t h)
  v b t h d := V main_arg3 (ix4 b t h d)
  vs b t h := V main_arg4 (ix3 b t h)
  o b l h d := V main_arg5 (ix4 b l h d)
  lse b h l := V main_arg6 (ix3 b h l)
  g b l h d := V main_arg7 (ix4 b l h d)

variable (V : Valuation τ sig (Elt Ideal))

theorem in_v0 (h : Fin 5) (l : Fin 256) (d : Fin 128) : StableHlo.after hostOps0 V main_v0 (ix3 h l d) = V main_arg0 (ix3 l h d) := by
  after_reads_at
theorem in_v8 (h : Fin 5) (l : Fin 256) (d : Fin 128) : StableHlo.after hostOps0 V main_v8 (ix3 h d l) = V main_arg0 (ix3 l h d) := by
  after_reads_at
theorem in_v1 (b : Fin 16) (h : Fin 5) (t : Fin 16384) (d : Fin 128) : StableHlo.after hostOps0 V main_v1 (ix4 b h t d) = V main_arg1 (ix4 b t h d) := by
  after_reads_at
theorem in_v2 (b : Fin 16) (h : Fin 5) (t : Fin 16384) (d : Fin 128) : StableHlo.after hostOps0 V main_v2 (ix4 b h t d) = V main_arg3 (ix4 b t h d) := by
  after_reads_at
theorem in_v3 (b : Fin 16) (h : Fin 5) (t : Fin 16384) : StableHlo.after hostOps0 V main_v3 (ix3 h b t) = V main_arg2 (ix3 b t h) := by
  after_reads_at
theorem in_v4 (b : Fin 16) (h : Fin 5) (t : Fin 16384) : StableHlo.after hostOps0 V main_v4 (ix3 h b t) = V main_arg4 (ix3 b t h) := by
  after_reads_at
theorem in_v5 (b : Fin 16) (h : Fin 5) (l : Fin 256) (d : Fin 128) : StableHlo.after hostOps0 V main_v5 (ix4 b h l d) = V main_arg5 (ix4 b l h d) := by
  after_reads_at
theorem in_v6 (b : Fin 16) (h : Fin 5) (l : Fin 256) (d : Fin 128) : StableHlo.after hostOps0 V main_v6 (ix4 b h l d) = V main_arg7 (ix4 b l h d) := by
  after_reads_at
theorem in_v7 (b : Fin 16) (h : Fin 5) (l : Fin 256) : StableHlo.after hostOps0 V main_v7 (ix3 h b l) = V main_arg6 (ix3 b h l) := by
  after_reads_at

theorem out_v11 (h : Fin 5) (l : Fin 256) (d : Fin 128) : StableHlo.after hostOps2 V main_v11 (ix3 l h d) = V main_v10_0 (ix3 h l d) := by
  after_reads_at
theorem out_v12 (b : Fin 16) (h : Fin 5) (l : Fin 256) (d : Fin 128) : StableHlo.after hostOps2 V main_v12 (ix4 b l h d) = V main_v10_1 (ix4 b h l d) := by
  after_reads_at
theorem out_v13 (b : Fin 16) (h : Fin 5) (t : Fin 16384) (d : Fin 128) : StableHlo.after hostOps2 V main_v13 (ix4 b t h d) = V main_v10_2 (ix4 b h t d) := by
  after_reads_at
theorem out_v14 (b : Fin 16) (h : Fin 5) (t : Fin 16384) (d : Fin 128) : StableHlo.after hostOps2 V main_v14 (ix4 b t h d) = V main_v10_3 (ix4 b h t d) := by
  after_reads_at
theorem out_v15 (b : Fin 16) (h : Fin 5) (l : Fin 256) (d : Fin 128) : StableHlo.after hostOps2 V main_v15 (ix4 b l h d) = V main_v9_0 (ix4 b h l d) := by
  after_reads_at
theorem out_v16 (b : Fin 16) (h : Fin 5) : StableHlo.after hostOps2 V main_v16 (ix2 b h) = V main_v9_1 (ix2 h b) := by
  after_reads_at
end Cert.KernelIdeal.Gen

end
-- ==== Proof.KerIdx.lean ====
/-
The block each window is at, by grid point.
-/
module

public import proofs.«01_k».proof.Proof.Region0Ideal
public import proofs.«01_k».proof.Proof.Region1Ideal
public import Idealize.ShloMosaic.Lib.Pipeline.ValueKit

@[expose] public section

set_option maxRecDepth 16384

noncomputable section
namespace Cert.KernelIdeal.Gen
open Idealize.ShloMosaic Idealize.ShloMosaic.TcCoe

theorem idx0 : ∀ t : Fin cfg0.N, win0_0.index t = ![t.val, 0, 0, 0] ∧ win0_1.index t = ![t.val, 0, 0, 0] ∧ win0_2.index t = ![0, 0, 0]
    ∧ win0_3.index t = ![t.val, 0, 0, 0] ∧ win0_4.index t = ![0, 0] ∧ win0_5.index t = ![t.val, 0, 0, 0] ∧ win0_6.index t = ![t.val, 0, 0, 0] ∧ win0_7.index t = ![t.val, 0, 0, 0] :=
  (by decide +kernel : ∀ t : Fin grid0.N, _)
theorem idx1a : ∀ t : Fin cfg1.N, win1_0.index t = ![0, 0] ∧ win1_1.index t = ![t.val / 64, 0, 0] ∧ win1_2.index t = ![t.val / 64, 0, 0]
    ∧ win1_3.index t = ![t.val / 4 % 16, t.val / 64, t.val % 4, 0] ∧ win1_4.index t = ![t.val / 64, 0, 0]
    ∧ win1_5.index t = ![t.val / 4 % 16, t.val / 64, t.val % 4, 0] ∧ win1_6.index t = ![t.val / 64, 0, 0] :=
  (by decide +kernel : ∀ t : Fin grid1.N, _)
theorem idx1b : ∀ t : Fin cfg1.N, win1_7.index t = ![t.val / 4 % 16, t.val / 64, 0, 0] ∧ win1_8.index t = ![t.val / 4 % 16, t.val / 64, 0, 0]
    ∧ win1_9.index t = ![t.val / 4 % 16, t.val / 64, 0, 0] ∧ win1_10.index t = ![t.val / 4 % 16, t.val / 64, 0, 0]
    ∧ win1_11.index t = ![t.val / 64, 0, 0] ∧ win1_12.index t = ![t.val / 4 % 16, t.val / 64, 0, 0]
    ∧ win1_13.index t = ![t.val / 4 % 16, t.val / 64, t.val % 4, 0] ∧ win1_14.index t = ![t.val / 4 % 16, t.val / 64, t.val % 4, 0] :=
  (by decide +kernel : ∀ t : Fin grid1.N, _)
theorem flush11 : ∀ t : Fin cfg1.N, win1_11.flush t = true → t.val % 64 = 63 :=
  (by decide +kernel : ∀ t : Fin grid1.N, _)
theorem flush12 : ∀ t : Fin cfg1.N, win1_12.flush t = true → t.val % 4 = 3 :=
  (by decide +kernel : ∀ t : Fin grid1.N, _)
end Cert.KernelIdeal.Gen

end
-- ==== Proof.KerArr0.lean ====
/-
The arrays the first call leaves, at an index.
-/
module

public import proofs.«01_k».proof.Proof.KerIdx
public import proofs.«01_k».proof.Proof.Spec
public import Idealize.ShloMosaic.Lib.Pointwise

@[expose] public section

set_option maxRecDepth 16384

noncomputable section
namespace Cert.KernelIdeal.Gen
open Idealize.ShloMosaic Idealize.ShloMosaic.TcCoe

variable (V : Dev nD → Valuation τ sig (Elt Ideal)) (c : Dev nD)

/-- One head of one sequence of an array. -/
def slab {α : Type} (x : S16x5x256x128.Idx → α) (b : Fin 16) (h : Fin 5) : S1x1x256x128.Idx → α := fun y => x (ix4 b h (y 2) (y 3))

def seq (t : Fin cfg0.N) : Fin 16 := ⟨t.val, lt_of_lt_of_eq t.isLt N_0⟩

theorem head_do (t : Fin cfg0.N) (h : Fin 5) : headOf (iblk0 V c 0 t) h = slab (V c main_v6) (seq t) h := by
  unfold headOf slab
  blk_ext! [iblk0, idx0 t]
  exact Nat.add_zero _
theorem head_o (t : Fin cfg0.N) (h : Fin 5) : headOf (iblk0 V c 1 t) h = slab (V c main_v5) (seq t) h := by
  unfold headOf slab
  blk_ext! [iblk0, idx0 t]
  exact Nat.add_zero _

theorem arr0_3 : (dat0 V c).arrAt 3 cfg0.N = (fun j => codesOf (slab (V c main_v6) (j 0) (j 1)) (ix4 0 0 (j 2) (j 3)) : Vec Ideal S16x5x256x128 .fp8e5m2) := by
  refine (dat0 V c).arrAt_eq_of_covers 3 _ (by decide +kernel) fun t _ y => ?_
  rw [after0_3]
  blk_simp [codesBlk, heads]
  have e0 : seq t = (win0_3.blk t).view.emb y 0 := Fin.ext (by blk_simp [idx0 t]; exact (Nat.add_zero _).symm)
  have e1 : (cfg0.win 3).xinj (cfg0.grid.coords t) y 1 = (win0_3.blk t).view.emb y 1 := Fin.ext (by blk_simp [idx0 t])
  have e2 : (cfg0.win 3).xinj (cfg0.grid.coords t) y 2 = (win0_3.blk t).view.emb y 2 := Fin.ext (by blk_simp [idx0 t])
  have e3 : (cfg0.win 3).xinj (cfg0.grid.coords t) y 3 = (win0_3.blk t).view.emb y 3 := Fin.ext (by blk_simp [idx0 t])
  refine congr (congrArg codesOf ((head_do V c t _).trans (congr (congrArg (slab _) e0) e1))) (funext fun a => ?_)
  match a with
  | ⟨0, _⟩ => rfl
  | ⟨1, _⟩ => rfl
  | ⟨2, _⟩ => exact e2
  | ⟨3, _⟩ => exact e3
theorem arr0_5 : (dat0 V c).arrAt 5 cfg0.N = (fun j => dotOf (slab (V c main_v6) (j 0) (j 1)) (ix4 0 0 (j 2) (j 3)) : Vec Ideal S16x5x128x256 .bf16) := by
  refine (dat0 V c).arrAt_eq_of_covers 5 _ (by decide +kernel) fun t _ y => ?_
  rw [after0_5]
  blk_simp [dotBlk, headsT]
  have e0 : seq t = (win0_5.blk t).view.emb y 0 := Fin.ext (by blk_simp [idx0 t]; exact (Nat.add_zero _).symm)
  have e1 : (cfg0.win 5).xinj (cfg0.grid.coords t) y 1 = (win0_5.blk t).view.emb y 1 := Fin.ext (by blk_simp [idx0 t])
  have e2 : (cfg0.win 5).xinj (cfg0.grid.coords t) y 2 = (win0_5.blk t).view.emb y 2 := Fin.ext (by blk_simp [idx0 t])
  have e3 : (cfg0.win 5).xinj (cfg0.grid.coords t) y 3 = (win0_5.blk t).view.emb y 3 := Fin.ext (by blk_simp [idx0 t])
  refine congr (congrArg dotOf ((head_do V c t _).trans (congr (congrArg (slab _) e0) e1))) (funext fun a => ?_)
  match a with
  | ⟨0, _⟩ => rfl
  | ⟨1, _⟩ => rfl
  | ⟨2, _⟩ => exact e2
  | ⟨3, _⟩ => exact e3
theorem arr0_7 : (dat0 V c).arrAt 7 cfg0.N = (fun j => deltaOf (slab (V c main_v6) (j 0) (j 1)) (slab (V c main_v5) (j 0) (j 1)) (ix4 0 0 (j 2) (j 3)) : Vec Ideal S16x5x256x128 .f32) := by
  refine (dat0 V c).arrAt_eq_of_covers 7 _ (by decide +kernel) fun t _ y => ?_
  rw [after0_7]
  blk_simp [deltaBlk, heads]
  have e0 : seq t = (win0_7.blk t).view.emb y 0 := Fin.ext (by blk_simp [idx0 t]; exact (Nat.add_zero _).symm)
  have e1 : (cfg0.win 7).xinj (cfg0.grid.coords t) y 1 = (win0_7.blk t).view.emb y 1 := Fin.ext (by blk_simp [idx0 t])
  have e2 : (cfg0.win 7).xinj (cfg0.grid.coords t) y 2 = (win0_7.blk t).view.emb y 2 := Fin.ext (by blk_simp [idx0 t])
  have e3 : (cfg0.win 7).xinj (cfg0.grid.coords t) y 3 = (win0_7.blk t).view.emb y 3 := Fin.ext (by blk_simp [idx0 t])
  refine congr (congr (congrArg deltaOf ((head_do V c t _).trans (congr (congrArg (slab _) e0) e1))) ((head_o V c t _).trans (congr (congrArg (slab _) e0) e1))) (funext fun a => ?_)
  match a with
  | ⟨0, _⟩ => rfl
  | ⟨1, _⟩ => rfl
  | ⟨2, _⟩ => exact e2
  | ⟨3, _⟩ => exact e3

/-- One row of logarithms. -/
def lrow {α : Type} (x : S5x16x256.Idx → α) (b : Fin 16) (h : Fin 5) : S1x1x256.Idx → α := fun y => x (ix3 h b (y 2))
theorem lse_blk (t : Fin cfg0.N) : (iblk0 V c 2 t : Vec Ideal S5x16x256 .f32) = V c main_v7 := by
  blk_ext! [iblk0, idx0 t]
theorem lse_row (t : Fin cfg0.N) (h : Fin 5) : lseRow (F := Ideal) (iblk0 V c 2 t) (grid0.coords t) h = lrow (V c main_v7) (seq t) h := by
  rw [lse_blk]
  refine funext fun y => congrArg (V c main_v7 : Vec Ideal S5x16x256 .f32) (funext fun a => ?_)
  match a with
  | ⟨0, _⟩ => rfl
  | ⟨1, _⟩ => exact Fin.ext (coords0_0 t)
  | ⟨2, _⟩ => rfl
theorem arr0_6 : (dat0 V c).arrAt 6 cfg0.N = (fun j => lse2Of (lrow (V c main_v7) (j 0) (j 1)) (ix4 0 0 (j 2) (j 3)) : Vec Ideal S16x5x256x128 .f32) := by
  refine (dat0 V c).arrAt_eq_of_covers 6 _ (by decide +kernel) fun t _ y => ?_
  rw [after0_6]
  blk_simp [lse2Blk, heads]
  have e0 : seq t = (win0_6.blk t).view.emb y 0 := Fin.ext (by blk_simp [idx0 t]; exact (Nat.add_zero _).symm)
  have e1 : (cfg0.win 6).xinj (cfg0.grid.coords t) y 1 = (win0_6.blk t).view.emb y 1 := Fin.ext (by blk_simp [idx0 t])
  have e2 : (cfg0.win 6).xinj (cfg0.grid.coords t) y 2 = (win0_6.blk t).view.emb y 2 := Fin.ext (by blk_simp [idx0 t])
  have e3 : (cfg0.win 6).xinj (cfg0.grid.coords t) y 3 = (win0_6.blk t).view.emb y 3 := Fin.ext (by blk_simp [idx0 t])
  refine congr (congrArg lse2Of ((lse_row V c t _).trans (congr (congrArg (lrow _) e0) e1))) (funext fun a => ?_)
  match a with
  | ⟨0, _⟩ => rfl
  | ⟨1, _⟩ => rfl
  | ⟨2, _⟩ => exact e2
  | ⟨3, _⟩ => exact e3

theorem arr0_4 : (dat0 V c).arrAt 4 cfg0.N = (fun j => scaleOf (slab (V c main_v6) (j 1) (j 0)) (ix2 0 0) : Vec Ideal S5x16 .f32) := by
  refine (dat0 V c).arrAt_eq_of_after_last 4 (pt0 ⟨15, by decide⟩) (by decide +kernel) _ fun j => ?_
  blk_simp
  rw [after0_4]
  exact congr (congrArg scaleOf (head_do V c (pt0 (j 1)) _)) (eq_ix2 _)
end Cert.KernelIdeal.Gen

end
-- ==== Proof.KerVal0.lean ====
/-
The numbers one head of the first call works out.
-/
module

public import proofs.«01_k».proof.Proof.HeadsIdeal
public import proofs.«01_k».proof.Proof.Spec
public import Idealize.ShloMosaic.Lib.Pointwise

@[expose] public section

set_option maxRecDepth 16384

noncomputable section
namespace Cert.KernelIdeal.Gen
open Idealize.ShloMosaic Idealize.ShloMosaic.TcCoe

theorem fold_sup (f : Fin 256 → Fin 128 → EReal) :
    (Finset.univ.fold max (Ideal.ofBits .f32 0xFF800000#32) fun d : Fin 128 => Finset.univ.fold max (Ideal.ofBits .f32 0xFF800000#32) fun l : Fin 256 => max (f l d) (-f l d))
      = Finset.univ.sup fun p : Fin 256 × Fin 128 => max (f p.1 p.2) (-f p.1 p.2) := by
  rw [Spec.ofBits_ninf, ← Finset.univ_product_univ, Finset.sup_product_right]
  rfl

/-- Not below a power of two, among the first: the same bit either way. -/
theorem bit_eq (n : BitVec 32) (x y : EReal) :
    (Scalar.select (IntOp.ori (IntOp.cmpi .sge n 255#32) (BitVec.ofBool (decide (y < x)))) 0#32 1#32 : BitVec 32)
     = Scalar.select (IntOp.andi (IntOp.cmpi .slt n 255#32) (BitVec.ofBool (decide (x ≤ y)))) 1#32 0#32 := by
  have hn : IntOp.cmpi .sge n 255#32 = BitVec.ofBool (!(n.slt 255#32)) := by
    show BitVec.ofBool ((255#32).sle n) = _
    simp only [BitVec.sle, BitVec.slt, ← decide_not, not_lt]
  have hm : IntOp.cmpi .slt n 255#32 = BitVec.ofBool (n.slt 255#32) := rfl
  rw [hn, hm]
  generalize n.slt 255#32 = s
  by_cases h : y < x
  · rw [decide_eq_true h, decide_eq_false (not_le.2 h)]; cases s <;> rfl
  · rw [decide_eq_false h, decide_eq_true (not_lt.1 h)]; cases s <;> rfl

theorem pay3_val (x : Vec Ideal S1x1x256x128 .bf16) (f : Fin 256 → Fin 128 → EReal) (hx : ∀ l d, x (ix4 0 0 l d) = f l d) :
    k0_pay3 x (ix2 0 0) = Expo.word32 ((Finset.univ.sup fun p : Fin 256 × Fin 128 => max (f p.1 p.2) (-f p.1 p.2)) * Ideal.ofBits .f32 0x37924925#32) := by
  rw [← fold_sup f]
  unfold Expo.word32 Expo.count
  pointwise [k0_pay3, k0_pay2]
  simp only [hx, bit_eq]
  rfl
theorem pay4_val (x : Vec Ideal S1x1x256x128 .bf16) :
    k0_pay4 x (ix2 0 0) = Ideal.ofBits .f32 (IntOp.shli .vector (IntOp.addi 127#32 (k0_pay3 x (ix2 0 0))) 23#32) := by
  pointwise [k0_pay4]
theorem codes_val (x : Vec Ideal S1x1x256x128 .bf16) (l : Fin 256) (d : Fin 128) :
    codesOf x (ix4 0 0 l d) = (min (Ideal.ofBits .f32 0x47600000#32) (max (Ideal.ofBits .f32 0xC7600000#32) (x (ix4 0 0 l d) * Ideal.ofBits .f32 (IntOp.shli .vector (IntOp.subi 127#32 (k0_pay3 x (ix2 0 0))) 23#32))) : EReal) := by
  unfold codesOf
  pointwise [k0_pay7, k0_pay6, k0_pay2, k0_pay5]
theorem dot_val (x : Vec Ideal S1x1x256x128 .bf16) (l : Fin 256) (d : Fin 128) :
    dotOf x (ix4 0 0 d l) = ((min (Ideal.ofBits .f32 0x47600000#32) (max (Ideal.ofBits .f32 0xC7600000#32) (x (ix4 0 0 l d) * Ideal.ofBits .f32 (IntOp.shli .vector (IntOp.subi 127#32 (k0_pay3 x (ix2 0 0))) 23#32)))) * k0_pay4 x (ix2 0 0) : EReal) := by
  unfold dotOf
  pointwise [k0_pay10, k0_pay8, k0_pay6, k0_pay2, k0_pay5]
theorem delta_val (x o : Vec Ideal S1x1x256x128 .bf16) (l : Fin 256) (j : Fin 128) :
    deltaOf x o (ix4 0 0 l j) = (∑ d : Fin 128, (min (Ideal.ofBits .f32 0x47600000#32) (max (Ideal.ofBits .f32 0xC7600000#32) (x (ix4 0 0 l d) * Ideal.ofBits .f32 (IntOp.shli .vector (IntOp.subi 127#32 (k0_pay3 x (ix2 0 0))) 23#32)))) * k0_pay4 x (ix2 0 0) * o (ix4 0 0 l d) : EReal) := by
  unfold deltaOf
  pointwise [k0_pay9, k0_pay8, k0_pay6, k0_pay2, k0_pay5]
theorem lse2_val (x : Vec Ideal S1x1x256 .f32) (l : Fin 256) (j : Fin 128) :
    lse2Of x (ix4 0 0 l j) = (x (ix3 0 0 l) * (((Real.log 2)⁻¹ : ℝ) : EReal) : EReal) := by
  unfold lse2Of
  pointwise [k0_pay12, k0_pay11]
  rfl

variable {A : Spec.Args} (T : Spec.Tame A) (b : Fin 16) (h : Fin 5) {x : Vec Ideal S1x1x256x128 .bf16} (hx : ∀ l d, x (ix4 0 0 l d) = A.g b l h d)
include T hx

theorem scale_spec : k0_pay4 x (ix2 0 0) = Spec.dos A b h := by
  rw [pay4_val, pay3_val x (fun l d => A.g b l h d) hx]
  exact Spec.kernel_scale T b h

theorem codes_spec (l : Fin 256) (d : Fin 128) : codesOf x (ix4 0 0 l d) = Spec.code A b l h d := by
  rw [codes_val, pay3_val x (fun l d => A.g b l h d) hx, hx]
  unfold Spec.code
  rw [← Spec.kernel_inv T b h]; rfl

theorem dot_spec (l : Fin 256) (d : Fin 128) : dotOf x (ix4 0 0 d l) = (Spec.code A b l h d * Spec.dos A b h : EReal) := by
  rw [dot_val, ← codes_val, scale_spec T b h hx, codes_spec T b h hx]

theorem delta_spec {o : Vec Ideal S1x1x256x128 .bf16} (ho : ∀ l d, o (ix4 0 0 l d) = A.o b l h d) (l : Fin 256) (j : Fin 128) : deltaOf x o (ix4 0 0 l j) = Spec.delta A b h l := by
  rw [delta_val]
  exact Finset.sum_congr rfl fun d _ => by rw [← codes_val, scale_spec T b h hx, codes_spec T b h hx, ho]

end Cert.KernelIdeal.Gen

end
-- ==== Proof.KerChunk.lean ====
/-
The numbers one tile of the second call works out.
-/
module

public import proofs.«01_k».proof.Proof.TileIdeal
public import proofs.«01_k».proof.Proof.Spec
public import Idealize.ShloMosaic.Lib.Pointwise

@[expose] public section

set_option maxRecDepth 16384

noncomputable section
namespace Cert.KernelIdeal.Gen
open Idealize.ShloMosaic Idealize.ShloMosaic.TcCoe

theorem named_sm : (Named.named (F := Ideal) κ "sm" (φ := .f32) 0x3DB504F3#32 : EReal) = ((Spec.sm : ℝ) : EReal) := rfl
theorem named_log2e : (Named.named (F := Ideal) κ "log2e" (φ := .f32) 0x3FB8AA3B#32 : EReal) = (((Real.log 2)⁻¹ : ℝ) : EReal) := rfl
theorem named_sm_log2e : (Named.named (F := Ideal) κ "sm_log2e" (φ := .f32) 0x3E0293EE#32 : EReal) = ((Spec.sm * (Real.log 2)⁻¹ : ℝ) : EReal) := rfl

theorem pay2_apply (v7 : FVec Ideal S256x128 .bf16) (v16 : FVec Ideal S256x1 .f32) (v32 : Vec Ideal S1x1x512 .f32) (v41 : Vec Ideal S1x1x512x128 .fp8e4m3) (l : Fin 256) (t : Fin 512) :
  k1_pay2 v7 v16 v32 v41 (ix2 l t) = Ideal.exp2 ((∑ x, v7 (ix2 l x) * (v41 (ix4 0 0 t x) * v32 (ix3 0 0 t))) * (Named.named (F := Ideal) κ "sm_log2e" (φ := .f32) 0x3E0293EE#32 : EReal) - v16 (ix2 l 0)) := by
  pointwise [k1_pay2, k1_pay1]
  rfl
theorem pay3_apply (a0 a1 a2 a3 a4 a5 a6 a7 a8) (l : Fin 256) (t : Fin 512) :
  k1_pay3 (F := Ideal) a0 a1 a2 a3 a4 a5 a6 a7 a8 (ix2 l t) = k1_pay2 a1 a3 a5 a7 (ix2 l t) * ((∑ x, a2 (ix2 l x) * a8 (ix4 0 0 t x)) * (a6 (ix3 0 0 t) * a0) - a4 (ix2 l 0)) := by
  pointwise [k1_pay3]
theorem pay11_apply (a0 a1 a2 a3 a4) (t : Fin 512) (d : Fin 128) :
  k1_pay11 (F := Ideal) (k1_pay4 a0 a1 a2 a3 a4) (ix4 0 0 t d) = ∑ x, a1 (ix2 d x) * k1_pay2 a0 a2 a3 a4 (ix2 x t) := by
  pointwise [k1_pay11, k1_pay4]
theorem pay12_apply (a0 a1) (t : Fin 512) (d : Fin 128) :
  k1_pay12 (F := Ideal) a0 a1 (ix4 0 0 t d) = (∑ x, a0 (ix3 0 d x) * a1 (ix2 x t)) * (Named.named (F := Ideal) κ "sm" (φ := .f32) 0x3DB504F3#32 : EReal) := by
  pointwise [k1_pay12]
theorem pay13_apply (a0 a1 a2) (l : Fin 256) (d : Fin 128) :
  k1_pay13 (F := Ideal) a0 a1 a2 (ix2 d l) = a2 (ix2 d l) + ∑ x, a0 (ix2 d x) * a1 (ix2 l x) := by
  pointwise [k1_pay13]
theorem pay1_apply (a0 a1) (t : Fin 512) (d : Fin 128) :
  k1_pay1 (F := Ideal) a0 a1 (ix2 d t) = a1 (ix4 0 0 t d) * a0 (ix3 0 0 t) := by
  pointwise [k1_pay1]
theorem pay5_apply (l : Fin 256) (d : Fin 128) :
  k1_pay5 (F := Ideal) (ix2 d l) = Ideal.ofBits .f32 0x00000000#32 := by
  pointwise [k1_pay5]
theorem pay6_apply (a0) (l : Fin 256) (d : Fin 128) : k1_pay6 (F := Ideal) a0 (ix2 l d) = a0 (ix3 0 l d) := by
  pointwise [k1_pay6]
theorem pay7_apply (a0) (l : Fin 256) (d : Fin 128) : k1_pay7 (F := Ideal) a0 (ix2 l d) = a0 (ix4 0 0 l d) := by
  pointwise [k1_pay7]
theorem pay8_apply (a0) (l : Fin 256) (d : Fin 128) : k1_pay8 (F := Ideal) a0 (ix2 d l) = a0 (ix4 0 0 d l) := by
  pointwise [k1_pay8]
theorem pay9_apply (a0) (l : Fin 256) : k1_pay9 (F := Ideal) a0 (ix2 l 0) = a0 (ix4 0 0 l 0) := by
  pointwise [k1_pay9]
theorem pay10_apply (a0) (l : Fin 256) : k1_pay10 (F := Ideal) a0 (ix2 l 0) = a0 (ix4 0 0 l 0) := by
  pointwise [k1_pay10]
theorem pay15_apply (a0) (l : Fin 256) (d : Fin 128):
  k1_pay15 (F := Ideal) a0 (ix4 0 0 l d) = a0 (ix2 d l) * (Named.named (F := Ideal) κ "sm" (φ := .f32) 0x3DB504F3#32 : EReal) := by
  pointwise [k1_pay15, k1_pay14]
theorem pay17_apply (i a0 a1) (l : Fin 256) (d : Fin 128):
  k1_pay17 (F := Ideal) i a0 a1 (ix2 l d) = (Scalar.select (Scalar.cmpi .eq (BitVec.ofNat 32 ↑(i 1)) 0#32) 0 (a1 (ix2 l d)) : EReal) + a0 (ix2 d l) * (Named.named (F := Ideal) κ "sm" (φ := .f32) 0x3DB504F3#32 : EReal) := by
  pointwise [k1_pay17, k1_pay16, k1_pay14]
theorem pay18_apply (i a0 a1) (l : Fin 256) (d : Fin 128):
  k1_pay18 (F := Ideal) i a0 a1 (ix3 0 l d) = k1_pay17 (F := Ideal) i a0 a1 (ix2 l d) := by
  rw [pay17_apply]
  pointwise [k1_pay18, k1_pay16, k1_pay14]

/-- Key `t` of chunk `k` of a tile. -/
def row (k : Fin k1_t1_loop.trips) (t : Fin 512) : Fin 4096 := ⟨512 * k.val + t.val, by have hk : k.val < 8 := Nat.lt_of_lt_of_le k.isLt k1_t1_abs.2.1; omega⟩
def key (a : Fin 4) (r : Fin 4096) : Fin 16384 := ⟨4096 * a.val + r.val, by omega⟩

def ldR (X : Vec Ideal S1x1x4096x128 .fp8e4m3) (k : Fin k1_t1_loop.trips) : Vec Ideal S1x1x512x128 .fp8e4m3 := View.ld X (rowsOf k)
def ldS (X : Vec Ideal S1x16x16384 .f32) (i : grid1.Coords) (k : Fin k1_t1_loop.trips) : Vec Ideal S1x1x512 .f32 := View.ld X (keysOf i k)

theorem ld_rows (X : Vec Ideal S1x1x4096x128 .fp8e4m3) (k : Fin k1_t1_loop.trips) (t : Fin 512) (d : Fin 128) :
    ldR X k (ix4 0 0 t d) = X (ix4 0 0 (row k t) d) := by
  refine congrArg X (funext fun a => Fin.ext ?_)
  show k1_off3 k a + 1 * _ = _
  rw [k1_off3_eq k]
  match a with
  | ⟨0, _⟩ => rfl
  | ⟨1, _⟩ => rfl
  | ⟨2, _⟩ => show 512 * k.val + 1 * t.val = 512 * k.val + t.val; omega
  | ⟨3, _⟩ => show 0 + 1 * d.val = d.val; omega

theorem ld_keys (X : Vec Ideal S1x16x16384 .f32) (i : grid1.Coords) (b : Fin 16) (a : Fin 4) (hb : (i 1).val = b.val) (ha : (i 2).val = a.val) (k : Fin k1_t1_loop.trips) (t : Fin 512) :
    ldS X i k (ix3 0 0 t) = X (ix3 0 b (key a (row k t))) := by
  refine congrArg X (funext fun z => Fin.ext ?_)
  show k1_off2 i k z + 1 * _ = _
  rw [k1_off2_eq i k]
  match z with
  | ⟨0, _⟩ => rfl
  | ⟨1, _⟩ => show (i 1).val + 1 * 0 = b.val; omega
  | ⟨2, _⟩ => show 4096 * (i 2).val + 512 * k.val + 1 * t.val = 4096 * a.val + (512 * k.val + t.val); omega

/-- What a tile's blocks hold of the arguments. -/
structure Holds (A : Spec.Args) (h : Fin 5) (b : Fin 16) (a : Fin 4) (B : Blk Ideal) : Prop where
  k : ∀ r d, B.k (ix4 0 0 r d) = A.k b (key a r) h d
  v : ∀ r d, B.v (ix4 0 0 r d) = A.v b (key a r) h d
  ks : ∀ t, B.ks (ix3 0 b t) = A.ks b t h
  vs : ∀ t, B.vs (ix3 0 b t) = A.vs b t h
  dos : B.dos = Spec.dos A b h
  q : ∀ l d, B.q (ix3 0 l d) = A.q l h d
  qt : ∀ l d, B.qt (ix3 0 d l) = A.q l h d
  codes : ∀ l d, B.codes (ix4 0 0 l d) = Spec.code A b l h d
  dot : ∀ l d, B.dot (ix4 0 0 d l) = (Spec.code A b l h d * Spec.dos A b h : EReal)
  lse : ∀ l, B.lse (ix4 0 0 l 0) = (A.lse b h l * (((Real.log 2)⁻¹ : ℝ) : EReal) : EReal)
  del : ∀ l, B.del (ix4 0 0 l 0) = Spec.delta A b h l

theorem expo_eq (q k : Fin 128 → EReal) (s e : EReal) (hs : ∃ r : ℝ, 0 ≤ r ∧ s = r) :
    Ideal.exp2 ((∑ x, q x * (k x * s)) * ((Spec.sm * (Real.log 2)⁻¹ : ℝ) : EReal) - e * (((Real.log 2)⁻¹ : ℝ) : EReal))
      = Ideal.exp ((∑ x, k x * q x) * ((Spec.sm : EReal) * s) - e) := by
  obtain ⟨r, hr, rfl⟩ := hs
  have hL : (0 : ℝ) ≤ (Real.log 2)⁻¹ := inv_nonneg.2 (Real.log_nonneg (by norm_num))
  rw [show (∑ x, q x * (k x * (r : EReal))) = ∑ x, k x * q x * (r : EReal) from
      Finset.sum_congr rfl fun x _ => by rw [mul_left_comm, mul_assoc], Spec.sum_mul_real _ _ r hr,
    EReal.coe_mul, show (∑ x, k x * q x) * (r : EReal) * ((Spec.sm : EReal) * (((Real.log 2)⁻¹ : ℝ) : EReal))
      = (∑ x, k x * q x) * ((Spec.sm : EReal) * r) * (((Real.log 2)⁻¹ : ℝ) : EReal) by ac_rfl]
  exact (congrArg Ideal.exp2 (Spec.sub_mul_real _ _ _ (by positivity))).trans (Spec.exp2_eq _)

variable {A : Spec.Args} (T : Spec.Tame A) {h : Fin 5} {b : Fin 16} {a : Fin 4} {B : Blk Ideal} (H : Holds A h b a B)
  {i : grid1.Coords} (hb : (i 1).val = b.val) (ha : (i 2).val = a.val)

include T H hb ha

theorem p_chunk (k : Fin k1_t1_loop.trips) (l : Fin 256) (t : Fin 512) :
    k1_pay2 (k1_pay6 B.q) (k1_pay9 B.lse) (ldS B.ks i k) (ldR B.k k) (ix2 l t) = Spec.p A b h l (key a (row k t)) := by
  rw [pay2_apply]
  simp only [pay6_apply, pay9_apply, ld_rows, ld_keys _ i b a hb ha, H.q, H.lse, H.k, H.ks, named_sm_log2e]
  exact expo_eq _ _ _ _ (Spec.ks_real T _ _ _)

theorem ds_chunk (k : Fin k1_t1_loop.trips) (l : Fin 256) (t : Fin 512) : dsOf i B k (ix2 l t) = Spec.ds A b h l (key a (row k t)) := by
  show k1_pay3 (F := Ideal) B.dos (k1_pay6 B.q) (k1_pay7 B.codes) (k1_pay9 B.lse) (k1_pay10 B.del) (ldS B.ks i k) (ldS B.vs i k) (ldR B.k k) (ldR B.v k) (ix2 l t) = _
  rw [pay3_apply, p_chunk T H hb ha]
  simp only [pay7_apply, pay10_apply, ld_rows, ld_keys _ i b a hb ha, H.codes, H.del, H.v, H.vs, H.dos]
  unfold Spec.ds
  rw [mul_comm (A.vs b _ h) (Spec.dos A b h)]

theorem dk_chunk (k : Fin k1_t1_loop.trips) (t : Fin 512) (d : Fin 128) : dkOf i B k (ix4 0 0 t d) = Spec.dk A b (key a (row k t)) h d := by
  unfold dkOf
  rw [pay12_apply]
  simp only [ds_chunk T H hb ha, H.qt, named_sm]
  unfold Spec.dk
  rw [mul_comm]

theorem dv_chunk (k : Fin k1_t1_loop.trips) (t : Fin 512) (d : Fin 128) : dvOf i B k (ix4 0 0 t d) = Spec.dv A b (key a (row k t)) h d := by
  show k1_pay11 (F := Ideal) (k1_pay4 (k1_pay6 B.q) (k1_pay8 B.dot) (k1_pay9 B.lse) (ldS B.ks i k) (ldR B.k k)) (ix4 0 0 t d) = _
  rw [pay11_apply]
  simp only [p_chunk T H hb ha, pay8_apply, H.dot]
  unfold Spec.dv Spec.dos
  rw [← Spec.sum_mul_real _ _ _ (by positivity)]
  exact Finset.sum_congr rfl fun x _ => by ac_rfl

theorem dq_chunk (k : Fin k1_t1_loop.trips) (e : Vec Ideal S128x256 .f32) (l : Fin 256) (d : Fin 128) :
    dqStep i B k e (ix2 d l) = (e (ix2 d l) + ∑ t : Fin 512, A.k b (key a (row k t)) h d * (Spec.ds A b h l (key a (row k t)) * A.ks b (key a (row k t)) h) : EReal) := by
  show k1_pay13 (F := Ideal) (k1_pay1 (ldS B.ks i k) (ldR B.k k)) (dsOf i B k) e (ix2 d l) = _
  rw [pay13_apply]
  simp only [ds_chunk T H hb ha, pay1_apply, ld_rows, ld_keys _ i b a hb ha, H.k, H.ks]
  exact congrArg (e (ix2 d l) + ·) (Finset.sum_congr rfl fun x _ => by ac_rfl)

theorem dk_tile (r : Fin 4096) (d : Fin 128) : dkTile i B (ix4 0 0 r d) = Spec.dk A b (key a r) h d := by
  refine Eq.trans (congrArg (dkOf i B _) (eq_ix4 _)) ((dk_chunk T H hb ha ⟨r.val / 512, by have hr := r.isLt; show _ < 8; omega⟩ ⟨r.val % 512, by omega⟩ d).trans ?_)
  exact congrArg (fun r => Spec.dk A b (key a r) h d) (Fin.ext (Nat.div_add_mod _ _))

theorem dv_tile (r : Fin 4096) (d : Fin 128) : dvTile i B (ix4 0 0 r d) = Spec.dv A b (key a r) h d := by
  refine Eq.trans (congrArg (dvOf i B _) (eq_ix4 _)) ((dv_chunk T H hb ha ⟨r.val / 512, by have hr := r.isLt; show _ < 8; omega⟩ ⟨r.val % 512, by omega⟩ d).trans ?_)
  exact congrArg (fun r => Spec.dv A b (key a r) h d) (Fin.ext (Nat.div_add_mod _ _))

theorem dq_tile (e : Vec Ideal S128x256 .f32) (l : Fin 256) (d : Fin 128) :
    dqTile i B e (ix2 d l) = (e (ix2 d l) + ∑ r : Fin 4096, A.k b (key a r) h d * (Spec.ds A b h l (key a r) * A.ks b (key a r) h) : EReal) := by
  have H1 : ∀ n (hn : n ≤ k1_t1_loop.trips), dqAt i B e n (ix2 d l) = (e (ix2 d l) + ∑ k : Fin n, ∑ t : Fin 512, A.k b (key a (row (k.castLE hn) t)) h d * (Spec.ds A b h l (key a (row (k.castLE hn) t)) * A.ks b (key a (row (k.castLE hn) t)) h) : EReal) := by
    intro n hn
    induction n with
    | zero => rw [Fin.sum_univ_zero, add_zero]; rfl
    | succ n ih =>
      rw [show dqAt i B e (n + 1) = _ from dqAt_succ i B e ⟨n, hn⟩, dq_chunk T H hb ha, Fin.sum_univ_castSucc (n := n), ← add_assoc]
      exact congrArg (· + _) (ih (by omega))
  refine (H1 8 (le_refl 8)).trans (congrArg (e (ix2 d l) + ·) ?_)
  rw [← Finset.sum_product']
  refine Fintype.sum_equiv (finProdFinEquiv (m := 8) (n := 512)) _ _ fun x => ?_
  have hx : row (Fin.castLE (le_refl 8) x.1) x.2 = finProdFinEquiv (m := 8) (n := 512) x := Fin.ext (by show 512 * x.1.val + x.2.val = x.2.val + 512 * x.1.val; omega)
  simp only [hx]

end Cert.KernelIdeal.Gen

end
-- ==== Proof.KerSum.lean ====
/-
The query gradient over the tiles and the sequences.
-/
module

public import proofs.«01_k».proof.Proof.KerChunk
public import proofs.«01_k».proof.Proof.Region1Ideal

@[expose] public section

set_option maxRecDepth 16384

noncomputable section
namespace Cert.KernelIdeal.Gen
open Idealize.ShloMosaic Idealize.ShloMosaic.TcCoe

/-- The point of head `h`, sequence `b` and tile `a`. -/
def at1 (h : Fin 5) (b : Fin 16) (a : Fin 4) : Fin cfg1.N := ⟨h.val * 64 + b.val * 4 + a.val, lt_of_lt_of_eq (by omega : _ < 320) (show 320 = cfg1.N from N_1.symm)⟩

theorem at1_eq (t : Fin cfg1.N) : ∃ h b a, t = at1 h b a := by
  have ht : t.val < 320 := Nat.lt_of_lt_of_eq t.isLt N_1
  exact ⟨⟨t.val / 64, by omega⟩, ⟨t.val / 4 % 16, by omega⟩, ⟨t.val % 4, by omega⟩, Fin.ext (by show t.val = t.val / 64 * 64 + t.val / 4 % 16 * 4 + t.val % 4; omega)⟩

theorem at1_1 (h : Fin 5) (b : Fin 16) (a : Fin 4) : (grid1.coords (at1 h b a) 1).val = b.val := by
  rw [coords1_1]; show (h.val * 64 + b.val * 4 + a.val) / 4 % 16 = b.val; omega
theorem at1_2 (h : Fin 5) (b : Fin 16) (a : Fin 4) : (grid1.coords (at1 h b a) 2).val = a.val := by
  rw [coords1_2]; show (h.val * 64 + b.val * 4 + a.val) / 1 % 4 = a.val; omega

variable (V : Dev nD → Valuation τ sig (Elt Ideal)) (c : Dev nD) {A : Spec.Args} (T : Spec.Tame A)
  (H : ∀ h b a, Holds A h b a (tile1 V c (at1 h b a)))

/-- One key's share of the query gradient. -/
def share (A : Spec.Args) (h : Fin 5) (b : Fin 16) (l : Fin 256) (d : Fin 128) (t : Fin 16384) : EReal :=
  A.k b t h d * (Spec.ds A b h l t * A.ks b t h)

theorem zero_word : (Ideal.ofBits .f32 0x00000000#32 : EReal) = 0 := by simp [Ideal.ofBits, Ideal.ieee]

include T H in
theorem dqt_at (h : Fin 5) (b : Fin 16) (l : Fin 256) (d : Fin 128) : ∀ (n : ℕ) (hn : n < 4),
    dqtAt V c ((at1 h b ⟨n, hn⟩).val + 1) (ix2 d l) = (∑ a : Fin (n + 1), ∑ r : Fin 4096, share A h b l d (key (a.castLE hn) r) : EReal)
  | 0, hn => by
    rw [dqtAt_first V c (at1 h b ⟨0, hn⟩) (by show (h.val * 64 + b.val * 4 + 0) % 4 = 0; omega), dq_tile T (H h b ⟨0, hn⟩) (at1_1 h b _) (at1_2 h b _), pay5_apply, zero_word, zero_add]
    exact (Fin.sum_univ_one (fun a : Fin 1 => ∑ r : Fin 4096, share A h b l d (key (a.castLE hn) r))).symm
  | n + 1, hn => by
    have ih := dqt_at h b l d n (by omega)
    rw [dqtAt_next V c (at1 h b ⟨n + 1, hn⟩) (by show ¬(h.val * 64 + b.val * 4 + (n + 1)) % 4 = 0; omega), dq_tile T (H h b ⟨n + 1, hn⟩) (at1_1 h b _) (at1_2 h b _), Fin.sum_univ_castSucc (n := n + 1)]
    exact congrArg (· + ∑ r : Fin 4096, share A h b l d (key ⟨n + 1, hn⟩ r)) ih

theorem all_keys (f : Fin 16384 → EReal) : (∑ a : Fin 4, ∑ r : Fin 4096, f (key a r)) = ∑ t, f t := by
  rw [← Finset.sum_product']
  refine Fintype.sum_equiv (finProdFinEquiv (m := 4) (n := 4096)) _ _ fun x => congrArg f (Fin.ext ?_)
  show 4096 * x.1.val + x.2.val = x.2.val + 4096 * x.1.val
  omega

include T H in
theorem dqt_last (h : Fin 5) (b : Fin 16) (l : Fin 256) (d : Fin 128) :
    (dqtAt V c ((at1 h b 3).val + 1) (ix2 d l) * ((Spec.sm : ℝ) : EReal) : EReal) = Spec.dqs A b l h d := by
  rw [show dqtAt V c ((at1 h b 3).val + 1) (ix2 d l) = _ from dqt_at V c T H h b l d 3 (by decide)]
  refine (mul_comm _ _).trans (congrArg (((Spec.sm : ℝ) : EReal) * ·) ?_)
  exact all_keys (share A h b l d)

theorem acc_keep (h : Fin 5) (b : Fin 16) : dqAccAt V c ((at1 h b 3).val) = dqAccAt V c (at1 h b 0).val := by
  have e : ∀ n, n % 4 = 0 → dqAccAt V c (n + 3) = dqAccAt V c n := fun n hn => by
    rw [dqAccAt_keep V c (n + 2) (by omega), dqAccAt_keep V c (n + 1) (by omega), dqAccAt_keep V c n (by omega)]
  exact e (h.val * 64 + b.val * 4) (by omega)

include T H in
theorem acc_at (h : Fin 5) (l : Fin 256) (d : Fin 128) : ∀ (n : ℕ) (hn : n < 16),
    k1_pay17 (F := Ideal) (grid1.coords (at1 h ⟨n, hn⟩ 3)) (dqtAt V c ((at1 h ⟨n, hn⟩ 3).val + 1)) (dqAccAt V c (at1 h ⟨n, hn⟩ 3).val) (ix2 l d)
      = (∑ b : Fin (n + 1), Spec.dqs A (b.castLE hn) l h d : EReal)
  | 0, hn => by
    rw [pay17_apply, named_sm, dqt_last V c T H, at1_1 h ⟨0, hn⟩ 3]
    refine (zero_add _).trans ?_
    exact (Fin.sum_univ_one (fun b : Fin 1 => Spec.dqs A (b.castLE hn) l h d)).symm
  | n + 1, hn => by
    have ih := acc_at h l d n (by omega)
    rw [pay17_apply, named_sm, dqt_last V c T H, at1_1 h ⟨n + 1, hn⟩ 3, Fin.sum_univ_castSucc (n := n + 1)]
    refine congrArg (· + Spec.dqs A ⟨n + 1, hn⟩ l h d) (Eq.trans ?_ ih)
    have hne : Scalar.cmpi .eq (BitVec.ofNat 32 (n + 1)) 0#32 = 0#1 := by
      have : ∀ k : Fin 16, k.val ≠ 0 → Scalar.cmpi .eq (BitVec.ofNat 32 k.val) 0#32 = 0#1 := by decide
      exact this ⟨n + 1, hn⟩ (Nat.succ_ne_zero n)
    rw [hne, acc_keep, show (at1 h ⟨n + 1, hn⟩ 0).val = (at1 h ⟨n, by omega⟩ 3).val + 1 from by show h.val * 64 + (n + 1) * 4 + 0 = h.val * 64 + n * 4 + 3 + 1; omega,
      dqAccAt_add V c (at1 h ⟨n, by omega⟩ 3) (by show (h.val * 64 + n * 4 + 3) % 4 = 3; omega)]
    rfl

end Cert.KernelIdeal.Gen

end
-- ==== Proof.KerHold.lean ====
/-
What the second call's blocks hold of the arguments.
-/
module

public import proofs.«01_k».proof.Proof.KerSum
public import proofs.«01_k».proof.Proof.KerIdx

@[expose] public section

set_option maxRecDepth 16384

noncomputable section
namespace Cert.KernelIdeal.Gen
open Idealize.ShloMosaic Idealize.ShloMosaic.TcCoe

variable (V : Dev nD → Valuation τ sig (Elt Ideal)) (c : Dev nD) (h : Fin 5) (b : Fin 16) (a : Fin 4)

theorem at1_h : (at1 h b a).val / 64 = h.val := by show (h.val * 64 + b.val * 4 + a.val) / 64 = h.val; omega
theorem at1_b : (at1 h b a).val / 4 % 16 = b.val := by show (h.val * 64 + b.val * 4 + a.val) / 4 % 16 = b.val; omega
theorem at1_a : (at1 h b a).val % 4 = a.val := by show (h.val * 64 + b.val * 4 + a.val) % 4 = a.val; omega
theorem at1_0 : (grid1.coords (at1 h b a) 0).val = h.val := by
  rw [coords1_0, at1_h]; exact Nat.mod_eq_of_lt h.isLt

theorem blk1_0 : (iblk1 V c 0 (at1 h b a) : Vec Ideal S5x16 .f32) = V c main_v9_1 := by
  blk_ext! [iblk1, idx1a (at1 h b a)]
theorem blk1_1 : (iblk1 V c 1 (at1 h b a) : Vec Ideal S1x256x128 .bf16) = fun y => (V c main_v0 : Vec Ideal S5x256x128 .bf16) (ix3 h (y 1) (y 2)) := by
  blk_ext! [iblk1, idx1a (at1 h b a), at1_h, at1_b, at1_a]
theorem blk1_2 : (iblk1 V c 2 (at1 h b a) : Vec Ideal S1x128x256 .bf16) = fun y => (V c main_v8 : Vec Ideal S5x128x256 .bf16) (ix3 h (y 1) (y 2)) := by
  blk_ext! [iblk1, idx1a (at1 h b a), at1_h, at1_b, at1_a]
theorem blk1_3 : (iblk1 V c 3 (at1 h b a) : Vec Ideal S1x1x4096x128 .fp8e4m3) = fun y => (V c main_v1 : Vec Ideal S16x5x16384x128 .fp8e4m3) (ix4 b h (key a (y 2)) (y 3)) := by
  blk_ext! [iblk1, idx1a (at1 h b a), at1_h, at1_b, at1_a]
  exact congrArg (· + _) (Nat.mul_comm _ _)
theorem blk1_4 : (iblk1 V c 4 (at1 h b a) : Vec Ideal S1x16x16384 .f32) = fun y => (V c main_v3 : Vec Ideal S5x16x16384 .f32) (ix3 h (y 1) (y 2)) := by
  blk_ext! [iblk1, idx1a (at1 h b a), at1_h, at1_b, at1_a]
theorem blk1_5 : (iblk1 V c 5 (at1 h b a) : Vec Ideal S1x1x4096x128 .fp8e4m3) = fun y => (V c main_v2 : Vec Ideal S16x5x16384x128 .fp8e4m3) (ix4 b h (key a (y 2)) (y 3)) := by
  blk_ext! [iblk1, idx1a (at1 h b a), at1_h, at1_b, at1_a]
  exact congrArg (· + _) (Nat.mul_comm _ _)
theorem blk1_6 : (iblk1 V c 6 (at1 h b a) : Vec Ideal S1x16x16384 .f32) = fun y => (V c main_v4 : Vec Ideal S5x16x16384 .f32) (ix3 h (y 1) (y 2)) := by
  blk_ext! [iblk1, idx1a (at1 h b a), at1_h, at1_b, at1_a]
theorem blk1_7 : (iblk1 V c 7 (at1 h b a) : Vec Ideal S1x1x256x128 .fp8e5m2) = fun y => (V c main_v9_0 : Vec Ideal S16x5x256x128 .fp8e5m2) (ix4 b h (y 2) (y 3)) := by
  blk_ext! [iblk1, idx1b (at1 h b a), at1_h, at1_b, at1_a]
theorem blk1_8 : (iblk1 V c 8 (at1 h b a) : Vec Ideal S1x1x128x256 .bf16) = fun y => (V c main_v9_2 : Vec Ideal S16x5x128x256 .bf16) (ix4 b h (y 2) (y 3)) := by
  blk_ext! [iblk1, idx1b (at1 h b a), at1_h, at1_b, at1_a]
theorem blk1_9 : (iblk1 V c 9 (at1 h b a) : Vec Ideal S1x1x256x128 .f32) = fun y => (V c main_v9_3 : Vec Ideal S16x5x256x128 .f32) (ix4 b h (y 2) (y 3)) := by
  blk_ext! [iblk1, idx1b (at1 h b a), at1_h, at1_b, at1_a]
theorem blk1_10 : (iblk1 V c 10 (at1 h b a) : Vec Ideal S1x1x256x128 .f32) = fun y => (V c main_v9_4 : Vec Ideal S16x5x256x128 .f32) (ix4 b h (y 2) (y 3)) := by
  blk_ext! [iblk1, idx1b (at1 h b a), at1_h, at1_b, at1_a]

theorem dos1 (x : Vec Ideal S5x16 .f32) (H : _) : View.ld x (Rect.unit (s := S5x16) (k1_off1 (grid1.coords (at1 h b a))) S1x1.size (k1_off1_inb (grid1.coords (at1 h b a)))) (Shape.Idx.first H) = x (ix2 h b) := by
  refine congrArg x (funext fun z => Fin.ext ?_)
  show k1_off1 (grid1.coords (at1 h b a)) z + 1 * 0 = _
  rw [k1_off1_eq]
  match z with
  | ⟨0, _⟩ => exact at1_0 h b a
  | ⟨1, _⟩ => exact at1_1 h b a

/-- What the arrays the second call reads hold of the arguments. -/
structure Inputs (A : Spec.Args) (W : Valuation τ sig (Elt Ideal)) : Prop where
  q : ∀ h l d, (W main_v0 : Vec Ideal S5x256x128 .bf16) (ix3 h l d) = A.q l h d
  qt : ∀ h l d, (W main_v8 : Vec Ideal S5x128x256 .bf16) (ix3 h d l) = A.q l h d
  k : ∀ b h t d, (W main_v1 : Vec Ideal S16x5x16384x128 .fp8e4m3) (ix4 b h t d) = A.k b t h d
  v : ∀ b h t d, (W main_v2 : Vec Ideal S16x5x16384x128 .fp8e4m3) (ix4 b h t d) = A.v b t h d
  ks : ∀ b h t, (W main_v3 : Vec Ideal S5x16x16384 .f32) (ix3 h b t) = A.ks b t h
  vs : ∀ b h t, (W main_v4 : Vec Ideal S5x16x16384 .f32) (ix3 h b t) = A.vs b t h
  code : ∀ b h l d, (W main_v9_0 : Vec Ideal S16x5x256x128 .fp8e5m2) (ix4 b h l d) = Spec.code A b l h d
  dos : ∀ b h, (W main_v9_1 : Vec Ideal S5x16 .f32) (ix2 h b) = Spec.dos A b h
  dot : ∀ b h l d, (W main_v9_2 : Vec Ideal S16x5x128x256 .bf16) (ix4 b h d l) = (Spec.code A b l h d * Spec.dos A b h : EReal)
  lse : ∀ b h l j, (W main_v9_3 : Vec Ideal S16x5x256x128 .f32) (ix4 b h l j) = (A.lse b h l * (((Real.log 2)⁻¹ : ℝ) : EReal) : EReal)
  del : ∀ b h l j, (W main_v9_4 : Vec Ideal S16x5x256x128 .f32) (ix4 b h l j) = Spec.delta A b h l

theorem holds {A : Spec.Args} (I : Inputs A (V c)) : Holds A h b a (tile1 V c (at1 h b a)) where
  k r d := (congrFun (blk1_3 V c h b a) _).trans (I.k b h (key a r) d)
  v r d := (congrFun (blk1_5 V c h b a) _).trans (I.v b h (key a r) d)
  ks t := (congrFun (blk1_4 V c h b a) _).trans (I.ks b h t)
  vs t := (congrFun (blk1_6 V c h b a) _).trans (I.vs b h t)
  dos := (dos1 h b a _ _).trans ((congrFun (blk1_0 V c h b a) _).trans (I.dos b h))
  q l d := (congrFun (blk1_1 V c h b a) _).trans (I.q h l d)
  qt l d := (congrFun (blk1_2 V c h b a) _).trans (I.qt h l d)
  codes l d := (congrFun (blk1_7 V c h b a) _).trans (I.code b h l d)
  dot l d := (congrFun (blk1_8 V c h b a) _).trans (I.dot b h l d)
  lse l := (congrFun (blk1_9 V c h b a) _).trans (I.lse b h l _)
  del l := (congrFun (blk1_10 V c h b a) _).trans (I.del b h l _)

end Cert.KernelIdeal.Gen

end
-- ==== Proof.KerArr1.lean ====
/-
The arrays the second call leaves.
-/
module

public import proofs.«01_k».proof.Proof.KerSum
public import proofs.«01_k».proof.Proof.KerIdx

@[expose] public section

set_option maxRecDepth 16384

noncomputable section
namespace Cert.KernelIdeal.Gen
open Idealize.ShloMosaic Idealize.ShloMosaic.TcCoe

variable (V : Dev nD → Valuation τ sig (Elt Ideal)) (c : Dev nD) {A : Spec.Args} (T : Spec.Tame A)
  (H : ∀ h b a, Holds A h b a (tile1 V c (at1 h b a)))

theorem at1_h' (h : Fin 5) (b : Fin 16) (a : Fin 4) : (at1 h b a).val / 64 = h.val := by show (h.val * 64 + b.val * 4 + a.val) / 64 = h.val; omega
theorem at1_b' (h : Fin 5) (b : Fin 16) (a : Fin 4) : (at1 h b a).val / 4 % 16 = b.val := by show (h.val * 64 + b.val * 4 + a.val) / 4 % 16 = b.val; omega
theorem at1_a' (h : Fin 5) (b : Fin 16) (a : Fin 4) : (at1 h b a).val % 4 = a.val := by show (h.val * 64 + b.val * 4 + a.val) % 4 = a.val; omega

include T H

theorem arr1_13 : (dat1 V c).arrAt 13 cfg1.N = (fun j => Spec.dk A (j 0) (j 2) (j 1) (j 3) : S16x5x16384x128.Idx → EReal) := by
  refine (dat1 V c).arrAt_eq_of_covers 13 _ (by decide +kernel) fun t _ y => ?_
  obtain ⟨h, b, a, rfl⟩ := at1_eq t
  rw [after1_13]
  blk_simp
  have y0 : (y 0).val < 1 := (y 0).isLt
  have y1 : (y 1).val < 1 := (y 1).isLt
  have e0 : b = (win1_13.blk (at1 h b a)).view.emb y 0 := Fin.ext (by blk_simp [idx1b (at1 h b a), at1_b'])
  have e1 : h = (win1_13.blk (at1 h b a)).view.emb y 1 := Fin.ext (by blk_simp [idx1b (at1 h b a), at1_h'])
  have e2 : key a ((cfg1.win 13).xinj (cfg1.grid.coords (at1 h b a)) y 2) = (win1_13.blk (at1 h b a)).view.emb y 2 := Fin.ext (by
    show 4096 * a.val + (y 2).val = _
    blk_simp [idx1b (at1 h b a), at1_a']
    first | done | exact congrArg (· + _) (Nat.mul_comm _ _))
  have e3 : (cfg1.win 13).xinj (cfg1.grid.coords (at1 h b a)) y 3 = (win1_13.blk (at1 h b a)).view.emb y 3 := Fin.ext (by blk_simp [idx1b (at1 h b a)])
  rw [← e0, ← e1, ← e2, ← e3]
  refine Eq.trans (congrArg _ ?_) (dk_tile T (H h b a) (at1_1 h b a) (at1_2 h b a) _ _)
  funext z
  match z with
  | ⟨0, _⟩ => exact Fin.ext (by show (y 0).val = 0; omega)
  | ⟨1, _⟩ => exact Fin.ext (by show (y 1).val = 0; omega)
  | ⟨2, _⟩ => rfl
  | ⟨3, _⟩ => rfl
theorem arr1_14 : (dat1 V c).arrAt 14 cfg1.N = (fun j => Spec.dv A (j 0) (j 2) (j 1) (j 3) : S16x5x16384x128.Idx → EReal) := by
  refine (dat1 V c).arrAt_eq_of_covers 14 _ (by decide +kernel) fun t _ y => ?_
  obtain ⟨h, b, a, rfl⟩ := at1_eq t
  rw [after1_14]
  blk_simp
  have y0 : (y 0).val < 1 := (y 0).isLt
  have y1 : (y 1).val < 1 := (y 1).isLt
  have e0 : b = (win1_14.blk (at1 h b a)).view.emb y 0 := Fin.ext (by blk_simp [idx1b (at1 h b a), at1_b'])
  have e1 : h = (win1_14.blk (at1 h b a)).view.emb y 1 := Fin.ext (by blk_simp [idx1b (at1 h b a), at1_h'])
  have e2 : key a ((cfg1.win 14).xinj (cfg1.grid.coords (at1 h b a)) y 2) = (win1_14.blk (at1 h b a)).view.emb y 2 := Fin.ext (by
    show 4096 * a.val + (y 2).val = _
    blk_simp [idx1b (at1 h b a), at1_a']
    first | done | exact congrArg (· + _) (Nat.mul_comm _ _))
  have e3 : (cfg1.win 14).xinj (cfg1.grid.coords (at1 h b a)) y 3 = (win1_14.blk (at1 h b a)).view.emb y 3 := Fin.ext (by blk_simp [idx1b (at1 h b a)])
  rw [← e0, ← e1, ← e2, ← e3]
  refine Eq.trans (congrArg _ ?_) (dv_tile T (H h b a) (at1_1 h b a) (at1_2 h b a) _ _)
  funext z
  match z with
  | ⟨0, _⟩ => exact Fin.ext (by show (y 0).val = 0; omega)
  | ⟨1, _⟩ => exact Fin.ext (by show (y 1).val = 0; omega)
  | ⟨2, _⟩ => rfl
  | ⟨3, _⟩ => rfl

theorem arr1_12 : (dat1 V c).arrAt 12 cfg1.N = (fun j => Spec.dqs A (j 0) (j 2) (j 1) (j 3) : S16x5x256x128.Idx → EReal) := by
  refine (dat1 V c).arrAt_eq_of_covers 12 _ (by decide +kernel) fun t hf y => ?_
  have hf : t.val % 4 = 3 := flush12 t hf
  obtain ⟨h, b, a, rfl⟩ := at1_eq t
  obtain rfl : a = 3 := Fin.ext ((at1_a' h b a).symm.trans hf)
  rw [after1_12]
  blk_simp
  have y0 : (y 0).val < 1 := (y 0).isLt
  have y1 : (y 1).val < 1 := (y 1).isLt
  have e0 : b = (win1_12.blk (at1 h b 3)).view.emb y 0 := Fin.ext (by blk_simp [idx1b (at1 h b 3), at1_b'])
  have e1 : h = (win1_12.blk (at1 h b 3)).view.emb y 1 := Fin.ext (by blk_simp [idx1b (at1 h b 3), at1_h'])
  have e2 : (cfg1.win 12).xinj (cfg1.grid.coords (at1 h b 3)) y 2 = (win1_12.blk (at1 h b 3)).view.emb y 2 := Fin.ext (by blk_simp [idx1b (at1 h b 3)])
  have e3 : (cfg1.win 12).xinj (cfg1.grid.coords (at1 h b 3)) y 3 = (win1_12.blk (at1 h b 3)).view.emb y 3 := Fin.ext (by blk_simp [idx1b (at1 h b 3)])
  rw [← e0, ← e1, ← e2, ← e3]
  refine Eq.trans (congrArg _ ?_) ((pay15_apply (dqtAt V c ((at1 h b 3).val + 1)) _ _).trans ((congrArg _ named_sm).trans (dqt_last V c T H h b _ _)))
  funext z
  match z with
  | ⟨0, _⟩ => exact Fin.ext (by show (y 0).val = 0; omega)
  | ⟨1, _⟩ => exact Fin.ext (by show (y 1).val = 0; omega)
  | ⟨2, _⟩ => rfl
  | ⟨3, _⟩ => rfl

theorem arr1_11 : (dat1 V c).arrAt 11 cfg1.N = (fun j => Spec.dq A (j 1) (j 0) (j 2) : S5x256x128.Idx → EReal) := by
  refine (dat1 V c).arrAt_eq_of_covers 11 _ (by decide +kernel) fun t hf y => ?_
  have hf : t.val % 64 = 63 := flush11 t hf
  obtain ⟨h, b, a, rfl⟩ := at1_eq t
  have h1 := at1_a' h b a
  have h2 := at1_b' h b a
  obtain rfl : a = 3 := Fin.ext (by show a.val = 3; omega)
  obtain rfl : b = 15 := Fin.ext (by show b.val = 15; omega)
  rw [after1_11]
  blk_simp
  have y0 : (y 0).val < 1 := (y 0).isLt
  have e0 : h = (win1_11.blk (at1 h 15 3)).view.emb y 0 := Fin.ext (by blk_simp [idx1b (at1 h 15 3), at1_h'])
  have e1 : (cfg1.win 11).xinj (cfg1.grid.coords (at1 h 15 3)) y 1 = (win1_11.blk (at1 h 15 3)).view.emb y 1 := Fin.ext (by blk_simp [idx1b (at1 h 15 3)])
  have e2 : (cfg1.win 11).xinj (cfg1.grid.coords (at1 h 15 3)) y 2 = (win1_11.blk (at1 h 15 3)).view.emb y 2 := Fin.ext (by blk_simp [idx1b (at1 h 15 3)])
  rw [← e0, ← e1, ← e2]
  refine Eq.trans (congrArg _ ?_) ((pay18_apply (grid1.coords (at1 h 15 3)) (dqtAt V c ((at1 h 15 3).val + 1)) (dqAccAt V c (at1 h 15 3).val) _ _).trans (acc_at V c T H h _ _ 15 (by decide)))
  funext z
  match z with
  | ⟨0, _⟩ => exact Fin.ext (by show (y 0).val = 0; omega)
  | ⟨1, _⟩ => rfl
  | ⟨2, _⟩ => rfl
end Cert.KernelIdeal.Gen

end
-- ==== Proof.KerRun.lean ====
/-
The kernel's six results, at an index.
-/
module

public import proofs.«01_k».proof.Proof.KerIn
public import proofs.«01_k».proof.Proof.KerArr0
public import proofs.«01_k».proof.Proof.KerVal0
public import proofs.«01_k».proof.Proof.KerHold
public import proofs.«01_k».proof.Proof.KerArr1

@[expose] public section

set_option maxRecDepth 16384

noncomputable section
namespace Cert.KernelIdeal.Gen
open Idealize.ShloMosaic Idealize.ShloMosaic.TcCoe

variable (m : (ℓ : Loc nD τ sig) → Buf (Elt Ideal) ℓ) (c : Dev nD)

def argsM : Spec.Args := argsK (fun b => m (c, b))

theorem slab_g (b : Fin 16) (h : Fin 5) (l : Fin 256) (d : Fin 128) : slab (V1 m c main_v6 : Vec Ideal S16x5x256x128 .bf16) b h (ix4 0 0 l d) = (argsM m c).g b l h d :=
  in_v6 (fun b => m (c, b)) b h l d
theorem slab_o (b : Fin 16) (h : Fin 5) (l : Fin 256) (d : Fin 128) : slab (V1 m c main_v5 : Vec Ideal S16x5x256x128 .bf16) b h (ix4 0 0 l d) = (argsM m c).o b l h d :=
  in_v5 (fun b => m (c, b)) b h l d

theorem inputs (T : Spec.Tame (argsM m c)) : Inputs (argsM m c) (W2 m c) where
  q h l d := by rw [W2_of m c main_v0 (by decide)]; exact in_v0 _ h l d
  qt h l d := by rw [W2_of m c main_v8 (by decide)]; exact in_v8 _ h l d
  k b h t d := by rw [W2_of m c main_v1 (by decide)]; exact in_v1 _ b h t d
  v b h t d := by rw [W2_of m c main_v2 (by decide)]; exact in_v2 _ b h t d
  ks b h t := by rw [W2_of m c main_v3 (by decide)]; exact in_v3 _ b h t
  vs b h t := by rw [W2_of m c main_v4 (by decide)]; exact in_v4 _ b h t
  code b h l d := by rw [W2_main_v9_0, arr0_3]; exact codes_spec T b h (slab_g m c b h) l d
  dos b h := by rw [W2_main_v9_1, arr0_4]; exact scale_spec T b h (slab_g m c b h)
  dot b h l d := by rw [W2_main_v9_2, arr0_5]; exact dot_spec T b h (slab_g m c b h) l d
  lse b h l j := by
    rw [W2_main_v9_3, arr0_6]
    exact (lse2_val _ l j).trans (congrArg (· * (((Real.log 2)⁻¹ : ℝ) : EReal)) (in_v7 _ b h l))
  del b h l j := by rw [W2_main_v9_4, arr0_7]; exact delta_spec T b h (slab_g m c b h) (slab_o m c b h) l j

variable (T : ∀ c, Spec.Tame (argsM m c))
include T

theorem tiles (h : Fin 5) (b : Fin 16) (a : Fin 4) : Holds (argsM m c) h b a (tile1 (W2 m) c (at1 h b a)) :=
  holds (W2 m) c h b a (inputs m c (T c))

theorem end_v11 (l : Fin 256) (h : Fin 5) (d : Fin 128) : W4 m c main_v11 (ix3 l h d) = Spec.dq (argsM m c) l h d := by
  refine (out_v11 _ h l d).trans ?_
  rw [W3_main_v10_0, arr1_11 (W2 m) c (T c) (tiles m c T)]; rfl
theorem end_v12 (b : Fin 16) (l : Fin 256) (h : Fin 5) (d : Fin 128) : W4 m c main_v12 (ix4 b l h d) = Spec.dqs (argsM m c) b l h d := by
  refine (out_v12 _ b h l d).trans ?_
  rw [W3_main_v10_1, arr1_12 (W2 m) c (T c) (tiles m c T)]; rfl
theorem end_v13 (b : Fin 16) (t : Fin 16384) (h : Fin 5) (d : Fin 128) : W4 m c main_v13 (ix4 b t h d) = Spec.dk (argsM m c) b t h d := by
  refine (out_v13 _ b h t d).trans ?_
  rw [W3_main_v10_2, arr1_13 (W2 m) c (T c) (tiles m c T)]; rfl
theorem end_v14 (b : Fin 16) (t : Fin 16384) (h : Fin 5) (d : Fin 128) : W4 m c main_v14 (ix4 b t h d) = Spec.dv (argsM m c) b t h d := by
  refine (out_v14 _ b h t d).trans ?_
  rw [W3_main_v10_3, arr1_14 (W2 m) c (T c) (tiles m c T)]; rfl
theorem end_v15 (b : Fin 16) (l : Fin 256) (h : Fin 5) (d : Fin 128) : W4 m c main_v15 (ix4 b l h d) = Spec.code (argsM m c) b l h d := by
  refine (out_v15 _ b h l d).trans ?_
  rw [W3_of m c main_v9_0 (by decide)]; exact (inputs m c (T c)).code b h l d
theorem end_v16 (b : Fin 16) (h : Fin 5) : W4 m c main_v16 (ix2 b h) = Spec.dos (argsM m c) b h := by
  refine (out_v16 _ b h).trans ?_
  rw [W3_of m c main_v9_1 (by decide)]; exact (inputs m c (T c)).dos b h

end Cert.KernelIdeal.Gen

end
-- ==== Proof.RefPre.lean ====
/-
The reference's host operations before its call, block by block.
-/
module

public import proofs.«01_k».proof.Proof.Gen.ReferenceIdeal.Frame
public import proofs.«01_k».proof.Proof.Spec
public import Idealize.ShloMosaic.Lib.Pointwise
public import Idealize.ShloMosaic.Lib.StableHlo.ReadAt

@[expose] public section

set_option maxRecDepth 16384

noncomputable section
namespace Cert.ReferenceIdeal.Gen
open Idealize.ShloMosaic Idealize.ShloMosaic.TcCoe

/-- The operations up to the largest |gradient|. -/
def opsMax {F : FTy → Type} [FloatOps F] : List (HloOp τ sig (Elt F)) :=
  [ StableHlo.nullary main_cst (constant S_ .f32 0x43000000#32),
    StableHlo.unary main_cst main_v0 (Host.sqrt : (⟨S_, .f32⟩ : BufTy).Contents (Elt F) → (⟨S_, .f32⟩ : BufTy).Contents (Elt F)),
    StableHlo.nullary main_cst_0 (constant S_ .f32 0x3F800000#32),
    StableHlo.binary main_cst_0 main_v0 main_v1 (Host.divf : (⟨S_, .f32⟩ : BufTy).Contents (Elt F) → (⟨S_, .f32⟩ : BufTy).Contents (Elt F) → (⟨S_, .f32⟩ : BufTy).Contents (Elt F)),
    StableHlo.unary main_arg7 main_v2 ((extf .f32 · bitsLt_bf16_f32) : (⟨S16x256x5x128, .bf16⟩ : BufTy).Contents (Elt F) → (⟨S16x256x5x128, .f32⟩ : BufTy).Contents (Elt F)),
    StableHlo.unary main_v2 main_v3 (Host.absf : (⟨S16x256x5x128, .f32⟩ : BufTy).Contents (Elt F) → (⟨S16x256x5x128, .f32⟩ : BufTy).Contents (Elt F)),
    StableHlo.nullary main_cst_1 (constant S_ .f32 0xFF800000#32),
    StableHlo.binary main_v3 main_cst_1 main_v4 ((fun x v => Host.reduce FloatOps.maximumf x v reducesTo_S16x256x5x128_S16x5_d1_3 h_S_) : (⟨S16x256x5x128, .f32⟩ : BufTy).Contents (Elt F) → (⟨S_, .f32⟩ : BufTy).Contents (Elt F) → (⟨S16x5, .f32⟩ : BufTy).Contents (Elt F)) ]

/-- The operations from there to the exponent's two cases. -/
def opsExp {F : FTy → Type} [FloatOps F] : List (HloOp τ sig (Elt F)) :=
  [ StableHlo.nullary main_cst_2 (constant S_ .f32 0x37924925#32),
    StableHlo.unary main_cst_2 main_v5 (broadcastInDim S16x5 ![] bcast_S_S16x5 : (⟨S_, .f32⟩ : BufTy).Contents (Elt F) → (⟨S16x5, .f32⟩ : BufTy).Contents (Elt F)),
    StableHlo.binary main_v4 main_v5 main_v6 (mulf : (⟨S16x5, .f32⟩ : BufTy).Contents (Elt F) → (⟨S16x5, .f32⟩ : BufTy).Contents (Elt F) → (⟨S16x5, .f32⟩ : BufTy).Contents (Elt F)),
    StableHlo.nullary main_cst_3 (constant S_ .f32 0x00800000#32),
    StableHlo.unary main_cst_3 main_v7 (broadcastInDim S16x5 ![] bcast_S_S16x5 : (⟨S_, .f32⟩ : BufTy).Contents (Elt F) → (⟨S16x5, .f32⟩ : BufTy).Contents (Elt F)),
    StableHlo.binary main_v6 main_v7 main_v8 (cmpf .olt : (⟨S16x5, .f32⟩ : BufTy).Contents (Elt F) → (⟨S16x5, .f32⟩ : BufTy).Contents (Elt F) → (⟨S16x5, .i1⟩ : BufTy).Contents (Elt F)),
    StableHlo.unary main_v6 main_v9 (Host.log : (⟨S16x5, .f32⟩ : BufTy).Contents (Elt F) → (⟨S16x5, .f32⟩ : BufTy).Contents (Elt F)),
    StableHlo.nullary main_cst_4 (constant S_ .f32 0x40000000#32),
    StableHlo.unary main_cst_4 main_v10 (Host.log : (⟨S_, .f32⟩ : BufTy).Contents (Elt F) → (⟨S_, .f32⟩ : BufTy).Contents (Elt F)),
    StableHlo.unary main_v10 main_v11 (broadcastInDim S16x5 ![] bcast_S_S16x5 : (⟨S_, .f32⟩ : BufTy).Contents (Elt F) → (⟨S16x5, .f32⟩ : BufTy).Contents (Elt F)),
    StableHlo.binary main_v9 main_v11 main_v12 (Host.divf : (⟨S16x5, .f32⟩ : BufTy).Contents (Elt F) → (⟨S16x5, .f32⟩ : BufTy).Contents (Elt F) → (⟨S16x5, .f32⟩ : BufTy).Contents (Elt F)),
    StableHlo.unary main_v12 main_v13 (Host.floor : (⟨S16x5, .f32⟩ : BufTy).Contents (Elt F) → (⟨S16x5, .f32⟩ : BufTy).Contents (Elt F)),
    StableHlo.nullary main_cst_5 (constant S_ .f32 0x3F800000#32),
    StableHlo.unary main_cst_5 main_v14 (broadcastInDim S16x5 ![] bcast_S_S16x5 : (⟨S_, .f32⟩ : BufTy).Contents (Elt F) → (⟨S16x5, .f32⟩ : BufTy).Contents (Elt F)),
    StableHlo.binary main_v13 main_v14 main_v15 (addf : (⟨S16x5, .f32⟩ : BufTy).Contents (Elt F) → (⟨S16x5, .f32⟩ : BufTy).Contents (Elt F) → (⟨S16x5, .f32⟩ : BufTy).Contents (Elt F)),
    StableHlo.nullary main_cst_6 (constant S_ .f32 0x00000000#32) ]

theorem hostOps0_split : (hostOps0 : List (HloOp τ sig (Elt Ideal))) = opsMax ++ opsExp := rfl

/-- The largest absolute values over the rows and columns. -/
def amaxR (x : FVec Ideal S16x256x5x128 .f32) : FVec Ideal S16x5 .f32 :=
  Host.reduce FloatOps.maximumf x (constant (F := Ideal) S_ .f32 0xFF800000#32) reducesTo_S16x256x5x128_S16x5_d1_3 h_S_

theorem drop_ix (b : Fin 16) (l : Fin 256) (h : Fin 5) (d : Fin 128) :
    reducesTo_S16x256x5x128_S16x5_d1_3.drop (ix4 b l h d) = ix2 b h := by
  funext a
  match a with
  | 0 => exact Fin.ext (Shape.ReducesTo.drop_apply_val_of_eq reducesTo_S16x256x5x128_S16x5_d1_3 (ix4 b l h d) 0 0)
  | 1 => exact Fin.ext (Shape.ReducesTo.drop_apply_val_of_eq reducesTo_S16x256x5x128_S16x5_d1_3 (ix4 b l h d) 1 2)

theorem amaxR_apply (x : FVec Ideal S16x256x5x128 .f32) (b : Fin 16) (h : Fin 5) :
    amaxR x (ix2 b h) = Finset.univ.sup fun p : Fin 256 × Fin 128 => (x (ix4 b p.1 h p.2) : EReal) := by
  unfold amaxR
  rw [Host.reduce_eq_fold]
  show Finset.fold max (Ideal.ofBits .f32 0xFF800000#32) x _ = _
  rw [Cert.Spec.ofBits_ninf]
  show Finset.sup _ x = _
  apply le_antisymm
  · refine Finset.sup_le fun i hi => ?_
    have hi := (Finset.mem_filter.1 hi).2
    obtain ⟨i0, i1, i2, i3, rfl⟩ : ∃ (i0 : Fin 16) (i1 : Fin 256) (i2 : Fin 5) (i3 : Fin 128), i = ix4 i0 i1 i2 i3 :=
      ⟨i 0, i 1, i 2, i 3, eq_ix4 i⟩
    rw [drop_ix] at hi
    have e0 : i0 = b := congrFun hi 0
    have e2 : i2 = h := congrFun hi 1
    rw [e0, e2]
    exact Finset.le_sup (f := fun p : Fin 256 × Fin 128 => (x (ix4 b p.1 h p.2) : EReal)) (Finset.mem_univ (i1, i3))
  · refine Finset.sup_le fun p _ => ?_
    exact Finset.le_sup (f := x) (Finset.mem_filter.2 ⟨Finset.mem_univ _, drop_ix _ _ _ _⟩)

variable (V : Valuation τ sig (Elt Ideal)) (b : Fin 16) (h : Fin 5) (l : Fin 256) (d : Fin 128)

theorem max_v4 : StableHlo.after opsMax V main_v4 =
    amaxR (Host.absf (extf .f32 (V main_arg7) bitsLt_bf16_f32)) := by
  unfold opsMax amaxR
  after_reads_simp
theorem max_v1 : StableHlo.after opsMax V main_v1 ix0 = (Ideal.div 1 (Ideal.sqrt (Ideal.ofBits .f32 0x43000000#32)) : EReal) := by
  unfold opsMax
  after_reads_at
theorem max_v2 : StableHlo.after opsMax V main_v2 (ix4 b l h d) = (V main_arg7 (ix4 b l h d) : EReal) := by
  unfold opsMax
  after_reads_at

theorem exp_v1 : StableHlo.after opsExp V main_v1 ix0 = (V main_v1 ix0 : EReal) := by
  unfold opsExp
  after_reads_at
theorem exp_v2 : StableHlo.after opsExp V main_v2 (ix4 b l h d) = (V main_v2 (ix4 b l h d) : EReal) := by
  unfold opsExp
  after_reads_at
theorem exp_v8 (y : EReal) (hy : V main_v4 (ix2 b h) = y) : StableHlo.after opsExp V main_v8 (ix2 b h) = BitVec.ofBool (decide
    (y * Ideal.ofBits .f32 0x37924925#32 < Ideal.ofBits .f32 0x00800000#32)) := by
  subst hy
  unfold opsExp
  after_reads_at
theorem exp_v15 (y : EReal) (hy : V main_v4 (ix2 b h) = y) : StableHlo.after opsExp V main_v15 (ix2 b h) = (Ideal.liftRound Int.floor (Ideal.div
    (Ideal.log (y * Ideal.ofBits .f32 0x37924925#32)) (Ideal.log (Ideal.ofBits .f32 0x40000000#32))) + 1 : EReal) := by
  subst hy
  unfold opsExp
  after_reads_at
theorem exp_c6 : StableHlo.after opsExp V main_cst_6 ix0 = (0 : EReal) := by
  unfold opsExp
  after_reads_at

theorem where_v1 : StableHlo.after hostOps0_1 V main_v1 ix0 = (V main_v1 ix0 : EReal) := by
  after_reads_at
theorem where_v2 : StableHlo.after hostOps0_1 V main_v2 (ix4 b l h d) = (V main_v2 (ix4 b l h d) : EReal) := by
  after_reads_at
theorem where_v16 : StableHlo.after hostOps0_1 V main_v16 (ix2 b h) =
    (Scalar.select (V main_v8 (ix2 b h)) (V main_cst_6 ix0) (V main_v15 (ix2 b h)) : EReal) := by
  after_reads_at
  rfl

theorem pow_v1 : StableHlo.after hostOps0_2 V main_v1 ix0 = (V main_v1 ix0 : EReal) := by
  after_reads_at
theorem pow_v18 : StableHlo.after hostOps0_2 V main_v18 (ix2 b h) =
    (Ideal.pow (Ideal.ofBits .f32 0x40000000#32) (V main_v16 (ix2 b h)) : EReal) := by
  after_reads_at
theorem pow_v24 : StableHlo.after hostOps0_2 V main_v24 (ix4 b l h d) =
    (fun x y : EReal => x * Ideal.pow (Ideal.ofBits .f32 0x40000000#32) (-y)) (V main_v2 (ix4 b l h d)) (V main_v16 (ix2 b h)) := by
  after_reads_at
theorem pow_c9 : StableHlo.after hostOps0_2 V main_cst_9 ix0 = (Ideal.ofBits .f32 0xC7600000#32 : EReal) := by
  after_reads_at
theorem pow_c10 : StableHlo.after hostOps0_2 V main_cst_10 ix0 = (Ideal.ofBits .f32 0x47600000#32 : EReal) := by
  after_reads_at

theorem clip_v1 : StableHlo.after hostOps0_3 V main_v1 ix0 = (V main_v1 ix0 : EReal) := by
  after_reads_at
theorem clip_v18 : StableHlo.after hostOps0_3 V main_v18 (ix2 b h) = (V main_v18 (ix2 b h) : EReal) := by
  after_reads_at
theorem clip_v25 : StableHlo.after hostOps0_3 V main_v25 (ix4 b l h d) =
    (min (V main_cst_10 ix0) (max (V main_cst_9 ix0) (V main_v24 (ix4 b l h d))) : EReal) := by
  after_reads_at
  rfl

/-- The buffers before the call. -/
abbrev before : Valuation τ sig (Elt Ideal) := StableHlo.after (List.flatten [hostOps0, hostOps0_1, hostOps0_2, hostOps0_3]) V

theorem before_eq : before V = StableHlo.after hostOps0_3 (StableHlo.after hostOps0_2 (StableHlo.after hostOps0_1
    (StableHlo.after opsExp (StableHlo.after opsMax V)))) := by
  unfold before
  rw [List.flatten_cons, List.flatten_cons, List.flatten_cons, List.flatten_cons, List.flatten_nil, List.append_nil,
    StableHlo.after_append, StableHlo.after_append, StableHlo.after_append, hostOps0_split, StableHlo.after_append]

/-- The arguments by coordinates. -/
def argsR : Cert.Spec.Args where
  q l h d := V main_arg0 (ix3 l h d)
  k b t h d := V main_arg1 (ix4 b t h d)
  ks b t h := V main_arg2 (ix3 b t h)
  v b t h d := V main_arg3 (ix4 b t h d)
  vs b t h := V main_arg4 (ix3 b t h)
  o b l h d := V main_arg5 (ix4 b l h d)
  lse b h l := V main_arg6 (ix3 b h l)
  g b l h d := V main_arg7 (ix4 b l h d)

theorem quo_ref : amaxR (Host.absf (extf .f32 (V main_arg7) bitsLt_bf16_f32)) (ix2 b h) = Cert.Spec.amax (argsR V) b h :=
  amaxR_apply _ _ _

variable {V}

theorem exp_v16 (T : Cert.Spec.Tame (argsR V)) : StableHlo.after hostOps0_1 (StableHlo.after opsExp (StableHlo.after opsMax V)) main_v16 (ix2 b h)
    = (((Cert.Spec.ex (argsR V) b h : ℝ)) : EReal) := by
  have e4 : StableHlo.after opsMax V main_v4 (ix2 b h) = Cert.Spec.amax (argsR V) b h := by rw [max_v4, quo_ref]
  rw [where_v16, exp_v8 _ _ _ _ e4, exp_v15 _ _ _ _ e4, exp_c6, ← Cert.Spec.ref_exp T]
  unfold Cert.Spec.quo
  generalize Cert.Spec.amax (argsR V) b h * Ideal.ofBits .f32 0x37924925#32 = z
  generalize Ideal.liftRound _ _ + 1 = y
  by_cases hh : z < Ideal.ofBits .f32 0x00800000#32
  · rw [if_pos hh, decide_eq_true hh]; rfl
  · rw [if_neg hh, decide_eq_false hh]; rfl

theorem before_v1 : before V main_v1 ix0 = ((Cert.Spec.sm : ℝ) : EReal) := by
  rw [before_eq, clip_v1, pow_v1, where_v1, exp_v1, max_v1, Cert.Spec.ref_sm]

theorem before_v18 (T : Cert.Spec.Tame (argsR V)) : before V main_v18 (ix2 b h) = Cert.Spec.dos (argsR V) b h := by
  rw [before_eq, clip_v18, pow_v18, exp_v16 _ _ T, Cert.Spec.ref_scale]
  rfl

theorem before_v25 (T : Cert.Spec.Tame (argsR V)) : before V main_v25 (ix4 b l h d) = Cert.Spec.code (argsR V) b l h d := by
  rw [before_eq, clip_v25, pow_c10, pow_c9, pow_v24, where_v2, exp_v2, max_v2, exp_v16 _ _ T]
  dsimp only
  rw [Cert.Spec.ref_inv]
  rfl

end Cert.ReferenceIdeal.Gen

end
-- ==== Proof.RefPost.lean ====
/-
The reference's results over the buffers after its call.
-/
module

public import proofs.«01_k».proof.Proof.Gen.ReferenceIdeal.Frame
public import Idealize.ShloMosaic.Lib.Pointwise
public import Idealize.ShloMosaic.Lib.StableHlo.ReadAt

@[expose] public section

set_option maxRecDepth 16384

noncomputable section
namespace Cert.ReferenceIdeal.Gen
open Idealize.ShloMosaic Idealize.ShloMosaic.TcCoe

variable (V : Valuation τ sig (Elt Ideal))

def qR (l : Fin 256) (h : Fin 5) (d : Fin 128) : EReal := V main_arg0 (ix3 l h d)
def kR (b : Fin 16) (t : Fin 16384) (h : Fin 5) (d : Fin 128) : EReal := V main_v26_0 (ix4 b t h d)
def vR (b : Fin 16) (t : Fin 16384) (h : Fin 5) (d : Fin 128) : EReal := V main_v26_1 (ix4 b t h d)
def ksR (b : Fin 16) (t : Fin 16384) (h : Fin 5) : EReal := V main_arg2 (ix3 b t h)
def vsR (b : Fin 16) (t : Fin 16384) (h : Fin 5) : EReal := V main_arg4 (ix3 b t h)
def oR (b : Fin 16) (l : Fin 256) (h : Fin 5) (d : Fin 128) : EReal := V main_arg5 (ix4 b l h d)
def cR (b : Fin 16) (l : Fin 256) (h : Fin 5) (d : Fin 128) : EReal := V main_v26_3 (ix4 b l h d)
def lseR (b : Fin 16) (h : Fin 5) (l : Fin 256) : EReal := V main_arg6 (ix3 b h l)
def dosR (b : Fin 16) (h : Fin 5) : EReal := V main_v18 (ix2 b h)
def smR : EReal := V main_v1 ix0

def pR (b : Fin 16) (h : Fin 5) (l : Fin 256) (t : Fin 16384) : EReal :=
  Ideal.exp ((∑ x, kR V b t h x * qR V l h x) * (smR V * ksR V b t h) - lseR V b h l)

def deltaR (b : Fin 16) (h : Fin 5) (l : Fin 256) : EReal := ∑ x, cR V b l h x * dosR V b h * oR V b l h x

def dsR (b : Fin 16) (h : Fin 5) (l : Fin 256) (t : Fin 16384) : EReal :=
  pR V b h l t * ((∑ x, cR V b l h x * vR V b t h x) * (dosR V b h * vsR V b t h) - deltaR V b h l)

theorem post_v78 (b : Fin 16) (t : Fin 16384) (h : Fin 5) (d : Fin 128) : StableHlo.after hostOps1 V main_v78 (ix4 b t h d) =
    (∑ l, cR V b l h d * pR V b h l t) * dosR V b h := by
  simp only [pR, qR, kR, ksR, lseR, cR, dosR, smR]
  after_reads_at
theorem post_v77 (b : Fin 16) (t : Fin 16384) (h : Fin 5) (d : Fin 128) : StableHlo.after hostOps1 V main_v77 (ix4 b t h d) =
    smR V * ∑ l, qR V l h d * dsR V b h l t := by
  simp only [dsR, pR, deltaR, qR, kR, vR, ksR, vsR, oR, lseR, cR, dosR, smR]
  after_reads_at
theorem post_v74 (b : Fin 16) (l : Fin 256) (h : Fin 5) (d : Fin 128) : StableHlo.after hostOps1 V main_v74 (ix4 b l h d) =
    smR V * ∑ t, kR V b t h d * (dsR V b h l t * ksR V b t h) := by
  simp only [dsR, pR, deltaR, qR, kR, vR, ksR, vsR, oR, lseR, cR, dosR, smR]
  after_reads_at
theorem post_v76 (l : Fin 256) (h : Fin 5) (d : Fin 128) : StableHlo.after hostOps1 V main_v76 (ix3 l h d) =
    ∑ b, smR V * ∑ t, kR V b t h d * (dsR V b h l t * ksR V b t h) := by
  simp only [dsR, pR, deltaR, qR, kR, vR, ksR, vsR, oR, lseR, cR, dosR, smR]
  after_reads_at
end Cert.ReferenceIdeal.Gen

end
-- ==== Proof.RefArr.lean ====
/-
The arrays the reference's one call leaves: its operands, each in the other format.
-/
module

public import proofs.«01_k».proof.Proof.Gen.ReferenceIdeal.Frame
public import Idealize.ShloMosaic.Lib.Pipeline.ValueKit
public import Idealize.ShloMosaic.Lib.Pointwise

@[expose] public section

set_option maxRecDepth 16384

noncomputable section
namespace Cert.ReferenceIdeal.Gen
open Idealize.ShloMosaic Idealize.ShloMosaic.TcCoe

variable (m : (ℓ : Loc nD τ sig) → Buf (Elt Ideal) ℓ)

/-- Every window's block index at the one point. -/
theorem idxR : ∀ t : Fin cfg0.N, win0_0.index t = ![0, 0, 0, 0] ∧ win0_1.index t = ![0, 0, 0, 0] ∧ win0_2.index t = ![0, 0, 0, 0] :=
  (by decide +kernel : ∀ t : Fin grid0.N, _)

theorem iblkR_0 (c : Dev nD) : iblk m c 0 t0_0 = V m c main_arg1 := by
  blk_ext! [iblk, idxR t0_0]
theorem iblkR_1 (c : Dev nD) : iblk m c 1 t0_0 = V m c main_arg3 := by
  blk_ext! [iblk, idxR t0_0]
theorem iblkR_2 (c : Dev nD) : iblk m c 2 t0_0 = V m c main_v25 := by
  blk_ext! [iblk, idxR t0_0]

theorem arrR_3 (c : Dev nD) : (dats m 0 c).arrAt 3 cfg0.N = k0_pay1 (V m c main_arg1) := by
  refine (dats m 0 c).arrAt_eq_of_after_last 3 t0_0 (by decide +kernel) _ fun j => ?_
  blk_simp
  rw [after0_3]
  unfold out0_3
  frame_out
  rw [iblkR_0]
theorem arrR_4 (c : Dev nD) : (dats m 0 c).arrAt 4 cfg0.N = k0_pay2 (V m c main_arg3) := by
  refine (dats m 0 c).arrAt_eq_of_after_last 4 t0_0 (by decide +kernel) _ fun j => ?_
  blk_simp
  rw [after0_4]
  unfold out0_4
  frame_out
  rw [iblkR_1]
theorem arrR_5 (c : Dev nD) : (dats m 0 c).arrAt 5 cfg0.N = k0_pay3 (V m c main_v25) := by
  refine (dats m 0 c).arrAt_eq_of_after_last 5 t0_0 (by decide +kernel) _ fun j => ?_
  blk_simp
  rw [after0_5]
  unfold out0_5
  frame_out
  rw [iblkR_2]
theorem arrR_6 (c : Dev nD) : (dats m 0 c).arrAt 6 cfg0.N = k0_pay4 (V m c main_v25) := by
  refine (dats m 0 c).arrAt_eq_of_after_last 6 t0_0 (by decide +kernel) _ fun j => ?_
  blk_simp
  rw [after0_6]
  unfold out0_6
  frame_out
  rw [iblkR_2]
end Cert.ReferenceIdeal.Gen

end
-- ==== Proof.RefRun.lean ====
/-
The reference's results, at an index, as the six functions of its arguments.
-/
module

public import proofs.«01_k».proof.Proof.RefPre
public import proofs.«01_k».proof.Proof.RefPost
public import proofs.«01_k».proof.Proof.RefArr

@[expose] public section

set_option maxRecDepth 16384

noncomputable section
namespace Cert.ReferenceIdeal.Gen
open Idealize.ShloMosaic Idealize.ShloMosaic.TcCoe
open Cert.Spec (Args Tame)

variable (m : (ℓ : Loc nD τ sig) → Buf (Elt Ideal) ℓ)

/-- The arguments of a core. -/
abbrev argsOf (c : Dev nD) : Args := argsR (fun b => m (c, b))

/-- The buffers after the call. -/
def WR (c : Dev nD) : Valuation τ sig (Elt Ideal) :=
  Pipeline.withArrays (cfgs 0).spec c (V0 m c) fun w => (dats m 0 c).arrAt w (cfgs 0).N

theorem WR_of_ne (c : Dev nD) (b : Ref sig .tc) (hb : ∀ w, Pipeline.arrRef spec0 w ≠ b) : WR m c (Proc.devRef .tc b) = V0 m c (Proc.devRef .tc b) :=
  Pipeline.withArrays_of_ne _ c (V0 m c) _ b hb

theorem arrRef_inj : Function.Injective (Pipeline.arrRef spec0) := by decide

theorem WR_arg0 (c : Dev nD) : WR m c main_arg0 = m (c, main_arg0) :=
  (WR_of_ne m c main_arg0 (by decide)).trans (V_main_arg0 m c)
theorem WR_arg2 (c : Dev nD) : WR m c main_arg2 = m (c, main_arg2) :=
  (WR_of_ne m c main_arg2 (by decide)).trans (V_main_arg2 m c)
theorem WR_arg4 (c : Dev nD) : WR m c main_arg4 = m (c, main_arg4) :=
  (WR_of_ne m c main_arg4 (by decide)).trans (V_main_arg4 m c)
theorem WR_arg5 (c : Dev nD) : WR m c main_arg5 = m (c, main_arg5) :=
  (WR_of_ne m c main_arg5 (by decide)).trans (V_main_arg5 m c)
theorem WR_arg6 (c : Dev nD) : WR m c main_arg6 = m (c, main_arg6) :=
  (WR_of_ne m c main_arg6 (by decide)).trans (V_main_arg6 m c)
theorem WR_v1 (c : Dev nD) : WR m c main_v1 = V0 m c main_v1 := WR_of_ne m c main_v1 (by decide)
theorem WR_v18 (c : Dev nD) : WR m c main_v18 = V0 m c main_v18 := WR_of_ne m c main_v18 (by decide)
theorem WR_v26_0 (c : Dev nD) : WR m c main_v26_0 = k0_pay1 (V m c main_arg1) :=
  (Pipeline.withArrays_arr spec0 arrRef_inj c (V0 m c) _ 3).trans (arrR_3 m c)
theorem WR_v26_1 (c : Dev nD) : WR m c main_v26_1 = k0_pay2 (V m c main_arg3) :=
  (Pipeline.withArrays_arr spec0 arrRef_inj c (V0 m c) _ 4).trans (arrR_4 m c)
theorem WR_v26_3 (c : Dev nD) : WR m c main_v26_3 = k0_pay4 (V m c main_v25) :=
  (Pipeline.withArrays_arr spec0 arrRef_inj c (V0 m c) _ 6).trans (arrR_6 m c)

theorem castK (x : Vec Ideal S16x16384x5x128 .fp8e4m3) : k0_pay1 x = x := rfl
theorem castV (x : Vec Ideal S16x16384x5x128 .fp8e4m3) : k0_pay2 x = x := rfl
theorem castC (x : Vec Ideal S16x256x5x128 .f32) (b : Fin 16) (l : Fin 256) (h : Fin 5) (d : Fin 128) :
    k0_pay3 x (ix4 b l h d) = (x (ix4 b l h d) : EReal) := by
  pointwise [k0_pay3]
theorem castD (x : Vec Ideal S16x256x5x128 .f32) (b : Fin 16) (l : Fin 256) (h : Fin 5) (d : Fin 128) :
    k0_pay4 x (ix4 b l h d) = (x (ix4 b l h d) : EReal) := by
  pointwise [k0_pay4, k0_pay3]

variable {m} {c : Dev nD} (T : Tame (argsOf m c))

theorem q_eq (l : Fin 256) (h : Fin 5) (d : Fin 128) : qR (WR m c) l h d = (argsOf m c).q l h d := by
  unfold qR; rw [WR_arg0]; rfl
theorem k_eq (b : Fin 16) (t : Fin 16384) (h : Fin 5) (d : Fin 128) : kR (WR m c) b t h d = (argsOf m c).k b t h d := by
  unfold kR; rw [WR_v26_0, castK, V_main_arg1]; rfl
theorem v_eq (b : Fin 16) (t : Fin 16384) (h : Fin 5) (d : Fin 128) : vR (WR m c) b t h d = (argsOf m c).v b t h d := by
  unfold vR; rw [WR_v26_1, castV, V_main_arg3]; rfl
theorem ks_eq (b : Fin 16) (t : Fin 16384) (h : Fin 5) : ksR (WR m c) b t h = (argsOf m c).ks b t h := by
  unfold ksR; rw [WR_arg2]; rfl
theorem vs_eq (b : Fin 16) (t : Fin 16384) (h : Fin 5) : vsR (WR m c) b t h = (argsOf m c).vs b t h := by
  unfold vsR; rw [WR_arg4]; rfl
theorem o_eq (b : Fin 16) (l : Fin 256) (h : Fin 5) (d : Fin 128) : oR (WR m c) b l h d = (argsOf m c).o b l h d := by
  unfold oR; rw [WR_arg5]; rfl
theorem lse_eq (b : Fin 16) (h : Fin 5) (l : Fin 256) : lseR (WR m c) b h l = (argsOf m c).lse b h l := by
  unfold lseR; rw [WR_arg6]; rfl
theorem sm_eq : smR (WR m c) = ((Cert.Spec.sm : ℝ) : EReal) := by
  unfold smR; rw [WR_v1]; exact before_v1
include T in
theorem dos_eq (b : Fin 16) (h : Fin 5) : dosR (WR m c) b h = Cert.Spec.dos (argsOf m c) b h := by
  unfold dosR; rw [WR_v18]; exact before_v18 b h T
include T in
theorem c_eq (b : Fin 16) (l : Fin 256) (h : Fin 5) (d : Fin 128) : cR (WR m c) b l h d = Cert.Spec.code (argsOf m c) b l h d := by
  unfold cR; rw [WR_v26_3, castD]; exact before_v25 b h l d T

theorem p_eq (b : Fin 16) (h : Fin 5) (l : Fin 256) (t : Fin 16384) : pR (WR m c) b h l t = Cert.Spec.p (argsOf m c) b h l t := by
  unfold pR Cert.Spec.p
  simp only [q_eq, k_eq, ks_eq, lse_eq, sm_eq]
include T in
theorem ds_eq (b : Fin 16) (h : Fin 5) (l : Fin 256) (t : Fin 16384) : dsR (WR m c) b h l t = Cert.Spec.ds (argsOf m c) b h l t := by
  unfold dsR Cert.Spec.ds deltaR Cert.Spec.delta
  simp only [p_eq, c_eq T, v_eq, dos_eq T, vs_eq, o_eq]

include T in
theorem ref_v78 (b : Fin 16) (t : Fin 16384) (h : Fin 5) (d : Fin 128) :
    StableHlo.after hostOps1 (WR m c) main_v78 (ix4 b t h d) = Cert.Spec.dv (argsOf m c) b t h d := by
  rw [post_v78]; unfold Cert.Spec.dv
  simp only [p_eq, c_eq T, dos_eq T]
include T in
theorem ref_v77 (b : Fin 16) (t : Fin 16384) (h : Fin 5) (d : Fin 128) :
    StableHlo.after hostOps1 (WR m c) main_v77 (ix4 b t h d) = Cert.Spec.dk (argsOf m c) b t h d := by
  rw [post_v77]; unfold Cert.Spec.dk
  simp only [ds_eq T, q_eq, sm_eq]
include T in
theorem ref_v74 (b : Fin 16) (l : Fin 256) (h : Fin 5) (d : Fin 128) :
    StableHlo.after hostOps1 (WR m c) main_v74 (ix4 b l h d) = Cert.Spec.dqs (argsOf m c) b l h d := by
  rw [post_v74]; unfold Cert.Spec.dqs
  simp only [ds_eq T, ks_eq, k_eq, sm_eq]
include T in
theorem ref_v76 (l : Fin 256) (h : Fin 5) (d : Fin 128) :
    StableHlo.after hostOps1 (WR m c) main_v76 (ix3 l h d) = Cert.Spec.dq (argsOf m c) l h d := by
  rw [post_v76]; unfold Cert.Spec.dq Cert.Spec.dqs
  simp only [ds_eq T, ks_eq, k_eq, sm_eq]

variable (m)

/-- The reference's results are the six functions of its arguments. -/
theorem ref_run (ρ : Dev nD → PrngReg) (T : ∀ c, Tame (argsOf m c)) : θ_run defs (onTc (τ := τ) (main (F := Ideal))) ⟨m, fun _ => 0, ρ⟩ (fun r => ∀ c : Dev nD,
      (∀ l h d, r.2.mem ((c.tc : Thread nD τ).loc main_v76) (ix3 l h d) = Cert.Spec.dq (argsOf m c) l h d)
      ∧ (∀ b l h d, r.2.mem ((c.tc : Thread nD τ).loc main_v74) (ix4 b l h d) = Cert.Spec.dqs (argsOf m c) b l h d)
      ∧ (∀ b t h d, r.2.mem ((c.tc : Thread nD τ).loc main_v77) (ix4 b t h d) = Cert.Spec.dk (argsOf m c) b t h d)
      ∧ (∀ b t h d, r.2.mem ((c.tc : Thread nD τ).loc main_v78) (ix4 b t h d) = Cert.Spec.dv (argsOf m c) b t h d)
      ∧ (∀ b l h d, r.2.mem ((c.tc : Thread nD τ).loc main_v26_2) (ix4 b l h d) = Cert.Spec.code (argsOf m c) b l h d)
      ∧ (∀ b h, r.2.mem ((c.tc : Thread nD τ).loc main_v18) (ix2 b h) = Cert.Spec.dos (argsOf m c) b h)) := by
  refine (θ_run defs _ _).mono (fun r hr c => ?_) (run_main m ρ)
  have rest : ∀ b (hb : b ∈ Pipeline.restRefs sig (cfgs 0).spec), r.2.mem ((c.tc : Thread nD τ).loc b) = StableHlo.after hostOps1 (WR m c) (Proc.devRef .tc b) :=
    fun b hb => (hr c).2 b hb
  refine ⟨fun l h d => ?_, fun b l h d => ?_, fun b t h d => ?_, fun b t h d => ?_, fun b l h d => ?_, fun b h => ?_⟩
  · rw [rest main_v76 (Pipeline.mem_restRefs_of main_v76 (by decide) (by decide))]; exact ref_v76 (T c) l h d
  · rw [rest main_v74 (Pipeline.mem_restRefs_of main_v74 (by decide) (by decide))]; exact ref_v74 (T c) b l h d
  · rw [rest main_v77 (Pipeline.mem_restRefs_of main_v77 (by decide) (by decide))]; exact ref_v77 (T c) b t h d
  · rw [rest main_v78 (Pipeline.mem_restRefs_of main_v78 (by decide) (by decide))]; exact ref_v78 (T c) b t h d
  · have e : r.2.mem ((c.tc : Thread nD τ).loc main_v26_2) = k0_pay3 (V m c main_v25) := ((hr c).1 5).trans (arrR_5 m c)
    rw [e, castC]; exact before_v25 b h l d (T c)
  · rw [rest main_v18 (Pipeline.mem_restRefs_of main_v18 (by decide) (by decide)),
      StableHlo.after_of_forall_not_mem (b := Proc.devRef .tc main_v18) _ _ (List.forall_iff_forall_mem.mp (by
        simp only [hostOps1, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))), WR_v18]
    exact before_v18 b h (T c)

end Cert.ReferenceIdeal.Gen

end
-- ==== Proof.Value.lean ====
/-
The idealized kernel's six results are the reference's.
-/
module

public import proofs.«01_k».proof.Defs
public import proofs.«01_k».proof.Proof.Gen.Pre_tame
public import proofs.«01_k».proof.Proof.KerRun
public import proofs.«01_k».proof.Proof.RefRun
public import Idealize.ShloMosaic.Lib.Claim

@[expose] public section

set_option maxRecDepth 16384

noncomputable section
namespace Cert.Proof
open Idealize.ShloMosaic Idealize.ShloMosaic.TcCoe Idealize.SL.Sem
open Cert.KernelIdeal.Gen (argsK argsM)

theorem both_true : ∀ p q : Bool, IntOp.andi (BitVec.ofBool p) (BitVec.ofBool q) = 1#1 → p = true ∧ q = true := by decide

theorem tame_of (m : (ℓ : Loc Cert.KernelIdeal.nD Cert.KernelIdeal.τ Cert.KernelIdeal.sig) → Buf (Elt Ideal) ℓ)
    (H : Cert.Pre_KernelIdeal_tame (hPre_tame := Cert.Pre_tame.Gen.facts) m) (c : Dev Cert.KernelIdeal.nD) : Spec.Tame (argsM m c) := by
  have h1 : ∀ b t h, 0 ≤ (argsM m c).ks b t h ∧ (argsM m c).ks b t h ≤ Ideal.ofBits .f32 0x7F7FFFFF#32 := fun b t h => by
    have e := both_true (decide (Ideal.ofBits .f32 0x00000000#32 ≤ (argsM m c).ks b t h)) (decide ((argsM m c).ks b t h ≤ Ideal.ofBits .f32 0x7F7FFFFF#32)) (congrFun (H c).1 (ix3 b t h))
    exact ⟨Cert.KernelIdeal.Gen.zero_word ▸ of_decide_eq_true e.1, of_decide_eq_true e.2⟩
  have h2 : ∀ b l h d, Ideal.ofBits .f32 0xFF7F0000#32 ≤ (argsM m c).g b l h d ∧ (argsM m c).g b l h d ≤ Ideal.ofBits .f32 0x7F7F0000#32 := fun b l h d => by
    have e := both_true (decide (Ideal.ofBits .f32 0xFF7F0000#32 ≤ (argsM m c).g b l h d)) (decide ((argsM m c).g b l h d ≤ Ideal.ofBits .f32 0x7F7F0000#32)) (congrFun (H c).2 (ix4 b l h d))
    exact ⟨of_decide_eq_true e.1, of_decide_eq_true e.2⟩
  exact ⟨fun b t h => (h1 b t h).1, fun b t h => (h1 b t h).2, fun b l h d => (h2 b l h d).1, fun b l h d => (h2 b l h d).2⟩

/-- At `Ideal` the kernel's six results are the reference's. -/
theorem algebraic : Cert.algebraic_KernelIdeal_ReferenceIdeal_pre_tame (hKernelIdeal := Cert.KernelIdeal.Gen.facts)
    (hReferenceIdeal := Cert.ReferenceIdeal.Gen.facts) (hPre_tame := Cert.Pre_tame.Gen.facts) := by
  intro m g m' g' hp ha
  have T := tame_of m hp
  have hA : ∀ c, Cert.ReferenceIdeal.Gen.argsOf m' c = argsM m c := fun c => by
    obtain ⟨a0, a1, a2, a3, a4, a5, a6, a7⟩ := ha c
    unfold Cert.ReferenceIdeal.Gen.argsOf Cert.ReferenceIdeal.Gen.argsR argsM argsK
    congr 1
    · funext l h d; exact congrFun a0 (ix3 l h d)
    · funext b t h d; exact congrFun a1 (ix4 b t h d)
    · funext b t h; exact congrFun a2 (ix3 b t h)
    · funext b t h d; exact congrFun a3 (ix4 b t h d)
    · funext b t h; exact congrFun a4 (ix3 b t h)
    · funext b l h d; exact congrFun a5 (ix4 b l h d)
    · funext b h l; exact congrFun a6 (ix3 b h l)
    · funext b l h d; exact congrFun a7 (ix4 b l h d)
  refine ⟨fun c => Cert.KernelIdeal.Gen.W4 m c Cert.KernelIdeal.main_v11, fun c => Cert.KernelIdeal.Gen.W4 m c Cert.KernelIdeal.main_v12,
    fun c => Cert.KernelIdeal.Gen.W4 m c Cert.KernelIdeal.main_v13, fun c => Cert.KernelIdeal.Gen.W4 m c Cert.KernelIdeal.main_v14,
    fun c => Cert.KernelIdeal.Gen.W4 m c Cert.KernelIdeal.main_v15, fun c => Cert.KernelIdeal.Gen.W4 m c Cert.KernelIdeal.main_v16,
    (θ_run _ _ _).mono (fun _ h c => h.1 c) (Cert.KernelIdeal.Gen.run m g), ?_⟩
  refine (θ_run _ _ _).mono (fun r h c => ?_) (θ_run_and (Cert.ReferenceIdeal.Gen.ref_run m' g' fun c => (hA c).symm ▸ T c) (Cert.ReferenceIdeal.Gen.unchanged m' g'))
  obtain ⟨h, hu⟩ := h
  obtain ⟨h0, h1, h2, h3, h4, h5⟩ := h c
  rw [hA c] at h0 h1 h2 h3 h4 h5
  refine ⟨?_, ?_, ?_, ?_, ?_, ?_, hu c⟩
  · funext j; rw [eq_ix3 j]; exact (h0 _ _ _).trans (Cert.KernelIdeal.Gen.end_v11 m c T _ _ _).symm
  · funext j; rw [eq_ix4 j]; exact (h1 _ _ _ _).trans (Cert.KernelIdeal.Gen.end_v12 m c T _ _ _ _).symm
  · funext j; rw [eq_ix4 j]; exact (h2 _ _ _ _).trans (Cert.KernelIdeal.Gen.end_v13 m c T _ _ _ _).symm
  · funext j; rw [eq_ix4 j]; exact (h3 _ _ _ _).trans (Cert.KernelIdeal.Gen.end_v14 m c T _ _ _ _).symm
  · funext j; rw [eq_ix4 j]; exact (h4 _ _ _ _).trans (Cert.KernelIdeal.Gen.end_v15 m c T _ _ _ _).symm
  · funext j; rw [eq_ix2 j]; exact (h5 _ _).trans (Cert.KernelIdeal.Gen.end_v16 m c T _ _).symm

end Cert.Proof

end
-- ==== Proof.lean ====
module

public import proofs.«01_k».proof.Defs
public import proofs.«01_k».proof.Proof.RunBits
public import proofs.«01_k».proof.Proof.RunIdeal
public import proofs.«01_k».proof.Proof.Gen.ReferenceIdeal.Frame
public import proofs.«01_k».proof.Proof.Gen.Pre_tame
public import proofs.«01_k».proof.Proof.Value
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_tame.Gen.facts,
    fun m g _ => (θ_run _ _ _).mono (fun _ h => ⟨fun c => (h.1 c).2.2.2.2.2.2, h.2⟩) (Cert.Kernel.Gen.run m g),
    fun m g _ => (θ_run _ _ _).mono (fun _ h => ⟨fun c => (h.1 c).2.2.2.2.2.2, h.2⟩) (Cert.KernelIdeal.Gen.run m g),
    fun m g _ => (θ_run _ _ _).mono (fun _ h => ⟨fun c => (h.1 c).2.2.2.2.2.2, h.2⟩) (Cert.KernelIdeal.Gen.run m g),
    fun m g _ => Cert.ReferenceIdeal.Gen.frame m g,
    fun m g _ => Cert.ReferenceIdeal.Gen.frame m g,
    ⟨IdealRules.named_const.statement Cert.KernelIdeal.κ "log2e" .f32 0x3FB8AA3B#32 _ rfl,
      IdealRules.named_const.statement Cert.KernelIdeal.κ "sm_log2e" .f32 0x3E0293EE#32 _ rfl,
      IdealRules.named_const.statement Cert.KernelIdeal.κ "sm" .f32 0x3DB504F3#32 _ rfl⟩,
    algebraic⟩

end Cert.Proof

end
